-- ==== Defs.lean ====
def Pre_Kernel [hPre_tiles_in_range : Cert.Pre_tiles_in_range.Facts] (m : (ℓ : Loc Cert.Kernel.nD Cert.Kernel.τ Cert.Kernel.sig) → Buf (Elt Bits) ℓ) : Prop :=
  ∀ c : Dev Cert.Kernel.nD,
    (Cert.Pre_tiles_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tiles_in_range : Cert.Pre_tiles_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tiles_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tiles_in_range [hPre_tiles_in_range : Cert.Pre_tiles_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tiles_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_tiles_in_range : Cert.Pre_tiles_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tiles_in_range : Cert.Pre_tiles_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tiles_in_range [hReferenceIdeal : Cert.ReferenceIdeal.Facts] [hPre_tiles_in_range : Cert.Pre_tiles_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tiles_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tiles_in_range : Cert.Pre_tiles_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tiles_in_range : Cert.Pre_tiles_in_range.Facts),
    quiescent_Kernel (hKernel := hKernel) (hPre_tiles_in_range := hPre_tiles_in_range)
    ∧ quiescent_KernelIdeal (hKernelIdeal := hKernelIdeal) (hPre_tiles_in_range := hPre_tiles_in_range)
    ∧ quiescent_ReferenceIdeal (hReferenceIdeal := hReferenceIdeal)
    ∧ quiescent_ReferenceIdeal_pre_tiles_in_range (hReferenceIdeal := hReferenceIdeal) (hPre_tiles_in_range := hPre_tiles_in_range)
    ∧ preserves_Kernel_KernelIdeal
    ∧ algebraic_KernelIdeal_ReferenceIdeal (hKernelIdeal := hKernelIdeal) (hReferenceIdeal := hReferenceIdeal) (hPre_tiles_in_range := hPre_tiles_in_range)
-- ==== Pre_tiles_in_range.lean ====
abbrev S3x640x3072 : Shape := ⟨3, ![3, 640, 3072]⟩
abbrev S3x3072 : Shape := ⟨2, ![3, 3072]⟩
abbrev S3x6 : Shape := ⟨2, ![3, 6]⟩
abbrev S3x20 : Shape := ⟨2, ![3, 20]⟩
abbrev S3x20x128x4 : Shape := ⟨4, ![3, 20, 128, 4]⟩
abbrev S3x5 : Shape := ⟨2, ![3, 5]⟩
abbrev S3x1 : Shape := ⟨2, ![3, 1]⟩
abbrev S_ : Shape := ⟨0, ![]⟩

class Facts : Prop where
  slices_S3x6_S3x5_0_0 : S3x6.Slices ![0, 0] S3x5
  slices_S3x6_S3x5_0_1 : S3x6.Slices ![0, 1] S3x5
  slices_S3x5_S3x1_0_0 : S3x5.Slices ![0, 0] S3x1
  bcast_S_S3x1 : S_.BroadcastsInDim S3x1 (![] : Fin 0 → Fin S3x1.rank)
  bcast_S3x1_S3x5_0_1 : S3x1.BroadcastsInDim S3x5 (![0, 1] : Fin 2 → Fin S3x5.rank)
  bcast_S_S3x5 : S_.BroadcastsInDim S3x5 (![] : Fin 0 → Fin S3x5.rank)
  bcast_S_S3x20 : S_.BroadcastsInDim S3x20 (![] : Fin 0 → Fin S3x20.rank)
  reducesTo_S3x5_S_d0_1 : S3x5.ReducesTo [0, 1] S_
  h_S_ : 0 < S_.numel
  reducesTo_S3x20_S_d0_1 : S3x20.ReducesTo [0, 1] S_

variable [Facts]

def fn_part1 {F : FTy → Type} [FloatOps F] (main_v16 : IVec S3x20 1) (main_v17 : IVec S_ 1) (main_c_4 : IVec S_ 1) : IVec S_ 1 :=
  let main_v18 : IVec S_ 1 := (fun x v => Host.reduce IntOp.andi x v reducesTo_S3x20_S_d0_1 h_S_) main_v16 main_c_4
  let main_v19 : IVec S_ 1 := andi main_v17 main_v18
  main_v19

def fn {F : FTy → Type} [FloatOps F] (main_arg0 : FVec F S3x640x3072 .fp8e4m3) (main_arg1 : FVec F S3x3072 .f32) (main_arg2 : IVec S3x6 32) (main_arg3 : IVec S3x20 32) (main_arg4 : IVec S3x20x128x4 32) : IVec S_ 1 :=
  let main_v0 : IVec S3x5 32 := (extractStridedSlice S3x5 ![0, 0] · slices_S3x6_S3x5_0_0) main_arg2
  let main_v1 : IVec S3x5 32 := (extractStridedSlice S3x5 ![0, 1] · slices_S3x6_S3x5_0_1) main_arg2
  let main_v2 : IVec S3x1 32 := (extractStridedSlice S3x1 ![0, 0] · slices_S3x5_S3x1_0_0) main_v0
  let main_c : IVec S_ 32 := constantI S_ 32 0#32
  let main_v3 : IVec S3x1 32 := broadcastInDim S3x1 ![] bcast_S_S3x1 main_c
  let main_v4 : IVec S3x1 1 := cmpi .eq main_v2 main_v3
  let main_v5 : IVec S3x5 1 := cmpi .sle main_v0 main_v1
  let main_v6 : IVec S3x5 1 := broadcastInDim S3x5 ![0, 1] bcast_S3x1_S3x5_0_1 main_v4
  let main_v7 : IVec S3x5 1 := andi main_v6 main_v5
  let main_c_0 : IVec S_ 32 := constantI S_ 32 4#32
  let main_v8 : IVec S3x5 32 := broadcastInDim S3x5 ![] bcast_S_S3x5 main_c_0
  let main_v9 : IVec S3x5 32 := addi main_v0 main_v8
  let main_v10 : IVec S3x5 1 := cmpi .sle main_v1 main_v9
  let main_v11 : IVec S3x5 1 := andi main_v7 main_v10
  let main_c_1 : IVec S_ 32 := constantI S_ 32 0#32
  let main_v12 : IVec S3x20 32 := broadcastInDim S3x20 ![] bcast_S_S3x20 main_c_1
  let main_v13 : IVec S3x20 1 := cmpi .sge main_arg3 main_v12
  let main_c_2 : IVec S_ 32 := constantI S_ 32 5#32
  let main_v14 : IVec S3x20 32 := broadcastInDim S3x20 ![] bcast_S_S3x20 main_c_2
  let main_v15 : IVec S3x20 1 := cmpi .slt main_arg3 main_v14
  let main_v16 : IVec S3x20 1 := andi main_v13 main_v15
  let main_c_3 : IVec S_ 1 := constantI S_ 1 1#1
  let main_v17 : IVec S_ 1 := (fun x v => Host.reduce IntOp.andi x v reducesTo_S3x5_S_d0_1 h_S_) main_v11 main_c_3
  let main_c_4 : IVec S_ 1 := constantI S_ 1 1#1
  fn_part1 (F := F) main_v16 main_v17 main_c_4
-- ==== Kernel.lean ====
abbrev S3x640x3072 : Shape := ⟨3, ![3, 640, 3072]⟩
abbrev S3x3072 : Shape := ⟨2, ![3, 3072]⟩
abbrev S3x6 : Shape := ⟨2, ![3, 6]⟩
abbrev S3x20 : Shape := ⟨2, ![3, 20]⟩
abbrev S3x20x128x4 : Shape := ⟨4, ![3, 20, 128, 4]⟩
abbrev S3x20x4x128 : Shape := ⟨4, ![3, 20, 4, 128]⟩
abbrev S3x80x128 : Shape := ⟨3, ![3, 80, 128]⟩
abbrev S3x640 : Shape := ⟨2, ![3, 640]⟩
abbrev S640x3072 : Shape := ⟨2, ![640, 3072]⟩
abbrev S21x128x128 : Shape := ⟨3, ![21, 128, 128]⟩
abbrev S5x128x128 : Shape := ⟨3, ![5, 128, 128]⟩
abbrev S4 : Shape := ⟨1, ![4]⟩
abbrev S3 : Shape := ⟨1, ![3]⟩
abbrev S_ : Shape := ⟨0, ![]⟩
abbrev S1 : Shape := ⟨1, ![1]⟩
abbrev S1x640x3072 : Shape := ⟨3, ![1, 640, 3072]⟩
abbrev S128x128 : Shape := ⟨2, ![128, 128]⟩
abbrev S1x128x128 : Shape := ⟨3, ![1, 128, 128]⟩
abbrev S1x80x128 : Shape := ⟨3, ![1, 80, 128]⟩
abbrev S80x128 : Shape := ⟨2, ![80, 128]⟩
abbrev S320x128 : Shape := ⟨2, ![320, 128]⟩
abbrev S64x128 : Shape := ⟨2, ![64, 128]⟩
abbrev S384x128 : Shape := ⟨2, ![384, 128]⟩
abbrev S32x128 : Shape := ⟨2, ![32, 128]⟩
abbrev S32x128x1 : Shape := ⟨3, ![32, 128, 1]⟩
abbrev S1x1 : Shape := ⟨2, ![1, 1]⟩
abbrev S128 : Shape := ⟨1, ![128]⟩
abbrev S1x128 : Shape := ⟨2, ![1, 128]⟩
abbrev S3x128 : Shape := ⟨2, ![3, 128]⟩
abbrev S8x128 : Shape := ⟨2, ![8, 128]⟩
abbrev S128x8 : Shape := ⟨2, ![128, 8]⟩
abbrev S128x1 : Shape := ⟨2, ![128, 1]⟩
abbrev S128x512 : Shape := ⟨2, ![128, 512]⟩
abbrev S512x512 : Shape := ⟨2, ![512, 512]⟩
abbrev S1x512 : Shape := ⟨2, ![1, 512]⟩
abbrev S1x128x1536 : Shape := ⟨3, ![1, 128, 1536]⟩
abbrev S128x1536 : Shape := ⟨2, ![128, 1536]⟩

abbrev nBuf : Space → Nat
  | .hbm => 9
  | .vmem => 15
  | .smem => 2
  | _ => 0

abbrev bufTy : (tb : Table) → Fin (tcTables nBuf tb) → BufTy
  | .hbm, ⟨0, _⟩ => ⟨S3x640x3072, .fp8e4m3⟩
  | .hbm, ⟨1, _⟩ => ⟨S3x3072, .f32⟩
  | .hbm, ⟨2, _⟩ => ⟨S3x6, .i32⟩
  | .hbm, ⟨3, _⟩ => ⟨S3x20, .i32⟩
  | .hbm, ⟨4, _⟩ => ⟨S3x20x128x4, .i32⟩
  | .hbm, ⟨5, _⟩ => ⟨S3x20x4x128, .i32⟩
  | .hbm, ⟨6, _⟩ => ⟨S3x80x128, .i32⟩
  | .hbm, ⟨7, _⟩ => ⟨S3x640x3072, .bf16⟩
  | .hbm, ⟨8, _⟩ => ⟨S3x640, .f32⟩
  | .local _ .vmem, ⟨0, _⟩ => ⟨S3x3072, .f32⟩
  | .local _ .vmem, ⟨1, _⟩ => ⟨S3x80x128, .i32⟩
  | .local _ .vmem, ⟨2, _⟩ => ⟨S3x640, .f32⟩
  | .local _ .vmem, ⟨3, _⟩ => ⟨S640x3072, .fp8e4m3⟩
  | .local _ .vmem, ⟨4, _⟩ => ⟨S640x3072, .fp8e4m3⟩
  | .local _ .vmem, ⟨5, _⟩ => ⟨S640x3072, .fp8e4m3⟩
  | .local _ .vmem, ⟨6, _⟩ => ⟨S21x128x128, .fp8e4m3⟩
  | .local _ .vmem, ⟨7, _⟩ => ⟨S21x128x128, .fp8e4m3⟩
  | .local _ .vmem, ⟨8, _⟩ => ⟨S21x128x128, .fp8e4m3⟩
  | .local _ .vmem, ⟨9, _⟩ => ⟨S5x128x128, .f32⟩
  | .local _ .vmem, ⟨10, _⟩ => ⟨S5x128x128, .f32⟩
  | .local _ .vmem, ⟨11, _⟩ => ⟨S5x128x128, .f32⟩
  | .local _ .vmem, ⟨12, _⟩ => ⟨S640x3072, .bf16⟩
  | .local _ .vmem, ⟨13, _⟩ => ⟨S640x3072, .bf16⟩
  | .local _ .vmem, ⟨14, _⟩ => ⟨S640x3072, .bf16⟩
  | .local _ .smem, ⟨0, _⟩ => ⟨S3x6, .i32⟩
  | .local _ .smem, ⟨1, _⟩ => ⟨S3x20, .i32⟩
  | _, _ => ⟨S3x640x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_scratch0 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch9 : Ref sig .tc := ⟨.vmem, 7, rfl⟩
abbrev cc0_scratch10 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch15 : Ref sig .tc := ⟨.vmem, 13, rfl⟩
abbrev cc0_scratch16 : Ref sig .tc := ⟨.vmem, 14, rfl⟩
abbrev cc0_scratch1 : Ref sig .tc := ⟨.smem, 0, rfl⟩
abbrev cc0_scratch2 : Ref sig .tc := ⟨.smem, 1, rfl⟩

abbrev nD : Nat := 1
abbrev τ : Topo := Topo.v7x

variable {F : FTy → Type} [FloatOps F]

abbrev grid0 : Pipeline.Grid := .none

def k0_off1 (v1451 : BitVec 32) (v1452 : BitVec 32) : Fin 3 → Nat :=
  let c0_i32_539 : BitVec 32 := 0#32
  let v1453 : BitVec 32 := Scalar.addi v1451 c0_i32_539
  let v1454 : BitVec 1 := Scalar.cmpi .slt v1453 v1452
  let c0_i32_540 : BitVec 32 := 0#32
  let v1455 : BitVec 32 := Scalar.addi v1451 c0_i32_540
  let c19_i32 : BitVec 32 := 19#32
  let v1456 : BitVec 32 := Scalar.minsi v1451 c19_i32
  let v1457 : BitVec 32 := Scalar.select v1454 v1455 v1456
  let c20_i32 : BitVec 32 := 20#32
  let v1458 : BitVec 32 := Scalar.select v1454 v1457 c20_i32
  let v1459 : Index := Scalar.indexCast v1458
  let c0_541 : Index := 0#32
  let c0_542 : Index := 0#32
  ![v1459.toNat, 0, 0]

def k0_off2 (v1451 : BitVec 32) (v1452 : BitVec 32) : Fin 2 → Nat :=
  let c0_543 : Index := 0#32
  let c0_i32_539 : BitVec 32 := 0#32
  let v1453 : BitVec 32 := Scalar.addi v1451 c0_i32_539
  let v1454 : BitVec 1 := Scalar.cmpi .slt v1453 v1452
  let c0_i32_540 : BitVec 32 := 0#32
  let v1455 : BitVec 32 := Scalar.addi v1451 c0_i32_540
  let c19_i32 : BitVec 32 := 19#32
  let v1456 : BitVec 32 := Scalar.minsi v1451 c19_i32
  let v1457 : BitVec 32 := Scalar.select v1454 v1455 v1456
  let v1462 : Index := Scalar.indexCast v1457
  ![0, v1462.toNat]
def k0_mult1 (v1463 : BitVec 32) : BitVec 32 :=
  let c128_i32_544 : BitVec 32 := 128#32
  let v1464 : BitVec 32 := Scalar.muli v1463 c128_i32_544
  v1464

def k0_off3 (v1451 : BitVec 32) (v1452 : BitVec 32) : Fin 3 → Nat :=
  let c1_i32_545 : BitVec 32 := 1#32
  let v1466 : BitVec 32 := Scalar.addi v1451 c1_i32_545
  let v1467 : BitVec 1 := Scalar.cmpi .slt v1466 v1452
  let c1_i32_546 : BitVec 32 := 1#32
  let v1468 : BitVec 32 := Scalar.addi v1451 c1_i32_546
  let c19_i32_547 : BitVec 32 := 19#32
  let v1469 : BitVec 32 := Scalar.minsi v1451 c19_i32_547
  let v1470 : BitVec 32 := Scalar.select v1467 v1468 v1469
  let c20_i32_548 : BitVec 32 := 20#32
  let v1471 : BitVec 32 := Scalar.select v1467 v1470 c20_i32_548
  let v1472 : Index := Scalar.indexCast v1471
  let c0_549 : Index := 0#32
  let c0_550 : Index := 0#32
  ![v1472.toNat, 0, 0]
def k0_off4 (v1451 : BitVec 32) (v1452 : BitVec 32) : Fin 2 → Nat :=
  let c0_551 : Index := 0#32
  let c1_i32_545 : BitVec 32 := 1#32
  let v1466 : BitVec 32 := Scalar.addi v1451 c1_i32_545
  let v1467 : BitVec 1 := Scalar.cmpi .slt v1466 v1452
  let c1_i32_546 : BitVec 32 := 1#32
  let v1468 : BitVec 32 := Scalar.addi v1451 c1_i32_546
  let c19_i32_547 : BitVec 32 := 19#32
  let v1469 : BitVec 32 := Scalar.minsi v1451 c19_i32_547
  let v1470 : BitVec 32 := Scalar.select v1467 v1468 v1469
  let v1475 : Index := Scalar.indexCast v1470
  ![0, v1475.toNat]
def k0_mult2 (v1476 : BitVec 32) : BitVec 32 :=
  let c128_i32_552 : BitVec 32 := 128#32
  let v1477 : BitVec 32 := Scalar.muli v1476 c128_i32_552
  v1477

def k0_off5 (v1451 : BitVec 32) (v1452 : BitVec 32) : Fin 3 → Nat :=
  let c2_i32_553 : BitVec 32 := 2#32
  let v1479 : BitVec 32 := Scalar.addi v1451 c2_i32_553
  let v1480 : BitVec 1 := Scalar.cmpi .slt v1479 v1452
  let c2_i32_554 : BitVec 32 := 2#32
  let v1481 : BitVec 32 := Scalar.addi v1451 c2_i32_554
  let c19_i32_555 : BitVec 32 := 19#32
  let v1482 : BitVec 32 := Scalar.minsi v1451 c19_i32_555
  let v1483 : BitVec 32 := Scalar.select v1480 v1481 v1482
  let c20_i32_556 : BitVec 32 := 20#32
  let v1484 : BitVec 32 := Scalar.select v1480 v1483 c20_i32_556
  let v1485 : Index := Scalar.indexCast v1484
  let c0_557 : Index := 0#32
  let c0_558 : Index := 0#32
  ![v1485.toNat, 0, 0]
def k0_off6 (v1451 : BitVec 32) (v1452 : BitVec 32) : Fin 2 → Nat :=
  let c0_559 : Index := 0#32
  let c2_i32_553 : BitVec 32 := 2#32
  let v1479 : BitVec 32 := Scalar.addi v1451 c2_i32_553
  let v1480 : BitVec 1 := Scalar.cmpi .slt v1479 v1452
  let c2_i32_554 : BitVec 32 := 2#32
  let v1481 : BitVec 32 := Scalar.addi v1451 c2_i32_554
  let c19_i32_555 : BitVec 32 := 19#32
  let v1482 : BitVec 32 := Scalar.minsi v1451 c19_i32_555
  let v1483 : BitVec 32 := Scalar.select v1480 v1481 v1482
  let v1488 : Index := Scalar.indexCast v1483
  ![0, v1488.toNat]
def k0_mult3 (v1489 : BitVec 32) : BitVec 32 :=
  let c128_i32_560 : BitVec 32 := 128#32
  let v1490 : BitVec 32 := Scalar.muli v1489 c128_i32_560
  v1490

def k0_off7 (v1451 : BitVec 32) (v1452 : BitVec 32) : Fin 3 → Nat :=
  let c3_i32_561 : BitVec 32 := 3#32
  let v1492 : BitVec 32 := Scalar.addi v1451 c3_i32_561
  let v1493 : BitVec 1 := Scalar.cmpi .slt v1492 v1452
  let c3_i32_562 : BitVec 32 := 3#32
  let v1494 : BitVec 32 := Scalar.addi v1451 c3_i32_562
  let c19_i32_563 : BitVec 32 := 19#32
  let v1495 : BitVec 32 := Scalar.minsi v1451 c19_i32_563
  let v1496 : BitVec 32 := Scalar.select v1493 v1494 v1495
  let c20_i32_564 : BitVec 32 := 20#32
  let v1497 : BitVec 32 := Scalar.select v1493 v1496 c20_i32_564
  let v1498 : Index := Scalar.indexCast v1497
  let c0_565 : Index := 0#32
  let c0_566 : Index := 0#32
  ![v1498.toNat, 0, 0]
def k0_off8 (v1451 : BitVec 32) (v1452 : BitVec 32) : Fin 2 → Nat :=
  let c0_567 : Index := 0#32
  let c3_i32_561 : BitVec 32 := 3#32
  let v1492 : BitVec 32 := Scalar.addi v1451 c3_i32_561
  let v1493 : BitVec 1 := Scalar.cmpi .slt v1492 v1452
  let c3_i32_562 : BitVec 32 := 3#32
  let v1494 : BitVec 32 := Scalar.addi v1451 c3_i32_562
  let c19_i32_563 : BitVec 32 := 19#32
  let v1495 : BitVec 32 := Scalar.minsi v1451 c19_i32_563
  let v1496 : BitVec 32 := Scalar.select v1493 v1494 v1495
  let v1501 : Index := Scalar.indexCast v1496
  ![0, v1501.toNat]

def k0_chk1 (v1451 : BitVec 32) (v1452 : BitVec 32) : Prop :=
  (∀ a, (k0_off1 v1451 v1452) a + S1x128x128.size a ≤ S21x128x128.size a) ∧
  (∀ a, (k0_off2 v1451 v1452) a + S1x1.size a ≤ S3x20.size a) ∧
  (∀ a, (k0_off3 v1451 v1452) a + S1x128x128.size a ≤ S21x128x128.size a) ∧
  (∀ a, (k0_off4 v1451 v1452) a + S1x1.size a ≤ S3x20.size a) ∧
  (∀ a, (k0_off5 v1451 v1452) a + S1x128x128.size a ≤ S21x128x128.size a) ∧
  (∀ a, (k0_off6 v1451 v1452) a + S1x1.size a ≤ S3x20.size a) ∧
  (∀ a, (k0_off7 v1451 v1452) a + S1x128x128.size a ≤ S21x128x128.size a) ∧
  (∀ a, (k0_off8 v1451 v1452) a + S1x1.size a ≤ S3x20.size a)
theorem k0_off1_inb : ∀ (v1451 : BitVec 32) (v1452 : BitVec 32) (k0_hw1 : k0_chk1 v1451 v1452), ∀ a, (k0_off1 v1451 v1452) a + S1x128x128.size a ≤ S21x128x128.size a := fun v1451 v1452 k0_hw1 => k0_hw1.1
theorem k0_off2_inb : ∀ (v1451 : BitVec 32) (v1452 : BitVec 32) (k0_hw1 : k0_chk1 v1451 v1452), ∀ a, (k0_off2 v1451 v1452) a + S1x1.size a ≤ S3x20.size a := fun v1451 v1452 k0_hw1 => k0_hw1.2.1
theorem k0_off3_inb : ∀ (v1451 : BitVec 32) (v1452 : BitVec 32) (k0_hw1 : k0_chk1 v1451 v1452), ∀ a, (k0_off3 v1451 v1452) a + S1x128x128.size a ≤ S21x128x128.size a := fun v1451 v1452 k0_hw1 => k0_hw1.2.2.1
theorem k0_off4_inb : ∀ (v1451 : BitVec 32) (v1452 : BitVec 32) (k0_hw1 : k0_chk1 v1451 v1452), ∀ a, (k0_off4 v1451 v1452) a + S1x1.size a ≤ S3x20.size a := fun v1451 v1452 k0_hw1 => k0_hw1.2.2.2.1
theorem k0_off5_inb : ∀ (v1451 : BitVec 32) (v1452 : BitVec 32) (k0_hw1 : k0_chk1 v1451 v1452), ∀ a, (k0_off5 v1451 v1452) a + S1x128x128.size a ≤ S21x128x128.size a := fun v1451 v1452 k0_hw1 => k0_hw1.2.2.2.2.1
theorem k0_off6_inb : ∀ (v1451 : BitVec 32) (v1452 : BitVec 32) (k0_hw1 : k0_chk1 v1451 v1452), ∀ a, (k0_off6 v1451 v1452) a + S1x1.size a ≤ S3x20.size a := fun v1451 v1452 k0_hw1 => k0_hw1.2.2.2.2.2.1
theorem k0_off7_inb : ∀ (v1451 : BitVec 32) (v1452 : BitVec 32) (k0_hw1 : k0_chk1 v1451 v1452), ∀ a, (k0_off7 v1451 v1452) a + S1x128x128.size a ≤ S21x128x128.size a := fun v1451 v1452 k0_hw1 => k0_hw1.2.2.2.2.2.2.1
theorem k0_off8_inb : ∀ (v1451 : BitVec 32) (v1452 : BitVec 32) (k0_hw1 : k0_chk1 v1451 v1452), ∀ a, (k0_off8 v1451 v1452) a + S1x1.size a ≤ S3x20.size a := fun v1451 v1452 k0_hw1 => k0_hw1.2.2.2.2.2.2.2

def k0_mult4 (v1502 : BitVec 32) : BitVec 32 :=
  let c128_i32_568 : BitVec 32 := 128#32
  let v1503 : BitVec 32 := Scalar.muli v1502 c128_i32_568
  v1503

def k0_off9 (v1463 : BitVec 32) : Fin 2 → Nat :=
  let c128_i32_544 : BitVec 32 := 128#32
  let v1464 : BitVec 32 := Scalar.muli v1463 c128_i32_544
  let v1465 : BitVec 32 := v1464
  let v1509 : Index := Scalar.indexCast v1465
  let c0_572 : Index := 0#32
  ![v1509.toNat, 0]
def k0_off10 (v1476 : BitVec 32) : Fin 2 → Nat :=
  let c128_i32_552 : BitVec 32 := 128#32
  let v1477 : BitVec 32 := Scalar.muli v1476 c128_i32_552
  let v1478 : BitVec 32 := v1477
  let v1511 : Index := Scalar.indexCast v1478
  let c0_573 : Index := 0#32
  ![v1511.toNat, 0]
def k0_off11 (v1489 : BitVec 32) : Fin 2 → Nat :=
  let c128_i32_560 : BitVec 32 := 128#32
  let v1490 : BitVec 32 := Scalar.muli v1489 c128_i32_560
  let v1491 : BitVec 32 := v1490
  let v1513 : Index := Scalar.indexCast v1491
  let c0_574 : Index := 0#32
  ![v1513.toNat, 0]
def k0_off12 (v1502 : BitVec 32) : Fin 2 → Nat :=
  let c128_i32_568 : BitVec 32 := 128#32
  let v1503 : BitVec 32 := Scalar.muli v1502 c128_i32_568
  let v1504 : BitVec 32 := v1503
  let v1515 : Index := Scalar.indexCast v1504
  let c0_575 : Index := 0#32
  ![v1515.toNat, 0]
def k0_off13 (v1463 : BitVec 32) : Fin 2 → Nat :=
  let c128_i32_544 : BitVec 32 := 128#32
  let v1464 : BitVec 32 := Scalar.muli v1463 c128_i32_544
  let v1465 : BitVec 32 := v1464
  let v1527 : Index := Scalar.indexCast v1465
  let c512_581 : Index := 512#32
  ![v1527.toNat, 512]
def k0_off14 (v1476 : BitVec 32) : Fin 2 → Nat :=
  let c128_i32_552 : BitVec 32 := 128#32
  let v1477 : BitVec 32 := Scalar.muli v1476 c128_i32_552
  let v1478 : BitVec 32 := v1477
  let v1529 : Index := Scalar.indexCast v1478
  let c512_582 : Index := 512#32
  ![v1529.toNat, 512]
def k0_off15 (v1489 : BitVec 32) : Fin 2 → Nat :=
  let c128_i32_560 : BitVec 32 := 128#32
  let v1490 : BitVec 32 := Scalar.muli v1489 c128_i32_560
  let v1491 : BitVec 32 := v1490
  let v1531 : Index := Scalar.indexCast v1491
  let c512_583 : Index := 512#32
  ![v1531.toNat, 512]
def k0_off16 (v1502 : BitVec 32) : Fin 2 → Nat :=
  let c128_i32_568 : BitVec 32 := 128#32
  let v1503 : BitVec 32 := Scalar.muli v1502 c128_i32_568
  let v1504 : BitVec 32 := v1503
  let v1533 : Index := Scalar.indexCast v1504
  let c512_584 : Index := 512#32
  ![v1533.toNat, 512]
def k0_off17 (v1463 : BitVec 32) : Fin 2 → Nat :=
  let c128_i32_544 : BitVec 32 := 128#32
  let v1464 : BitVec 32 := Scalar.muli v1463 c128_i32_544
  let v1465 : BitVec 32 := v1464
  let v1545 : Index := Scalar.indexCast v1465
  let c1024 : Index := 1024#32
  ![v1545.toNat, 1024]
def k0_off18 (v1476 : BitVec 32) : Fin 2 → Nat :=
  let c128_i32_552 : BitVec 32 := 128#32
  let v1477 : BitVec 32 := Scalar.muli v1476 c128_i32_552
  let v1478 : BitVec 32 := v1477
  let v1547 : Index := Scalar.indexCast v1478
  let c1024_590 : Index := 1024#32
  ![v1547.toNat, 1024]
def k0_off19 (v1489 : BitVec 32) : Fin 2 → Nat :=
  let c128_i32_560 : BitVec 32 := 128#32
  let v1490 : BitVec 32 := Scalar.muli v1489 c128_i32_560
  let v1491 : BitVec 32 := v1490
  let v1549 : Index := Scalar.indexCast v1491
  let c1024_591 : Index := 1024#32
  ![v1549.toNat, 1024]
def k0_off20 (v1502 : BitVec 32) : Fin 2 → Nat :=
  let c128_i32_568 : BitVec 32 := 128#32
  let v1503 : BitVec 32 := Scalar.muli v1502 c128_i32_568
  let v1504 : BitVec 32 := v1503
  let v1551 : Index := Scalar.indexCast v1504
  let c1024_592 : Index := 1024#32
  ![v1551.toNat, 1024]
def k0_off21 (v1463 : BitVec 32) : Fin 2 → Nat :=
  let c128_i32_544 : BitVec 32 := 128#32
  let v1464 : BitVec 32 := Scalar.muli v1463 c128_i32_544
  let v1465 : BitVec 32 := v1464
  let v1566 : Index := Scalar.indexCast v1465
  let c1536 : Index := 1536#32
  ![v1566.toNat, 1536]
def k0_off22 (v1476 : BitVec 32) : Fin 2 → Nat :=
  let c128_i32_552 : BitVec 32 := 128#32
  let v1477 : BitVec 32 := Scalar.muli v1476 c128_i32_552
  let v1478 : BitVec 32 := v1477
  let v1568 : Index := Scalar.indexCast v1478
  let c1536_603 : Index := 1536#32
  ![v1568.toNat, 1536]
def k0_off23 (v1489 : BitVec 32) : Fin 2 → Nat :=
  let c128_i32_560 : BitVec 32 := 128#32
  let v1490 : BitVec 32 := Scalar.muli v1489 c128_i32_560
  let v1491 : BitVec 32 := v1490
  let v1570 : Index := Scalar.indexCast v1491
  let c1536_604 : Index := 1536#32
  ![v1570.toNat, 1536]
def k0_off24 (v1502 : BitVec 32) : Fin 2 → Nat :=
  let c128_i32_568 : BitVec 32 := 128#32
  let v1503 : BitVec 32 := Scalar.muli v1502 c128_i32_568
  let v1504 : BitVec 32 := v1503
  let v1572 : Index := Scalar.indexCast v1504
  let c1536_605 : Index := 1536#32
  ![v1572.toNat, 1536]
def k0_off25 (v1463 : BitVec 32) : Fin 2 → Nat :=
  let c128_i32_544 : BitVec 32 := 128#32
  let v1464 : BitVec 32 := Scalar.muli v1463 c128_i32_544
  let v1465 : BitVec 32 := v1464
  let v1584 : Index := Scalar.indexCast v1465
  let c2048 : Index := 2048#32
  ![v1584.toNat, 2048]
def k0_off26 (v1476 : BitVec 32) : Fin 2 → Nat :=
  let c128_i32_552 : BitVec 32 := 128#32
  let v1477 : BitVec 32 := Scalar.muli v1476 c128_i32_552
  let v1478 : BitVec 32 := v1477
  let v1586 : Index := Scalar.indexCast v1478
  let c2048_611 : Index := 2048#32
  ![v1586.toNat, 2048]
def k0_off27 (v1489 : BitVec 32) : Fin 2 → Nat :=
  let c128_i32_560 : BitVec 32 := 128#32
  let v1490 : BitVec 32 := Scalar.muli v1489 c128_i32_560
  let v1491 : BitVec 32 := v1490
  let v1588 : Index := Scalar.indexCast v1491
  let c2048_612 : Index := 2048#32
  ![v1588.toNat, 2048]
def k0_off28 (v1502 : BitVec 32) : Fin 2 → Nat :=
  let c128_i32_568 : BitVec 32 := 128#32
  let v1503 : BitVec 32 := Scalar.muli v1502 c128_i32_568
  let v1504 : BitVec 32 := v1503
  let v1590 : Index := Scalar.indexCast v1504
  let c2048_613 : Index := 2048#32
  ![v1590.toNat, 2048]
def k0_off29 (v1463 : BitVec 32) : Fin 2 → Nat :=
  let c128_i32_544 : BitVec 32 := 128#32
  let v1464 : BitVec 32 := Scalar.muli v1463 c128_i32_544
  let v1465 : BitVec 32 := v1464
  let v1602 : Index := Scalar.indexCast v1465
  let c2560 : Index := 2560#32
  ![v1602.toNat, 2560]

def k0_chk2 (v1463 : BitVec 32) : Prop :=
  (128 ∣ (k0_mult1 v1463).toNat) ∧
  (∀ a, (k0_off9 v1463) a + S128x512.size a ≤ S640x3072.size a) ∧
  (∀ a, (k0_off13 v1463) a + S128x512.size a ≤ S640x3072.size a) ∧
  (∀ a, (k0_off17 v1463) a + S128x512.size a ≤ S640x3072.size a) ∧
  (∀ a, (k0_off21 v1463) a + S128x512.size a ≤ S640x3072.size a) ∧
  (∀ a, (k0_off25 v1463) a + S128x512.size a ≤ S640x3072.size a) ∧
  (∀ a, (k0_off29 v1463) a + S128x512.size a ≤ S640x3072.size a)
theorem k0_mult1_dvd : ∀ (v1463 : BitVec 32) (k0_hw2 : k0_chk2 v1463), 128 ∣ (k0_mult1 v1463).toNat := fun v1463 k0_hw2 => k0_hw2.1
theorem k0_off9_inb : ∀ (v1463 : BitVec 32) (k0_hw2 : k0_chk2 v1463), ∀ a, (k0_off9 v1463) a + S128x512.size a ≤ S640x3072.size a := fun v1463 k0_hw2 => k0_hw2.2.1
theorem k0_off13_inb : ∀ (v1463 : BitVec 32) (k0_hw2 : k0_chk2 v1463), ∀ a, (k0_off13 v1463) a + S128x512.size a ≤ S640x3072.size a := fun v1463 k0_hw2 => k0_hw2.2.2.1
theorem k0_off17_inb : ∀ (v1463 : BitVec 32) (k0_hw2 : k0_chk2 v1463), ∀ a, (k0_off17 v1463) a + S128x512.size a ≤ S640x3072.size a := fun v1463 k0_hw2 => k0_hw2.2.2.2.1
theorem k0_off21_inb : ∀ (v1463 : BitVec 32) (k0_hw2 : k0_chk2 v1463), ∀ a, (k0_off21 v1463) a + S128x512.size a ≤ S640x3072.size a := fun v1463 k0_hw2 => k0_hw2.2.2.2.2.1
theorem k0_off25_inb : ∀ (v1463 : BitVec 32) (k0_hw2 : k0_chk2 v1463), ∀ a, (k0_off25 v1463) a + S128x512.size a ≤ S640x3072.size a := fun v1463 k0_hw2 => k0_hw2.2.2.2.2.2.1
theorem k0_off29_inb : ∀ (v1463 : BitVec 32) (k0_hw2 : k0_chk2 v1463), ∀ a, (k0_off29 v1463) a + S128x512.size a ≤ S640x3072.size a := fun v1463 k0_hw2 => k0_hw2.2.2.2.2.2.2

def k0_off30 (v1476 : BitVec 32) : Fin 2 → Nat :=
  let c128_i32_552 : BitVec 32 := 128#32
  let v1477 : BitVec 32 := Scalar.muli v1476 c128_i32_552
  let v1478 : BitVec 32 := v1477
  let v1604 : Index := Scalar.indexCast v1478
  let c2560_619 : Index := 2560#32
  ![v1604.toNat, 2560]

def k0_chk3 (v1476 : BitVec 32) : Prop :=
  (128 ∣ (k0_mult2 v1476).toNat) ∧
  (∀ a, (k0_off10 v1476) a + S128x512.size a ≤ S640x3072.size a) ∧
  (∀ a, (k0_off14 v1476) a + S128x512.size a ≤ S640x3072.size a) ∧
  (∀ a, (k0_off18 v1476) a + S128x512.size a ≤ S640x3072.size a) ∧
  (∀ a, (k0_off22 v1476) a + S128x512.size a ≤ S640x3072.size a) ∧
  (∀ a, (k0_off26 v1476) a + S128x512.size a ≤ S640x3072.size a) ∧
  (∀ a, (k0_off30 v1476) a + S128x512.size a ≤ S640x3072.size a)
theorem k0_mult2_dvd : ∀ (v1476 : BitVec 32) (k0_hw3 : k0_chk3 v1476), 128 ∣ (k0_mult2 v1476).toNat := fun v1476 k0_hw3 => k0_hw3.1
theorem k0_off10_inb : ∀ (v1476 : BitVec 32) (k0_hw3 : k0_chk3 v1476), ∀ a, (k0_off10 v1476) a + S128x512.size a ≤ S640x3072.size a := fun v1476 k0_hw3 => k0_hw3.2.1
theorem k0_off14_inb : ∀ (v1476 : BitVec 32) (k0_hw3 : k0_chk3 v1476), ∀ a, (k0_off14 v1476) a + S128x512.size a ≤ S640x3072.size a := fun v1476 k0_hw3 => k0_hw3.2.2.1
theorem k0_off18_inb : ∀ (v1476 : BitVec 32) (k0_hw3 : k0_chk3 v1476), ∀ a, (k0_off18 v1476) a + S128x512.size a ≤ S640x3072.size a := fun v1476 k0_hw3 => k0_hw3.2.2.2.1
theorem k0_off22_inb : ∀ (v1476 : BitVec 32) (k0_hw3 : k0_chk3 v1476), ∀ a, (k0_off22 v1476) a + S128x512.size a ≤ S640x3072.size a := fun v1476 k0_hw3 => k0_hw3.2.2.2.2.1
theorem k0_off26_inb : ∀ (v1476 : BitVec 32) (k0_hw3 : k0_chk3 v1476), ∀ a, (k0_off26 v1476) a + S128x512.size a ≤ S640x3072.size a := fun v1476 k0_hw3 => k0_hw3.2.2.2.2.2.1
theorem k0_off30_inb : ∀ (v1476 : BitVec 32) (k0_hw3 : k0_chk3 v1476), ∀ a, (k0_off30 v1476) a + S128x512.size a ≤ S640x3072.size a := fun v1476 k0_hw3 => k0_hw3.2.2.2.2.2.2

def k0_off31 (v1489 : BitVec 32) : Fin 2 → Nat :=
  let c128_i32_560 : BitVec 32 := 128#32
  let v1490 : BitVec 32 := Scalar.muli v1489 c128_i32_560
  let v1491 : BitVec 32 := v1490
  let v1606 : Index := Scalar.indexCast v1491
  let c2560_620 : Index := 2560#32
  ![v1606.toNat, 2560]

def k0_chk4 (v1489 : BitVec 32) : Prop :=
  (128 ∣ (k0_mult3 v1489).toNat) ∧
  (∀ a, (k0_off11 v1489) a + S128x512.size a ≤ S640x3072.size a) ∧
  (∀ a, (k0_off15 v1489) a + S128x512.size a ≤ S640x3072.size a) ∧
  (∀ a, (k0_off19 v1489) a + S128x512.size a ≤ S640x3072.size a) ∧
  (∀ a, (k0_off23 v1489) a + S128x512.size a ≤ S640x3072.size a) ∧
  (∀ a, (k0_off27 v1489) a + S128x512.size a ≤ S640x3072.size a) ∧
  (∀ a, (k0_off31 v1489) a + S128x512.size a ≤ S640x3072.size a)
theorem k0_mult3_dvd : ∀ (v1489 : BitVec 32) (k0_hw4 : k0_chk4 v1489), 128 ∣ (k0_mult3 v1489).toNat := fun v1489 k0_hw4 => k0_hw4.1
theorem k0_off11_inb : ∀ (v1489 : BitVec 32) (k0_hw4 : k0_chk4 v1489), ∀ a, (k0_off11 v1489) a + S128x512.size a ≤ S640x3072.size a := fun v1489 k0_hw4 => k0_hw4.2.1
theorem k0_off15_inb : ∀ (v1489 : BitVec 32) (k0_hw4 : k0_chk4 v1489), ∀ a, (k0_off15 v1489) a + S128x512.size a ≤ S640x3072.size a := fun v1489 k0_hw4 => k0_hw4.2.2.1
theorem k0_off19_inb : ∀ (v1489 : BitVec 32) (k0_hw4 : k0_chk4 v1489), ∀ a, (k0_off19 v1489) a + S128x512.size a ≤ S640x3072.size a := fun v1489 k0_hw4 => k0_hw4.2.2.2.1
theorem k0_off23_inb : ∀ (v1489 : BitVec 32) (k0_hw4 : k0_chk4 v1489), ∀ a, (k0_off23 v1489) a + S128x512.size a ≤ S640x3072.size a := fun v1489 k0_hw4 => k0_hw4.2.2.2.2.1
theorem k0_off27_inb : ∀ (v1489 : BitVec 32) (k0_hw4 : k0_chk4 v1489), ∀ a, (k0_off27 v1489) a + S128x512.size a ≤ S640x3072.size a := fun v1489 k0_hw4 => k0_hw4.2.2.2.2.2.1
theorem k0_off31_inb : ∀ (v1489 : BitVec 32) (k0_hw4 : k0_chk4 v1489), ∀ a, (k0_off31 v1489) a + S128x512.size a ≤ S640x3072.size a := fun v1489 k0_hw4 => k0_hw4.2.2.2.2.2.2

def k0_off32 (v1502 : BitVec 32) : Fin 2 → Nat :=
  let c128_i32_568 : BitVec 32 := 128#32
  let v1503 : BitVec 32 := Scalar.muli v1502 c128_i32_568
  let v1504 : BitVec 32 := v1503
  let v1608 : Index := Scalar.indexCast v1504
  let c2560_621 : Index := 2560#32
  ![v1608.toNat, 2560]

def k0_chk5 (v1502 : BitVec 32) : Prop :=
  (128 ∣ (k0_mult4 v1502).toNat) ∧
  (∀ a, (k0_off12 v1502) a + S128x512.size a ≤ S640x3072.size a) ∧
  (∀ a, (k0_off16 v1502) a + S128x512.size a ≤ S640x3072.size a) ∧
  (∀ a, (k0_off20 v1502) a + S128x512.size a ≤ S640x3072.size a) ∧
  (∀ a, (k0_off24 v1502) a + S128x512.size a ≤ S640x3072.size a) ∧
  (∀ a, (k0_off28 v1502) a + S128x512.size a ≤ S640x3072.size a) ∧
  (∀ a, (k0_off32 v1502) a + S128x512.size a ≤ S640x3072.size a)
theorem k0_mult4_dvd : ∀ (v1502 : BitVec 32) (k0_hw5 : k0_chk5 v1502), 128 ∣ (k0_mult4 v1502).toNat := fun v1502 k0_hw5 => k0_hw5.1
theorem k0_off12_inb : ∀ (v1502 : BitVec 32) (k0_hw5 : k0_chk5 v1502), ∀ a, (k0_off12 v1502) a + S128x512.size a ≤ S640x3072.size a := fun v1502 k0_hw5 => k0_hw5.2.1
theorem k0_off16_inb : ∀ (v1502 : BitVec 32) (k0_hw5 : k0_chk5 v1502), ∀ a, (k0_off16 v1502) a + S128x512.size a ≤ S640x3072.size a := fun v1502 k0_hw5 => k0_hw5.2.2.1
theorem k0_off20_inb : ∀ (v1502 : BitVec 32) (k0_hw5 : k0_chk5 v1502), ∀ a, (k0_off20 v1502) a + S128x512.size a ≤ S640x3072.size a := fun v1502 k0_hw5 => k0_hw5.2.2.2.1
theorem k0_off24_inb : ∀ (v1502 : BitVec 32) (k0_hw5 : k0_chk5 v1502), ∀ a, (k0_off24 v1502) a + S128x512.size a ≤ S640x3072.size a := fun v1502 k0_hw5 => k0_hw5.2.2.2.2.1
theorem k0_off28_inb : ∀ (v1502 : BitVec 32) (k0_hw5 : k0_chk5 v1502), ∀ a, (k0_off28 v1502) a + S128x512.size a ≤ S640x3072.size a := fun v1502 k0_hw5 => k0_hw5.2.2.2.2.2.1
theorem k0_off32_inb : ∀ (v1502 : BitVec 32) (k0_hw5 : k0_chk5 v1502), ∀ a, (k0_off32 v1502) a + S128x512.size a ≤ S640x3072.size a := fun v1502 k0_hw5 => k0_hw5.2.2.2.2.2.2

def k0_off33 (v2128 : BitVec 32) (v2129 : BitVec 32) : Fin 3 → Nat :=
  let c0_i32_815 : BitVec 32 := 0#32
  let v2130 : BitVec 32 := Scalar.addi v2128 c0_i32_815
  let v2131 : BitVec 1 := Scalar.cmpi .slt v2130 v2129
  let c0_i32_816 : BitVec 32 := 0#32
  let v2132 : BitVec 32 := Scalar.addi v2128 c0_i32_816
  let c19_i32_817 : BitVec 32 := 19#32
  let v2133 : BitVec 32 := Scalar.minsi v2128 c19_i32_817
  let v2134 : BitVec 32 := Scalar.select v2131 v2132 v2133
  let c20_i32_818 : BitVec 32 := 20#32
  let v2135 : BitVec 32 := Scalar.select v2131 v2134 c20_i32_818
  let v2136 : Index := Scalar.indexCast v2135
  let c0_819 : Index := 0#32
  let c0_820 : Index := 0#32
  ![v2136.toNat, 0, 0]

def k0_off34 (v2128 : BitVec 32) (v2129 : BitVec 32) : Fin 2 → Nat :=
  let c0_821 : Index := 0#32
  let c0_i32_815 : BitVec 32 := 0#32
  let v2130 : BitVec 32 := Scalar.addi v2128 c0_i32_815
  let v2131 : BitVec 1 := Scalar.cmpi .slt v2130 v2129
  let c0_i32_816 : BitVec 32 := 0#32
  let v2132 : BitVec 32 := Scalar.addi v2128 c0_i32_816
  let c19_i32_817 : BitVec 32 := 19#32
  let v2133 : BitVec 32 := Scalar.minsi v2128 c19_i32_817
  let v2134 : BitVec 32 := Scalar.select v2131 v2132 v2133
  let v2139 : Index := Scalar.indexCast v2134
  ![0, v2139.toNat]
def k0_mult5 (v2140 : BitVec 32) : BitVec 32 :=
  let c128_i32_822 : BitVec 32 := 128#32
  let v2141 : BitVec 32 := Scalar.muli v2140 c128_i32_822
  v2141

def k0_off35 (v2128 : BitVec 32) (v2129 : BitVec 32) : Fin 3 → Nat :=
  let c1_i32_823 : BitVec 32 := 1#32
  let v2143 : BitVec 32 := Scalar.addi v2128 c1_i32_823
  let v2144 : BitVec 1 := Scalar.cmpi .slt v2143 v2129
  let c1_i32_824 : BitVec 32 := 1#32
  let v2145 : BitVec 32 := Scalar.addi v2128 c1_i32_824
  let c19_i32_825 : BitVec 32 := 19#32
  let v2146 : BitVec 32 := Scalar.minsi v2128 c19_i32_825
  let v2147 : BitVec 32 := Scalar.select v2144 v2145 v2146
  let c20_i32_826 : BitVec 32 := 20#32
  let v2148 : BitVec 32 := Scalar.select v2144 v2147 c20_i32_826
  let v2149 : Index := Scalar.indexCast v2148
  let c0_827 : Index := 0#32
  let c0_828 : Index := 0#32
  ![v2149.toNat, 0, 0]
def k0_off36 (v2128 : BitVec 32) (v2129 : BitVec 32) : Fin 2 → Nat :=
  let c0_829 : Index := 0#32
  let c1_i32_823 : BitVec 32 := 1#32
  let v2143 : BitVec 32 := Scalar.addi v2128 c1_i32_823
  let v2144 : BitVec 1 := Scalar.cmpi .slt v2143 v2129
  let c1_i32_824 : BitVec 32 := 1#32
  let v2145 : BitVec 32 := Scalar.addi v2128 c1_i32_824
  let c19_i32_825 : BitVec 32 := 19#32
  let v2146 : BitVec 32 := Scalar.minsi v2128 c19_i32_825
  let v2147 : BitVec 32 := Scalar.select v2144 v2145 v2146
  let v2152 : Index := Scalar.indexCast v2147
  ![0, v2152.toNat]
def k0_mult6 (v2153 : BitVec 32) : BitVec 32 :=
  let c128_i32_830 : BitVec 32 := 128#32
  let v2154 : BitVec 32 := Scalar.muli v2153 c128_i32_830
  v2154

def k0_off37 (v2128 : BitVec 32) (v2129 : BitVec 32) : Fin 3 → Nat :=
  let c2_i32_831 : BitVec 32 := 2#32
  let v2156 : BitVec 32 := Scalar.addi v2128 c2_i32_831
  let v2157 : BitVec 1 := Scalar.cmpi .slt v2156 v2129
  let c2_i32_832 : BitVec 32 := 2#32
  let v2158 : BitVec 32 := Scalar.addi v2128 c2_i32_832
  let c19_i32_833 : BitVec 32 := 19#32
  let v2159 : BitVec 32 := Scalar.minsi v2128 c19_i32_833
  let v2160 : BitVec 32 := Scalar.select v2157 v2158 v2159
  let c20_i32_834 : BitVec 32 := 20#32
  let v2161 : BitVec 32 := Scalar.select v2157 v2160 c20_i32_834
  let v2162 : Index := Scalar.indexCast v2161
  let c0_835 : Index := 0#32
  let c0_836 : Index := 0#32
  ![v2162.toNat, 0, 0]
def k0_off38 (v2128 : BitVec 32) (v2129 : BitVec 32) : Fin 2 → Nat :=
  let c0_837 : Index := 0#32
  let c2_i32_831 : BitVec 32 := 2#32
  let v2156 : BitVec 32 := Scalar.addi v2128 c2_i32_831
  let v2157 : BitVec 1 := Scalar.cmpi .slt v2156 v2129
  let c2_i32_832 : BitVec 32 := 2#32
  let v2158 : BitVec 32 := Scalar.addi v2128 c2_i32_832
  let c19_i32_833 : BitVec 32 := 19#32
  let v2159 : BitVec 32 := Scalar.minsi v2128 c19_i32_833
  let v2160 : BitVec 32 := Scalar.select v2157 v2158 v2159
  let v2165 : Index := Scalar.indexCast v2160
  ![0, v2165.toNat]
def k0_mult7 (v2166 : BitVec 32) : BitVec 32 :=
  let c128_i32_838 : BitVec 32 := 128#32
  let v2167 : BitVec 32 := Scalar.muli v2166 c128_i32_838
  v2167

def k0_off39 (v2128 : BitVec 32) (v2129 : BitVec 32) : Fin 3 → Nat :=
  let c3_i32_839 : BitVec 32 := 3#32
  let v2169 : BitVec 32 := Scalar.addi v2128 c3_i32_839
  let v2170 : BitVec 1 := Scalar.cmpi .slt v2169 v2129
  let c3_i32_840 : BitVec 32 := 3#32
  let v2171 : BitVec 32 := Scalar.addi v2128 c3_i32_840
  let c19_i32_841 : BitVec 32 := 19#32
  let v2172 : BitVec 32 := Scalar.minsi v2128 c19_i32_841
  let v2173 : BitVec 32 := Scalar.select v2170 v2171 v2172
  let c20_i32_842 : BitVec 32 := 20#32
  let v2174 : BitVec 32 := Scalar.select v2170 v2173 c20_i32_842
  let v2175 : Index := Scalar.indexCast v2174
  let c0_843 : Index := 0#32
  let c0_844 : Index := 0#32
  ![v2175.toNat, 0, 0]
def k0_off40 (v2128 : BitVec 32) (v2129 : BitVec 32) : Fin 2 → Nat :=
  let c0_845 : Index := 0#32
  let c3_i32_839 : BitVec 32 := 3#32
  let v2169 : BitVec 32 := Scalar.addi v2128 c3_i32_839
  let v2170 : BitVec 1 := Scalar.cmpi .slt v2169 v2129
  let c3_i32_840 : BitVec 32 := 3#32
  let v2171 : BitVec 32 := Scalar.addi v2128 c3_i32_840
  let c19_i32_841 : BitVec 32 := 19#32
  let v2172 : BitVec 32 := Scalar.minsi v2128 c19_i32_841
  let v2173 : BitVec 32 := Scalar.select v2170 v2171 v2172
  let v2178 : Index := Scalar.indexCast v2173
  ![0, v2178.toNat]

def k0_chk6 (v2128 : BitVec 32) (v2129 : BitVec 32) : Prop :=
  (∀ a, (k0_off33 v2128 v2129) a + S1x128x128.size a ≤ S21x128x128.size a) ∧
  (∀ a, (k0_off34 v2128 v2129) a + S1x1.size a ≤ S3x20.size a) ∧
  (∀ a, (k0_off35 v2128 v2129) a + S1x128x128.size a ≤ S21x128x128.size a) ∧
  (∀ a, (k0_off36 v2128 v2129) a + S1x1.size a ≤ S3x20.size a) ∧
  (∀ a, (k0_off37 v2128 v2129) a + S1x128x128.size a ≤ S21x128x128.size a) ∧
  (∀ a, (k0_off38 v2128 v2129) a + S1x1.size a ≤ S3x20.size a) ∧
  (∀ a, (k0_off39 v2128 v2129) a + S1x128x128.size a ≤ S21x128x128.size a) ∧
  (∀ a, (k0_off40 v2128 v2129) a + S1x1.size a ≤ S3x20.size a)
theorem k0_off33_inb : ∀ (v2128 : BitVec 32) (v2129 : BitVec 32) (k0_hw6 : k0_chk6 v2128 v2129), ∀ a, (k0_off33 v2128 v2129) a + S1x128x128.size a ≤ S21x128x128.size a := fun v2128 v2129 k0_hw6 => k0_hw6.1
theorem k0_off34_inb : ∀ (v2128 : BitVec 32) (v2129 : BitVec 32) (k0_hw6 : k0_chk6 v2128 v2129), ∀ a, (k0_off34 v2128 v2129) a + S1x1.size a ≤ S3x20.size a := fun v2128 v2129 k0_hw6 => k0_hw6.2.1
theorem k0_off35_inb : ∀ (v2128 : BitVec 32) (v2129 : BitVec 32) (k0_hw6 : k0_chk6 v2128 v2129), ∀ a, (k0_off35 v2128 v2129) a + S1x128x128.size a ≤ S21x128x128.size a := fun v2128 v2129 k0_hw6 => k0_hw6.2.2.1
theorem k0_off36_inb : ∀ (v2128 : BitVec 32) (v2129 : BitVec 32) (k0_hw6 : k0_chk6 v2128 v2129), ∀ a, (k0_off36 v2128 v2129) a + S1x1.size a ≤ S3x20.size a := fun v2128 v2129 k0_hw6 => k0_hw6.2.2.2.1
theorem k0_off37_inb : ∀ (v2128 : BitVec 32) (v2129 : BitVec 32) (k0_hw6 : k0_chk6 v2128 v2129), ∀ a, (k0_off37 v2128 v2129) a + S1x128x128.size a ≤ S21x128x128.size a := fun v2128 v2129 k0_hw6 => k0_hw6.2.2.2.2.1
theorem k0_off38_inb : ∀ (v2128 : BitVec 32) (v2129 : BitVec 32) (k0_hw6 : k0_chk6 v2128 v2129), ∀ a, (k0_off38 v2128 v2129) a + S1x1.size a ≤ S3x20.size a := fun v2128 v2129 k0_hw6 => k0_hw6.2.2.2.2.2.1
theorem k0_off39_inb : ∀ (v2128 : BitVec 32) (v2129 : BitVec 32) (k0_hw6 : k0_chk6 v2128 v2129), ∀ a, (k0_off39 v2128 v2129) a + S1x128x128.size a ≤ S21x128x128.size a := fun v2128 v2129 k0_hw6 => k0_hw6.2.2.2.2.2.2.1
theorem k0_off40_inb : ∀ (v2128 : BitVec 32) (v2129 : BitVec 32) (k0_hw6 : k0_chk6 v2128 v2129), ∀ a, (k0_off40 v2128 v2129) a + S1x1.size a ≤ S3x20.size a := fun v2128 v2129 k0_hw6 => k0_hw6.2.2.2.2.2.2.2

def k0_mult8 (v2179 : BitVec 32) : BitVec 32 :=
  let c128_i32_846 : BitVec 32 := 128#32
  let v2180 : BitVec 32 := Scalar.muli v2179 c128_i32_846
  v2180

def k0_off41 (v2140 : BitVec 32) : Fin 2 → Nat :=
  let c128_i32_822 : BitVec 32 := 128#32
  let v2141 : BitVec 32 := Scalar.muli v2140 c128_i32_822
  let v2142 : BitVec 32 := v2141
  let v2186 : Index := Scalar.indexCast v2142
  let c0_850 : Index := 0#32
  ![v2186.toNat, 0]
def k0_off42 (v2153 : BitVec 32) : Fin 2 → Nat :=
  let c128_i32_830 : BitVec 32 := 128#32
  let v2154 : BitVec 32 := Scalar.muli v2153 c128_i32_830
  let v2155 : BitVec 32 := v2154
  let v2188 : Index := Scalar.indexCast v2155
  let c0_851 : Index := 0#32
  ![v2188.toNat, 0]
def k0_off43 (v2166 : BitVec 32) : Fin 2 → Nat :=
  let c128_i32_838 : BitVec 32 := 128#32
  let v2167 : BitVec 32 := Scalar.muli v2166 c128_i32_838
  let v2168 : BitVec 32 := v2167
  let v2190 : Index := Scalar.indexCast v2168
  let c0_852 : Index := 0#32
  ![v2190.toNat, 0]
def k0_off44 (v2179 : BitVec 32) : Fin 2 → Nat :=
  let c128_i32_846 : BitVec 32 := 128#32
  let v2180 : BitVec 32 := Scalar.muli v2179 c128_i32_846
  let v2181 : BitVec 32 := v2180
  let v2192 : Index := Scalar.indexCast v2181
  let c0_853 : Index := 0#32
  ![v2192.toNat, 0]
def k0_off45 (v2140 : BitVec 32) : Fin 2 → Nat :=
  let c128_i32_822 : BitVec 32 := 128#32
  let v2141 : BitVec 32 := Scalar.muli v2140 c128_i32_822
  let v2142 : BitVec 32 := v2141
  let v2204 : Index := Scalar.indexCast v2142
  let c512_859 : Index := 512#32
  ![v2204.toNat, 512]
def k0_off46 (v2153 : BitVec 32) : Fin 2 → Nat :=
  let c128_i32_830 : BitVec 32 := 128#32
  let v2154 : BitVec 32 := Scalar.muli v2153 c128_i32_830
  let v2155 : BitVec 32 := v2154
  let v2206 : Index := Scalar.indexCast v2155
  let c512_860 : Index := 512#32
  ![v2206.toNat, 512]
def k0_off47 (v2166 : BitVec 32) : Fin 2 → Nat :=
  let c128_i32_838 : BitVec 32 := 128#32
  let v2167 : BitVec 32 := Scalar.muli v2166 c128_i32_838
  let v2168 : BitVec 32 := v2167
  let v2208 : Index := Scalar.indexCast v2168
  let c512_861 : Index := 512#32
  ![v2208.toNat, 512]
def k0_off48 (v2179 : BitVec 32) : Fin 2 → Nat :=
  let c128_i32_846 : BitVec 32 := 128#32
  let v2180 : BitVec 32 := Scalar.muli v2179 c128_i32_846
  let v2181 : BitVec 32 := v2180
  let v2210 : Index := Scalar.indexCast v2181
  let c512_862 : Index := 512#32
  ![v2210.toNat, 512]
def k0_off49 (v2140 : BitVec 32) : Fin 2 → Nat :=
  let c128_i32_822 : BitVec 32 := 128#32
  let v2141 : BitVec 32 := Scalar.muli v2140 c128_i32_822
  let v2142 : BitVec 32 := v2141
  let v2222 : Index := Scalar.indexCast v2142
  let c1024_868 : Index := 1024#32
  ![v2222.toNat, 1024]
def k0_off50 (v2153 : BitVec 32) : Fin 2 → Nat :=
  let c128_i32_830 : BitVec 32 := 128#32
  let v2154 : BitVec 32 := Scalar.muli v2153 c128_i32_830
  let v2155 : BitVec 32 := v2154
  let v2224 : Index := Scalar.indexCast v2155
  let c1024_869 : Index := 1024#32
  ![v2224.toNat, 1024]
def k0_off51 (v2166 : BitVec 32) : Fin 2 → Nat :=
  let c128_i32_838 : BitVec 32 := 128#32
  let v2167 : BitVec 32 := Scalar.muli v2166 c128_i32_838
  let v2168 : BitVec 32 := v2167
  let v2226 : Index := Scalar.indexCast v2168
  let c1024_870 : Index := 1024#32
  ![v2226.toNat, 1024]
def k0_off52 (v2179 : BitVec 32) : Fin 2 → Nat :=
  let c128_i32_846 : BitVec 32 := 128#32
  let v2180 : BitVec 32 := Scalar.muli v2179 c128_i32_846
  let v2181 : BitVec 32 := v2180
  let v2228 : Index := Scalar.indexCast v2181
  let c1024_871 : Index := 1024#32
  ![v2228.toNat, 1024]
def k0_off53 (v2140 : BitVec 32) : Fin 2 → Nat :=
  let c128_i32_822 : BitVec 32 := 128#32
  let v2141 : BitVec 32 := Scalar.muli v2140 c128_i32_822
  let v2142 : BitVec 32 := v2141
  let v2243 : Index := Scalar.indexCast v2142
  let c1536_882 : Index := 1536#32
  ![v2243.toNat, 1536]
def k0_off54 (v2153 : BitVec 32) : Fin 2 → Nat :=
  let c128_i32_830 : BitVec 32 := 128#32
  let v2154 : BitVec 32 := Scalar.muli v2153 c128_i32_830
  let v2155 : BitVec 32 := v2154
  let v2245 : Index := Scalar.indexCast v2155
  let c1536_883 : Index := 1536#32
  ![v2245.toNat, 1536]
def k0_off55 (v2166 : BitVec 32) : Fin 2 → Nat :=
  let c128_i32_838 : BitVec 32 := 128#32
  let v2167 : BitVec 32 := Scalar.muli v2166 c128_i32_838
  let v2168 : BitVec 32 := v2167
  let v2247 : Index := Scalar.indexCast v2168
  let c1536_884 : Index := 1536#32
  ![v2247.toNat, 1536]
def k0_off56 (v2179 : BitVec 32) : Fin 2 → Nat :=
  let c128_i32_846 : BitVec 32 := 128#32
  let v2180 : BitVec 32 := Scalar.muli v2179 c128_i32_846
  let v2181 : BitVec 32 := v2180
  let v2249 : Index := Scalar.indexCast v2181
  let c1536_885 : Index := 1536#32
  ![v2249.toNat, 1536]
def k0_off57 (v2140 : BitVec 32) : Fin 2 → Nat :=
  let c128_i32_822 : BitVec 32 := 128#32
  let v2141 : BitVec 32 := Scalar.muli v2140 c128_i32_822
  let v2142 : BitVec 32 := v2141
  let v2261 : Index := Scalar.indexCast v2142
  let c2048_891 : Index := 2048#32
  ![v2261.toNat, 2048]
def k0_off58 (v2153 : BitVec 32) : Fin 2 → Nat :=
  let c128_i32_830 : BitVec 32 := 128#32
  let v2154 : BitVec 32 := Scalar.muli v2153 c128_i32_830
  let v2155 : BitVec 32 := v2154
  let v2263 : Index := Scalar.indexCast v2155
  let c2048_892 : Index := 2048#32
  ![v2263.toNat, 2048]
def k0_off59 (v2166 : BitVec 32) : Fin 2 → Nat :=
  let c128_i32_838 : BitVec 32 := 128#32
  let v2167 : BitVec 32 := Scalar.muli v2166 c128_i32_838
  let v2168 : BitVec 32 := v2167
  let v2265 : Index := Scalar.indexCast v2168
  let c2048_893 : Index := 2048#32
  ![v2265.toNat, 2048]
def k0_off60 (v2179 : BitVec 32) : Fin 2 → Nat :=
  let c128_i32_846 : BitVec 32 := 128#32
  let v2180 : BitVec 32 := Scalar.muli v2179 c128_i32_846
  let v2181 : BitVec 32 := v2180
  let v2267 : Index := Scalar.indexCast v2181
  let c2048_894 : Index := 2048#32
  ![v2267.toNat, 2048]
def k0_off61 (v2140 : BitVec 32) : Fin 2 → Nat :=
  let c128_i32_822 : BitVec 32 := 128#32
  let v2141 : BitVec 32 := Scalar.muli v2140 c128_i32_822
  let v2142 : BitVec 32 := v2141
  let v2279 : Index := Scalar.indexCast v2142
  let c2560_900 : Index := 2560#32
  ![v2279.toNat, 2560]

def k0_chk7 (v2140 : BitVec 32) : Prop :=
  (128 ∣ (k0_mult5 v2140).toNat) ∧
  (∀ a, (k0_off41 v2140) a + S128x512.size a ≤ S640x3072.size a) ∧
  (∀ a, (k0_off45 v2140) a + S128x512.size a ≤ S640x3072.size a) ∧
  (∀ a, (k0_off49 v2140) a + S128x512.size a ≤ S640x3072.size a) ∧
  (∀ a, (k0_off53 v2140) a + S128x512.size a ≤ S640x3072.size a) ∧
  (∀ a, (k0_off57 v2140) a + S128x512.size a ≤ S640x3072.size a) ∧
  (∀ a, (k0_off61 v2140) a + S128x512.size a ≤ S640x3072.size a)
theorem k0_mult5_dvd : ∀ (v2140 : BitVec 32) (k0_hw7 : k0_chk7 v2140), 128 ∣ (k0_mult5 v2140).toNat := fun v2140 k0_hw7 => k0_hw7.1
theorem k0_off41_inb : ∀ (v2140 : BitVec 32) (k0_hw7 : k0_chk7 v2140), ∀ a, (k0_off41 v2140) a + S128x512.size a ≤ S640x3072.size a := fun v2140 k0_hw7 => k0_hw7.2.1
theorem k0_off45_inb : ∀ (v2140 : BitVec 32) (k0_hw7 : k0_chk7 v2140), ∀ a, (k0_off45 v2140) a + S128x512.size a ≤ S640x3072.size a := fun v2140 k0_hw7 => k0_hw7.2.2.1
theorem k0_off49_inb : ∀ (v2140 : BitVec 32) (k0_hw7 : k0_chk7 v2140), ∀ a, (k0_off49 v2140) a + S128x512.size a ≤ S640x3072.size a := fun v2140 k0_hw7 => k0_hw7.2.2.2.1
theorem k0_off53_inb : ∀ (v2140 : BitVec 32) (k0_hw7 : k0_chk7 v2140), ∀ a, (k0_off53 v2140) a + S128x512.size a ≤ S640x3072.size a := fun v2140 k0_hw7 => k0_hw7.2.2.2.2.1
theorem k0_off57_inb : ∀ (v2140 : BitVec 32) (k0_hw7 : k0_chk7 v2140), ∀ a, (k0_off57 v2140) a + S128x512.size a ≤ S640x3072.size a := fun v2140 k0_hw7 => k0_hw7.2.2.2.2.2.1
theorem k0_off61_inb : ∀ (v2140 : BitVec 32) (k0_hw7 : k0_chk7 v2140), ∀ a, (k0_off61 v2140) a + S128x512.size a ≤ S640x3072.size a := fun v2140 k0_hw7 => k0_hw7.2.2.2.2.2.2

def k0_off62 (v2153 : BitVec 32) : Fin 2 → Nat :=
  let c128_i32_830 : BitVec 32 := 128#32
  let v2154 : BitVec 32 := Scalar.muli v2153 c128_i32_830
  let v2155 : BitVec 32 := v2154
  let v2281 : Index := Scalar.indexCast v2155
  let c2560_901 : Index := 2560#32
  ![v2281.toNat, 2560]

def k0_chk8 (v2153 : BitVec 32) : Prop :=
  (128 ∣ (k0_mult6 v2153).toNat) ∧
  (∀ a, (k0_off42 v2153) a + S128x512.size a ≤ S640x3072.size a) ∧
  (∀ a, (k0_off46 v2153) a + S128x512.size a ≤ S640x3072.size a) ∧
  (∀ a, (k0_off50 v2153) a + S128x512.size a ≤ S640x3072.size a) ∧
  (∀ a, (k0_off54 v2153) a + S128x512.size a ≤ S640x3072.size a) ∧
  (∀ a, (k0_off58 v2153) a + S128x512.size a ≤ S640x3072.size a) ∧
  (∀ a, (k0_off62 v2153) a + S128x512.size a ≤ S640x3072.size a)
theorem k0_mult6_dvd : ∀ (v2153 : BitVec 32) (k0_hw8 : k0_chk8 v2153), 128 ∣ (k0_mult6 v2153).toNat := fun v2153 k0_hw8 => k0_hw8.1
theorem k0_off42_inb : ∀ (v2153 : BitVec 32) (k0_hw8 : k0_chk8 v2153), ∀ a, (k0_off42 v2153) a + S128x512.size a ≤ S640x3072.size a := fun v2153 k0_hw8 => k0_hw8.2.1
theorem k0_off46_inb : ∀ (v2153 : BitVec 32) (k0_hw8 : k0_chk8 v2153), ∀ a, (k0_off46 v2153) a + S128x512.size a ≤ S640x3072.size a := fun v2153 k0_hw8 => k0_hw8.2.2.1
theorem k0_off50_inb : ∀ (v2153 : BitVec 32) (k0_hw8 : k0_chk8 v2153), ∀ a, (k0_off50 v2153) a + S128x512.size a ≤ S640x3072.size a := fun v2153 k0_hw8 => k0_hw8.2.2.2.1
theorem k0_off54_inb : ∀ (v2153 : BitVec 32) (k0_hw8 : k0_chk8 v2153), ∀ a, (k0_off54 v2153) a + S128x512.size a ≤ S640x3072.size a := fun v2153 k0_hw8 => k0_hw8.2.2.2.2.1
theorem k0_off58_inb : ∀ (v2153 : BitVec 32) (k0_hw8 : k0_chk8 v2153), ∀ a, (k0_off58 v2153) a + S128x512.size a ≤ S640x3072.size a := fun v2153 k0_hw8 => k0_hw8.2.2.2.2.2.1
theorem k0_off62_inb : ∀ (v2153 : BitVec 32) (k0_hw8 : k0_chk8 v2153), ∀ a, (k0_off62 v2153) a + S128x512.size a ≤ S640x3072.size a := fun v2153 k0_hw8 => k0_hw8.2.2.2.2.2.2

def k0_off63 (v2166 : BitVec 32) : Fin 2 → Nat :=
  let c128_i32_838 : BitVec 32 := 128#32
  let v2167 : BitVec 32 := Scalar.muli v2166 c128_i32_838
  let v2168 : BitVec 32 := v2167
  let v2283 : Index := Scalar.indexCast v2168
  let c2560_902 : Index := 2560#32
  ![v2283.toNat, 2560]

def k0_chk9 (v2166 : BitVec 32) : Prop :=
  (128 ∣ (k0_mult7 v2166).toNat) ∧
  (∀ a, (k0_off43 v2166) a + S128x512.size a ≤ S640x3072.size a) ∧
  (∀ a, (k0_off47 v2166) a + S128x512.size a ≤ S640x3072.size a) ∧
  (∀ a, (k0_off51 v2166) a + S128x512.size a ≤ S640x3072.size a) ∧
  (∀ a, (k0_off55 v2166) a + S128x512.size a ≤ S640x3072.size a) ∧
  (∀ a, (k0_off59 v2166) a + S128x512.size a ≤ S640x3072.size a) ∧
  (∀ a, (k0_off63 v2166) a + S128x512.size a ≤ S640x3072.size a)
theorem k0_mult7_dvd : ∀ (v2166 : BitVec 32) (k0_hw9 : k0_chk9 v2166), 128 ∣ (k0_mult7 v2166).toNat := fun v2166 k0_hw9 => k0_hw9.1
theorem k0_off43_inb : ∀ (v2166 : BitVec 32) (k0_hw9 : k0_chk9 v2166), ∀ a, (k0_off43 v2166) a + S128x512.size a ≤ S640x3072.size a := fun v2166 k0_hw9 => k0_hw9.2.1
theorem k0_off47_inb : ∀ (v2166 : BitVec 32) (k0_hw9 : k0_chk9 v2166), ∀ a, (k0_off47 v2166) a + S128x512.size a ≤ S640x3072.size a := fun v2166 k0_hw9 => k0_hw9.2.2.1
theorem k0_off51_inb : ∀ (v2166 : BitVec 32) (k0_hw9 : k0_chk9 v2166), ∀ a, (k0_off51 v2166) a + S128x512.size a ≤ S640x3072.size a := fun v2166 k0_hw9 => k0_hw9.2.2.2.1
theorem k0_off55_inb : ∀ (v2166 : BitVec 32) (k0_hw9 : k0_chk9 v2166), ∀ a, (k0_off55 v2166) a + S128x512.size a ≤ S640x3072.size a := fun v2166 k0_hw9 => k0_hw9.2.2.2.2.1
theorem k0_off59_inb : ∀ (v2166 : BitVec 32) (k0_hw9 : k0_chk9 v2166), ∀ a, (k0_off59 v2166) a + S128x512.size a ≤ S640x3072.size a := fun v2166 k0_hw9 => k0_hw9.2.2.2.2.2.1
theorem k0_off63_inb : ∀ (v2166 : BitVec 32) (k0_hw9 : k0_chk9 v2166), ∀ a, (k0_off63 v2166) a + S128x512.size a ≤ S640x3072.size a := fun v2166 k0_hw9 => k0_hw9.2.2.2.2.2.2

def k0_off64 (v2179 : BitVec 32) : Fin 2 → Nat :=
  let c128_i32_846 : BitVec 32 := 128#32
  let v2180 : BitVec 32 := Scalar.muli v2179 c128_i32_846
  let v2181 : BitVec 32 := v2180
  let v2285 : Index := Scalar.indexCast v2181
  let c2560_903 : Index := 2560#32
  ![v2285.toNat, 2560]

def k0_chk10 (v2179 : BitVec 32) : Prop :=
  (128 ∣ (k0_mult8 v2179).toNat) ∧
  (∀ a, (k0_off44 v2179) a + S128x512.size a ≤ S640x3072.size a) ∧
  (∀ a, (k0_off48 v2179) a + S128x512.size a ≤ S640x3072.size a) ∧
  (∀ a, (k0_off52 v2179) a + S128x512.size a ≤ S640x3072.size a) ∧
  (∀ a, (k0_off56 v2179) a + S128x512.size a ≤ S640x3072.size a) ∧
  (∀ a, (k0_off60 v2179) a + S128x512.size a ≤ S640x3072.size a) ∧
  (∀ a, (k0_off64 v2179) a + S128x512.size a ≤ S640x3072.size a)
theorem k0_mult8_dvd : ∀ (v2179 : BitVec 32) (k0_hw10 : k0_chk10 v2179), 128 ∣ (k0_mult8 v2179).toNat := fun v2179 k0_hw10 => k0_hw10.1
theorem k0_off44_inb : ∀ (v2179 : BitVec 32) (k0_hw10 : k0_chk10 v2179), ∀ a, (k0_off44 v2179) a + S128x512.size a ≤ S640x3072.size a := fun v2179 k0_hw10 => k0_hw10.2.1
theorem k0_off48_inb : ∀ (v2179 : BitVec 32) (k0_hw10 : k0_chk10 v2179), ∀ a, (k0_off48 v2179) a + S128x512.size a ≤ S640x3072.size a := fun v2179 k0_hw10 => k0_hw10.2.2.1
theorem k0_off52_inb : ∀ (v2179 : BitVec 32) (k0_hw10 : k0_chk10 v2179), ∀ a, (k0_off52 v2179) a + S128x512.size a ≤ S640x3072.size a := fun v2179 k0_hw10 => k0_hw10.2.2.2.1
theorem k0_off56_inb : ∀ (v2179 : BitVec 32) (k0_hw10 : k0_chk10 v2179), ∀ a, (k0_off56 v2179) a + S128x512.size a ≤ S640x3072.size a := fun v2179 k0_hw10 => k0_hw10.2.2.2.2.1
theorem k0_off60_inb : ∀ (v2179 : BitVec 32) (k0_hw10 : k0_chk10 v2179), ∀ a, (k0_off60 v2179) a + S128x512.size a ≤ S640x3072.size a := fun v2179 k0_hw10 => k0_hw10.2.2.2.2.2.1
theorem k0_off64_inb : ∀ (v2179 : BitVec 32) (k0_hw10 : k0_chk10 v2179), ∀ a, (k0_off64 v2179) a + S128x512.size a ≤ S640x3072.size a := fun v2179 k0_hw10 => k0_hw10.2.2.2.2.2.2

def k0_off65 (v2805 : BitVec 32) (v2806 : BitVec 32) : Fin 3 → Nat :=
  let c0_i32_1098 : BitVec 32 := 0#32
  let v2807 : BitVec 32 := Scalar.addi v2805 c0_i32_1098
  let v2808 : BitVec 1 := Scalar.cmpi .slt v2807 v2806
  let c0_i32_1099 : BitVec 32 := 0#32
  let v2809 : BitVec 32 := Scalar.addi v2805 c0_i32_1099
  let c19_i32_1100 : BitVec 32 := 19#32
  let v2810 : BitVec 32 := Scalar.minsi v2805 c19_i32_1100
  let v2811 : BitVec 32 := Scalar.select v2808 v2809 v2810
  let c20_i32_1101 : BitVec 32 := 20#32
  let v2812 : BitVec 32 := Scalar.select v2808 v2811 c20_i32_1101
  let v2813 : Index := Scalar.indexCast v2812
  let c0_1102 : Index := 0#32
  let c0_1103 : Index := 0#32
  ![v2813.toNat, 0, 0]

def k0_off66 (v2805 : BitVec 32) (v2806 : BitVec 32) : Fin 2 → Nat :=
  let c0_1104 : Index := 0#32
  let c0_i32_1098 : BitVec 32 := 0#32
  let v2807 : BitVec 32 := Scalar.addi v2805 c0_i32_1098
  let v2808 : BitVec 1 := Scalar.cmpi .slt v2807 v2806
  let c0_i32_1099 : BitVec 32 := 0#32
  let v2809 : BitVec 32 := Scalar.addi v2805 c0_i32_1099
  let c19_i32_1100 : BitVec 32 := 19#32
  let v2810 : BitVec 32 := Scalar.minsi v2805 c19_i32_1100
  let v2811 : BitVec 32 := Scalar.select v2808 v2809 v2810
  let v2816 : Index := Scalar.indexCast v2811
  ![0, v2816.toNat]
def k0_mult9 (v2817 : BitVec 32) : BitVec 32 :=
  let c128_i32_1105 : BitVec 32 := 128#32
  let v2818 : BitVec 32 := Scalar.muli v2817 c128_i32_1105
  v2818

def k0_off67 (v2805 : BitVec 32) (v2806 : BitVec 32) : Fin 3 → Nat :=
  let c1_i32_1106 : BitVec 32 := 1#32
  let v2820 : BitVec 32 := Scalar.addi v2805 c1_i32_1106
  let v2821 : BitVec 1 := Scalar.cmpi .slt v2820 v2806
  let c1_i32_1107 : BitVec 32 := 1#32
  let v2822 : BitVec 32 := Scalar.addi v2805 c1_i32_1107
  let c19_i32_1108 : BitVec 32 := 19#32
  let v2823 : BitVec 32 := Scalar.minsi v2805 c19_i32_1108
  let v2824 : BitVec 32 := Scalar.select v2821 v2822 v2823
  let c20_i32_1109 : BitVec 32 := 20#32
  let v2825 : BitVec 32 := Scalar.select v2821 v2824 c20_i32_1109
  let v2826 : Index := Scalar.indexCast v2825
  let c0_1110 : Index := 0#32
  let c0_1111 : Index := 0#32
  ![v2826.toNat, 0, 0]
def k0_off68 (v2805 : BitVec 32) (v2806 : BitVec 32) : Fin 2 → Nat :=
  let c0_1112 : Index := 0#32
  let c1_i32_1106 : BitVec 32 := 1#32
  let v2820 : BitVec 32 := Scalar.addi v2805 c1_i32_1106
  let v2821 : BitVec 1 := Scalar.cmpi .slt v2820 v2806
  let c1_i32_1107 : BitVec 32 := 1#32
  let v2822 : BitVec 32 := Scalar.addi v2805 c1_i32_1107
  let c19_i32_1108 : BitVec 32 := 19#32
  let v2823 : BitVec 32 := Scalar.minsi v2805 c19_i32_1108
  let v2824 : BitVec 32 := Scalar.select v2821 v2822 v2823
  let v2829 : Index := Scalar.indexCast v2824
  ![0, v2829.toNat]
def k0_mult10 (v2830 : BitVec 32) : BitVec 32 :=
  let c128_i32_1113 : BitVec 32 := 128#32
  let v2831 : BitVec 32 := Scalar.muli v2830 c128_i32_1113
  v2831

def k0_off69 (v2805 : BitVec 32) (v2806 : BitVec 32) : Fin 3 → Nat :=
  let c2_i32_1114 : BitVec 32 := 2#32
  let v2833 : BitVec 32 := Scalar.addi v2805 c2_i32_1114
  let v2834 : BitVec 1 := Scalar.cmpi .slt v2833 v2806
  let c2_i32_1115 : BitVec 32 := 2#32
  let v2835 : BitVec 32 := Scalar.addi v2805 c2_i32_1115
  let c19_i32_1116 : BitVec 32 := 19#32
  let v2836 : BitVec 32 := Scalar.minsi v2805 c19_i32_1116
  let v2837 : BitVec 32 := Scalar.select v2834 v2835 v2836
  let c20_i32_1117 : BitVec 32 := 20#32
  let v2838 : BitVec 32 := Scalar.select v2834 v2837 c20_i32_1117
  let v2839 : Index := Scalar.indexCast v2838
  let c0_1118 : Index := 0#32
  let c0_1119 : Index := 0#32
  ![v2839.toNat, 0, 0]
def k0_off70 (v2805 : BitVec 32) (v2806 : BitVec 32) : Fin 2 → Nat :=
  let c0_1120 : Index := 0#32
  let c2_i32_1114 : BitVec 32 := 2#32
  let v2833 : BitVec 32 := Scalar.addi v2805 c2_i32_1114
  let v2834 : BitVec 1 := Scalar.cmpi .slt v2833 v2806
  let c2_i32_1115 : BitVec 32 := 2#32
  let v2835 : BitVec 32 := Scalar.addi v2805 c2_i32_1115
  let c19_i32_1116 : BitVec 32 := 19#32
  let v2836 : BitVec 32 := Scalar.minsi v2805 c19_i32_1116
  let v2837 : BitVec 32 := Scalar.select v2834 v2835 v2836
  let v2842 : Index := Scalar.indexCast v2837
  ![0, v2842.toNat]
def k0_mult11 (v2843 : BitVec 32) : BitVec 32 :=
  let c128_i32_1121 : BitVec 32 := 128#32
  let v2844 : BitVec 32 := Scalar.muli v2843 c128_i32_1121
  v2844

def k0_off71 (v2805 : BitVec 32) (v2806 : BitVec 32) : Fin 3 → Nat :=
  let c3_i32_1122 : BitVec 32 := 3#32
  let v2846 : BitVec 32 := Scalar.addi v2805 c3_i32_1122
  let v2847 : BitVec 1 := Scalar.cmpi .slt v2846 v2806
  let c3_i32_1123 : BitVec 32 := 3#32
  let v2848 : BitVec 32 := Scalar.addi v2805 c3_i32_1123
  let c19_i32_1124 : BitVec 32 := 19#32
  let v2849 : BitVec 32 := Scalar.minsi v2805 c19_i32_1124
  let v2850 : BitVec 32 := Scalar.select v2847 v2848 v2849
  let c20_i32_1125 : BitVec 32 := 20#32
  let v2851 : BitVec 32 := Scalar.select v2847 v2850 c20_i32_1125
  let v2852 : Index := Scalar.indexCast v2851
  let c0_1126 : Index := 0#32
  let c0_1127 : Index := 0#32
  ![v2852.toNat, 0, 0]
def k0_off72 (v2805 : BitVec 32) (v2806 : BitVec 32) : Fin 2 → Nat :=
  let c0_1128 : Index := 0#32
  let c3_i32_1122 : BitVec 32 := 3#32
  let v2846 : BitVec 32 := Scalar.addi v2805 c3_i32_1122
  let v2847 : BitVec 1 := Scalar.cmpi .slt v2846 v2806
  let c3_i32_1123 : BitVec 32 := 3#32
  let v2848 : BitVec 32 := Scalar.addi v2805 c3_i32_1123
  let c19_i32_1124 : BitVec 32 := 19#32
  let v2849 : BitVec 32 := Scalar.minsi v2805 c19_i32_1124
  let v2850 : BitVec 32 := Scalar.select v2847 v2848 v2849
  let v2855 : Index := Scalar.indexCast v2850
  ![0, v2855.toNat]

def k0_chk11 (v2805 : BitVec 32) (v2806 : BitVec 32) : Prop :=
  (∀ a, (k0_off65 v2805 v2806) a + S1x128x128.size a ≤ S21x128x128.size a) ∧
  (∀ a, (k0_off66 v2805 v2806) a + S1x1.size a ≤ S3x20.size a) ∧
  (∀ a, (k0_off67 v2805 v2806) a + S1x128x128.size a ≤ S21x128x128.size a) ∧
  (∀ a, (k0_off68 v2805 v2806) a + S1x1.size a ≤ S3x20.size a) ∧
  (∀ a, (k0_off69 v2805 v2806) a + S1x128x128.size a ≤ S21x128x128.size a) ∧
  (∀ a, (k0_off70 v2805 v2806) a + S1x1.size a ≤ S3x20.size a) ∧
  (∀ a, (k0_off71 v2805 v2806) a + S1x128x128.size a ≤ S21x128x128.size a) ∧
  (∀ a, (k0_off72 v2805 v2806) a + S1x1.size a ≤ S3x20.size a)
theorem k0_off65_inb : ∀ (v2805 : BitVec 32) (v2806 : BitVec 32) (k0_hw11 : k0_chk11 v2805 v2806), ∀ a, (k0_off65 v2805 v2806) a + S1x128x128.size a ≤ S21x128x128.size a := fun v2805 v2806 k0_hw11 => k0_hw11.1
theorem k0_off66_inb : ∀ (v2805 : BitVec 32) (v2806 : BitVec 32) (k0_hw11 : k0_chk11 v2805 v2806), ∀ a, (k0_off66 v2805 v2806) a + S1x1.size a ≤ S3x20.size a := fun v2805 v2806 k0_hw11 => k0_hw11.2.1
theorem k0_off67_inb : ∀ (v2805 : BitVec 32) (v2806 : BitVec 32) (k0_hw11 : k0_chk11 v2805 v2806), ∀ a, (k0_off67 v2805 v2806) a + S1x128x128.size a ≤ S21x128x128.size a := fun v2805 v2806 k0_hw11 => k0_hw11.2.2.1
theorem k0_off68_inb : ∀ (v2805 : BitVec 32) (v2806 : BitVec 32) (k0_hw11 : k0_chk11 v2805 v2806), ∀ a, (k0_off68 v2805 v2806) a + S1x1.size a ≤ S3x20.size a := fun v2805 v2806 k0_hw11 => k0_hw11.2.2.2.1
theorem k0_off69_inb : ∀ (v2805 : BitVec 32) (v2806 : BitVec 32) (k0_hw11 : k0_chk11 v2805 v2806), ∀ a, (k0_off69 v2805 v2806) a + S1x128x128.size a ≤ S21x128x128.size a := fun v2805 v2806 k0_hw11 => k0_hw11.2.2.2.2.1
theorem k0_off70_inb : ∀ (v2805 : BitVec 32) (v2806 : BitVec 32) (k0_hw11 : k0_chk11 v2805 v2806), ∀ a, (k0_off70 v2805 v2806) a + S1x1.size a ≤ S3x20.size a := fun v2805 v2806 k0_hw11 => k0_hw11.2.2.2.2.2.1
theorem k0_off71_inb : ∀ (v2805 : BitVec 32) (v2806 : BitVec 32) (k0_hw11 : k0_chk11 v2805 v2806), ∀ a, (k0_off71 v2805 v2806) a + S1x128x128.size a ≤ S21x128x128.size a := fun v2805 v2806 k0_hw11 => k0_hw11.2.2.2.2.2.2.1
theorem k0_off72_inb : ∀ (v2805 : BitVec 32) (v2806 : BitVec 32) (k0_hw11 : k0_chk11 v2805 v2806), ∀ a, (k0_off72 v2805 v2806) a + S1x1.size a ≤ S3x20.size a := fun v2805 v2806 k0_hw11 => k0_hw11.2.2.2.2.2.2.2

def k0_mult12 (v2856 : BitVec 32) : BitVec 32 :=
  let c128_i32_1129 : BitVec 32 := 128#32
  let v2857 : BitVec 32 := Scalar.muli v2856 c128_i32_1129
  v2857

def k0_off73 (v2817 : BitVec 32) : Fin 2 → Nat :=
  let c128_i32_1105 : BitVec 32 := 128#32
  let v2818 : BitVec 32 := Scalar.muli v2817 c128_i32_1105
  let v2819 : BitVec 32 := v2818
  let v2863 : Index := Scalar.indexCast v2819
  let c0_1133 : Index := 0#32
  ![v2863.toNat, 0]
def k0_off74 (v2830 : BitVec 32) : Fin 2 → Nat :=
  let c128_i32_1113 : BitVec 32 := 128#32
  let v2831 : BitVec 32 := Scalar.muli v2830 c128_i32_1113
  let v2832 : BitVec 32 := v2831
  let v2865 : Index := Scalar.indexCast v2832
  let c0_1134 : Index := 0#32
  ![v2865.toNat, 0]
def k0_off75 (v2843 : BitVec 32) : Fin 2 → Nat :=
  let c128_i32_1121 : BitVec 32 := 128#32
  let v2844 : BitVec 32 := Scalar.muli v2843 c128_i32_1121
  let v2845 : BitVec 32 := v2844
  let v2867 : Index := Scalar.indexCast v2845
  let c0_1135 : Index := 0#32
  ![v2867.toNat, 0]
def k0_off76 (v2856 : BitVec 32) : Fin 2 → Nat :=
  let c128_i32_1129 : BitVec 32 := 128#32
  let v2857 : BitVec 32 := Scalar.muli v2856 c128_i32_1129
  let v2858 : BitVec 32 := v2857
  let v2869 : Index := Scalar.indexCast v2858
  let c0_1136 : Index := 0#32
  ![v2869.toNat, 0]
def k0_off77 (v2817 : BitVec 32) : Fin 2 → Nat :=
  let c128_i32_1105 : BitVec 32 := 128#32
  let v2818 : BitVec 32 := Scalar.muli v2817 c128_i32_1105
  let v2819 : BitVec 32 := v2818
  let v2881 : Index := Scalar.indexCast v2819
  let c512_1142 : Index := 512#32
  ![v2881.toNat, 512]
def k0_off78 (v2830 : BitVec 32) : Fin 2 → Nat :=
  let c128_i32_1113 : BitVec 32 := 128#32
  let v2831 : BitVec 32 := Scalar.muli v2830 c128_i32_1113
  let v2832 : BitVec 32 := v2831
  let v2883 : Index := Scalar.indexCast v2832
  let c512_1143 : Index := 512#32
  ![v2883.toNat, 512]
def k0_off79 (v2843 : BitVec 32) : Fin 2 → Nat :=
  let c128_i32_1121 : BitVec 32 := 128#32
  let v2844 : BitVec 32 := Scalar.muli v2843 c128_i32_1121
  let v2845 : BitVec 32 := v2844
  let v2885 : Index := Scalar.indexCast v2845
  let c512_1144 : Index := 512#32
  ![v2885.toNat, 512]
def k0_off80 (v2856 : BitVec 32) : Fin 2 → Nat :=
  let c128_i32_1129 : BitVec 32 := 128#32
  let v2857 : BitVec 32 := Scalar.muli v2856 c128_i32_1129
  let v2858 : BitVec 32 := v2857
  let v2887 : Index := Scalar.indexCast v2858
  let c512_1145 : Index := 512#32
  ![v2887.toNat, 512]
def k0_off81 (v2817 : BitVec 32) : Fin 2 → Nat :=
  let c128_i32_1105 : BitVec 32 := 128#32
  let v2818 : BitVec 32 := Scalar.muli v2817 c128_i32_1105
  let v2819 : BitVec 32 := v2818
  let v2899 : Index := Scalar.indexCast v2819
  let c1024_1151 : Index := 1024#32
  ![v2899.toNat, 1024]
def k0_off82 (v2830 : BitVec 32) : Fin 2 → Nat :=
  let c128_i32_1113 : BitVec 32 := 128#32
  let v2831 : BitVec 32 := Scalar.muli v2830 c128_i32_1113
  let v2832 : BitVec 32 := v2831
  let v2901 : Index := Scalar.indexCast v2832
  let c1024_1152 : Index := 1024#32
  ![v2901.toNat, 1024]
def k0_off83 (v2843 : BitVec 32) : Fin 2 → Nat :=
  let c128_i32_1121 : BitVec 32 := 128#32
  let v2844 : BitVec 32 := Scalar.muli v2843 c128_i32_1121
  let v2845 : BitVec 32 := v2844
  let v2903 : Index := Scalar.indexCast v2845
  let c1024_1153 : Index := 1024#32
  ![v2903.toNat, 1024]
def k0_off84 (v2856 : BitVec 32) : Fin 2 → Nat :=
  let c128_i32_1129 : BitVec 32 := 128#32
  let v2857 : BitVec 32 := Scalar.muli v2856 c128_i32_1129
  let v2858 : BitVec 32 := v2857
  let v2905 : Index := Scalar.indexCast v2858
  let c1024_1154 : Index := 1024#32
  ![v2905.toNat, 1024]
def k0_off85 (v2817 : BitVec 32) : Fin 2 → Nat :=
  let c128_i32_1105 : BitVec 32 := 128#32
  let v2818 : BitVec 32 := Scalar.muli v2817 c128_i32_1105
  let v2819 : BitVec 32 := v2818
  let v2920 : Index := Scalar.indexCast v2819
  let c1536_1164 : Index := 1536#32
  ![v2920.toNat, 1536]
def k0_off86 (v2830 : BitVec 32) : Fin 2 → Nat :=
  let c128_i32_1113 : BitVec 32 := 128#32
  let v2831 : BitVec 32 := Scalar.muli v2830 c128_i32_1113
  let v2832 : BitVec 32 := v2831
  let v2922 : Index := Scalar.indexCast v2832
  let c1536_1165 : Index := 1536#32
  ![v2922.toNat, 1536]
def k0_off87 (v2843 : BitVec 32) : Fin 2 → Nat :=
  let c128_i32_1121 : BitVec 32 := 128#32
  let v2844 : BitVec 32 := Scalar.muli v2843 c128_i32_1121
  let v2845 : BitVec 32 := v2844
  let v2924 : Index := Scalar.indexCast v2845
  let c1536_1166 : Index := 1536#32
  ![v2924.toNat, 1536]
def k0_off88 (v2856 : BitVec 32) : Fin 2 → Nat :=
  let c128_i32_1129 : BitVec 32 := 128#32
  let v2857 : BitVec 32 := Scalar.muli v2856 c128_i32_1129
  let v2858 : BitVec 32 := v2857
  let v2926 : Index := Scalar.indexCast v2858
  let c1536_1167 : Index := 1536#32
  ![v2926.toNat, 1536]
def k0_off89 (v2817 : BitVec 32) : Fin 2 → Nat :=
  let c128_i32_1105 : BitVec 32 := 128#32
  let v2818 : BitVec 32 := Scalar.muli v2817 c128_i32_1105
  let v2819 : BitVec 32 := v2818
  let v2938 : Index := Scalar.indexCast v2819
  let c2048_1173 : Index := 2048#32
  ![v2938.toNat, 2048]
def k0_off90 (v2830 : BitVec 32) : Fin 2 → Nat :=
  let c128_i32_1113 : BitVec 32 := 128#32
  let v2831 : BitVec 32 := Scalar.muli v2830 c128_i32_1113
  let v2832 : BitVec 32 := v2831
  let v2940 : Index := Scalar.indexCast v2832
  let c2048_1174 : Index := 2048#32
  ![v2940.toNat, 2048]
def k0_off91 (v2843 : BitVec 32) : Fin 2 → Nat :=
  let c128_i32_1121 : BitVec 32 := 128#32
  let v2844 : BitVec 32 := Scalar.muli v2843 c128_i32_1121
  let v2845 : BitVec 32 := v2844
  let v2942 : Index := Scalar.indexCast v2845
  let c2048_1175 : Index := 2048#32
  ![v2942.toNat, 2048]
def k0_off92 (v2856 : BitVec 32) : Fin 2 → Nat :=
  let c128_i32_1129 : BitVec 32 := 128#32
  let v2857 : BitVec 32 := Scalar.muli v2856 c128_i32_1129
  let v2858 : BitVec 32 := v2857
  let v2944 : Index := Scalar.indexCast v2858
  let c2048_1176 : Index := 2048#32
  ![v2944.toNat, 2048]
def k0_off93 (v2817 : BitVec 32) : Fin 2 → Nat :=
  let c128_i32_1105 : BitVec 32 := 128#32
  let v2818 : BitVec 32 := Scalar.muli v2817 c128_i32_1105
  let v2819 : BitVec 32 := v2818
  let v2956 : Index := Scalar.indexCast v2819
  let c2560_1182 : Index := 2560#32
  ![v2956.toNat, 2560]

def k0_chk12 (v2817 : BitVec 32) : Prop :=
  (128 ∣ (k0_mult9 v2817).toNat) ∧
  (∀ a, (k0_off73 v2817) a + S128x512.size a ≤ S640x3072.size a) ∧
  (∀ a, (k0_off77 v2817) a + S128x512.size a ≤ S640x3072.size a) ∧
  (∀ a, (k0_off81 v2817) a + S128x512.size a ≤ S640x3072.size a) ∧
  (∀ a, (k0_off85 v2817) a + S128x512.size a ≤ S640x3072.size a) ∧
  (∀ a, (k0_off89 v2817) a + S128x512.size a ≤ S640x3072.size a) ∧
  (∀ a, (k0_off93 v2817) a + S128x512.size a ≤ S640x3072.size a)
theorem k0_mult9_dvd : ∀ (v2817 : BitVec 32) (k0_hw12 : k0_chk12 v2817), 128 ∣ (k0_mult9 v2817).toNat := fun v2817 k0_hw12 => k0_hw12.1
theorem k0_off73_inb : ∀ (v2817 : BitVec 32) (k0_hw12 : k0_chk12 v2817), ∀ a, (k0_off73 v2817) a + S128x512.size a ≤ S640x3072.size a := fun v2817 k0_hw12 => k0_hw12.2.1
theorem k0_off77_inb : ∀ (v2817 : BitVec 32) (k0_hw12 : k0_chk12 v2817), ∀ a, (k0_off77 v2817) a + S128x512.size a ≤ S640x3072.size a := fun v2817 k0_hw12 => k0_hw12.2.2.1
theorem k0_off81_inb : ∀ (v2817 : BitVec 32) (k0_hw12 : k0_chk12 v2817), ∀ a, (k0_off81 v2817) a + S128x512.size a ≤ S640x3072.size a := fun v2817 k0_hw12 => k0_hw12.2.2.2.1
theorem k0_off85_inb : ∀ (v2817 : BitVec 32) (k0_hw12 : k0_chk12 v2817), ∀ a, (k0_off85 v2817) a + S128x512.size a ≤ S640x3072.size a := fun v2817 k0_hw12 => k0_hw12.2.2.2.2.1
theorem k0_off89_inb : ∀ (v2817 : BitVec 32) (k0_hw12 : k0_chk12 v2817), ∀ a, (k0_off89 v2817) a + S128x512.size a ≤ S640x3072.size a := fun v2817 k0_hw12 => k0_hw12.2.2.2.2.2.1
theorem k0_off93_inb : ∀ (v2817 : BitVec 32) (k0_hw12 : k0_chk12 v2817), ∀ a, (k0_off93 v2817) a + S128x512.size a ≤ S640x3072.size a := fun v2817 k0_hw12 => k0_hw12.2.2.2.2.2.2

def k0_off94 (v2830 : BitVec 32) : Fin 2 → Nat :=
  let c128_i32_1113 : BitVec 32 := 128#32
  let v2831 : BitVec 32 := Scalar.muli v2830 c128_i32_1113
  let v2832 : BitVec 32 := v2831
  let v2958 : Index := Scalar.indexCast v2832
  let c2560_1183 : Index := 2560#32
  ![v2958.toNat, 2560]

def k0_chk13 (v2830 : BitVec 32) : Prop :=
  (128 ∣ (k0_mult10 v2830).toNat) ∧
  (∀ a, (k0_off74 v2830) a + S128x512.size a ≤ S640x3072.size a) ∧
  (∀ a, (k0_off78 v2830) a + S128x512.size a ≤ S640x3072.size a) ∧
  (∀ a, (k0_off82 v2830) a + S128x512.size a ≤ S640x3072.size a) ∧
  (∀ a, (k0_off86 v2830) a + S128x512.size a ≤ S640x3072.size a) ∧
  (∀ a, (k0_off90 v2830) a + S128x512.size a ≤ S640x3072.size a) ∧
  (∀ a, (k0_off94 v2830) a + S128x512.size a ≤ S640x3072.size a)
theorem k0_mult10_dvd : ∀ (v2830 : BitVec 32) (k0_hw13 : k0_chk13 v2830), 128 ∣ (k0_mult10 v2830).toNat := fun v2830 k0_hw13 => k0_hw13.1
theorem k0_off74_inb : ∀ (v2830 : BitVec 32) (k0_hw13 : k0_chk13 v2830), ∀ a, (k0_off74 v2830) a + S128x512.size a ≤ S640x3072.size a := fun v2830 k0_hw13 => k0_hw13.2.1
theorem k0_off78_inb : ∀ (v2830 : BitVec 32) (k0_hw13 : k0_chk13 v2830), ∀ a, (k0_off78 v2830) a + S128x512.size a ≤ S640x3072.size a := fun v2830 k0_hw13 => k0_hw13.2.2.1
theorem k0_off82_inb : ∀ (v2830 : BitVec 32) (k0_hw13 : k0_chk13 v2830), ∀ a, (k0_off82 v2830) a + S128x512.size a ≤ S640x3072.size a := fun v2830 k0_hw13 => k0_hw13.2.2.2.1
theorem k0_off86_inb : ∀ (v2830 : BitVec 32) (k0_hw13 : k0_chk13 v2830), ∀ a, (k0_off86 v2830) a + S128x512.size a ≤ S640x3072.size a := fun v2830 k0_hw13 => k0_hw13.2.2.2.2.1
theorem k0_off90_inb : ∀ (v2830 : BitVec 32) (k0_hw13 : k0_chk13 v2830), ∀ a, (k0_off90 v2830) a + S128x512.size a ≤ S640x3072.size a := fun v2830 k0_hw13 => k0_hw13.2.2.2.2.2.1
theorem k0_off94_inb : ∀ (v2830 : BitVec 32) (k0_hw13 : k0_chk13 v2830), ∀ a, (k0_off94 v2830) a + S128x512.size a ≤ S640x3072.size a := fun v2830 k0_hw13 => k0_hw13.2.2.2.2.2.2

def k0_off95 (v2843 : BitVec 32) : Fin 2 → Nat :=
  let c128_i32_1121 : BitVec 32 := 128#32
  let v2844 : BitVec 32 := Scalar.muli v2843 c128_i32_1121
  let v2845 : BitVec 32 := v2844
  let v2960 : Index := Scalar.indexCast v2845
  let c2560_1184 : Index := 2560#32
  ![v2960.toNat, 2560]

def k0_chk14 (v2843 : BitVec 32) : Prop :=
  (128 ∣ (k0_mult11 v2843).toNat) ∧
  (∀ a, (k0_off75 v2843) a + S128x512.size a ≤ S640x3072.size a) ∧
  (∀ a, (k0_off79 v2843) a + S128x512.size a ≤ S640x3072.size a) ∧
  (∀ a, (k0_off83 v2843) a + S128x512.size a ≤ S640x3072.size a) ∧
  (∀ a, (k0_off87 v2843) a + S128x512.size a ≤ S640x3072.size a) ∧
  (∀ a, (k0_off91 v2843) a + S128x512.size a ≤ S640x3072.size a) ∧
  (∀ a, (k0_off95 v2843) a + S128x512.size a ≤ S640x3072.size a)
theorem k0_mult11_dvd : ∀ (v2843 : BitVec 32) (k0_hw14 : k0_chk14 v2843), 128 ∣ (k0_mult11 v2843).toNat := fun v2843 k0_hw14 => k0_hw14.1
theorem k0_off75_inb : ∀ (v2843 : BitVec 32) (k0_hw14 : k0_chk14 v2843), ∀ a, (k0_off75 v2843) a + S128x512.size a ≤ S640x3072.size a := fun v2843 k0_hw14 => k0_hw14.2.1
theorem k0_off79_inb : ∀ (v2843 : BitVec 32) (k0_hw14 : k0_chk14 v2843), ∀ a, (k0_off79 v2843) a + S128x512.size a ≤ S640x3072.size a := fun v2843 k0_hw14 => k0_hw14.2.2.1
theorem k0_off83_inb : ∀ (v2843 : BitVec 32) (k0_hw14 : k0_chk14 v2843), ∀ a, (k0_off83 v2843) a + S128x512.size a ≤ S640x3072.size a := fun v2843 k0_hw14 => k0_hw14.2.2.2.1
theorem k0_off87_inb : ∀ (v2843 : BitVec 32) (k0_hw14 : k0_chk14 v2843), ∀ a, (k0_off87 v2843) a + S128x512.size a ≤ S640x3072.size a := fun v2843 k0_hw14 => k0_hw14.2.2.2.2.1
theorem k0_off91_inb : ∀ (v2843 : BitVec 32) (k0_hw14 : k0_chk14 v2843), ∀ a, (k0_off91 v2843) a + S128x512.size a ≤ S640x3072.size a := fun v2843 k0_hw14 => k0_hw14.2.2.2.2.2.1
theorem k0_off95_inb : ∀ (v2843 : BitVec 32) (k0_hw14 : k0_chk14 v2843), ∀ a, (k0_off95 v2843) a + S128x512.size a ≤ S640x3072.size a := fun v2843 k0_hw14 => k0_hw14.2.2.2.2.2.2

def k0_off96 (v2856 : BitVec 32) : Fin 2 → Nat :=
  let c128_i32_1129 : BitVec 32 := 128#32
  let v2857 : BitVec 32 := Scalar.muli v2856 c128_i32_1129
  let v2858 : BitVec 32 := v2857
  let v2962 : Index := Scalar.indexCast v2858
  let c2560_1185 : Index := 2560#32
  ![v2962.toNat, 2560]

def k0_chk15 (v2856 : BitVec 32) : Prop :=
  (128 ∣ (k0_mult12 v2856).toNat) ∧
  (∀ a, (k0_off76 v2856) a + S128x512.size a ≤ S640x3072.size a) ∧
  (∀ a, (k0_off80 v2856) a + S128x512.size a ≤ S640x3072.size a) ∧
  (∀ a, (k0_off84 v2856) a + S128x512.size a ≤ S640x3072.size a) ∧
  (∀ a, (k0_off88 v2856) a + S128x512.size a ≤ S640x3072.size a) ∧
  (∀ a, (k0_off92 v2856) a + S128x512.size a ≤ S640x3072.size a) ∧
  (∀ a, (k0_off96 v2856) a + S128x512.size a ≤ S640x3072.size a)
theorem k0_mult12_dvd : ∀ (v2856 : BitVec 32) (k0_hw15 : k0_chk15 v2856), 128 ∣ (k0_mult12 v2856).toNat := fun v2856 k0_hw15 => k0_hw15.1
theorem k0_off76_inb : ∀ (v2856 : BitVec 32) (k0_hw15 : k0_chk15 v2856), ∀ a, (k0_off76 v2856) a + S128x512.size a ≤ S640x3072.size a := fun v2856 k0_hw15 => k0_hw15.2.1
theorem k0_off80_inb : ∀ (v2856 : BitVec 32) (k0_hw15 : k0_chk15 v2856), ∀ a, (k0_off80 v2856) a + S128x512.size a ≤ S640x3072.size a := fun v2856 k0_hw15 => k0_hw15.2.2.1
theorem k0_off84_inb : ∀ (v2856 : BitVec 32) (k0_hw15 : k0_chk15 v2856), ∀ a, (k0_off84 v2856) a + S128x512.size a ≤ S640x3072.size a := fun v2856 k0_hw15 => k0_hw15.2.2.2.1
theorem k0_off88_inb : ∀ (v2856 : BitVec 32) (k0_hw15 : k0_chk15 v2856), ∀ a, (k0_off88 v2856) a + S128x512.size a ≤ S640x3072.size a := fun v2856 k0_hw15 => k0_hw15.2.2.2.2.1
theorem k0_off92_inb : ∀ (v2856 : BitVec 32) (k0_hw15 : k0_chk15 v2856), ∀ a, (k0_off92 v2856) a + S128x512.size a ≤ S640x3072.size a := fun v2856 k0_hw15 => k0_hw15.2.2.2.2.2.1
theorem k0_off96_inb : ∀ (v2856 : BitVec 32) (k0_hw15 : k0_chk15 v2856), ∀ a, (k0_off96 v2856) a + S128x512.size a ≤ S640x3072.size a := fun v2856 k0_hw15 => k0_hw15.2.2.2.2.2.2

def k0_off97 (v3234 : BitVec 32) (v3235 : BitVec 32) : Fin 3 → Nat :=
  let c0_i32_1292 : BitVec 32 := 0#32
  let v3236 : BitVec 32 := Scalar.addi v3234 c0_i32_1292
  let v3237 : BitVec 1 := Scalar.cmpi .slt v3236 v3235
  let c0_i32_1293 : BitVec 32 := 0#32
  let v3238 : BitVec 32 := Scalar.addi v3234 c0_i32_1293
  let c19_i32_1294 : BitVec 32 := 19#32
  let v3239 : BitVec 32 := Scalar.minsi v3234 c19_i32_1294
  let v3240 : BitVec 32 := Scalar.select v3237 v3238 v3239
  let c20_i32_1295 : BitVec 32 := 20#32
  let v3241 : BitVec 32 := Scalar.select v3237 v3240 c20_i32_1295
  let v3242 : Index := Scalar.indexCast v3241
  let c0_1296 : Index := 0#32
  let c0_1297 : Index := 0#32
  ![v3242.toNat, 0, 0]

def k0_off98 (v3234 : BitVec 32) (v3235 : BitVec 32) : Fin 2 → Nat :=
  let c0_1298 : Index := 0#32
  let c0_i32_1292 : BitVec 32 := 0#32
  let v3236 : BitVec 32 := Scalar.addi v3234 c0_i32_1292
  let v3237 : BitVec 1 := Scalar.cmpi .slt v3236 v3235
  let c0_i32_1293 : BitVec 32 := 0#32
  let v3238 : BitVec 32 := Scalar.addi v3234 c0_i32_1293
  let c19_i32_1294 : BitVec 32 := 19#32
  let v3239 : BitVec 32 := Scalar.minsi v3234 c19_i32_1294
  let v3240 : BitVec 32 := Scalar.select v3237 v3238 v3239
  let v3245 : Index := Scalar.indexCast v3240
  ![0, v3245.toNat]
def k0_mult13 (v3246 : BitVec 32) : BitVec 32 :=
  let c128_i32_1299 : BitVec 32 := 128#32
  let v3247 : BitVec 32 := Scalar.muli v3246 c128_i32_1299
  v3247

def k0_off99 (v3234 : BitVec 32) (v3235 : BitVec 32) : Fin 3 → Nat :=
  let c1_i32_1300 : BitVec 32 := 1#32
  let v3249 : BitVec 32 := Scalar.addi v3234 c1_i32_1300
  let v3250 : BitVec 1 := Scalar.cmpi .slt v3249 v3235
  let c1_i32_1301 : BitVec 32 := 1#32
  let v3251 : BitVec 32 := Scalar.addi v3234 c1_i32_1301
  let c19_i32_1302 : BitVec 32 := 19#32
  let v3252 : BitVec 32 := Scalar.minsi v3234 c19_i32_1302
  let v3253 : BitVec 32 := Scalar.select v3250 v3251 v3252
  let c20_i32_1303 : BitVec 32 := 20#32
  let v3254 : BitVec 32 := Scalar.select v3250 v3253 c20_i32_1303
  let v3255 : Index := Scalar.indexCast v3254
  let c0_1304 : Index := 0#32
  let c0_1305 : Index := 0#32
  ![v3255.toNat, 0, 0]
def k0_off100 (v3234 : BitVec 32) (v3235 : BitVec 32) : Fin 2 → Nat :=
  let c0_1306 : Index := 0#32
  let c1_i32_1300 : BitVec 32 := 1#32
  let v3249 : BitVec 32 := Scalar.addi v3234 c1_i32_1300
  let v3250 : BitVec 1 := Scalar.cmpi .slt v3249 v3235
  let c1_i32_1301 : BitVec 32 := 1#32
  let v3251 : BitVec 32 := Scalar.addi v3234 c1_i32_1301
  let c19_i32_1302 : BitVec 32 := 19#32
  let v3252 : BitVec 32 := Scalar.minsi v3234 c19_i32_1302
  let v3253 : BitVec 32 := Scalar.select v3250 v3251 v3252
  let v3258 : Index := Scalar.indexCast v3253
  ![0, v3258.toNat]
def k0_mult14 (v3259 : BitVec 32) : BitVec 32 :=
  let c128_i32_1307 : BitVec 32 := 128#32
  let v3260 : BitVec 32 := Scalar.muli v3259 c128_i32_1307
  v3260

def k0_off101 (v3234 : BitVec 32) (v3235 : BitVec 32) : Fin 3 → Nat :=
  let c2_i32_1308 : BitVec 32 := 2#32
  let v3262 : BitVec 32 := Scalar.addi v3234 c2_i32_1308
  let v3263 : BitVec 1 := Scalar.cmpi .slt v3262 v3235
  let c2_i32_1309 : BitVec 32 := 2#32
  let v3264 : BitVec 32 := Scalar.addi v3234 c2_i32_1309
  let c19_i32_1310 : BitVec 32 := 19#32
  let v3265 : BitVec 32 := Scalar.minsi v3234 c19_i32_1310
  let v3266 : BitVec 32 := Scalar.select v3263 v3264 v3265
  let c20_i32_1311 : BitVec 32 := 20#32
  let v3267 : BitVec 32 := Scalar.select v3263 v3266 c20_i32_1311
  let v3268 : Index := Scalar.indexCast v3267
  let c0_1312 : Index := 0#32
  let c0_1313 : Index := 0#32
  ![v3268.toNat, 0, 0]
def k0_off102 (v3234 : BitVec 32) (v3235 : BitVec 32) : Fin 2 → Nat :=
  let c0_1314 : Index := 0#32
  let c2_i32_1308 : BitVec 32 := 2#32
  let v3262 : BitVec 32 := Scalar.addi v3234 c2_i32_1308
  let v3263 : BitVec 1 := Scalar.cmpi .slt v3262 v3235
  let c2_i32_1309 : BitVec 32 := 2#32
  let v3264 : BitVec 32 := Scalar.addi v3234 c2_i32_1309
  let c19_i32_1310 : BitVec 32 := 19#32
  let v3265 : BitVec 32 := Scalar.minsi v3234 c19_i32_1310
  let v3266 : BitVec 32 := Scalar.select v3263 v3264 v3265
  let v3271 : Index := Scalar.indexCast v3266
  ![0, v3271.toNat]
def k0_mult15 (v3272 : BitVec 32) : BitVec 32 :=
  let c128_i32_1315 : BitVec 32 := 128#32
  let v3273 : BitVec 32 := Scalar.muli v3272 c128_i32_1315
  v3273

def k0_off103 (v3234 : BitVec 32) (v3235 : BitVec 32) : Fin 3 → Nat :=
  let c3_i32_1316 : BitVec 32 := 3#32
  let v3275 : BitVec 32 := Scalar.addi v3234 c3_i32_1316
  let v3276 : BitVec 1 := Scalar.cmpi .slt v3275 v3235
  let c3_i32_1317 : BitVec 32 := 3#32
  let v3277 : BitVec 32 := Scalar.addi v3234 c3_i32_1317
  let c19_i32_1318 : BitVec 32 := 19#32
  let v3278 : BitVec 32 := Scalar.minsi v3234 c19_i32_1318
  let v3279 : BitVec 32 := Scalar.select v3276 v3277 v3278
  let c20_i32_1319 : BitVec 32 := 20#32
  let v3280 : BitVec 32 := Scalar.select v3276 v3279 c20_i32_1319
  let v3281 : Index := Scalar.indexCast v3280
  let c0_1320 : Index := 0#32
  let c0_1321 : Index := 0#32
  ![v3281.toNat, 0, 0]
def k0_off104 (v3234 : BitVec 32) (v3235 : BitVec 32) : Fin 2 → Nat :=
  let c0_1322 : Index := 0#32
  let c3_i32_1316 : BitVec 32 := 3#32
  let v3275 : BitVec 32 := Scalar.addi v3234 c3_i32_1316
  let v3276 : BitVec 1 := Scalar.cmpi .slt v3275 v3235
  let c3_i32_1317 : BitVec 32 := 3#32
  let v3277 : BitVec 32 := Scalar.addi v3234 c3_i32_1317
  let c19_i32_1318 : BitVec 32 := 19#32
  let v3278 : BitVec 32 := Scalar.minsi v3234 c19_i32_1318
  let v3279 : BitVec 32 := Scalar.select v3276 v3277 v3278
  let v3284 : Index := Scalar.indexCast v3279
  ![0, v3284.toNat]

def k0_chk16 (v3234 : BitVec 32) (v3235 : BitVec 32) : Prop :=
  (∀ a, (k0_off97 v3234 v3235) a + S1x128x128.size a ≤ S21x128x128.size a) ∧
  (∀ a, (k0_off98 v3234 v3235) a + S1x1.size a ≤ S3x20.size a) ∧
  (∀ a, (k0_off99 v3234 v3235) a + S1x128x128.size a ≤ S21x128x128.size a) ∧
  (∀ a, (k0_off100 v3234 v3235) a + S1x1.size a ≤ S3x20.size a) ∧
  (∀ a, (k0_off101 v3234 v3235) a + S1x128x128.size a ≤ S21x128x128.size a) ∧
  (∀ a, (k0_off102 v3234 v3235) a + S1x1.size a ≤ S3x20.size a) ∧
  (∀ a, (k0_off103 v3234 v3235) a + S1x128x128.size a ≤ S21x128x128.size a) ∧
  (∀ a, (k0_off104 v3234 v3235) a + S1x1.size a ≤ S3x20.size a)
theorem k0_off97_inb : ∀ (v3234 : BitVec 32) (v3235 : BitVec 32) (k0_hw16 : k0_chk16 v3234 v3235), ∀ a, (k0_off97 v3234 v3235) a + S1x128x128.size a ≤ S21x128x128.size a := fun v3234 v3235 k0_hw16 => k0_hw16.1
theorem k0_off98_inb : ∀ (v3234 : BitVec 32) (v3235 : BitVec 32) (k0_hw16 : k0_chk16 v3234 v3235), ∀ a, (k0_off98 v3234 v3235) a + S1x1.size a ≤ S3x20.size a := fun v3234 v3235 k0_hw16 => k0_hw16.2.1
theorem k0_off99_inb : ∀ (v3234 : BitVec 32) (v3235 : BitVec 32) (k0_hw16 : k0_chk16 v3234 v3235), ∀ a, (k0_off99 v3234 v3235) a + S1x128x128.size a ≤ S21x128x128.size a := fun v3234 v3235 k0_hw16 => k0_hw16.2.2.1
theorem k0_off100_inb : ∀ (v3234 : BitVec 32) (v3235 : BitVec 32) (k0_hw16 : k0_chk16 v3234 v3235), ∀ a, (k0_off100 v3234 v3235) a + S1x1.size a ≤ S3x20.size a := fun v3234 v3235 k0_hw16 => k0_hw16.2.2.2.1
theorem k0_off101_inb : ∀ (v3234 : BitVec 32) (v3235 : BitVec 32) (k0_hw16 : k0_chk16 v3234 v3235), ∀ a, (k0_off101 v3234 v3235) a + S1x128x128.size a ≤ S21x128x128.size a := fun v3234 v3235 k0_hw16 => k0_hw16.2.2.2.2.1
theorem k0_off102_inb : ∀ (v3234 : BitVec 32) (v3235 : BitVec 32) (k0_hw16 : k0_chk16 v3234 v3235), ∀ a, (k0_off102 v3234 v3235) a + S1x1.size a ≤ S3x20.size a := fun v3234 v3235 k0_hw16 => k0_hw16.2.2.2.2.2.1
theorem k0_off103_inb : ∀ (v3234 : BitVec 32) (v3235 : BitVec 32) (k0_hw16 : k0_chk16 v3234 v3235), ∀ a, (k0_off103 v3234 v3235) a + S1x128x128.size a ≤ S21x128x128.size a := fun v3234 v3235 k0_hw16 => k0_hw16.2.2.2.2.2.2.1
theorem k0_off104_inb : ∀ (v3234 : BitVec 32) (v3235 : BitVec 32) (k0_hw16 : k0_chk16 v3234 v3235), ∀ a, (k0_off104 v3234 v3235) a + S1x1.size a ≤ S3x20.size a := fun v3234 v3235 k0_hw16 => k0_hw16.2.2.2.2.2.2.2

def k0_mult16 (v3285 : BitVec 32) : BitVec 32 :=
  let c128_i32_1323 : BitVec 32 := 128#32
  let v3286 : BitVec 32 := Scalar.muli v3285 c128_i32_1323
  v3286

def k0_off105 (v3246 : BitVec 32) : Fin 2 → Nat :=
  let c128_i32_1299 : BitVec 32 := 128#32
  let v3247 : BitVec 32 := Scalar.muli v3246 c128_i32_1299
  let v3248 : BitVec 32 := v3247
  let v3292 : Index := Scalar.indexCast v3248
  let c0_1327 : Index := 0#32
  ![v3292.toNat, 0]
def k0_off106 (v3259 : BitVec 32) : Fin 2 → Nat :=
  let c128_i32_1307 : BitVec 32 := 128#32
  let v3260 : BitVec 32 := Scalar.muli v3259 c128_i32_1307
  let v3261 : BitVec 32 := v3260
  let v3294 : Index := Scalar.indexCast v3261
  let c0_1328 : Index := 0#32
  ![v3294.toNat, 0]
def k0_off107 (v3272 : BitVec 32) : Fin 2 → Nat :=
  let c128_i32_1315 : BitVec 32 := 128#32
  let v3273 : BitVec 32 := Scalar.muli v3272 c128_i32_1315
  let v3274 : BitVec 32 := v3273
  let v3296 : Index := Scalar.indexCast v3274
  let c0_1329 : Index := 0#32
  ![v3296.toNat, 0]
def k0_off108 (v3285 : BitVec 32) : Fin 2 → Nat :=
  let c128_i32_1323 : BitVec 32 := 128#32
  let v3286 : BitVec 32 := Scalar.muli v3285 c128_i32_1323
  let v3287 : BitVec 32 := v3286
  let v3298 : Index := Scalar.indexCast v3287
  let c0_1330 : Index := 0#32
  ![v3298.toNat, 0]
def k0_off109 (v3246 : BitVec 32) : Fin 2 → Nat :=
  let c128_i32_1299 : BitVec 32 := 128#32
  let v3247 : BitVec 32 := Scalar.muli v3246 c128_i32_1299
  let v3248 : BitVec 32 := v3247
  let v3310 : Index := Scalar.indexCast v3248
  let c512_1336 : Index := 512#32
  ![v3310.toNat, 512]
def k0_off110 (v3259 : BitVec 32) : Fin 2 → Nat :=
  let c128_i32_1307 : BitVec 32 := 128#32
  let v3260 : BitVec 32 := Scalar.muli v3259 c128_i32_1307
  let v3261 : BitVec 32 := v3260
  let v3312 : Index := Scalar.indexCast v3261
  let c512_1337 : Index := 512#32
  ![v3312.toNat, 512]
def k0_off111 (v3272 : BitVec 32) : Fin 2 → Nat :=
  let c128_i32_1315 : BitVec 32 := 128#32
  let v3273 : BitVec 32 := Scalar.muli v3272 c128_i32_1315
  let v3274 : BitVec 32 := v3273
  let v3314 : Index := Scalar.indexCast v3274
  let c512_1338 : Index := 512#32
  ![v3314.toNat, 512]
def k0_off112 (v3285 : BitVec 32) : Fin 2 → Nat :=
  let c128_i32_1323 : BitVec 32 := 128#32
  let v3286 : BitVec 32 := Scalar.muli v3285 c128_i32_1323
  let v3287 : BitVec 32 := v3286
  let v3316 : Index := Scalar.indexCast v3287
  let c512_1339 : Index := 512#32
  ![v3316.toNat, 512]
def k0_off113 (v3246 : BitVec 32) : Fin 2 → Nat :=
  let c128_i32_1299 : BitVec 32 := 128#32
  let v3247 : BitVec 32 := Scalar.muli v3246 c128_i32_1299
  let v3248 : BitVec 32 := v3247
  let v3328 : Index := Scalar.indexCast v3248
  let c1024_1345 : Index := 1024#32
  ![v3328.toNat, 1024]
def k0_off114 (v3259 : BitVec 32) : Fin 2 → Nat :=
  let c128_i32_1307 : BitVec 32 := 128#32
  let v3260 : BitVec 32 := Scalar.muli v3259 c128_i32_1307
  let v3261 : BitVec 32 := v3260
  let v3330 : Index := Scalar.indexCast v3261
  let c1024_1346 : Index := 1024#32
  ![v3330.toNat, 1024]
def k0_off115 (v3272 : BitVec 32) : Fin 2 → Nat :=
  let c128_i32_1315 : BitVec 32 := 128#32
  let v3273 : BitVec 32 := Scalar.muli v3272 c128_i32_1315
  let v3274 : BitVec 32 := v3273
  let v3332 : Index := Scalar.indexCast v3274
  let c1024_1347 : Index := 1024#32
  ![v3332.toNat, 1024]
def k0_off116 (v3285 : BitVec 32) : Fin 2 → Nat :=
  let c128_i32_1323 : BitVec 32 := 128#32
  let v3286 : BitVec 32 := Scalar.muli v3285 c128_i32_1323
  let v3287 : BitVec 32 := v3286
  let v3334 : Index := Scalar.indexCast v3287
  let c1024_1348 : Index := 1024#32
  ![v3334.toNat, 1024]
def k0_off117 (v3246 : BitVec 32) : Fin 2 → Nat :=
  let c128_i32_1299 : BitVec 32 := 128#32
  let v3247 : BitVec 32 := Scalar.muli v3246 c128_i32_1299
  let v3248 : BitVec 32 := v3247
  let v3349 : Index := Scalar.indexCast v3248
  let c1536_1358 : Index := 1536#32
  ![v3349.toNat, 1536]
def k0_off118 (v3259 : BitVec 32) : Fin 2 → Nat :=
  let c128_i32_1307 : BitVec 32 := 128#32
  let v3260 : BitVec 32 := Scalar.muli v3259 c128_i32_1307
  let v3261 : BitVec 32 := v3260
  let v3351 : Index := Scalar.indexCast v3261
  let c1536_1359 : Index := 1536#32
  ![v3351.toNat, 1536]
def k0_off119 (v3272 : BitVec 32) : Fin 2 → Nat :=
  let c128_i32_1315 : BitVec 32 := 128#32
  let v3273 : BitVec 32 := Scalar.muli v3272 c128_i32_1315
  let v3274 : BitVec 32 := v3273
  let v3353 : Index := Scalar.indexCast v3274
  let c1536_1360 : Index := 1536#32
  ![v3353.toNat, 1536]
def k0_off120 (v3285 : BitVec 32) : Fin 2 → Nat :=
  let c128_i32_1323 : BitVec 32 := 128#32
  let v3286 : BitVec 32 := Scalar.muli v3285 c128_i32_1323
  let v3287 : BitVec 32 := v3286
  let v3355 : Index := Scalar.indexCast v3287
  let c1536_1361 : Index := 1536#32
  ![v3355.toNat, 1536]
def k0_off121 (v3246 : BitVec 32) : Fin 2 → Nat :=
  let c128_i32_1299 : BitVec 32 := 128#32
  let v3247 : BitVec 32 := Scalar.muli v3246 c128_i32_1299
  let v3248 : BitVec 32 := v3247
  let v3367 : Index := Scalar.indexCast v3248
  let c2048_1367 : Index := 2048#32
  ![v3367.toNat, 2048]
def k0_off122 (v3259 : BitVec 32) : Fin 2 → Nat :=
  let c128_i32_1307 : BitVec 32 := 128#32
  let v3260 : BitVec 32 := Scalar.muli v3259 c128_i32_1307
  let v3261 : BitVec 32 := v3260
  let v3369 : Index := Scalar.indexCast v3261
  let c2048_1368 : Index := 2048#32
  ![v3369.toNat, 2048]
def k0_off123 (v3272 : BitVec 32) : Fin 2 → Nat :=
  let c128_i32_1315 : BitVec 32 := 128#32
  let v3273 : BitVec 32 := Scalar.muli v3272 c128_i32_1315
  let v3274 : BitVec 32 := v3273
  let v3371 : Index := Scalar.indexCast v3274
  let c2048_1369 : Index := 2048#32
  ![v3371.toNat, 2048]
def k0_off124 (v3285 : BitVec 32) : Fin 2 → Nat :=
  let c128_i32_1323 : BitVec 32 := 128#32
  let v3286 : BitVec 32 := Scalar.muli v3285 c128_i32_1323
  let v3287 : BitVec 32 := v3286
  let v3373 : Index := Scalar.indexCast v3287
  let c2048_1370 : Index := 2048#32
  ![v3373.toNat, 2048]
def k0_off125 (v3246 : BitVec 32) : Fin 2 → Nat :=
  let c128_i32_1299 : BitVec 32 := 128#32
  let v3247 : BitVec 32 := Scalar.muli v3246 c128_i32_1299
  let v3248 : BitVec 32 := v3247
  let v3385 : Index := Scalar.indexCast v3248
  let c2560_1376 : Index := 2560#32
  ![v3385.toNat, 2560]

def k0_chk17 (v3246 : BitVec 32) : Prop :=
  (128 ∣ (k0_mult13 v3246).toNat) ∧
  (∀ a, (k0_off105 v3246) a + S128x512.size a ≤ S640x3072.size a) ∧
  (∀ a, (k0_off109 v3246) a + S128x512.size a ≤ S640x3072.size a) ∧
  (∀ a, (k0_off113 v3246) a + S128x512.size a ≤ S640x3072.size a) ∧
  (∀ a, (k0_off117 v3246) a + S128x512.size a ≤ S640x3072.size a) ∧
  (∀ a, (k0_off121 v3246) a + S128x512.size a ≤ S640x3072.size a) ∧
  (∀ a, (k0_off125 v3246) a + S128x512.size a ≤ S640x3072.size a)
theorem k0_mult13_dvd : ∀ (v3246 : BitVec 32) (k0_hw17 : k0_chk17 v3246), 128 ∣ (k0_mult13 v3246).toNat := fun v3246 k0_hw17 => k0_hw17.1
theorem k0_off105_inb : ∀ (v3246 : BitVec 32) (k0_hw17 : k0_chk17 v3246), ∀ a, (k0_off105 v3246) a + S128x512.size a ≤ S640x3072.size a := fun v3246 k0_hw17 => k0_hw17.2.1
theorem k0_off109_inb : ∀ (v3246 : BitVec 32) (k0_hw17 : k0_chk17 v3246), ∀ a, (k0_off109 v3246) a + S128x512.size a ≤ S640x3072.size a := fun v3246 k0_hw17 => k0_hw17.2.2.1
theorem k0_off113_inb : ∀ (v3246 : BitVec 32) (k0_hw17 : k0_chk17 v3246), ∀ a, (k0_off113 v3246) a + S128x512.size a ≤ S640x3072.size a := fun v3246 k0_hw17 => k0_hw17.2.2.2.1
theorem k0_off117_inb : ∀ (v3246 : BitVec 32) (k0_hw17 : k0_chk17 v3246), ∀ a, (k0_off117 v3246) a + S128x512.size a ≤ S640x3072.size a := fun v3246 k0_hw17 => k0_hw17.2.2.2.2.1
theorem k0_off121_inb : ∀ (v3246 : BitVec 32) (k0_hw17 : k0_chk17 v3246), ∀ a, (k0_off121 v3246) a + S128x512.size a ≤ S640x3072.size a := fun v3246 k0_hw17 => k0_hw17.2.2.2.2.2.1
theorem k0_off125_inb : ∀ (v3246 : BitVec 32) (k0_hw17 : k0_chk17 v3246), ∀ a, (k0_off125 v3246) a + S128x512.size a ≤ S640x3072.size a := fun v3246 k0_hw17 => k0_hw17.2.2.2.2.2.2

def k0_off126 (v3259 : BitVec 32) : Fin 2 → Nat :=
  let c128_i32_1307 : BitVec 32 := 128#32
  let v3260 : BitVec 32 := Scalar.muli v3259 c128_i32_1307
  let v3261 : BitVec 32 := v3260
  let v3387 : Index := Scalar.indexCast v3261
  let c2560_1377 : Index := 2560#32
  ![v3387.toNat, 2560]

def k0_chk18 (v3259 : BitVec 32) : Prop :=
  (128 ∣ (k0_mult14 v3259).toNat) ∧
  (∀ a, (k0_off106 v3259) a + S128x512.size a ≤ S640x3072.size a) ∧
  (∀ a, (k0_off110 v3259) a + S128x512.size a ≤ S640x3072.size a) ∧
  (∀ a, (k0_off114 v3259) a + S128x512.size a ≤ S640x3072.size a) ∧
  (∀ a, (k0_off118 v3259) a + S128x512.size a ≤ S640x3072.size a) ∧
  (∀ a, (k0_off122 v3259) a + S128x512.size a ≤ S640x3072.size a) ∧
  (∀ a, (k0_off126 v3259) a + S128x512.size a ≤ S640x3072.size a)
theorem k0_mult14_dvd : ∀ (v3259 : BitVec 32) (k0_hw18 : k0_chk18 v3259), 128 ∣ (k0_mult14 v3259).toNat := fun v3259 k0_hw18 => k0_hw18.1
theorem k0_off106_inb : ∀ (v3259 : BitVec 32) (k0_hw18 : k0_chk18 v3259), ∀ a, (k0_off106 v3259) a + S128x512.size a ≤ S640x3072.size a := fun v3259 k0_hw18 => k0_hw18.2.1
theorem k0_off110_inb : ∀ (v3259 : BitVec 32) (k0_hw18 : k0_chk18 v3259), ∀ a, (k0_off110 v3259) a + S128x512.size a ≤ S640x3072.size a := fun v3259 k0_hw18 => k0_hw18.2.2.1
theorem k0_off114_inb : ∀ (v3259 : BitVec 32) (k0_hw18 : k0_chk18 v3259), ∀ a, (k0_off114 v3259) a + S128x512.size a ≤ S640x3072.size a := fun v3259 k0_hw18 => k0_hw18.2.2.2.1
theorem k0_off118_inb : ∀ (v3259 : BitVec 32) (k0_hw18 : k0_chk18 v3259), ∀ a, (k0_off118 v3259) a + S128x512.size a ≤ S640x3072.size a := fun v3259 k0_hw18 => k0_hw18.2.2.2.2.1
theorem k0_off122_inb : ∀ (v3259 : BitVec 32) (k0_hw18 : k0_chk18 v3259), ∀ a, (k0_off122 v3259) a + S128x512.size a ≤ S640x3072.size a := fun v3259 k0_hw18 => k0_hw18.2.2.2.2.2.1
theorem k0_off126_inb : ∀ (v3259 : BitVec 32) (k0_hw18 : k0_chk18 v3259), ∀ a, (k0_off126 v3259) a + S128x512.size a ≤ S640x3072.size a := fun v3259 k0_hw18 => k0_hw18.2.2.2.2.2.2

def k0_off127 (v3272 : BitVec 32) : Fin 2 → Nat :=
  let c128_i32_1315 : BitVec 32 := 128#32
  let v3273 : BitVec 32 := Scalar.muli v3272 c128_i32_1315
  let v3274 : BitVec 32 := v3273
  let v3389 : Index := Scalar.indexCast v3274
  let c2560_1378 : Index := 2560#32
  ![v3389.toNat, 2560]

def k0_chk19 (v3272 : BitVec 32) : Prop :=
  (128 ∣ (k0_mult15 v3272).toNat) ∧
  (∀ a, (k0_off107 v3272) a + S128x512.size a ≤ S640x3072.size a) ∧
  (∀ a, (k0_off111 v3272) a + S128x512.size a ≤ S640x3072.size a) ∧
  (∀ a, (k0_off115 v3272) a + S128x512.size a ≤ S640x3072.size a) ∧
  (∀ a, (k0_off119 v3272) a + S128x512.size a ≤ S640x3072.size a) ∧
  (∀ a, (k0_off123 v3272) a + S128x512.size a ≤ S640x3072.size a) ∧
  (∀ a, (k0_off127 v3272) a + S128x512.size a ≤ S640x3072.size a)
theorem k0_mult15_dvd : ∀ (v3272 : BitVec 32) (k0_hw19 : k0_chk19 v3272), 128 ∣ (k0_mult15 v3272).toNat := fun v3272 k0_hw19 => k0_hw19.1
theorem k0_off107_inb : ∀ (v3272 : BitVec 32) (k0_hw19 : k0_chk19 v3272), ∀ a, (k0_off107 v3272) a + S128x512.size a ≤ S640x3072.size a := fun v3272 k0_hw19 => k0_hw19.2.1
theorem k0_off111_inb : ∀ (v3272 : BitVec 32) (k0_hw19 : k0_chk19 v3272), ∀ a, (k0_off111 v3272) a + S128x512.size a ≤ S640x3072.size a := fun v3272 k0_hw19 => k0_hw19.2.2.1
theorem k0_off115_inb : ∀ (v3272 : BitVec 32) (k0_hw19 : k0_chk19 v3272), ∀ a, (k0_off115 v3272) a + S128x512.size a ≤ S640x3072.size a := fun v3272 k0_hw19 => k0_hw19.2.2.2.1
theorem k0_off119_inb : ∀ (v3272 : BitVec 32) (k0_hw19 : k0_chk19 v3272), ∀ a, (k0_off119 v3272) a + S128x512.size a ≤ S640x3072.size a := fun v3272 k0_hw19 => k0_hw19.2.2.2.2.1
theorem k0_off123_inb : ∀ (v3272 : BitVec 32) (k0_hw19 : k0_chk19 v3272), ∀ a, (k0_off123 v3272) a + S128x512.size a ≤ S640x3072.size a := fun v3272 k0_hw19 => k0_hw19.2.2.2.2.2.1
theorem k0_off127_inb : ∀ (v3272 : BitVec 32) (k0_hw19 : k0_chk19 v3272), ∀ a, (k0_off127 v3272) a + S128x512.size a ≤ S640x3072.size a := fun v3272 k0_hw19 => k0_hw19.2.2.2.2.2.2

def k0_off128 (v3285 : BitVec 32) : Fin 2 → Nat :=
  let c128_i32_1323 : BitVec 32 := 128#32
  let v3286 : BitVec 32 := Scalar.muli v3285 c128_i32_1323
  let v3287 : BitVec 32 := v3286
  let v3391 : Index := Scalar.indexCast v3287
  let c2560_1379 : Index := 2560#32
  ![v3391.toNat, 2560]

def k0_chk20 (v3285 : BitVec 32) : Prop :=
  (128 ∣ (k0_mult16 v3285).toNat) ∧
  (∀ a, (k0_off108 v3285) a + S128x512.size a ≤ S640x3072.size a) ∧
  (∀ a, (k0_off112 v3285) a + S128x512.size a ≤ S640x3072.size a) ∧
  (∀ a, (k0_off116 v3285) a + S128x512.size a ≤ S640x3072.size a) ∧
  (∀ a, (k0_off120 v3285) a + S128x512.size a ≤ S640x3072.size a) ∧
  (∀ a, (k0_off124 v3285) a + S128x512.size a ≤ S640x3072.size a) ∧
  (∀ a, (k0_off128 v3285) a + S128x512.size a ≤ S640x3072.size a)
theorem k0_mult16_dvd : ∀ (v3285 : BitVec 32) (k0_hw20 : k0_chk20 v3285), 128 ∣ (k0_mult16 v3285).toNat := fun v3285 k0_hw20 => k0_hw20.1
theorem k0_off108_inb : ∀ (v3285 : BitVec 32) (k0_hw20 : k0_chk20 v3285), ∀ a, (k0_off108 v3285) a + S128x512.size a ≤ S640x3072.size a := fun v3285 k0_hw20 => k0_hw20.2.1
theorem k0_off112_inb : ∀ (v3285 : BitVec 32) (k0_hw20 : k0_chk20 v3285), ∀ a, (k0_off112 v3285) a + S128x512.size a ≤ S640x3072.size a := fun v3285 k0_hw20 => k0_hw20.2.2.1
theorem k0_off116_inb : ∀ (v3285 : BitVec 32) (k0_hw20 : k0_chk20 v3285), ∀ a, (k0_off116 v3285) a + S128x512.size a ≤ S640x3072.size a := fun v3285 k0_hw20 => k0_hw20.2.2.2.1
theorem k0_off120_inb : ∀ (v3285 : BitVec 32) (k0_hw20 : k0_chk20 v3285), ∀ a, (k0_off120 v3285) a + S128x512.size a ≤ S640x3072.size a := fun v3285 k0_hw20 => k0_hw20.2.2.2.2.1
theorem k0_off124_inb : ∀ (v3285 : BitVec 32) (k0_hw20 : k0_chk20 v3285), ∀ a, (k0_off124 v3285) a + S128x512.size a ≤ S640x3072.size a := fun v3285 k0_hw20 => k0_hw20.2.2.2.2.2.1
theorem k0_off128_inb : ∀ (v3285 : BitVec 32) (k0_hw20 : k0_chk20 v3285), ∀ a, (k0_off128 v3285) a + S128x512.size a ≤ S640x3072.size a := fun v3285 k0_hw20 => k0_hw20.2.2.2.2.2.2

def k0_off129 (v3538 : BitVec 32) (v3539 : BitVec 32) : Fin 3 → Nat :=
  let c0_i32_1468 : BitVec 32 := 0#32
  let v3540 : BitVec 32 := Scalar.addi v3538 c0_i32_1468
  let v3541 : BitVec 1 := Scalar.cmpi .slt v3540 v3539
  let c0_i32_1469 : BitVec 32 := 0#32
  let v3542 : BitVec 32 := Scalar.addi v3538 c0_i32_1469
  let c19_i32_1470 : BitVec 32 := 19#32
  let v3543 : BitVec 32 := Scalar.minsi v3538 c19_i32_1470
  let v3544 : BitVec 32 := Scalar.select v3541 v3542 v3543
  let c20_i32_1471 : BitVec 32 := 20#32
  let v3545 : BitVec 32 := Scalar.select v3541 v3544 c20_i32_1471
  let v3546 : Index := Scalar.indexCast v3545
  let c0_1472 : Index := 0#32
  let c0_1473 : Index := 0#32
  ![v3546.toNat, 0, 0]

def k0_off130 (v3538 : BitVec 32) (v3539 : BitVec 32) : Fin 2 → Nat :=
  let c0_1474 : Index := 0#32
  let c0_i32_1468 : BitVec 32 := 0#32
  let v3540 : BitVec 32 := Scalar.addi v3538 c0_i32_1468
  let v3541 : BitVec 1 := Scalar.cmpi .slt v3540 v3539
  let c0_i32_1469 : BitVec 32 := 0#32
  let v3542 : BitVec 32 := Scalar.addi v3538 c0_i32_1469
  let c19_i32_1470 : BitVec 32 := 19#32
  let v3543 : BitVec 32 := Scalar.minsi v3538 c19_i32_1470
  let v3544 : BitVec 32 := Scalar.select v3541 v3542 v3543
  let v3549 : Index := Scalar.indexCast v3544
  ![0, v3549.toNat]
def k0_mult17 (v3550 : BitVec 32) : BitVec 32 :=
  let c128_i32_1475 : BitVec 32 := 128#32
  let v3551 : BitVec 32 := Scalar.muli v3550 c128_i32_1475
  v3551

def k0_off131 (v3538 : BitVec 32) (v3539 : BitVec 32) : Fin 3 → Nat :=
  let c1_i32_1476 : BitVec 32 := 1#32
  let v3553 : BitVec 32 := Scalar.addi v3538 c1_i32_1476
  let v3554 : BitVec 1 := Scalar.cmpi .slt v3553 v3539
  let c1_i32_1477 : BitVec 32 := 1#32
  let v3555 : BitVec 32 := Scalar.addi v3538 c1_i32_1477
  let c19_i32_1478 : BitVec 32 := 19#32
  let v3556 : BitVec 32 := Scalar.minsi v3538 c19_i32_1478
  let v3557 : BitVec 32 := Scalar.select v3554 v3555 v3556
  let c20_i32_1479 : BitVec 32 := 20#32
  let v3558 : BitVec 32 := Scalar.select v3554 v3557 c20_i32_1479
  let v3559 : Index := Scalar.indexCast v3558
  let c0_1480 : Index := 0#32
  let c0_1481 : Index := 0#32
  ![v3559.toNat, 0, 0]
def k0_off132 (v3538 : BitVec 32) (v3539 : BitVec 32) : Fin 2 → Nat :=
  let c0_1482 : Index := 0#32
  let c1_i32_1476 : BitVec 32 := 1#32
  let v3553 : BitVec 32 := Scalar.addi v3538 c1_i32_1476
  let v3554 : BitVec 1 := Scalar.cmpi .slt v3553 v3539
  let c1_i32_1477 : BitVec 32 := 1#32
  let v3555 : BitVec 32 := Scalar.addi v3538 c1_i32_1477
  let c19_i32_1478 : BitVec 32 := 19#32
  let v3556 : BitVec 32 := Scalar.minsi v3538 c19_i32_1478
  let v3557 : BitVec 32 := Scalar.select v3554 v3555 v3556
  let v3562 : Index := Scalar.indexCast v3557
  ![0, v3562.toNat]
def k0_mult18 (v3563 : BitVec 32) : BitVec 32 :=
  let c128_i32_1483 : BitVec 32 := 128#32
  let v3564 : BitVec 32 := Scalar.muli v3563 c128_i32_1483
  v3564

def k0_off133 (v3538 : BitVec 32) (v3539 : BitVec 32) : Fin 3 → Nat :=
  let c2_i32_1484 : BitVec 32 := 2#32
  let v3566 : BitVec 32 := Scalar.addi v3538 c2_i32_1484
  let v3567 : BitVec 1 := Scalar.cmpi .slt v3566 v3539
  let c2_i32_1485 : BitVec 32 := 2#32
  let v3568 : BitVec 32 := Scalar.addi v3538 c2_i32_1485
  let c19_i32_1486 : BitVec 32 := 19#32
  let v3569 : BitVec 32 := Scalar.minsi v3538 c19_i32_1486
  let v3570 : BitVec 32 := Scalar.select v3567 v3568 v3569
  let c20_i32_1487 : BitVec 32 := 20#32
  let v3571 : BitVec 32 := Scalar.select v3567 v3570 c20_i32_1487
  let v3572 : Index := Scalar.indexCast v3571
  let c0_1488 : Index := 0#32
  let c0_1489 : Index := 0#32
  ![v3572.toNat, 0, 0]
def k0_off134 (v3538 : BitVec 32) (v3539 : BitVec 32) : Fin 2 → Nat :=
  let c0_1490 : Index := 0#32
  let c2_i32_1484 : BitVec 32 := 2#32
  let v3566 : BitVec 32 := Scalar.addi v3538 c2_i32_1484
  let v3567 : BitVec 1 := Scalar.cmpi .slt v3566 v3539
  let c2_i32_1485 : BitVec 32 := 2#32
  let v3568 : BitVec 32 := Scalar.addi v3538 c2_i32_1485
  let c19_i32_1486 : BitVec 32 := 19#32
  let v3569 : BitVec 32 := Scalar.minsi v3538 c19_i32_1486
  let v3570 : BitVec 32 := Scalar.select v3567 v3568 v3569
  let v3575 : Index := Scalar.indexCast v3570
  ![0, v3575.toNat]
def k0_mult19 (v3576 : BitVec 32) : BitVec 32 :=
  let c128_i32_1491 : BitVec 32 := 128#32
  let v3577 : BitVec 32 := Scalar.muli v3576 c128_i32_1491
  v3577

def k0_off135 (v3538 : BitVec 32) (v3539 : BitVec 32) : Fin 3 → Nat :=
  let c3_i32_1492 : BitVec 32 := 3#32
  let v3579 : BitVec 32 := Scalar.addi v3538 c3_i32_1492
  let v3580 : BitVec 1 := Scalar.cmpi .slt v3579 v3539
  let c3_i32_1493 : BitVec 32 := 3#32
  let v3581 : BitVec 32 := Scalar.addi v3538 c3_i32_1493
  let c19_i32_1494 : BitVec 32 := 19#32
  let v3582 : BitVec 32 := Scalar.minsi v3538 c19_i32_1494
  let v3583 : BitVec 32 := Scalar.select v3580 v3581 v3582
  let c20_i32_1495 : BitVec 32 := 20#32
  let v3584 : BitVec 32 := Scalar.select v3580 v3583 c20_i32_1495
  let v3585 : Index := Scalar.indexCast v3584
  let c0_1496 : Index := 0#32
  let c0_1497 : Index := 0#32
  ![v3585.toNat, 0, 0]
def k0_off136 (v3538 : BitVec 32) (v3539 : BitVec 32) : Fin 2 → Nat :=
  let c0_1498 : Index := 0#32
  let c3_i32_1492 : BitVec 32 := 3#32
  let v3579 : BitVec 32 := Scalar.addi v3538 c3_i32_1492
  let v3580 : BitVec 1 := Scalar.cmpi .slt v3579 v3539
  let c3_i32_1493 : BitVec 32 := 3#32
  let v3581 : BitVec 32 := Scalar.addi v3538 c3_i32_1493
  let c19_i32_1494 : BitVec 32 := 19#32
  let v3582 : BitVec 32 := Scalar.minsi v3538 c19_i32_1494
  let v3583 : BitVec 32 := Scalar.select v3580 v3581 v3582
  let v3588 : Index := Scalar.indexCast v3583
  ![0, v3588.toNat]

def k0_chk21 (v3538 : BitVec 32) (v3539 : BitVec 32) : Prop :=
  (∀ a, (k0_off129 v3538 v3539) a + S1x128x128.size a ≤ S21x128x128.size a) ∧
  (∀ a, (k0_off130 v3538 v3539) a + S1x1.size a ≤ S3x20.size a) ∧
  (∀ a, (k0_off131 v3538 v3539) a + S1x128x128.size a ≤ S21x128x128.size a) ∧
  (∀ a, (k0_off132 v3538 v3539) a + S1x1.size a ≤ S3x20.size a) ∧
  (∀ a, (k0_off133 v3538 v3539) a + S1x128x128.size a ≤ S21x128x128.size a) ∧
  (∀ a, (k0_off134 v3538 v3539) a + S1x1.size a ≤ S3x20.size a) ∧
  (∀ a, (k0_off135 v3538 v3539) a + S1x128x128.size a ≤ S21x128x128.size a) ∧
  (∀ a, (k0_off136 v3538 v3539) a + S1x1.size a ≤ S3x20.size a)
theorem k0_off129_inb : ∀ (v3538 : BitVec 32) (v3539 : BitVec 32) (k0_hw21 : k0_chk21 v3538 v3539), ∀ a, (k0_off129 v3538 v3539) a + S1x128x128.size a ≤ S21x128x128.size a := fun v3538 v3539 k0_hw21 => k0_hw21.1
theorem k0_off130_inb : ∀ (v3538 : BitVec 32) (v3539 : BitVec 32) (k0_hw21 : k0_chk21 v3538 v3539), ∀ a, (k0_off130 v3538 v3539) a + S1x1.size a ≤ S3x20.size a := fun v3538 v3539 k0_hw21 => k0_hw21.2.1
theorem k0_off131_inb : ∀ (v3538 : BitVec 32) (v3539 : BitVec 32) (k0_hw21 : k0_chk21 v3538 v3539), ∀ a, (k0_off131 v3538 v3539) a + S1x128x128.size a ≤ S21x128x128.size a := fun v3538 v3539 k0_hw21 => k0_hw21.2.2.1
theorem k0_off132_inb : ∀ (v3538 : BitVec 32) (v3539 : BitVec 32) (k0_hw21 : k0_chk21 v3538 v3539), ∀ a, (k0_off132 v3538 v3539) a + S1x1.size a ≤ S3x20.size a := fun v3538 v3539 k0_hw21 => k0_hw21.2.2.2.1
theorem k0_off133_inb : ∀ (v3538 : BitVec 32) (v3539 : BitVec 32) (k0_hw21 : k0_chk21 v3538 v3539), ∀ a, (k0_off133 v3538 v3539) a + S1x128x128.size a ≤ S21x128x128.size a := fun v3538 v3539 k0_hw21 => k0_hw21.2.2.2.2.1
theorem k0_off134_inb : ∀ (v3538 : BitVec 32) (v3539 : BitVec 32) (k0_hw21 : k0_chk21 v3538 v3539), ∀ a, (k0_off134 v3538 v3539) a + S1x1.size a ≤ S3x20.size a := fun v3538 v3539 k0_hw21 => k0_hw21.2.2.2.2.2.1
theorem k0_off135_inb : ∀ (v3538 : BitVec 32) (v3539 : BitVec 32) (k0_hw21 : k0_chk21 v3538 v3539), ∀ a, (k0_off135 v3538 v3539) a + S1x128x128.size a ≤ S21x128x128.size a := fun v3538 v3539 k0_hw21 => k0_hw21.2.2.2.2.2.2.1
theorem k0_off136_inb : ∀ (v3538 : BitVec 32) (v3539 : BitVec 32) (k0_hw21 : k0_chk21 v3538 v3539), ∀ a, (k0_off136 v3538 v3539) a + S1x1.size a ≤ S3x20.size a := fun v3538 v3539 k0_hw21 => k0_hw21.2.2.2.2.2.2.2

def k0_mult20 (v3589 : BitVec 32) : BitVec 32 :=
  let c128_i32_1499 : BitVec 32 := 128#32
  let v3590 : BitVec 32 := Scalar.muli v3589 c128_i32_1499
  v3590

def k0_off137 (v3550 : BitVec 32) : Fin 2 → Nat :=
  let c128_i32_1475 : BitVec 32 := 128#32
  let v3551 : BitVec 32 := Scalar.muli v3550 c128_i32_1475
  let v3552 : BitVec 32 := v3551
  let v3596 : Index := Scalar.indexCast v3552
  let c0_1503 : Index := 0#32
  ![v3596.toNat, 0]
def k0_off138 (v3563 : BitVec 32) : Fin 2 → Nat :=
  let c128_i32_1483 : BitVec 32 := 128#32
  let v3564 : BitVec 32 := Scalar.muli v3563 c128_i32_1483
  let v3565 : BitVec 32 := v3564
  let v3598 : Index := Scalar.indexCast v3565
  let c0_1504 : Index := 0#32
  ![v3598.toNat, 0]
def k0_off139 (v3576 : BitVec 32) : Fin 2 → Nat :=
  let c128_i32_1491 : BitVec 32 := 128#32
  let v3577 : BitVec 32 := Scalar.muli v3576 c128_i32_1491
  let v3578 : BitVec 32 := v3577
  let v3600 : Index := Scalar.indexCast v3578
  let c0_1505 : Index := 0#32
  ![v3600.toNat, 0]
def k0_off140 (v3589 : BitVec 32) : Fin 2 → Nat :=
  let c128_i32_1499 : BitVec 32 := 128#32
  let v3590 : BitVec 32 := Scalar.muli v3589 c128_i32_1499
  let v3591 : BitVec 32 := v3590
  let v3602 : Index := Scalar.indexCast v3591
  let c0_1506 : Index := 0#32
  ![v3602.toNat, 0]
def k0_off141 (v3550 : BitVec 32) : Fin 2 → Nat :=
  let c128_i32_1475 : BitVec 32 := 128#32
  let v3551 : BitVec 32 := Scalar.muli v3550 c128_i32_1475
  let v3552 : BitVec 32 := v3551
  let v3614 : Index := Scalar.indexCast v3552
  let c512_1512 : Index := 512#32
  ![v3614.toNat, 512]
def k0_off142 (v3563 : BitVec 32) : Fin 2 → Nat :=
  let c128_i32_1483 : BitVec 32 := 128#32
  let v3564 : BitVec 32 := Scalar.muli v3563 c128_i32_1483
  let v3565 : BitVec 32 := v3564
  let v3616 : Index := Scalar.indexCast v3565
  let c512_1513 : Index := 512#32
  ![v3616.toNat, 512]
def k0_off143 (v3576 : BitVec 32) : Fin 2 → Nat :=
  let c128_i32_1491 : BitVec 32 := 128#32
  let v3577 : BitVec 32 := Scalar.muli v3576 c128_i32_1491
  let v3578 : BitVec 32 := v3577
  let v3618 : Index := Scalar.indexCast v3578
  let c512_1514 : Index := 512#32
  ![v3618.toNat, 512]
def k0_off144 (v3589 : BitVec 32) : Fin 2 → Nat :=
  let c128_i32_1499 : BitVec 32 := 128#32
  let v3590 : BitVec 32 := Scalar.muli v3589 c128_i32_1499
  let v3591 : BitVec 32 := v3590
  let v3620 : Index := Scalar.indexCast v3591
  let c512_1515 : Index := 512#32
  ![v3620.toNat, 512]
def k0_off145 (v3550 : BitVec 32) : Fin 2 → Nat :=
  let c128_i32_1475 : BitVec 32 := 128#32
  let v3551 : BitVec 32 := Scalar.muli v3550 c128_i32_1475
  let v3552 : BitVec 32 := v3551
  let v3632 : Index := Scalar.indexCast v3552
  let c1024_1521 : Index := 1024#32
  ![v3632.toNat, 1024]
def k0_off146 (v3563 : BitVec 32) : Fin 2 → Nat :=
  let c128_i32_1483 : BitVec 32 := 128#32
  let v3564 : BitVec 32 := Scalar.muli v3563 c128_i32_1483
  let v3565 : BitVec 32 := v3564
  let v3634 : Index := Scalar.indexCast v3565
  let c1024_1522 : Index := 1024#32
  ![v3634.toNat, 1024]
def k0_off147 (v3576 : BitVec 32) : Fin 2 → Nat :=
  let c128_i32_1491 : BitVec 32 := 128#32
  let v3577 : BitVec 32 := Scalar.muli v3576 c128_i32_1491
  let v3578 : BitVec 32 := v3577
  let v3636 : Index := Scalar.indexCast v3578
  let c1024_1523 : Index := 1024#32
  ![v3636.toNat, 1024]
def k0_off148 (v3589 : BitVec 32) : Fin 2 → Nat :=
  let c128_i32_1499 : BitVec 32 := 128#32
  let v3590 : BitVec 32 := Scalar.muli v3589 c128_i32_1499
  let v3591 : BitVec 32 := v3590
  let v3638 : Index := Scalar.indexCast v3591
  let c1024_1524 : Index := 1024#32
  ![v3638.toNat, 1024]
def k0_off149 (v3550 : BitVec 32) : Fin 2 → Nat :=
  let c128_i32_1475 : BitVec 32 := 128#32
  let v3551 : BitVec 32 := Scalar.muli v3550 c128_i32_1475
  let v3552 : BitVec 32 := v3551
  let v3653 : Index := Scalar.indexCast v3552
  let c1536_1534 : Index := 1536#32
  ![v3653.toNat, 1536]
def k0_off150 (v3563 : BitVec 32) : Fin 2 → Nat :=
  let c128_i32_1483 : BitVec 32 := 128#32
  let v3564 : BitVec 32 := Scalar.muli v3563 c128_i32_1483
  let v3565 : BitVec 32 := v3564
  let v3655 : Index := Scalar.indexCast v3565
  let c1536_1535 : Index := 1536#32
  ![v3655.toNat, 1536]
def k0_off151 (v3576 : BitVec 32) : Fin 2 → Nat :=
  let c128_i32_1491 : BitVec 32 := 128#32
  let v3577 : BitVec 32 := Scalar.muli v3576 c128_i32_1491
  let v3578 : BitVec 32 := v3577
  let v3657 : Index := Scalar.indexCast v3578
  let c1536_1536 : Index := 1536#32
  ![v3657.toNat, 1536]
def k0_off152 (v3589 : BitVec 32) : Fin 2 → Nat :=
  let c128_i32_1499 : BitVec 32 := 128#32
  let v3590 : BitVec 32 := Scalar.muli v3589 c128_i32_1499
  let v3591 : BitVec 32 := v3590
  let v3659 : Index := Scalar.indexCast v3591
  let c1536_1537 : Index := 1536#32
  ![v3659.toNat, 1536]
def k0_off153 (v3550 : BitVec 32) : Fin 2 → Nat :=
  let c128_i32_1475 : BitVec 32 := 128#32
  let v3551 : BitVec 32 := Scalar.muli v3550 c128_i32_1475
  let v3552 : BitVec 32 := v3551
  let v3671 : Index := Scalar.indexCast v3552
  let c2048_1543 : Index := 2048#32
  ![v3671.toNat, 2048]
def k0_off154 (v3563 : BitVec 32) : Fin 2 → Nat :=
  let c128_i32_1483 : BitVec 32 := 128#32
  let v3564 : BitVec 32 := Scalar.muli v3563 c128_i32_1483
  let v3565 : BitVec 32 := v3564
  let v3673 : Index := Scalar.indexCast v3565
  let c2048_1544 : Index := 2048#32
  ![v3673.toNat, 2048]
def k0_off155 (v3576 : BitVec 32) : Fin 2 → Nat :=
  let c128_i32_1491 : BitVec 32 := 128#32
  let v3577 : BitVec 32 := Scalar.muli v3576 c128_i32_1491
  let v3578 : BitVec 32 := v3577
  let v3675 : Index := Scalar.indexCast v3578
  let c2048_1545 : Index := 2048#32
  ![v3675.toNat, 2048]
def k0_off156 (v3589 : BitVec 32) : Fin 2 → Nat :=
  let c128_i32_1499 : BitVec 32 := 128#32
  let v3590 : BitVec 32 := Scalar.muli v3589 c128_i32_1499
  let v3591 : BitVec 32 := v3590
  let v3677 : Index := Scalar.indexCast v3591
  let c2048_1546 : Index := 2048#32
  ![v3677.toNat, 2048]
def k0_off157 (v3550 : BitVec 32) : Fin 2 → Nat :=
  let c128_i32_1475 : BitVec 32 := 128#32
  let v3551 : BitVec 32 := Scalar.muli v3550 c128_i32_1475
  let v3552 : BitVec 32 := v3551
  let v3689 : Index := Scalar.indexCast v3552
  let c2560_1552 : Index := 2560#32
  ![v3689.toNat, 2560]

def k0_chk22 (v3550 : BitVec 32) : Prop :=
  (128 ∣ (k0_mult17 v3550).toNat) ∧
  (∀ a, (k0_off137 v3550) a + S128x512.size a ≤ S640x3072.size a) ∧
  (∀ a, (k0_off141 v3550) a + S128x512.size a ≤ S640x3072.size a) ∧
  (∀ a, (k0_off145 v3550) a + S128x512.size a ≤ S640x3072.size a) ∧
  (∀ a, (k0_off149 v3550) a + S128x512.size a ≤ S640x3072.size a) ∧
  (∀ a, (k0_off153 v3550) a + S128x512.size a ≤ S640x3072.size a) ∧
  (∀ a, (k0_off157 v3550) a + S128x512.size a ≤ S640x3072.size a)
theorem k0_mult17_dvd : ∀ (v3550 : BitVec 32) (k0_hw22 : k0_chk22 v3550), 128 ∣ (k0_mult17 v3550).toNat := fun v3550 k0_hw22 => k0_hw22.1
theorem k0_off137_inb : ∀ (v3550 : BitVec 32) (k0_hw22 : k0_chk22 v3550), ∀ a, (k0_off137 v3550) a + S128x512.size a ≤ S640x3072.size a := fun v3550 k0_hw22 => k0_hw22.2.1
theorem k0_off141_inb : ∀ (v3550 : BitVec 32) (k0_hw22 : k0_chk22 v3550), ∀ a, (k0_off141 v3550) a + S128x512.size a ≤ S640x3072.size a := fun v3550 k0_hw22 => k0_hw22.2.2.1
theorem k0_off145_inb : ∀ (v3550 : BitVec 32) (k0_hw22 : k0_chk22 v3550), ∀ a, (k0_off145 v3550) a + S128x512.size a ≤ S640x3072.size a := fun v3550 k0_hw22 => k0_hw22.2.2.2.1
theorem k0_off149_inb : ∀ (v3550 : BitVec 32) (k0_hw22 : k0_chk22 v3550), ∀ a, (k0_off149 v3550) a + S128x512.size a ≤ S640x3072.size a := fun v3550 k0_hw22 => k0_hw22.2.2.2.2.1
theorem k0_off153_inb : ∀ (v3550 : BitVec 32) (k0_hw22 : k0_chk22 v3550), ∀ a, (k0_off153 v3550) a + S128x512.size a ≤ S640x3072.size a := fun v3550 k0_hw22 => k0_hw22.2.2.2.2.2.1
theorem k0_off157_inb : ∀ (v3550 : BitVec 32) (k0_hw22 : k0_chk22 v3550), ∀ a, (k0_off157 v3550) a + S128x512.size a ≤ S640x3072.size a := fun v3550 k0_hw22 => k0_hw22.2.2.2.2.2.2

def k0_off158 (v3563 : BitVec 32) : Fin 2 → Nat :=
  let c128_i32_1483 : BitVec 32 := 128#32
  let v3564 : BitVec 32 := Scalar.muli v3563 c128_i32_1483
  let v3565 : BitVec 32 := v3564
  let v3691 : Index := Scalar.indexCast v3565
  let c2560_1553 : Index := 2560#32
  ![v3691.toNat, 2560]

def k0_chk23 (v3563 : BitVec 32) : Prop :=
  (128 ∣ (k0_mult18 v3563).toNat) ∧
  (∀ a, (k0_off138 v3563) a + S128x512.size a ≤ S640x3072.size a) ∧
  (∀ a, (k0_off142 v3563) a + S128x512.size a ≤ S640x3072.size a) ∧
  (∀ a, (k0_off146 v3563) a + S128x512.size a ≤ S640x3072.size a) ∧
  (∀ a, (k0_off150 v3563) a + S128x512.size a ≤ S640x3072.size a) ∧
  (∀ a, (k0_off154 v3563) a + S128x512.size a ≤ S640x3072.size a) ∧
  (∀ a, (k0_off158 v3563) a + S128x512.size a ≤ S640x3072.size a)
theorem k0_mult18_dvd : ∀ (v3563 : BitVec 32) (k0_hw23 : k0_chk23 v3563), 128 ∣ (k0_mult18 v3563).toNat := fun v3563 k0_hw23 => k0_hw23.1
theorem k0_off138_inb : ∀ (v3563 : BitVec 32) (k0_hw23 : k0_chk23 v3563), ∀ a, (k0_off138 v3563) a + S128x512.size a ≤ S640x3072.size a := fun v3563 k0_hw23 => k0_hw23.2.1
theorem k0_off142_inb : ∀ (v3563 : BitVec 32) (k0_hw23 : k0_chk23 v3563), ∀ a, (k0_off142 v3563) a + S128x512.size a ≤ S640x3072.size a := fun v3563 k0_hw23 => k0_hw23.2.2.1
theorem k0_off146_inb : ∀ (v3563 : BitVec 32) (k0_hw23 : k0_chk23 v3563), ∀ a, (k0_off146 v3563) a + S128x512.size a ≤ S640x3072.size a := fun v3563 k0_hw23 => k0_hw23.2.2.2.1
theorem k0_off150_inb : ∀ (v3563 : BitVec 32) (k0_hw23 : k0_chk23 v3563), ∀ a, (k0_off150 v3563) a + S128x512.size a ≤ S640x3072.size a := fun v3563 k0_hw23 => k0_hw23.2.2.2.2.1
theorem k0_off154_inb : ∀ (v3563 : BitVec 32) (k0_hw23 : k0_chk23 v3563), ∀ a, (k0_off154 v3563) a + S128x512.size a ≤ S640x3072.size a := fun v3563 k0_hw23 => k0_hw23.2.2.2.2.2.1
theorem k0_off158_inb : ∀ (v3563 : BitVec 32) (k0_hw23 : k0_chk23 v3563), ∀ a, (k0_off158 v3563) a + S128x512.size a ≤ S640x3072.size a := fun v3563 k0_hw23 => k0_hw23.2.2.2.2.2.2

def k0_off159 (v3576 : BitVec 32) : Fin 2 → Nat :=
  let c128_i32_1491 : BitVec 32 := 128#32
  let v3577 : BitVec 32 := Scalar.muli v3576 c128_i32_1491
  let v3578 : BitVec 32 := v3577
  let v3693 : Index := Scalar.indexCast v3578
  let c2560_1554 : Index := 2560#32
  ![v3693.toNat, 2560]

def k0_chk24 (v3576 : BitVec 32) : Prop :=
  (128 ∣ (k0_mult19 v3576).toNat) ∧
  (∀ a, (k0_off139 v3576) a + S128x512.size a ≤ S640x3072.size a) ∧
  (∀ a, (k0_off143 v3576) a + S128x512.size a ≤ S640x3072.size a) ∧
  (∀ a, (k0_off147 v3576) a + S128x512.size a ≤ S640x3072.size a) ∧
  (∀ a, (k0_off151 v3576) a + S128x512.size a ≤ S640x3072.size a) ∧
  (∀ a, (k0_off155 v3576) a + S128x512.size a ≤ S640x3072.size a) ∧
  (∀ a, (k0_off159 v3576) a + S128x512.size a ≤ S640x3072.size a)
theorem k0_mult19_dvd : ∀ (v3576 : BitVec 32) (k0_hw24 : k0_chk24 v3576), 128 ∣ (k0_mult19 v3576).toNat := fun v3576 k0_hw24 => k0_hw24.1
theorem k0_off139_inb : ∀ (v3576 : BitVec 32) (k0_hw24 : k0_chk24 v3576), ∀ a, (k0_off139 v3576) a + S128x512.size a ≤ S640x3072.size a := fun v3576 k0_hw24 => k0_hw24.2.1
theorem k0_off143_inb : ∀ (v3576 : BitVec 32) (k0_hw24 : k0_chk24 v3576), ∀ a, (k0_off143 v3576) a + S128x512.size a ≤ S640x3072.size a := fun v3576 k0_hw24 => k0_hw24.2.2.1
theorem k0_off147_inb : ∀ (v3576 : BitVec 32) (k0_hw24 : k0_chk24 v3576), ∀ a, (k0_off147 v3576) a + S128x512.size a ≤ S640x3072.size a := fun v3576 k0_hw24 => k0_hw24.2.2.2.1
theorem k0_off151_inb : ∀ (v3576 : BitVec 32) (k0_hw24 : k0_chk24 v3576), ∀ a, (k0_off151 v3576) a + S128x512.size a ≤ S640x3072.size a := fun v3576 k0_hw24 => k0_hw24.2.2.2.2.1
theorem k0_off155_inb : ∀ (v3576 : BitVec 32) (k0_hw24 : k0_chk24 v3576), ∀ a, (k0_off155 v3576) a + S128x512.size a ≤ S640x3072.size a := fun v3576 k0_hw24 => k0_hw24.2.2.2.2.2.1
theorem k0_off159_inb : ∀ (v3576 : BitVec 32) (k0_hw24 : k0_chk24 v3576), ∀ a, (k0_off159 v3576) a + S128x512.size a ≤ S640x3072.size a := fun v3576 k0_hw24 => k0_hw24.2.2.2.2.2.2

def k0_off160 (v3589 : BitVec 32) : Fin 2 → Nat :=
  let c128_i32_1499 : BitVec 32 := 128#32
  let v3590 : BitVec 32 := Scalar.muli v3589 c128_i32_1499
  let v3591 : BitVec 32 := v3590
  let v3695 : Index := Scalar.indexCast v3591
  let c2560_1555 : Index := 2560#32
  ![v3695.toNat, 2560]

def k0_chk25 (v3589 : BitVec 32) : Prop :=
  (128 ∣ (k0_mult20 v3589).toNat) ∧
  (∀ a, (k0_off140 v3589) a + S128x512.size a ≤ S640x3072.size a) ∧
  (∀ a, (k0_off144 v3589) a + S128x512.size a ≤ S640x3072.size a) ∧
  (∀ a, (k0_off148 v3589) a + S128x512.size a ≤ S640x3072.size a) ∧
  (∀ a, (k0_off152 v3589) a + S128x512.size a ≤ S640x3072.size a) ∧
  (∀ a, (k0_off156 v3589) a + S128x512.size a ≤ S640x3072.size a) ∧
  (∀ a, (k0_off160 v3589) a + S128x512.size a ≤ S640x3072.size a)
theorem k0_mult20_dvd : ∀ (v3589 : BitVec 32) (k0_hw25 : k0_chk25 v3589), 128 ∣ (k0_mult20 v3589).toNat := fun v3589 k0_hw25 => k0_hw25.1
theorem k0_off140_inb : ∀ (v3589 : BitVec 32) (k0_hw25 : k0_chk25 v3589), ∀ a, (k0_off140 v3589) a + S128x512.size a ≤ S640x3072.size a := fun v3589 k0_hw25 => k0_hw25.2.1
theorem k0_off144_inb : ∀ (v3589 : BitVec 32) (k0_hw25 : k0_chk25 v3589), ∀ a, (k0_off144 v3589) a + S128x512.size a ≤ S640x3072.size a := fun v3589 k0_hw25 => k0_hw25.2.2.1
theorem k0_off148_inb : ∀ (v3589 : BitVec 32) (k0_hw25 : k0_chk25 v3589), ∀ a, (k0_off148 v3589) a + S128x512.size a ≤ S640x3072.size a := fun v3589 k0_hw25 => k0_hw25.2.2.2.1
theorem k0_off152_inb : ∀ (v3589 : BitVec 32) (k0_hw25 : k0_chk25 v3589), ∀ a, (k0_off152 v3589) a + S128x512.size a ≤ S640x3072.size a := fun v3589 k0_hw25 => k0_hw25.2.2.2.2.1
theorem k0_off156_inb : ∀ (v3589 : BitVec 32) (k0_hw25 : k0_chk25 v3589), ∀ a, (k0_off156 v3589) a + S128x512.size a ≤ S640x3072.size a := fun v3589 k0_hw25 => k0_hw25.2.2.2.2.2.1
theorem k0_off160_inb : ∀ (v3589 : BitVec 32) (k0_hw25 : k0_chk25 v3589), ∀ a, (k0_off160 v3589) a + S128x512.size a ≤ S640x3072.size a := fun v3589 k0_hw25 => k0_hw25.2.2.2.2.2.2

def k0_off161 (v3722 : BitVec 32) (v3723 : BitVec 32) : Fin 3 → Nat :=
  let c0_i32_1586 : BitVec 32 := 0#32
  let v3724 : BitVec 32 := Scalar.addi v3722 c0_i32_1586
  let v3725 : BitVec 1 := Scalar.cmpi .slt v3724 v3723
  let c0_i32_1587 : BitVec 32 := 0#32
  let v3726 : BitVec 32 := Scalar.addi v3722 c0_i32_1587
  let c19_i32_1588 : BitVec 32 := 19#32
  let v3727 : BitVec 32 := Scalar.minsi v3722 c19_i32_1588
  let v3728 : BitVec 32 := Scalar.select v3725 v3726 v3727
  let c20_i32_1589 : BitVec 32 := 20#32
  let v3729 : BitVec 32 := Scalar.select v3725 v3728 c20_i32_1589
  let v3730 : Index := Scalar.indexCast v3729
  let c0_1590 : Index := 0#32
  let c0_1591 : Index := 0#32
  ![v3730.toNat, 0, 0]

def k0_off162 (v3722 : BitVec 32) (v3723 : BitVec 32) : Fin 2 → Nat :=
  let c1_1592 : Index := 1#32
  let c0_i32_1586 : BitVec 32 := 0#32
  let v3724 : BitVec 32 := Scalar.addi v3722 c0_i32_1586
  let v3725 : BitVec 1 := Scalar.cmpi .slt v3724 v3723
  let c0_i32_1587 : BitVec 32 := 0#32
  let v3726 : BitVec 32 := Scalar.addi v3722 c0_i32_1587
  let c19_i32_1588 : BitVec 32 := 19#32
  let v3727 : BitVec 32 := Scalar.minsi v3722 c19_i32_1588
  let v3728 : BitVec 32 := Scalar.select v3725 v3726 v3727
  let v3733 : Index := Scalar.indexCast v3728
  ![1, v3733.toNat]
def k0_mult21 (v3734 : BitVec 32) : BitVec 32 :=
  let c128_i32_1593 : BitVec 32 := 128#32
  let v3735 : BitVec 32 := Scalar.muli v3734 c128_i32_1593
  v3735

def k0_off163 (v3722 : BitVec 32) (v3723 : BitVec 32) : Fin 3 → Nat :=
  let c1_i32_1594 : BitVec 32 := 1#32
  let v3737 : BitVec 32 := Scalar.addi v3722 c1_i32_1594
  let v3738 : BitVec 1 := Scalar.cmpi .slt v3737 v3723
  let c1_i32_1595 : BitVec 32 := 1#32
  let v3739 : BitVec 32 := Scalar.addi v3722 c1_i32_1595
  let c19_i32_1596 : BitVec 32 := 19#32
  let v3740 : BitVec 32 := Scalar.minsi v3722 c19_i32_1596
  let v3741 : BitVec 32 := Scalar.select v3738 v3739 v3740
  let c20_i32_1597 : BitVec 32 := 20#32
  let v3742 : BitVec 32 := Scalar.select v3738 v3741 c20_i32_1597
  let v3743 : Index := Scalar.indexCast v3742
  let c0_1598 : Index := 0#32
  let c0_1599 : Index := 0#32
  ![v3743.toNat, 0, 0]
def k0_off164 (v3722 : BitVec 32) (v3723 : BitVec 32) : Fin 2 → Nat :=
  let c1_1600 : Index := 1#32
  let c1_i32_1594 : BitVec 32 := 1#32
  let v3737 : BitVec 32 := Scalar.addi v3722 c1_i32_1594
  let v3738 : BitVec 1 := Scalar.cmpi .slt v3737 v3723
  let c1_i32_1595 : BitVec 32 := 1#32
  let v3739 : BitVec 32 := Scalar.addi v3722 c1_i32_1595
  let c19_i32_1596 : BitVec 32 := 19#32
  let v3740 : BitVec 32 := Scalar.minsi v3722 c19_i32_1596
  let v3741 : BitVec 32 := Scalar.select v3738 v3739 v3740
  let v3746 : Index := Scalar.indexCast v3741
  ![1, v3746.toNat]
def k0_mult22 (v3747 : BitVec 32) : BitVec 32 :=
  let c128_i32_1601 : BitVec 32 := 128#32
  let v3748 : BitVec 32 := Scalar.muli v3747 c128_i32_1601
  v3748

def k0_off165 (v3722 : BitVec 32) (v3723 : BitVec 32) : Fin 3 → Nat :=
  let c2_i32_1602 : BitVec 32 := 2#32
  let v3750 : BitVec 32 := Scalar.addi v3722 c2_i32_1602
  let v3751 : BitVec 1 := Scalar.cmpi .slt v3750 v3723
  let c2_i32_1603 : BitVec 32 := 2#32
  let v3752 : BitVec 32 := Scalar.addi v3722 c2_i32_1603
  let c19_i32_1604 : BitVec 32 := 19#32
  let v3753 : BitVec 32 := Scalar.minsi v3722 c19_i32_1604
  let v3754 : BitVec 32 := Scalar.select v3751 v3752 v3753
  let c20_i32_1605 : BitVec 32 := 20#32
  let v3755 : BitVec 32 := Scalar.select v3751 v3754 c20_i32_1605
  let v3756 : Index := Scalar.indexCast v3755
  let c0_1606 : Index := 0#32
  let c0_1607 : Index := 0#32
  ![v3756.toNat, 0, 0]
def k0_off166 (v3722 : BitVec 32) (v3723 : BitVec 32) : Fin 2 → Nat :=
  let c1_1608 : Index := 1#32
  let c2_i32_1602 : BitVec 32 := 2#32
  let v3750 : BitVec 32 := Scalar.addi v3722 c2_i32_1602
  let v3751 : BitVec 1 := Scalar.cmpi .slt v3750 v3723
  let c2_i32_1603 : BitVec 32 := 2#32
  let v3752 : BitVec 32 := Scalar.addi v3722 c2_i32_1603
  let c19_i32_1604 : BitVec 32 := 19#32
  let v3753 : BitVec 32 := Scalar.minsi v3722 c19_i32_1604
  let v3754 : BitVec 32 := Scalar.select v3751 v3752 v3753
  let v3759 : Index := Scalar.indexCast v3754
  ![1, v3759.toNat]
def k0_mult23 (v3760 : BitVec 32) : BitVec 32 :=
  let c128_i32_1609 : BitVec 32 := 128#32
  let v3761 : BitVec 32 := Scalar.muli v3760 c128_i32_1609
  v3761

def k0_off167 (v3722 : BitVec 32) (v3723 : BitVec 32) : Fin 3 → Nat :=
  let c3_i32_1610 : BitVec 32 := 3#32
  let v3763 : BitVec 32 := Scalar.addi v3722 c3_i32_1610
  let v3764 : BitVec 1 := Scalar.cmpi .slt v3763 v3723
  let c3_i32_1611 : BitVec 32 := 3#32
  let v3765 : BitVec 32 := Scalar.addi v3722 c3_i32_1611
  let c19_i32_1612 : BitVec 32 := 19#32
  let v3766 : BitVec 32 := Scalar.minsi v3722 c19_i32_1612
  let v3767 : BitVec 32 := Scalar.select v3764 v3765 v3766
  let c20_i32_1613 : BitVec 32 := 20#32
  let v3768 : BitVec 32 := Scalar.select v3764 v3767 c20_i32_1613
  let v3769 : Index := Scalar.indexCast v3768
  let c0_1614 : Index := 0#32
  let c0_1615 : Index := 0#32
  ![v3769.toNat, 0, 0]
def k0_off168 (v3722 : BitVec 32) (v3723 : BitVec 32) : Fin 2 → Nat :=
  let c1_1616 : Index := 1#32
  let c3_i32_1610 : BitVec 32 := 3#32
  let v3763 : BitVec 32 := Scalar.addi v3722 c3_i32_1610
  let v3764 : BitVec 1 := Scalar.cmpi .slt v3763 v3723
  let c3_i32_1611 : BitVec 32 := 3#32
  let v3765 : BitVec 32 := Scalar.addi v3722 c3_i32_1611
  let c19_i32_1612 : BitVec 32 := 19#32
  let v3766 : BitVec 32 := Scalar.minsi v3722 c19_i32_1612
  let v3767 : BitVec 32 := Scalar.select v3764 v3765 v3766
  let v3772 : Index := Scalar.indexCast v3767
  ![1, v3772.toNat]

def k0_chk26 (v3722 : BitVec 32) (v3723 : BitVec 32) : Prop :=
  (∀ a, (k0_off161 v3722 v3723) a + S1x128x128.size a ≤ S21x128x128.size a) ∧
  (∀ a, (k0_off162 v3722 v3723) a + S1x1.size a ≤ S3x20.size a) ∧
  (∀ a, (k0_off163 v3722 v3723) a + S1x128x128.size a ≤ S21x128x128.size a) ∧
  (∀ a, (k0_off164 v3722 v3723) a + S1x1.size a ≤ S3x20.size a) ∧
  (∀ a, (k0_off165 v3722 v3723) a + S1x128x128.size a ≤ S21x128x128.size a) ∧
  (∀ a, (k0_off166 v3722 v3723) a + S1x1.size a ≤ S3x20.size a) ∧
  (∀ a, (k0_off167 v3722 v3723) a + S1x128x128.size a ≤ S21x128x128.size a) ∧
  (∀ a, (k0_off168 v3722 v3723) a + S1x1.size a ≤ S3x20.size a)
theorem k0_off161_inb : ∀ (v3722 : BitVec 32) (v3723 : BitVec 32) (k0_hw26 : k0_chk26 v3722 v3723), ∀ a, (k0_off161 v3722 v3723) a + S1x128x128.size a ≤ S21x128x128.size a := fun v3722 v3723 k0_hw26 => k0_hw26.1
theorem k0_off162_inb : ∀ (v3722 : BitVec 32) (v3723 : BitVec 32) (k0_hw26 : k0_chk26 v3722 v3723), ∀ a, (k0_off162 v3722 v3723) a + S1x1.size a ≤ S3x20.size a := fun v3722 v3723 k0_hw26 => k0_hw26.2.1
theorem k0_off163_inb : ∀ (v3722 : BitVec 32) (v3723 : BitVec 32) (k0_hw26 : k0_chk26 v3722 v3723), ∀ a, (k0_off163 v3722 v3723) a + S1x128x128.size a ≤ S21x128x128.size a := fun v3722 v3723 k0_hw26 => k0_hw26.2.2.1
theorem k0_off164_inb : ∀ (v3722 : BitVec 32) (v3723 : BitVec 32) (k0_hw26 : k0_chk26 v3722 v3723), ∀ a, (k0_off164 v3722 v3723) a + S1x1.size a ≤ S3x20.size a := fun v3722 v3723 k0_hw26 => k0_hw26.2.2.2.1
theorem k0_off165_inb : ∀ (v3722 : BitVec 32) (v3723 : BitVec 32) (k0_hw26 : k0_chk26 v3722 v3723), ∀ a, (k0_off165 v3722 v3723) a + S1x128x128.size a ≤ S21x128x128.size a := fun v3722 v3723 k0_hw26 => k0_hw26.2.2.2.2.1
theorem k0_off166_inb : ∀ (v3722 : BitVec 32) (v3723 : BitVec 32) (k0_hw26 : k0_chk26 v3722 v3723), ∀ a, (k0_off166 v3722 v3723) a + S1x1.size a ≤ S3x20.size a := fun v3722 v3723 k0_hw26 => k0_hw26.2.2.2.2.2.1
theorem k0_off167_inb : ∀ (v3722 : BitVec 32) (v3723 : BitVec 32) (k0_hw26 : k0_chk26 v3722 v3723), ∀ a, (k0_off167 v3722 v3723) a + S1x128x128.size a ≤ S21x128x128.size a := fun v3722 v3723 k0_hw26 => k0_hw26.2.2.2.2.2.2.1
theorem k0_off168_inb : ∀ (v3722 : BitVec 32) (v3723 : BitVec 32) (k0_hw26 : k0_chk26 v3722 v3723), ∀ a, (k0_off168 v3722 v3723) a + S1x1.size a ≤ S3x20.size a := fun v3722 v3723 k0_hw26 => k0_hw26.2.2.2.2.2.2.2

def k0_mult24 (v3773 : BitVec 32) : BitVec 32 :=
  let c128_i32_1617 : BitVec 32 := 128#32
  let v3774 : BitVec 32 := Scalar.muli v3773 c128_i32_1617
  v3774

def k0_off169 (v3734 : BitVec 32) : Fin 2 → Nat :=
  let c128_i32_1593 : BitVec 32 := 128#32
  let v3735 : BitVec 32 := Scalar.muli v3734 c128_i32_1593
  let v3736 : BitVec 32 := v3735
  let v3780 : Index := Scalar.indexCast v3736
  let c0_1621 : Index := 0#32
  ![v3780.toNat, 0]
def k0_off170 (v3747 : BitVec 32) : Fin 2 → Nat :=
  let c128_i32_1601 : BitVec 32 := 128#32
  let v3748 : BitVec 32 := Scalar.muli v3747 c128_i32_1601
  let v3749 : BitVec 32 := v3748
  let v3782 : Index := Scalar.indexCast v3749
  let c0_1622 : Index := 0#32
  ![v3782.toNat, 0]
def k0_off171 (v3760 : BitVec 32) : Fin 2 → Nat :=
  let c128_i32_1609 : BitVec 32 := 128#32
  let v3761 : BitVec 32 := Scalar.muli v3760 c128_i32_1609
  let v3762 : BitVec 32 := v3761
  let v3784 : Index := Scalar.indexCast v3762
  let c0_1623 : Index := 0#32
  ![v3784.toNat, 0]
def k0_off172 (v3773 : BitVec 32) : Fin 2 → Nat :=
  let c128_i32_1617 : BitVec 32 := 128#32
  let v3774 : BitVec 32 := Scalar.muli v3773 c128_i32_1617
  let v3775 : BitVec 32 := v3774
  let v3786 : Index := Scalar.indexCast v3775
  let c0_1624 : Index := 0#32
  ![v3786.toNat, 0]
def k0_off173 (v3734 : BitVec 32) : Fin 2 → Nat :=
  let c128_i32_1593 : BitVec 32 := 128#32
  let v3735 : BitVec 32 := Scalar.muli v3734 c128_i32_1593
  let v3736 : BitVec 32 := v3735
  let v3798 : Index := Scalar.indexCast v3736
  let c512_1630 : Index := 512#32
  ![v3798.toNat, 512]
def k0_off174 (v3747 : BitVec 32) : Fin 2 → Nat :=
  let c128_i32_1601 : BitVec 32 := 128#32
  let v3748 : BitVec 32 := Scalar.muli v3747 c128_i32_1601
  let v3749 : BitVec 32 := v3748
  let v3800 : Index := Scalar.indexCast v3749
  let c512_1631 : Index := 512#32
  ![v3800.toNat, 512]
def k0_off175 (v3760 : BitVec 32) : Fin 2 → Nat :=
  let c128_i32_1609 : BitVec 32 := 128#32
  let v3761 : BitVec 32 := Scalar.muli v3760 c128_i32_1609
  let v3762 : BitVec 32 := v3761
  let v3802 : Index := Scalar.indexCast v3762
  let c512_1632 : Index := 512#32
  ![v3802.toNat, 512]
def k0_off176 (v3773 : BitVec 32) : Fin 2 → Nat :=
  let c128_i32_1617 : BitVec 32 := 128#32
  let v3774 : BitVec 32 := Scalar.muli v3773 c128_i32_1617
  let v3775 : BitVec 32 := v3774
  let v3804 : Index := Scalar.indexCast v3775
  let c512_1633 : Index := 512#32
  ![v3804.toNat, 512]
def k0_off177 (v3734 : BitVec 32) : Fin 2 → Nat :=
  let c128_i32_1593 : BitVec 32 := 128#32
  let v3735 : BitVec 32 := Scalar.muli v3734 c128_i32_1593
  let v3736 : BitVec 32 := v3735
  let v3816 : Index := Scalar.indexCast v3736
  let c1024_1639 : Index := 1024#32
  ![v3816.toNat, 1024]
def k0_off178 (v3747 : BitVec 32) : Fin 2 → Nat :=
  let c128_i32_1601 : BitVec 32 := 128#32
  let v3748 : BitVec 32 := Scalar.muli v3747 c128_i32_1601
  let v3749 : BitVec 32 := v3748
  let v3818 : Index := Scalar.indexCast v3749
  let c1024_1640 : Index := 1024#32
  ![v3818.toNat, 1024]
def k0_off179 (v3760 : BitVec 32) : Fin 2 → Nat :=
  let c128_i32_1609 : BitVec 32 := 128#32
  let v3761 : BitVec 32 := Scalar.muli v3760 c128_i32_1609
  let v3762 : BitVec 32 := v3761
  let v3820 : Index := Scalar.indexCast v3762
  let c1024_1641 : Index := 1024#32
  ![v3820.toNat, 1024]
def k0_off180 (v3773 : BitVec 32) : Fin 2 → Nat :=
  let c128_i32_1617 : BitVec 32 := 128#32
  let v3774 : BitVec 32 := Scalar.muli v3773 c128_i32_1617
  let v3775 : BitVec 32 := v3774
  let v3822 : Index := Scalar.indexCast v3775
  let c1024_1642 : Index := 1024#32
  ![v3822.toNat, 1024]
def k0_off181 (v3734 : BitVec 32) : Fin 2 → Nat :=
  let c128_i32_1593 : BitVec 32 := 128#32
  let v3735 : BitVec 32 := Scalar.muli v3734 c128_i32_1593
  let v3736 : BitVec 32 := v3735
  let v3837 : Index := Scalar.indexCast v3736
  let c1536_1653 : Index := 1536#32
  ![v3837.toNat, 1536]
def k0_off182 (v3747 : BitVec 32) : Fin 2 → Nat :=
  let c128_i32_1601 : BitVec 32 := 128#32
  let v3748 : BitVec 32 := Scalar.muli v3747 c128_i32_1601
  let v3749 : BitVec 32 := v3748
  let v3839 : Index := Scalar.indexCast v3749
  let c1536_1654 : Index := 1536#32
  ![v3839.toNat, 1536]
def k0_off183 (v3760 : BitVec 32) : Fin 2 → Nat :=
  let c128_i32_1609 : BitVec 32 := 128#32
  let v3761 : BitVec 32 := Scalar.muli v3760 c128_i32_1609
  let v3762 : BitVec 32 := v3761
  let v3841 : Index := Scalar.indexCast v3762
  let c1536_1655 : Index := 1536#32
  ![v3841.toNat, 1536]
def k0_off184 (v3773 : BitVec 32) : Fin 2 → Nat :=
  let c128_i32_1617 : BitVec 32 := 128#32
  let v3774 : BitVec 32 := Scalar.muli v3773 c128_i32_1617
  let v3775 : BitVec 32 := v3774
  let v3843 : Index := Scalar.indexCast v3775
  let c1536_1656 : Index := 1536#32
  ![v3843.toNat, 1536]
def k0_off185 (v3734 : BitVec 32) : Fin 2 → Nat :=
  let c128_i32_1593 : BitVec 32 := 128#32
  let v3735 : BitVec 32 := Scalar.muli v3734 c128_i32_1593
  let v3736 : BitVec 32 := v3735
  let v3855 : Index := Scalar.indexCast v3736
  let c2048_1662 : Index := 2048#32
  ![v3855.toNat, 2048]
def k0_off186 (v3747 : BitVec 32) : Fin 2 → Nat :=
  let c128_i32_1601 : BitVec 32 := 128#32
  let v3748 : BitVec 32 := Scalar.muli v3747 c128_i32_1601
  let v3749 : BitVec 32 := v3748
  let v3857 : Index := Scalar.indexCast v3749
  let c2048_1663 : Index := 2048#32
  ![v3857.toNat, 2048]
def k0_off187 (v3760 : BitVec 32) : Fin 2 → Nat :=
  let c128_i32_1609 : BitVec 32 := 128#32
  let v3761 : BitVec 32 := Scalar.muli v3760 c128_i32_1609
  let v3762 : BitVec 32 := v3761
  let v3859 : Index := Scalar.indexCast v3762
  let c2048_1664 : Index := 2048#32
  ![v3859.toNat, 2048]
def k0_off188 (v3773 : BitVec 32) : Fin 2 → Nat :=
  let c128_i32_1617 : BitVec 32 := 128#32
  let v3774 : BitVec 32 := Scalar.muli v3773 c128_i32_1617
  let v3775 : BitVec 32 := v3774
  let v3861 : Index := Scalar.indexCast v3775
  let c2048_1665 : Index := 2048#32
  ![v3861.toNat, 2048]
def k0_off189 (v3734 : BitVec 32) : Fin 2 → Nat :=
  let c128_i32_1593 : BitVec 32 := 128#32
  let v3735 : BitVec 32 := Scalar.muli v3734 c128_i32_1593
  let v3736 : BitVec 32 := v3735
  let v3873 : Index := Scalar.indexCast v3736
  let c2560_1671 : Index := 2560#32
  ![v3873.toNat, 2560]

def k0_chk27 (v3734 : BitVec 32) : Prop :=
  (128 ∣ (k0_mult21 v3734).toNat) ∧
  (∀ a, (k0_off169 v3734) a + S128x512.size a ≤ S640x3072.size a) ∧
  (∀ a, (k0_off173 v3734) a + S128x512.size a ≤ S640x3072.size a) ∧
  (∀ a, (k0_off177 v3734) a + S128x512.size a ≤ S640x3072.size a) ∧
  (∀ a, (k0_off181 v3734) a + S128x512.size a ≤ S640x3072.size a) ∧
  (∀ a, (k0_off185 v3734) a + S128x512.size a ≤ S640x3072.size a) ∧
  (∀ a, (k0_off189 v3734) a + S128x512.size a ≤ S640x3072.size a)
theorem k0_mult21_dvd : ∀ (v3734 : BitVec 32) (k0_hw27 : k0_chk27 v3734), 128 ∣ (k0_mult21 v3734).toNat := fun v3734 k0_hw27 => k0_hw27.1
theorem k0_off169_inb : ∀ (v3734 : BitVec 32) (k0_hw27 : k0_chk27 v3734), ∀ a, (k0_off169 v3734) a + S128x512.size a ≤ S640x3072.size a := fun v3734 k0_hw27 => k0_hw27.2.1
theorem k0_off173_inb : ∀ (v3734 : BitVec 32) (k0_hw27 : k0_chk27 v3734), ∀ a, (k0_off173 v3734) a + S128x512.size a ≤ S640x3072.size a := fun v3734 k0_hw27 => k0_hw27.2.2.1
theorem k0_off177_inb : ∀ (v3734 : BitVec 32) (k0_hw27 : k0_chk27 v3734), ∀ a, (k0_off177 v3734) a + S128x512.size a ≤ S640x3072.size a := fun v3734 k0_hw27 => k0_hw27.2.2.2.1
theorem k0_off181_inb : ∀ (v3734 : BitVec 32) (k0_hw27 : k0_chk27 v3734), ∀ a, (k0_off181 v3734) a + S128x512.size a ≤ S640x3072.size a := fun v3734 k0_hw27 => k0_hw27.2.2.2.2.1
theorem k0_off185_inb : ∀ (v3734 : BitVec 32) (k0_hw27 : k0_chk27 v3734), ∀ a, (k0_off185 v3734) a + S128x512.size a ≤ S640x3072.size a := fun v3734 k0_hw27 => k0_hw27.2.2.2.2.2.1
theorem k0_off189_inb : ∀ (v3734 : BitVec 32) (k0_hw27 : k0_chk27 v3734), ∀ a, (k0_off189 v3734) a + S128x512.size a ≤ S640x3072.size a := fun v3734 k0_hw27 => k0_hw27.2.2.2.2.2.2

def k0_off190 (v3747 : BitVec 32) : Fin 2 → Nat :=
  let c128_i32_1601 : BitVec 32 := 128#32
  let v3748 : BitVec 32 := Scalar.muli v3747 c128_i32_1601
  let v3749 : BitVec 32 := v3748
  let v3875 : Index := Scalar.indexCast v3749
  let c2560_1672 : Index := 2560#32
  ![v3875.toNat, 2560]

def k0_chk28 (v3747 : BitVec 32) : Prop :=
  (128 ∣ (k0_mult22 v3747).toNat) ∧
  (∀ a, (k0_off170 v3747) a + S128x512.size a ≤ S640x3072.size a) ∧
  (∀ a, (k0_off174 v3747) a + S128x512.size a ≤ S640x3072.size a) ∧
  (∀ a, (k0_off178 v3747) a + S128x512.size a ≤ S640x3072.size a) ∧
  (∀ a, (k0_off182 v3747) a + S128x512.size a ≤ S640x3072.size a) ∧
  (∀ a, (k0_off186 v3747) a + S128x512.size a ≤ S640x3072.size a) ∧
  (∀ a, (k0_off190 v3747) a + S128x512.size a ≤ S640x3072.size a)
theorem k0_mult22_dvd : ∀ (v3747 : BitVec 32) (k0_hw28 : k0_chk28 v3747), 128 ∣ (k0_mult22 v3747).toNat := fun v3747 k0_hw28 => k0_hw28.1
theorem k0_off170_inb : ∀ (v3747 : BitVec 32) (k0_hw28 : k0_chk28 v3747), ∀ a, (k0_off170 v3747) a + S128x512.size a ≤ S640x3072.size a := fun v3747 k0_hw28 => k0_hw28.2.1
theorem k0_off174_inb : ∀ (v3747 : BitVec 32) (k0_hw28 : k0_chk28 v3747), ∀ a, (k0_off174 v3747) a + S128x512.size a ≤ S640x3072.size a := fun v3747 k0_hw28 => k0_hw28.2.2.1
theorem k0_off178_inb : ∀ (v3747 : BitVec 32) (k0_hw28 : k0_chk28 v3747), ∀ a, (k0_off178 v3747) a + S128x512.size a ≤ S640x3072.size a := fun v3747 k0_hw28 => k0_hw28.2.2.2.1
theorem k0_off182_inb : ∀ (v3747 : BitVec 32) (k0_hw28 : k0_chk28 v3747), ∀ a, (k0_off182 v3747) a + S128x512.size a ≤ S640x3072.size a := fun v3747 k0_hw28 => k0_hw28.2.2.2.2.1
theorem k0_off186_inb : ∀ (v3747 : BitVec 32) (k0_hw28 : k0_chk28 v3747), ∀ a, (k0_off186 v3747) a + S128x512.size a ≤ S640x3072.size a := fun v3747 k0_hw28 => k0_hw28.2.2.2.2.2.1
theorem k0_off190_inb : ∀ (v3747 : BitVec 32) (k0_hw28 : k0_chk28 v3747), ∀ a, (k0_off190 v3747) a + S128x512.size a ≤ S640x3072.size a := fun v3747 k0_hw28 => k0_hw28.2.2.2.2.2.2

def k0_off191 (v3760 : BitVec 32) : Fin 2 → Nat :=
  let c128_i32_1609 : BitVec 32 := 128#32
  let v3761 : BitVec 32 := Scalar.muli v3760 c128_i32_1609
  let v3762 : BitVec 32 := v3761
  let v3877 : Index := Scalar.indexCast v3762
  let c2560_1673 : Index := 2560#32
  ![v3877.toNat, 2560]

def k0_chk29 (v3760 : BitVec 32) : Prop :=
  (128 ∣ (k0_mult23 v3760).toNat) ∧
  (∀ a, (k0_off171 v3760) a + S128x512.size a ≤ S640x3072.size a) ∧
  (∀ a, (k0_off175 v3760) a + S128x512.size a ≤ S640x3072.size a) ∧
  (∀ a, (k0_off179 v3760) a + S128x512.size a ≤ S640x3072.size a) ∧
  (∀ a, (k0_off183 v3760) a + S128x512.size a ≤ S640x3072.size a) ∧
  (∀ a, (k0_off187 v3760) a + S128x512.size a ≤ S640x3072.size a) ∧
  (∀ a, (k0_off191 v3760) a + S128x512.size a ≤ S640x3072.size a)
theorem k0_mult23_dvd : ∀ (v3760 : BitVec 32) (k0_hw29 : k0_chk29 v3760), 128 ∣ (k0_mult23 v3760).toNat := fun v3760 k0_hw29 => k0_hw29.1
theorem k0_off171_inb : ∀ (v3760 : BitVec 32) (k0_hw29 : k0_chk29 v3760), ∀ a, (k0_off171 v3760) a + S128x512.size a ≤ S640x3072.size a := fun v3760 k0_hw29 => k0_hw29.2.1
theorem k0_off175_inb : ∀ (v3760 : BitVec 32) (k0_hw29 : k0_chk29 v3760), ∀ a, (k0_off175 v3760) a + S128x512.size a ≤ S640x3072.size a := fun v3760 k0_hw29 => k0_hw29.2.2.1
theorem k0_off179_inb : ∀ (v3760 : BitVec 32) (k0_hw29 : k0_chk29 v3760), ∀ a, (k0_off179 v3760) a + S128x512.size a ≤ S640x3072.size a := fun v3760 k0_hw29 => k0_hw29.2.2.2.1
theorem k0_off183_inb : ∀ (v3760 : BitVec 32) (k0_hw29 : k0_chk29 v3760), ∀ a, (k0_off183 v3760) a + S128x512.size a ≤ S640x3072.size a := fun v3760 k0_hw29 => k0_hw29.2.2.2.2.1
theorem k0_off187_inb : ∀ (v3760 : BitVec 32) (k0_hw29 : k0_chk29 v3760), ∀ a, (k0_off187 v3760) a + S128x512.size a ≤ S640x3072.size a := fun v3760 k0_hw29 => k0_hw29.2.2.2.2.2.1
theorem k0_off191_inb : ∀ (v3760 : BitVec 32) (k0_hw29 : k0_chk29 v3760), ∀ a, (k0_off191 v3760) a + S128x512.size a ≤ S640x3072.size a := fun v3760 k0_hw29 => k0_hw29.2.2.2.2.2.2

def k0_off192 (v3773 : BitVec 32) : Fin 2 → Nat :=
  let c128_i32_1617 : BitVec 32 := 128#32
  let v3774 : BitVec 32 := Scalar.muli v3773 c128_i32_1617
  let v3775 : BitVec 32 := v3774
  let v3879 : Index := Scalar.indexCast v3775
  let c2560_1674 : Index := 2560#32
  ![v3879.toNat, 2560]

def k0_chk30 (v3773 : BitVec 32) : Prop :=
  (128 ∣ (k0_mult24 v3773).toNat) ∧
  (∀ a, (k0_off172 v3773) a + S128x512.size a ≤ S640x3072.size a) ∧
  (∀ a, (k0_off176 v3773) a + S128x512.size a ≤ S640x3072.size a) ∧
  (∀ a, (k0_off180 v3773) a + S128x512.size a ≤ S640x3072.size a) ∧
  (∀ a, (k0_off184 v3773) a + S128x512.size a ≤ S640x3072.size a) ∧
  (∀ a, (k0_off188 v3773) a + S128x512.size a ≤ S640x3072.size a) ∧
  (∀ a, (k0_off192 v3773) a + S128x512.size a ≤ S640x3072.size a)
theorem k0_mult24_dvd : ∀ (v3773 : BitVec 32) (k0_hw30 : k0_chk30 v3773), 128 ∣ (k0_mult24 v3773).toNat := fun v3773 k0_hw30 => k0_hw30.1
theorem k0_off172_inb : ∀ (v3773 : BitVec 32) (k0_hw30 : k0_chk30 v3773), ∀ a, (k0_off172 v3773) a + S128x512.size a ≤ S640x3072.size a := fun v3773 k0_hw30 => k0_hw30.2.1
theorem k0_off176_inb : ∀ (v3773 : BitVec 32) (k0_hw30 : k0_chk30 v3773), ∀ a, (k0_off176 v3773) a + S128x512.size a ≤ S640x3072.size a := fun v3773 k0_hw30 => k0_hw30.2.2.1
theorem k0_off180_inb : ∀ (v3773 : BitVec 32) (k0_hw30 : k0_chk30 v3773), ∀ a, (k0_off180 v3773) a + S128x512.size a ≤ S640x3072.size a := fun v3773 k0_hw30 => k0_hw30.2.2.2.1
theorem k0_off184_inb : ∀ (v3773 : BitVec 32) (k0_hw30 : k0_chk30 v3773), ∀ a, (k0_off184 v3773) a + S128x512.size a ≤ S640x3072.size a := fun v3773 k0_hw30 => k0_hw30.2.2.2.2.1
theorem k0_off188_inb : ∀ (v3773 : BitVec 32) (k0_hw30 : k0_chk30 v3773), ∀ a, (k0_off188 v3773) a + S128x512.size a ≤ S640x3072.size a := fun v3773 k0_hw30 => k0_hw30.2.2.2.2.2.1
theorem k0_off192_inb : ∀ (v3773 : BitVec 32) (k0_hw30 : k0_chk30 v3773), ∀ a, (k0_off192 v3773) a + S128x512.size a ≤ S640x3072.size a := fun v3773 k0_hw30 => k0_hw30.2.2.2.2.2.2

def k0_off193 (v4399 : BitVec 32) (v4400 : BitVec 32) : Fin 3 → Nat :=
  let c0_i32_1869 : BitVec 32 := 0#32
  let v4401 : BitVec 32 := Scalar.addi v4399 c0_i32_1869
  let v4402 : BitVec 1 := Scalar.cmpi .slt v4401 v4400
  let c0_i32_1870 : BitVec 32 := 0#32
  let v4403 : BitVec 32 := Scalar.addi v4399 c0_i32_1870
  let c19_i32_1871 : BitVec 32 := 19#32
  let v4404 : BitVec 32 := Scalar.minsi v4399 c19_i32_1871
  let v4405 : BitVec 32 := Scalar.select v4402 v4403 v4404
  let c20_i32_1872 : BitVec 32 := 20#32
  let v4406 : BitVec 32 := Scalar.select v4402 v4405 c20_i32_1872
  let v4407 : Index := Scalar.indexCast v4406
  let c0_1873 : Index := 0#32
  let c0_1874 : Index := 0#32
  ![v4407.toNat, 0, 0]

def k0_off194 (v4399 : BitVec 32) (v4400 : BitVec 32) : Fin 2 → Nat :=
  let c1_1875 : Index := 1#32
  let c0_i32_1869 : BitVec 32 := 0#32
  let v4401 : BitVec 32 := Scalar.addi v4399 c0_i32_1869
  let v4402 : BitVec 1 := Scalar.cmpi .slt v4401 v4400
  let c0_i32_1870 : BitVec 32 := 0#32
  let v4403 : BitVec 32 := Scalar.addi v4399 c0_i32_1870
  let c19_i32_1871 : BitVec 32 := 19#32
  let v4404 : BitVec 32 := Scalar.minsi v4399 c19_i32_1871
  let v4405 : BitVec 32 := Scalar.select v4402 v4403 v4404
  let v4410 : Index := Scalar.indexCast v4405
  ![1, v4410.toNat]
def k0_mult25 (v4411 : BitVec 32) : BitVec 32 :=
  let c128_i32_1876 : BitVec 32 := 128#32
  let v4412 : BitVec 32 := Scalar.muli v4411 c128_i32_1876
  v4412

def k0_off195 (v4399 : BitVec 32) (v4400 : BitVec 32) : Fin 3 → Nat :=
  let c1_i32_1877 : BitVec 32 := 1#32
  let v4414 : BitVec 32 := Scalar.addi v4399 c1_i32_1877
  let v4415 : BitVec 1 := Scalar.cmpi .slt v4414 v4400
  let c1_i32_1878 : BitVec 32 := 1#32
  let v4416 : BitVec 32 := Scalar.addi v4399 c1_i32_1878
  let c19_i32_1879 : BitVec 32 := 19#32
  let v4417 : BitVec 32 := Scalar.minsi v4399 c19_i32_1879
  let v4418 : BitVec 32 := Scalar.select v4415 v4416 v4417
  let c20_i32_1880 : BitVec 32 := 20#32
  let v4419 : BitVec 32 := Scalar.select v4415 v4418 c20_i32_1880
  let v4420 : Index := Scalar.indexCast v4419
  let c0_1881 : Index := 0#32
  let c0_1882 : Index := 0#32
  ![v4420.toNat, 0, 0]
def k0_off196 (v4399 : BitVec 32) (v4400 : BitVec 32) : Fin 2 → Nat :=
  let c1_1883 : Index := 1#32
  let c1_i32_1877 : BitVec 32 := 1#32
  let v4414 : BitVec 32 := Scalar.addi v4399 c1_i32_1877
  let v4415 : BitVec 1 := Scalar.cmpi .slt v4414 v4400
  let c1_i32_1878 : BitVec 32 := 1#32
  let v4416 : BitVec 32 := Scalar.addi v4399 c1_i32_1878
  let c19_i32_1879 : BitVec 32 := 19#32
  let v4417 : BitVec 32 := Scalar.minsi v4399 c19_i32_1879
  let v4418 : BitVec 32 := Scalar.select v4415 v4416 v4417
  let v4423 : Index := Scalar.indexCast v4418
  ![1, v4423.toNat]
def k0_mult26 (v4424 : BitVec 32) : BitVec 32 :=
  let c128_i32_1884 : BitVec 32 := 128#32
  let v4425 : BitVec 32 := Scalar.muli v4424 c128_i32_1884
  v4425

def k0_off197 (v4399 : BitVec 32) (v4400 : BitVec 32) : Fin 3 → Nat :=
  let c2_i32_1885 : BitVec 32 := 2#32
  let v4427 : BitVec 32 := Scalar.addi v4399 c2_i32_1885
  let v4428 : BitVec 1 := Scalar.cmpi .slt v4427 v4400
  let c2_i32_1886 : BitVec 32 := 2#32
  let v4429 : BitVec 32 := Scalar.addi v4399 c2_i32_1886
  let c19_i32_1887 : BitVec 32 := 19#32
  let v4430 : BitVec 32 := Scalar.minsi v4399 c19_i32_1887
  let v4431 : BitVec 32 := Scalar.select v4428 v4429 v4430
  let c20_i32_1888 : BitVec 32 := 20#32
  let v4432 : BitVec 32 := Scalar.select v4428 v4431 c20_i32_1888
  let v4433 : Index := Scalar.indexCast v4432
  let c0_1889 : Index := 0#32
  let c0_1890 : Index := 0#32
  ![v4433.toNat, 0, 0]
def k0_off198 (v4399 : BitVec 32) (v4400 : BitVec 32) : Fin 2 → Nat :=
  let c1_1891 : Index := 1#32
  let c2_i32_1885 : BitVec 32 := 2#32
  let v4427 : BitVec 32 := Scalar.addi v4399 c2_i32_1885
  let v4428 : BitVec 1 := Scalar.cmpi .slt v4427 v4400
  let c2_i32_1886 : BitVec 32 := 2#32
  let v4429 : BitVec 32 := Scalar.addi v4399 c2_i32_1886
  let c19_i32_1887 : BitVec 32 := 19#32
  let v4430 : BitVec 32 := Scalar.minsi v4399 c19_i32_1887
  let v4431 : BitVec 32 := Scalar.select v4428 v4429 v4430
  let v4436 : Index := Scalar.indexCast v4431
  ![1, v4436.toNat]
def k0_mult27 (v4437 : BitVec 32) : BitVec 32 :=
  let c128_i32_1892 : BitVec 32 := 128#32
  let v4438 : BitVec 32 := Scalar.muli v4437 c128_i32_1892
  v4438

def k0_off199 (v4399 : BitVec 32) (v4400 : BitVec 32) : Fin 3 → Nat :=
  let c3_i32_1893 : BitVec 32 := 3#32
  let v4440 : BitVec 32 := Scalar.addi v4399 c3_i32_1893
  let v4441 : BitVec 1 := Scalar.cmpi .slt v4440 v4400
  let c3_i32_1894 : BitVec 32 := 3#32
  let v4442 : BitVec 32 := Scalar.addi v4399 c3_i32_1894
  let c19_i32_1895 : BitVec 32 := 19#32
  let v4443 : BitVec 32 := Scalar.minsi v4399 c19_i32_1895
  let v4444 : BitVec 32 := Scalar.select v4441 v4442 v4443
  let c20_i32_1896 : BitVec 32 := 20#32
  let v4445 : BitVec 32 := Scalar.select v4441 v4444 c20_i32_1896
  let v4446 : Index := Scalar.indexCast v4445
  let c0_1897 : Index := 0#32
  let c0_1898 : Index := 0#32
  ![v4446.toNat, 0, 0]
def k0_off200 (v4399 : BitVec 32) (v4400 : BitVec 32) : Fin 2 → Nat :=
  let c1_1899 : Index := 1#32
  let c3_i32_1893 : BitVec 32 := 3#32
  let v4440 : BitVec 32 := Scalar.addi v4399 c3_i32_1893
  let v4441 : BitVec 1 := Scalar.cmpi .slt v4440 v4400
  let c3_i32_1894 : BitVec 32 := 3#32
  let v4442 : BitVec 32 := Scalar.addi v4399 c3_i32_1894
  let c19_i32_1895 : BitVec 32 := 19#32
  let v4443 : BitVec 32 := Scalar.minsi v4399 c19_i32_1895
  let v4444 : BitVec 32 := Scalar.select v4441 v4442 v4443
  let v4449 : Index := Scalar.indexCast v4444
  ![1, v4449.toNat]

def k0_chk31 (v4399 : BitVec 32) (v4400 : BitVec 32) : Prop :=
  (∀ a, (k0_off193 v4399 v4400) a + S1x128x128.size a ≤ S21x128x128.size a) ∧
  (∀ a, (k0_off194 v4399 v4400) a + S1x1.size a ≤ S3x20.size a) ∧
  (∀ a, (k0_off195 v4399 v4400) a + S1x128x128.size a ≤ S21x128x128.size a) ∧
  (∀ a, (k0_off196 v4399 v4400) a + S1x1.size a ≤ S3x20.size a) ∧
  (∀ a, (k0_off197 v4399 v4400) a + S1x128x128.size a ≤ S21x128x128.size a) ∧
  (∀ a, (k0_off198 v4399 v4400) a + S1x1.size a ≤ S3x20.size a) ∧
  (∀ a, (k0_off199 v4399 v4400) a + S1x128x128.size a ≤ S21x128x128.size a) ∧
  (∀ a, (k0_off200 v4399 v4400) a + S1x1.size a ≤ S3x20.size a)
theorem k0_off193_inb : ∀ (v4399 : BitVec 32) (v4400 : BitVec 32) (k0_hw31 : k0_chk31 v4399 v4400), ∀ a, (k0_off193 v4399 v4400) a + S1x128x128.size a ≤ S21x128x128.size a := fun v4399 v4400 k0_hw31 => k0_hw31.1
theorem k0_off194_inb : ∀ (v4399 : BitVec 32) (v4400 : BitVec 32) (k0_hw31 : k0_chk31 v4399 v4400), ∀ a, (k0_off194 v4399 v4400) a + S1x1.size a ≤ S3x20.size a := fun v4399 v4400 k0_hw31 => k0_hw31.2.1
theorem k0_off195_inb : ∀ (v4399 : BitVec 32) (v4400 : BitVec 32) (k0_hw31 : k0_chk31 v4399 v4400), ∀ a, (k0_off195 v4399 v4400) a + S1x128x128.size a ≤ S21x128x128.size a := fun v4399 v4400 k0_hw31 => k0_hw31.2.2.1
theorem k0_off196_inb : ∀ (v4399 : BitVec 32) (v4400 : BitVec 32) (k0_hw31 : k0_chk31 v4399 v4400), ∀ a, (k0_off196 v4399 v4400) a + S1x1.size a ≤ S3x20.size a := fun v4399 v4400 k0_hw31 => k0_hw31.2.2.2.1
theorem k0_off197_inb : ∀ (v4399 : BitVec 32) (v4400 : BitVec 32) (k0_hw31 : k0_chk31 v4399 v4400), ∀ a, (k0_off197 v4399 v4400) a + S1x128x128.size a ≤ S21x128x128.size a := fun v4399 v4400 k0_hw31 => k0_hw31.2.2.2.2.1
theorem k0_off198_inb : ∀ (v4399 : BitVec 32) (v4400 : BitVec 32) (k0_hw31 : k0_chk31 v4399 v4400), ∀ a, (k0_off198 v4399 v4400) a + S1x1.size a ≤ S3x20.size a := fun v4399 v4400 k0_hw31 => k0_hw31.2.2.2.2.2.1
theorem k0_off199_inb : ∀ (v4399 : BitVec 32) (v4400 : BitVec 32) (k0_hw31 : k0_chk31 v4399 v4400), ∀ a, (k0_off199 v4399 v4400) a + S1x128x128.size a ≤ S21x128x128.size a := fun v4399 v4400 k0_hw31 => k0_hw31.2.2.2.2.2.2.1
theorem k0_off200_inb : ∀ (v4399 : BitVec 32) (v4400 : BitVec 32) (k0_hw31 : k0_chk31 v4399 v4400), ∀ a, (k0_off200 v4399 v4400) a + S1x1.size a ≤ S3x20.size a := fun v4399 v4400 k0_hw31 => k0_hw31.2.2.2.2.2.2.2

def k0_mult28 (v4450 : BitVec 32) : BitVec 32 :=
  let c128_i32_1900 : BitVec 32 := 128#32
  let v4451 : BitVec 32 := Scalar.muli v4450 c128_i32_1900
  v4451

def k0_off201 (v4411 : BitVec 32) : Fin 2 → Nat :=
  let c128_i32_1876 : BitVec 32 := 128#32
  let v4412 : BitVec 32 := Scalar.muli v4411 c128_i32_1876
  let v4413 : BitVec 32 := v4412
  let v4457 : Index := Scalar.indexCast v4413
  let c0_1904 : Index := 0#32
  ![v4457.toNat, 0]
def k0_off202 (v4424 : BitVec 32) : Fin 2 → Nat :=
  let c128_i32_1884 : BitVec 32 := 128#32
  let v4425 : BitVec 32 := Scalar.muli v4424 c128_i32_1884
  let v4426 : BitVec 32 := v4425
  let v4459 : Index := Scalar.indexCast v4426
  let c0_1905 : Index := 0#32
  ![v4459.toNat, 0]
def k0_off203 (v4437 : BitVec 32) : Fin 2 → Nat :=
  let c128_i32_1892 : BitVec 32 := 128#32
  let v4438 : BitVec 32 := Scalar.muli v4437 c128_i32_1892
  let v4439 : BitVec 32 := v4438
  let v4461 : Index := Scalar.indexCast v4439
  let c0_1906 : Index := 0#32
  ![v4461.toNat, 0]
def k0_off204 (v4450 : BitVec 32) : Fin 2 → Nat :=
  let c128_i32_1900 : BitVec 32 := 128#32
  let v4451 : BitVec 32 := Scalar.muli v4450 c128_i32_1900
  let v4452 : BitVec 32 := v4451
  let v4463 : Index := Scalar.indexCast v4452
  let c0_1907 : Index := 0#32
  ![v4463.toNat, 0]
def k0_off205 (v4411 : BitVec 32) : Fin 2 → Nat :=
  let c128_i32_1876 : BitVec 32 := 128#32
  let v4412 : BitVec 32 := Scalar.muli v4411 c128_i32_1876
  let v4413 : BitVec 32 := v4412
  let v4475 : Index := Scalar.indexCast v4413
  let c512_1913 : Index := 512#32
  ![v4475.toNat, 512]
def k0_off206 (v4424 : BitVec 32) : Fin 2 → Nat :=
  let c128_i32_1884 : BitVec 32 := 128#32
  let v4425 : BitVec 32 := Scalar.muli v4424 c128_i32_1884
  let v4426 : BitVec 32 := v4425
  let v4477 : Index := Scalar.indexCast v4426
  let c512_1914 : Index := 512#32
  ![v4477.toNat, 512]
def k0_off207 (v4437 : BitVec 32) : Fin 2 → Nat :=
  let c128_i32_1892 : BitVec 32 := 128#32
  let v4438 : BitVec 32 := Scalar.muli v4437 c128_i32_1892
  let v4439 : BitVec 32 := v4438
  let v4479 : Index := Scalar.indexCast v4439
  let c512_1915 : Index := 512#32
  ![v4479.toNat, 512]
def k0_off208 (v4450 : BitVec 32) : Fin 2 → Nat :=
  let c128_i32_1900 : BitVec 32 := 128#32
  let v4451 : BitVec 32 := Scalar.muli v4450 c128_i32_1900
  let v4452 : BitVec 32 := v4451
  let v4481 : Index := Scalar.indexCast v4452
  let c512_1916 : Index := 512#32
  ![v4481.toNat, 512]
def k0_off209 (v4411 : BitVec 32) : Fin 2 → Nat :=
  let c128_i32_1876 : BitVec 32 := 128#32
  let v4412 : BitVec 32 := Scalar.muli v4411 c128_i32_1876
  let v4413 : BitVec 32 := v4412
  let v4493 : Index := Scalar.indexCast v4413
  let c1024_1922 : Index := 1024#32
  ![v4493.toNat, 1024]
def k0_off210 (v4424 : BitVec 32) : Fin 2 → Nat :=
  let c128_i32_1884 : BitVec 32 := 128#32
  let v4425 : BitVec 32 := Scalar.muli v4424 c128_i32_1884
  let v4426 : BitVec 32 := v4425
  let v4495 : Index := Scalar.indexCast v4426
  let c1024_1923 : Index := 1024#32
  ![v4495.toNat, 1024]
def k0_off211 (v4437 : BitVec 32) : Fin 2 → Nat :=
  let c128_i32_1892 : BitVec 32 := 128#32
  let v4438 : BitVec 32 := Scalar.muli v4437 c128_i32_1892
  let v4439 : BitVec 32 := v4438
  let v4497 : Index := Scalar.indexCast v4439
  let c1024_1924 : Index := 1024#32
  ![v4497.toNat, 1024]
def k0_off212 (v4450 : BitVec 32) : Fin 2 → Nat :=
  let c128_i32_1900 : BitVec 32 := 128#32
  let v4451 : BitVec 32 := Scalar.muli v4450 c128_i32_1900
  let v4452 : BitVec 32 := v4451
  let v4499 : Index := Scalar.indexCast v4452
  let c1024_1925 : Index := 1024#32
  ![v4499.toNat, 1024]
def k0_off213 (v4411 : BitVec 32) : Fin 2 → Nat :=
  let c128_i32_1876 : BitVec 32 := 128#32
  let v4412 : BitVec 32 := Scalar.muli v4411 c128_i32_1876
  let v4413 : BitVec 32 := v4412
  let v4514 : Index := Scalar.indexCast v4413
  let c1536_1936 : Index := 1536#32
  ![v4514.toNat, 1536]
def k0_off214 (v4424 : BitVec 32) : Fin 2 → Nat :=
  let c128_i32_1884 : BitVec 32 := 128#32
  let v4425 : BitVec 32 := Scalar.muli v4424 c128_i32_1884
  let v4426 : BitVec 32 := v4425
  let v4516 : Index := Scalar.indexCast v4426
  let c1536_1937 : Index := 1536#32
  ![v4516.toNat, 1536]
def k0_off215 (v4437 : BitVec 32) : Fin 2 → Nat :=
  let c128_i32_1892 : BitVec 32 := 128#32
  let v4438 : BitVec 32 := Scalar.muli v4437 c128_i32_1892
  let v4439 : BitVec 32 := v4438
  let v4518 : Index := Scalar.indexCast v4439
  let c1536_1938 : Index := 1536#32
  ![v4518.toNat, 1536]
def k0_off216 (v4450 : BitVec 32) : Fin 2 → Nat :=
  let c128_i32_1900 : BitVec 32 := 128#32
  let v4451 : BitVec 32 := Scalar.muli v4450 c128_i32_1900
  let v4452 : BitVec 32 := v4451
  let v4520 : Index := Scalar.indexCast v4452
  let c1536_1939 : Index := 1536#32
  ![v4520.toNat, 1536]
def k0_off217 (v4411 : BitVec 32) : Fin 2 → Nat :=
  let c128_i32_1876 : BitVec 32 := 128#32
  let v4412 : BitVec 32 := Scalar.muli v4411 c128_i32_1876
  let v4413 : BitVec 32 := v4412
  let v4532 : Index := Scalar.indexCast v4413
  let c2048_1945 : Index := 2048#32
  ![v4532.toNat, 2048]
def k0_off218 (v4424 : BitVec 32) : Fin 2 → Nat :=
  let c128_i32_1884 : BitVec 32 := 128#32
  let v4425 : BitVec 32 := Scalar.muli v4424 c128_i32_1884
  let v4426 : BitVec 32 := v4425
  let v4534 : Index := Scalar.indexCast v4426
  let c2048_1946 : Index := 2048#32
  ![v4534.toNat, 2048]
def k0_off219 (v4437 : BitVec 32) : Fin 2 → Nat :=
  let c128_i32_1892 : BitVec 32 := 128#32
  let v4438 : BitVec 32 := Scalar.muli v4437 c128_i32_1892
  let v4439 : BitVec 32 := v4438
  let v4536 : Index := Scalar.indexCast v4439
  let c2048_1947 : Index := 2048#32
  ![v4536.toNat, 2048]
def k0_off220 (v4450 : BitVec 32) : Fin 2 → Nat :=
  let c128_i32_1900 : BitVec 32 := 128#32
  let v4451 : BitVec 32 := Scalar.muli v4450 c128_i32_1900
  let v4452 : BitVec 32 := v4451
  let v4538 : Index := Scalar.indexCast v4452
  let c2048_1948 : Index := 2048#32
  ![v4538.toNat, 2048]
def k0_off221 (v4411 : BitVec 32) : Fin 2 → Nat :=
  let c128_i32_1876 : BitVec 32 := 128#32
  let v4412 : BitVec 32 := Scalar.muli v4411 c128_i32_1876
  let v4413 : BitVec 32 := v4412
  let v4550 : Index := Scalar.indexCast v4413
  let c2560_1954 : Index := 2560#32
  ![v4550.toNat, 2560]

def k0_chk32 (v4411 : BitVec 32) : Prop :=
  (128 ∣ (k0_mult25 v4411).toNat) ∧
  (∀ a, (k0_off201 v4411) a + S128x512.size a ≤ S640x3072.size a) ∧
  (∀ a, (k0_off205 v4411) a + S128x512.size a ≤ S640x3072.size a) ∧
  (∀ a, (k0_off209 v4411) a + S128x512.size a ≤ S640x3072.size a) ∧
  (∀ a, (k0_off213 v4411) a + S128x512.size a ≤ S640x3072.size a) ∧
  (∀ a, (k0_off217 v4411) a + S128x512.size a ≤ S640x3072.size a) ∧
  (∀ a, (k0_off221 v4411) a + S128x512.size a ≤ S640x3072.size a)
theorem k0_mult25_dvd : ∀ (v4411 : BitVec 32) (k0_hw32 : k0_chk32 v4411), 128 ∣ (k0_mult25 v4411).toNat := fun v4411 k0_hw32 => k0_hw32.1
theorem k0_off201_inb : ∀ (v4411 : BitVec 32) (k0_hw32 : k0_chk32 v4411), ∀ a, (k0_off201 v4411) a + S128x512.size a ≤ S640x3072.size a := fun v4411 k0_hw32 => k0_hw32.2.1
theorem k0_off205_inb : ∀ (v4411 : BitVec 32) (k0_hw32 : k0_chk32 v4411), ∀ a, (k0_off205 v4411) a + S128x512.size a ≤ S640x3072.size a := fun v4411 k0_hw32 => k0_hw32.2.2.1
theorem k0_off209_inb : ∀ (v4411 : BitVec 32) (k0_hw32 : k0_chk32 v4411), ∀ a, (k0_off209 v4411) a + S128x512.size a ≤ S640x3072.size a := fun v4411 k0_hw32 => k0_hw32.2.2.2.1
theorem k0_off213_inb : ∀ (v4411 : BitVec 32) (k0_hw32 : k0_chk32 v4411), ∀ a, (k0_off213 v4411) a + S128x512.size a ≤ S640x3072.size a := fun v4411 k0_hw32 => k0_hw32.2.2.2.2.1
theorem k0_off217_inb : ∀ (v4411 : BitVec 32) (k0_hw32 : k0_chk32 v4411), ∀ a, (k0_off217 v4411) a + S128x512.size a ≤ S640x3072.size a := fun v4411 k0_hw32 => k0_hw32.2.2.2.2.2.1
theorem k0_off221_inb : ∀ (v4411 : BitVec 32) (k0_hw32 : k0_chk32 v4411), ∀ a, (k0_off221 v4411) a + S128x512.size a ≤ S640x3072.size a := fun v4411 k0_hw32 => k0_hw32.2.2.2.2.2.2

def k0_off222 (v4424 : BitVec 32) : Fin 2 → Nat :=
  let c128_i32_1884 : BitVec 32 := 128#32
  let v4425 : BitVec 32 := Scalar.muli v4424 c128_i32_1884
  let v4426 : BitVec 32 := v4425
  let v4552 : Index := Scalar.indexCast v4426
  let c2560_1955 : Index := 2560#32
  ![v4552.toNat, 2560]

def k0_chk33 (v4424 : BitVec 32) : Prop :=
  (128 ∣ (k0_mult26 v4424).toNat) ∧
  (∀ a, (k0_off202 v4424) a + S128x512.size a ≤ S640x3072.size a) ∧
  (∀ a, (k0_off206 v4424) a + S128x512.size a ≤ S640x3072.size a) ∧
  (∀ a, (k0_off210 v4424) a + S128x512.size a ≤ S640x3072.size a) ∧
  (∀ a, (k0_off214 v4424) a + S128x512.size a ≤ S640x3072.size a) ∧
  (∀ a, (k0_off218 v4424) a + S128x512.size a ≤ S640x3072.size a) ∧
  (∀ a, (k0_off222 v4424) a + S128x512.size a ≤ S640x3072.size a)
theorem k0_mult26_dvd : ∀ (v4424 : BitVec 32) (k0_hw33 : k0_chk33 v4424), 128 ∣ (k0_mult26 v4424).toNat := fun v4424 k0_hw33 => k0_hw33.1
theorem k0_off202_inb : ∀ (v4424 : BitVec 32) (k0_hw33 : k0_chk33 v4424), ∀ a, (k0_off202 v4424) a + S128x512.size a ≤ S640x3072.size a := fun v4424 k0_hw33 => k0_hw33.2.1
theorem k0_off206_inb : ∀ (v4424 : BitVec 32) (k0_hw33 : k0_chk33 v4424), ∀ a, (k0_off206 v4424) a + S128x512.size a ≤ S640x3072.size a := fun v4424 k0_hw33 => k0_hw33.2.2.1
theorem k0_off210_inb : ∀ (v4424 : BitVec 32) (k0_hw33 : k0_chk33 v4424), ∀ a, (k0_off210 v4424) a + S128x512.size a ≤ S640x3072.size a := fun v4424 k0_hw33 => k0_hw33.2.2.2.1
theorem k0_off214_inb : ∀ (v4424 : BitVec 32) (k0_hw33 : k0_chk33 v4424), ∀ a, (k0_off214 v4424) a + S128x512.size a ≤ S640x3072.size a := fun v4424 k0_hw33 => k0_hw33.2.2.2.2.1
theorem k0_off218_inb : ∀ (v4424 : BitVec 32) (k0_hw33 : k0_chk33 v4424), ∀ a, (k0_off218 v4424) a + S128x512.size a ≤ S640x3072.size a := fun v4424 k0_hw33 => k0_hw33.2.2.2.2.2.1
theorem k0_off222_inb : ∀ (v4424 : BitVec 32) (k0_hw33 : k0_chk33 v4424), ∀ a, (k0_off222 v4424) a + S128x512.size a ≤ S640x3072.size a := fun v4424 k0_hw33 => k0_hw33.2.2.2.2.2.2

def k0_off223 (v4437 : BitVec 32) : Fin 2 → Nat :=
  let c128_i32_1892 : BitVec 32 := 128#32
  let v4438 : BitVec 32 := Scalar.muli v4437 c128_i32_1892
  let v4439 : BitVec 32 := v4438
  let v4554 : Index := Scalar.indexCast v4439
  let c2560_1956 : Index := 2560#32
  ![v4554.toNat, 2560]

def k0_chk34 (v4437 : BitVec 32) : Prop :=
  (128 ∣ (k0_mult27 v4437).toNat) ∧
  (∀ a, (k0_off203 v4437) a + S128x512.size a ≤ S640x3072.size a) ∧
  (∀ a, (k0_off207 v4437) a + S128x512.size a ≤ S640x3072.size a) ∧
  (∀ a, (k0_off211 v4437) a + S128x512.size a ≤ S640x3072.size a) ∧
  (∀ a, (k0_off215 v4437) a + S128x512.size a ≤ S640x3072.size a) ∧
  (∀ a, (k0_off219 v4437) a + S128x512.size a ≤ S640x3072.size a) ∧
  (∀ a, (k0_off223 v4437) a + S128x512.size a ≤ S640x3072.size a)
theorem k0_mult27_dvd : ∀ (v4437 : BitVec 32) (k0_hw34 : k0_chk34 v4437), 128 ∣ (k0_mult27 v4437).toNat := fun v4437 k0_hw34 => k0_hw34.1
theorem k0_off203_inb : ∀ (v4437 : BitVec 32) (k0_hw34 : k0_chk34 v4437), ∀ a, (k0_off203 v4437) a + S128x512.size a ≤ S640x3072.size a := fun v4437 k0_hw34 => k0_hw34.2.1
theorem k0_off207_inb : ∀ (v4437 : BitVec 32) (k0_hw34 : k0_chk34 v4437), ∀ a, (k0_off207 v4437) a + S128x512.size a ≤ S640x3072.size a := fun v4437 k0_hw34 => k0_hw34.2.2.1
theorem k0_off211_inb : ∀ (v4437 : BitVec 32) (k0_hw34 : k0_chk34 v4437), ∀ a, (k0_off211 v4437) a + S128x512.size a ≤ S640x3072.size a := fun v4437 k0_hw34 => k0_hw34.2.2.2.1
theorem k0_off215_inb : ∀ (v4437 : BitVec 32) (k0_hw34 : k0_chk34 v4437), ∀ a, (k0_off215 v4437) a + S128x512.size a ≤ S640x3072.size a := fun v4437 k0_hw34 => k0_hw34.2.2.2.2.1
theorem k0_off219_inb : ∀ (v4437 : BitVec 32) (k0_hw34 : k0_chk34 v4437), ∀ a, (k0_off219 v4437) a + S128x512.size a ≤ S640x3072.size a := fun v4437 k0_hw34 => k0_hw34.2.2.2.2.2.1
theorem k0_off223_inb : ∀ (v4437 : BitVec 32) (k0_hw34 : k0_chk34 v4437), ∀ a, (k0_off223 v4437) a + S128x512.size a ≤ S640x3072.size a := fun v4437 k0_hw34 => k0_hw34.2.2.2.2.2.2

def k0_off224 (v4450 : BitVec 32) : Fin 2 → Nat :=
  let c128_i32_1900 : BitVec 32 := 128#32
  let v4451 : BitVec 32 := Scalar.muli v4450 c128_i32_1900
  let v4452 : BitVec 32 := v4451
  let v4556 : Index := Scalar.indexCast v4452
  let c2560_1957 : Index := 2560#32
  ![v4556.toNat, 2560]

def k0_chk35 (v4450 : BitVec 32) : Prop :=
  (128 ∣ (k0_mult28 v4450).toNat) ∧
  (∀ a, (k0_off204 v4450) a + S128x512.size a ≤ S640x3072.size a) ∧
  (∀ a, (k0_off208 v4450) a + S128x512.size a ≤ S640x3072.size a) ∧
  (∀ a, (k0_off212 v4450) a + S128x512.size a ≤ S640x3072.size a) ∧
  (∀ a, (k0_off216 v4450) a + S128x512.size a ≤ S640x3072.size a) ∧
  (∀ a, (k0_off220 v4450) a + S128x512.size a ≤ S640x3072.size a) ∧
  (∀ a, (k0_off224 v4450) a + S128x512.size a ≤ S640x3072.size a)
theorem k0_mult28_dvd : ∀ (v4450 : BitVec 32) (k0_hw35 : k0_chk35 v4450), 128 ∣ (k0_mult28 v4450).toNat := fun v4450 k0_hw35 => k0_hw35.1
theorem k0_off204_inb : ∀ (v4450 : BitVec 32) (k0_hw35 : k0_chk35 v4450), ∀ a, (k0_off204 v4450) a + S128x512.size a ≤ S640x3072.size a := fun v4450 k0_hw35 => k0_hw35.2.1
theorem k0_off208_inb : ∀ (v4450 : BitVec 32) (k0_hw35 : k0_chk35 v4450), ∀ a, (k0_off208 v4450) a + S128x512.size a ≤ S640x3072.size a := fun v4450 k0_hw35 => k0_hw35.2.2.1
theorem k0_off212_inb : ∀ (v4450 : BitVec 32) (k0_hw35 : k0_chk35 v4450), ∀ a, (k0_off212 v4450) a + S128x512.size a ≤ S640x3072.size a := fun v4450 k0_hw35 => k0_hw35.2.2.2.1
theorem k0_off216_inb : ∀ (v4450 : BitVec 32) (k0_hw35 : k0_chk35 v4450), ∀ a, (k0_off216 v4450) a + S128x512.size a ≤ S640x3072.size a := fun v4450 k0_hw35 => k0_hw35.2.2.2.2.1
theorem k0_off220_inb : ∀ (v4450 : BitVec 32) (k0_hw35 : k0_chk35 v4450), ∀ a, (k0_off220 v4450) a + S128x512.size a ≤ S640x3072.size a := fun v4450 k0_hw35 => k0_hw35.2.2.2.2.2.1
theorem k0_off224_inb : ∀ (v4450 : BitVec 32) (k0_hw35 : k0_chk35 v4450), ∀ a, (k0_off224 v4450) a + S128x512.size a ≤ S640x3072.size a := fun v4450 k0_hw35 => k0_hw35.2.2.2.2.2.2

def k0_off225 (v5076 : BitVec 32) (v5077 : BitVec 32) : Fin 3 → Nat :=
  let c0_i32_2152 : BitVec 32 := 0#32
  let v5078 : BitVec 32 := Scalar.addi v5076 c0_i32_2152
  let v5079 : BitVec 1 := Scalar.cmpi .slt v5078 v5077
  let c0_i32_2153 : BitVec 32 := 0#32
  let v5080 : BitVec 32 := Scalar.addi v5076 c0_i32_2153
  let c19_i32_2154 : BitVec 32 := 19#32
  let v5081 : BitVec 32 := Scalar.minsi v5076 c19_i32_2154
  let v5082 : BitVec 32 := Scalar.select v5079 v5080 v5081
  let c20_i32_2155 : BitVec 32 := 20#32
  let v5083 : BitVec 32 := Scalar.select v5079 v5082 c20_i32_2155
  let v5084 : Index := Scalar.indexCast v5083
  let c0_2156 : Index := 0#32
  let c0_2157 : Index := 0#32
  ![v5084.toNat, 0, 0]

def k0_off226 (v5076 : BitVec 32) (v5077 : BitVec 32) : Fin 2 → Nat :=
  let c1_2158 : Index := 1#32
  let c0_i32_2152 : BitVec 32 := 0#32
  let v5078 : BitVec 32 := Scalar.addi v5076 c0_i32_2152
  let v5079 : BitVec 1 := Scalar.cmpi .slt v5078 v5077
  let c0_i32_2153 : BitVec 32 := 0#32
  let v5080 : BitVec 32 := Scalar.addi v5076 c0_i32_2153
  let c19_i32_2154 : BitVec 32 := 19#32
  let v5081 : BitVec 32 := Scalar.minsi v5076 c19_i32_2154
  let v5082 : BitVec 32 := Scalar.select v5079 v5080 v5081
  let v5087 : Index := Scalar.indexCast v5082
  ![1, v5087.toNat]
def k0_mult29 (v5088 : BitVec 32) : BitVec 32 :=
  let c128_i32_2159 : BitVec 32 := 128#32
  let v5089 : BitVec 32 := Scalar.muli v5088 c128_i32_2159
  v5089

def k0_off227 (v5076 : BitVec 32) (v5077 : BitVec 32) : Fin 3 → Nat :=
  let c1_i32_2160 : BitVec 32 := 1#32
  let v5091 : BitVec 32 := Scalar.addi v5076 c1_i32_2160
  let v5092 : BitVec 1 := Scalar.cmpi .slt v5091 v5077
  let c1_i32_2161 : BitVec 32 := 1#32
  let v5093 : BitVec 32 := Scalar.addi v5076 c1_i32_2161
  let c19_i32_2162 : BitVec 32 := 19#32
  let v5094 : BitVec 32 := Scalar.minsi v5076 c19_i32_2162
  let v5095 : BitVec 32 := Scalar.select v5092 v5093 v5094
  let c20_i32_2163 : BitVec 32 := 20#32
  let v5096 : BitVec 32 := Scalar.select v5092 v5095 c20_i32_2163
  let v5097 : Index := Scalar.indexCast v5096
  let c0_2164 : Index := 0#32
  let c0_2165 : Index := 0#32
  ![v5097.toNat, 0, 0]
def k0_off228 (v5076 : BitVec 32) (v5077 : BitVec 32) : Fin 2 → Nat :=
  let c1_2166 : Index := 1#32
  let c1_i32_2160 : BitVec 32 := 1#32
  let v5091 : BitVec 32 := Scalar.addi v5076 c1_i32_2160
  let v5092 : BitVec 1 := Scalar.cmpi .slt v5091 v5077
  let c1_i32_2161 : BitVec 32 := 1#32
  let v5093 : BitVec 32 := Scalar.addi v5076 c1_i32_2161
  let c19_i32_2162 : BitVec 32 := 19#32
  let v5094 : BitVec 32 := Scalar.minsi v5076 c19_i32_2162
  let v5095 : BitVec 32 := Scalar.select v5092 v5093 v5094
  let v5100 : Index := Scalar.indexCast v5095
  ![1, v5100.toNat]
def k0_mult30 (v5101 : BitVec 32) : BitVec 32 :=
  let c128_i32_2167 : BitVec 32 := 128#32
  let v5102 : BitVec 32 := Scalar.muli v5101 c128_i32_2167
  v5102

def k0_off229 (v5076 : BitVec 32) (v5077 : BitVec 32) : Fin 3 → Nat :=
  let c2_i32_2168 : BitVec 32 := 2#32
  let v5104 : BitVec 32 := Scalar.addi v5076 c2_i32_2168
  let v5105 : BitVec 1 := Scalar.cmpi .slt v5104 v5077
  let c2_i32_2169 : BitVec 32 := 2#32
  let v5106 : BitVec 32 := Scalar.addi v5076 c2_i32_2169
  let c19_i32_2170 : BitVec 32 := 19#32
  let v5107 : BitVec 32 := Scalar.minsi v5076 c19_i32_2170
  let v5108 : BitVec 32 := Scalar.select v5105 v5106 v5107
  let c20_i32_2171 : BitVec 32 := 20#32
  let v5109 : BitVec 32 := Scalar.select v5105 v5108 c20_i32_2171
  let v5110 : Index := Scalar.indexCast v5109
  let c0_2172 : Index := 0#32
  let c0_2173 : Index := 0#32
  ![v5110.toNat, 0, 0]
def k0_off230 (v5076 : BitVec 32) (v5077 : BitVec 32) : Fin 2 → Nat :=
  let c1_2174 : Index := 1#32
  let c2_i32_2168 : BitVec 32 := 2#32
  let v5104 : BitVec 32 := Scalar.addi v5076 c2_i32_2168
  let v5105 : BitVec 1 := Scalar.cmpi .slt v5104 v5077
  let c2_i32_2169 : BitVec 32 := 2#32
  let v5106 : BitVec 32 := Scalar.addi v5076 c2_i32_2169
  let c19_i32_2170 : BitVec 32 := 19#32
  let v5107 : BitVec 32 := Scalar.minsi v5076 c19_i32_2170
  let v5108 : BitVec 32 := Scalar.select v5105 v5106 v5107
  let v5113 : Index := Scalar.indexCast v5108
  ![1, v5113.toNat]
def k0_mult31 (v5114 : BitVec 32) : BitVec 32 :=
  let c128_i32_2175 : BitVec 32 := 128#32
  let v5115 : BitVec 32 := Scalar.muli v5114 c128_i32_2175
  v5115

def k0_off231 (v5076 : BitVec 32) (v5077 : BitVec 32) : Fin 3 → Nat :=
  let c3_i32_2176 : BitVec 32 := 3#32
  let v5117 : BitVec 32 := Scalar.addi v5076 c3_i32_2176
  let v5118 : BitVec 1 := Scalar.cmpi .slt v5117 v5077
  let c3_i32_2177 : BitVec 32 := 3#32
  let v5119 : BitVec 32 := Scalar.addi v5076 c3_i32_2177
  let c19_i32_2178 : BitVec 32 := 19#32
  let v5120 : BitVec 32 := Scalar.minsi v5076 c19_i32_2178
  let v5121 : BitVec 32 := Scalar.select v5118 v5119 v5120
  let c20_i32_2179 : BitVec 32 := 20#32
  let v5122 : BitVec 32 := Scalar.select v5118 v5121 c20_i32_2179
  let v5123 : Index := Scalar.indexCast v5122
  let c0_2180 : Index := 0#32
  let c0_2181 : Index := 0#32
  ![v5123.toNat, 0, 0]
def k0_off232 (v5076 : BitVec 32) (v5077 : BitVec 32) : Fin 2 → Nat :=
  let c1_2182 : Index := 1#32
  let c3_i32_2176 : BitVec 32 := 3#32
  let v5117 : BitVec 32 := Scalar.addi v5076 c3_i32_2176
  let v5118 : BitVec 1 := Scalar.cmpi .slt v5117 v5077
  let c3_i32_2177 : BitVec 32 := 3#32
  let v5119 : BitVec 32 := Scalar.addi v5076 c3_i32_2177
  let c19_i32_2178 : BitVec 32 := 19#32
  let v5120 : BitVec 32 := Scalar.minsi v5076 c19_i32_2178
  let v5121 : BitVec 32 := Scalar.select v5118 v5119 v5120
  let v5126 : Index := Scalar.indexCast v5121
  ![1, v5126.toNat]

def k0_chk36 (v5076 : BitVec 32) (v5077 : BitVec 32) : Prop :=
  (∀ a, (k0_off225 v5076 v5077) a + S1x128x128.size a ≤ S21x128x128.size a) ∧
  (∀ a, (k0_off226 v5076 v5077) a + S1x1.size a ≤ S3x20.size a) ∧
  (∀ a, (k0_off227 v5076 v5077) a + S1x128x128.size a ≤ S21x128x128.size a) ∧
  (∀ a, (k0_off228 v5076 v5077) a + S1x1.size a ≤ S3x20.size a) ∧
  (∀ a, (k0_off229 v5076 v5077) a + S1x128x128.size a ≤ S21x128x128.size a) ∧
  (∀ a, (k0_off230 v5076 v5077) a + S1x1.size a ≤ S3x20.size a) ∧
  (∀ a, (k0_off231 v5076 v5077) a + S1x128x128.size a ≤ S21x128x128.size a) ∧
  (∀ a, (k0_off232 v5076 v5077) a + S1x1.size a ≤ S3x20.size a)
theorem k0_off225_inb : ∀ (v5076 : BitVec 32) (v5077 : BitVec 32) (k0_hw36 : k0_chk36 v5076 v5077), ∀ a, (k0_off225 v5076 v5077) a + S1x128x128.size a ≤ S21x128x128.size a := fun v5076 v5077 k0_hw36 => k0_hw36.1
theorem k0_off226_inb : ∀ (v5076 : BitVec 32) (v5077 : BitVec 32) (k0_hw36 : k0_chk36 v5076 v5077), ∀ a, (k0_off226 v5076 v5077) a + S1x1.size a ≤ S3x20.size a := fun v5076 v5077 k0_hw36 => k0_hw36.2.1
theorem k0_off227_inb : ∀ (v5076 : BitVec 32) (v5077 : BitVec 32) (k0_hw36 : k0_chk36 v5076 v5077), ∀ a, (k0_off227 v5076 v5077) a + S1x128x128.size a ≤ S21x128x128.size a := fun v5076 v5077 k0_hw36 => k0_hw36.2.2.1
theorem k0_off228_inb : ∀ (v5076 : BitVec 32) (v5077 : BitVec 32) (k0_hw36 : k0_chk36 v5076 v5077), ∀ a, (k0_off228 v5076 v5077) a + S1x1.size a ≤ S3x20.size a := fun v5076 v5077 k0_hw36 => k0_hw36.2.2.2.1
theorem k0_off229_inb : ∀ (v5076 : BitVec 32) (v5077 : BitVec 32) (k0_hw36 : k0_chk36 v5076 v5077), ∀ a, (k0_off229 v5076 v5077) a + S1x128x128.size a ≤ S21x128x128.size a := fun v5076 v5077 k0_hw36 => k0_hw36.2.2.2.2.1
theorem k0_off230_inb : ∀ (v5076 : BitVec 32) (v5077 : BitVec 32) (k0_hw36 : k0_chk36 v5076 v5077), ∀ a, (k0_off230 v5076 v5077) a + S1x1.size a ≤ S3x20.size a := fun v5076 v5077 k0_hw36 => k0_hw36.2.2.2.2.2.1
theorem k0_off231_inb : ∀ (v5076 : BitVec 32) (v5077 : BitVec 32) (k0_hw36 : k0_chk36 v5076 v5077), ∀ a, (k0_off231 v5076 v5077) a + S1x128x128.size a ≤ S21x128x128.size a := fun v5076 v5077 k0_hw36 => k0_hw36.2.2.2.2.2.2.1
theorem k0_off232_inb : ∀ (v5076 : BitVec 32) (v5077 : BitVec 32) (k0_hw36 : k0_chk36 v5076 v5077), ∀ a, (k0_off232 v5076 v5077) a + S1x1.size a ≤ S3x20.size a := fun v5076 v5077 k0_hw36 => k0_hw36.2.2.2.2.2.2.2

def k0_mult32 (v5127 : BitVec 32) : BitVec 32 :=
  let c128_i32_2183 : BitVec 32 := 128#32
  let v5128 : BitVec 32 := Scalar.muli v5127 c128_i32_2183
  v5128

def k0_off233 (v5088 : BitVec 32) : Fin 2 → Nat :=
  let c128_i32_2159 : BitVec 32 := 128#32
  let v5089 : BitVec 32 := Scalar.muli v5088 c128_i32_2159
  let v5090 : BitVec 32 := v5089
  let v5134 : Index := Scalar.indexCast v5090
  let c0_2187 : Index := 0#32
  ![v5134.toNat, 0]
def k0_off234 (v5101 : BitVec 32) : Fin 2 → Nat :=
  let c128_i32_2167 : BitVec 32 := 128#32
  let v5102 : BitVec 32 := Scalar.muli v5101 c128_i32_2167
  let v5103 : BitVec 32 := v5102
  let v5136 : Index := Scalar.indexCast v5103
  let c0_2188 : Index := 0#32
  ![v5136.toNat, 0]
def k0_off235 (v5114 : BitVec 32) : Fin 2 → Nat :=
  let c128_i32_2175 : BitVec 32 := 128#32
  let v5115 : BitVec 32 := Scalar.muli v5114 c128_i32_2175
  let v5116 : BitVec 32 := v5115
  let v5138 : Index := Scalar.indexCast v5116
  let c0_2189 : Index := 0#32
  ![v5138.toNat, 0]
def k0_off236 (v5127 : BitVec 32) : Fin 2 → Nat :=
  let c128_i32_2183 : BitVec 32 := 128#32
  let v5128 : BitVec 32 := Scalar.muli v5127 c128_i32_2183
  let v5129 : BitVec 32 := v5128
  let v5140 : Index := Scalar.indexCast v5129
  let c0_2190 : Index := 0#32
  ![v5140.toNat, 0]
def k0_off237 (v5088 : BitVec 32) : Fin 2 → Nat :=
  let c128_i32_2159 : BitVec 32 := 128#32
  let v5089 : BitVec 32 := Scalar.muli v5088 c128_i32_2159
  let v5090 : BitVec 32 := v5089
  let v5152 : Index := Scalar.indexCast v5090
  let c512_2196 : Index := 512#32
  ![v5152.toNat, 512]
def k0_off238 (v5101 : BitVec 32) : Fin 2 → Nat :=
  let c128_i32_2167 : BitVec 32 := 128#32
  let v5102 : BitVec 32 := Scalar.muli v5101 c128_i32_2167
  let v5103 : BitVec 32 := v5102
  let v5154 : Index := Scalar.indexCast v5103
  let c512_2197 : Index := 512#32
  ![v5154.toNat, 512]
def k0_off239 (v5114 : BitVec 32) : Fin 2 → Nat :=
  let c128_i32_2175 : BitVec 32 := 128#32
  let v5115 : BitVec 32 := Scalar.muli v5114 c128_i32_2175
  let v5116 : BitVec 32 := v5115
  let v5156 : Index := Scalar.indexCast v5116
  let c512_2198 : Index := 512#32
  ![v5156.toNat, 512]
def k0_off240 (v5127 : BitVec 32) : Fin 2 → Nat :=
  let c128_i32_2183 : BitVec 32 := 128#32
  let v5128 : BitVec 32 := Scalar.muli v5127 c128_i32_2183
  let v5129 : BitVec 32 := v5128
  let v5158 : Index := Scalar.indexCast v5129
  let c512_2199 : Index := 512#32
  ![v5158.toNat, 512]
def k0_off241 (v5088 : BitVec 32) : Fin 2 → Nat :=
  let c128_i32_2159 : BitVec 32 := 128#32
  let v5089 : BitVec 32 := Scalar.muli v5088 c128_i32_2159
  let v5090 : BitVec 32 := v5089
  let v5170 : Index := Scalar.indexCast v5090
  let c1024_2205 : Index := 1024#32
  ![v5170.toNat, 1024]
def k0_off242 (v5101 : BitVec 32) : Fin 2 → Nat :=
  let c128_i32_2167 : BitVec 32 := 128#32
  let v5102 : BitVec 32 := Scalar.muli v5101 c128_i32_2167
  let v5103 : BitVec 32 := v5102
  let v5172 : Index := Scalar.indexCast v5103
  let c1024_2206 : Index := 1024#32
  ![v5172.toNat, 1024]
def k0_off243 (v5114 : BitVec 32) : Fin 2 → Nat :=
  let c128_i32_2175 : BitVec 32 := 128#32
  let v5115 : BitVec 32 := Scalar.muli v5114 c128_i32_2175
  let v5116 : BitVec 32 := v5115
  let v5174 : Index := Scalar.indexCast v5116
  let c1024_2207 : Index := 1024#32
  ![v5174.toNat, 1024]
def k0_off244 (v5127 : BitVec 32) : Fin 2 → Nat :=
  let c128_i32_2183 : BitVec 32 := 128#32
  let v5128 : BitVec 32 := Scalar.muli v5127 c128_i32_2183
  let v5129 : BitVec 32 := v5128
  let v5176 : Index := Scalar.indexCast v5129
  let c1024_2208 : Index := 1024#32
  ![v5176.toNat, 1024]
def k0_off245 (v5088 : BitVec 32) : Fin 2 → Nat :=
  let c128_i32_2159 : BitVec 32 := 128#32
  let v5089 : BitVec 32 := Scalar.muli v5088 c128_i32_2159
  let v5090 : BitVec 32 := v5089
  let v5191 : Index := Scalar.indexCast v5090
  let c1536_2219 : Index := 1536#32
  ![v5191.toNat, 1536]
def k0_off246 (v5101 : BitVec 32) : Fin 2 → Nat :=
  let c128_i32_2167 : BitVec 32 := 128#32
  let v5102 : BitVec 32 := Scalar.muli v5101 c128_i32_2167
  let v5103 : BitVec 32 := v5102
  let v5193 : Index := Scalar.indexCast v5103
  let c1536_2220 : Index := 1536#32
  ![v5193.toNat, 1536]
def k0_off247 (v5114 : BitVec 32) : Fin 2 → Nat :=
  let c128_i32_2175 : BitVec 32 := 128#32
  let v5115 : BitVec 32 := Scalar.muli v5114 c128_i32_2175
  let v5116 : BitVec 32 := v5115
  let v5195 : Index := Scalar.indexCast v5116
  let c1536_2221 : Index := 1536#32
  ![v5195.toNat, 1536]
def k0_off248 (v5127 : BitVec 32) : Fin 2 → Nat :=
  let c128_i32_2183 : BitVec 32 := 128#32
  let v5128 : BitVec 32 := Scalar.muli v5127 c128_i32_2183
  let v5129 : BitVec 32 := v5128
  let v5197 : Index := Scalar.indexCast v5129
  let c1536_2222 : Index := 1536#32
  ![v5197.toNat, 1536]
def k0_off249 (v5088 : BitVec 32) : Fin 2 → Nat :=
  let c128_i32_2159 : BitVec 32 := 128#32
  let v5089 : BitVec 32 := Scalar.muli v5088 c128_i32_2159
  let v5090 : BitVec 32 := v5089
  let v5209 : Index := Scalar.indexCast v5090
  let c2048_2228 : Index := 2048#32
  ![v5209.toNat, 2048]
def k0_off250 (v5101 : BitVec 32) : Fin 2 → Nat :=
  let c128_i32_2167 : BitVec 32 := 128#32
  let v5102 : BitVec 32 := Scalar.muli v5101 c128_i32_2167
  let v5103 : BitVec 32 := v5102
  let v5211 : Index := Scalar.indexCast v5103
  let c2048_2229 : Index := 2048#32
  ![v5211.toNat, 2048]
def k0_off251 (v5114 : BitVec 32) : Fin 2 → Nat :=
  let c128_i32_2175 : BitVec 32 := 128#32
  let v5115 : BitVec 32 := Scalar.muli v5114 c128_i32_2175
  let v5116 : BitVec 32 := v5115
  let v5213 : Index := Scalar.indexCast v5116
  let c2048_2230 : Index := 2048#32
  ![v5213.toNat, 2048]
def k0_off252 (v5127 : BitVec 32) : Fin 2 → Nat :=
  let c128_i32_2183 : BitVec 32 := 128#32
  let v5128 : BitVec 32 := Scalar.muli v5127 c128_i32_2183
  let v5129 : BitVec 32 := v5128
  let v5215 : Index := Scalar.indexCast v5129
  let c2048_2231 : Index := 2048#32
  ![v5215.toNat, 2048]
def k0_off253 (v5088 : BitVec 32) : Fin 2 → Nat :=
  let c128_i32_2159 : BitVec 32 := 128#32
  let v5089 : BitVec 32 := Scalar.muli v5088 c128_i32_2159
  let v5090 : BitVec 32 := v5089
  let v5227 : Index := Scalar.indexCast v5090
  let c2560_2237 : Index := 2560#32
  ![v5227.toNat, 2560]

def k0_chk37 (v5088 : BitVec 32) : Prop :=
  (128 ∣ (k0_mult29 v5088).toNat) ∧
  (∀ a, (k0_off233 v5088) a + S128x512.size a ≤ S640x3072.size a) ∧
  (∀ a, (k0_off237 v5088) a + S128x512.size a ≤ S640x3072.size a) ∧
  (∀ a, (k0_off241 v5088) a + S128x512.size a ≤ S640x3072.size a) ∧
  (∀ a, (k0_off245 v5088) a + S128x512.size a ≤ S640x3072.size a) ∧
  (∀ a, (k0_off249 v5088) a + S128x512.size a ≤ S640x3072.size a) ∧
  (∀ a, (k0_off253 v5088) a + S128x512.size a ≤ S640x3072.size a)
theorem k0_mult29_dvd : ∀ (v5088 : BitVec 32) (k0_hw37 : k0_chk37 v5088), 128 ∣ (k0_mult29 v5088).toNat := fun v5088 k0_hw37 => k0_hw37.1
theorem k0_off233_inb : ∀ (v5088 : BitVec 32) (k0_hw37 : k0_chk37 v5088), ∀ a, (k0_off233 v5088) a + S128x512.size a ≤ S640x3072.size a := fun v5088 k0_hw37 => k0_hw37.2.1
theorem k0_off237_inb : ∀ (v5088 : BitVec 32) (k0_hw37 : k0_chk37 v5088), ∀ a, (k0_off237 v5088) a + S128x512.size a ≤ S640x3072.size a := fun v5088 k0_hw37 => k0_hw37.2.2.1
theorem k0_off241_inb : ∀ (v5088 : BitVec 32) (k0_hw37 : k0_chk37 v5088), ∀ a, (k0_off241 v5088) a + S128x512.size a ≤ S640x3072.size a := fun v5088 k0_hw37 => k0_hw37.2.2.2.1
theorem k0_off245_inb : ∀ (v5088 : BitVec 32) (k0_hw37 : k0_chk37 v5088), ∀ a, (k0_off245 v5088) a + S128x512.size a ≤ S640x3072.size a := fun v5088 k0_hw37 => k0_hw37.2.2.2.2.1
theorem k0_off249_inb : ∀ (v5088 : BitVec 32) (k0_hw37 : k0_chk37 v5088), ∀ a, (k0_off249 v5088) a + S128x512.size a ≤ S640x3072.size a := fun v5088 k0_hw37 => k0_hw37.2.2.2.2.2.1
theorem k0_off253_inb : ∀ (v5088 : BitVec 32) (k0_hw37 : k0_chk37 v5088), ∀ a, (k0_off253 v5088) a + S128x512.size a ≤ S640x3072.size a := fun v5088 k0_hw37 => k0_hw37.2.2.2.2.2.2

def k0_off254 (v5101 : BitVec 32) : Fin 2 → Nat :=
  let c128_i32_2167 : BitVec 32 := 128#32
  let v5102 : BitVec 32 := Scalar.muli v5101 c128_i32_2167
  let v5103 : BitVec 32 := v5102
  let v5229 : Index := Scalar.indexCast v5103
  let c2560_2238 : Index := 2560#32
  ![v5229.toNat, 2560]

def k0_chk38 (v5101 : BitVec 32) : Prop :=
  (128 ∣ (k0_mult30 v5101).toNat) ∧
  (∀ a, (k0_off234 v5101) a + S128x512.size a ≤ S640x3072.size a) ∧
  (∀ a, (k0_off238 v5101) a + S128x512.size a ≤ S640x3072.size a) ∧
  (∀ a, (k0_off242 v5101) a + S128x512.size a ≤ S640x3072.size a) ∧
  (∀ a, (k0_off246 v5101) a + S128x512.size a ≤ S640x3072.size a) ∧
  (∀ a, (k0_off250 v5101) a + S128x512.size a ≤ S640x3072.size a) ∧
  (∀ a, (k0_off254 v5101) a + S128x512.size a ≤ S640x3072.size a)
theorem k0_mult30_dvd : ∀ (v5101 : BitVec 32) (k0_hw38 : k0_chk38 v5101), 128 ∣ (k0_mult30 v5101).toNat := fun v5101 k0_hw38 => k0_hw38.1
theorem k0_off234_inb : ∀ (v5101 : BitVec 32) (k0_hw38 : k0_chk38 v5101), ∀ a, (k0_off234 v5101) a + S128x512.size a ≤ S640x3072.size a := fun v5101 k0_hw38 => k0_hw38.2.1
theorem k0_off238_inb : ∀ (v5101 : BitVec 32) (k0_hw38 : k0_chk38 v5101), ∀ a, (k0_off238 v5101) a + S128x512.size a ≤ S640x3072.size a := fun v5101 k0_hw38 => k0_hw38.2.2.1
theorem k0_off242_inb : ∀ (v5101 : BitVec 32) (k0_hw38 : k0_chk38 v5101), ∀ a, (k0_off242 v5101) a + S128x512.size a ≤ S640x3072.size a := fun v5101 k0_hw38 => k0_hw38.2.2.2.1
theorem k0_off246_inb : ∀ (v5101 : BitVec 32) (k0_hw38 : k0_chk38 v5101), ∀ a, (k0_off246 v5101) a + S128x512.size a ≤ S640x3072.size a := fun v5101 k0_hw38 => k0_hw38.2.2.2.2.1
theorem k0_off250_inb : ∀ (v5101 : BitVec 32) (k0_hw38 : k0_chk38 v5101), ∀ a, (k0_off250 v5101) a + S128x512.size a ≤ S640x3072.size a := fun v5101 k0_hw38 => k0_hw38.2.2.2.2.2.1
theorem k0_off254_inb : ∀ (v5101 : BitVec 32) (k0_hw38 : k0_chk38 v5101), ∀ a, (k0_off254 v5101) a + S128x512.size a ≤ S640x3072.size a := fun v5101 k0_hw38 => k0_hw38.2.2.2.2.2.2

def k0_off255 (v5114 : BitVec 32) : Fin 2 → Nat :=
  let c128_i32_2175 : BitVec 32 := 128#32
  let v5115 : BitVec 32 := Scalar.muli v5114 c128_i32_2175
  let v5116 : BitVec 32 := v5115
  let v5231 : Index := Scalar.indexCast v5116
  let c2560_2239 : Index := 2560#32
  ![v5231.toNat, 2560]

def k0_chk39 (v5114 : BitVec 32) : Prop :=
  (128 ∣ (k0_mult31 v5114).toNat) ∧
  (∀ a, (k0_off235 v5114) a + S128x512.size a ≤ S640x3072.size a) ∧
  (∀ a, (k0_off239 v5114) a + S128x512.size a ≤ S640x3072.size a) ∧
  (∀ a, (k0_off243 v5114) a + S128x512.size a ≤ S640x3072.size a) ∧
  (∀ a, (k0_off247 v5114) a + S128x512.size a ≤ S640x3072.size a) ∧
  (∀ a, (k0_off251 v5114) a + S128x512.size a ≤ S640x3072.size a) ∧
  (∀ a, (k0_off255 v5114) a + S128x512.size a ≤ S640x3072.size a)
theorem k0_mult31_dvd : ∀ (v5114 : BitVec 32) (k0_hw39 : k0_chk39 v5114), 128 ∣ (k0_mult31 v5114).toNat := fun v5114 k0_hw39 => k0_hw39.1
theorem k0_off235_inb : ∀ (v5114 : BitVec 32) (k0_hw39 : k0_chk39 v5114), ∀ a, (k0_off235 v5114) a + S128x512.size a ≤ S640x3072.size a := fun v5114 k0_hw39 => k0_hw39.2.1
theorem k0_off239_inb : ∀ (v5114 : BitVec 32) (k0_hw39 : k0_chk39 v5114), ∀ a, (k0_off239 v5114) a + S128x512.size a ≤ S640x3072.size a := fun v5114 k0_hw39 => k0_hw39.2.2.1
theorem k0_off243_inb : ∀ (v5114 : BitVec 32) (k0_hw39 : k0_chk39 v5114), ∀ a, (k0_off243 v5114) a + S128x512.size a ≤ S640x3072.size a := fun v5114 k0_hw39 => k0_hw39.2.2.2.1
theorem k0_off247_inb : ∀ (v5114 : BitVec 32) (k0_hw39 : k0_chk39 v5114), ∀ a, (k0_off247 v5114) a + S128x512.size a ≤ S640x3072.size a := fun v5114 k0_hw39 => k0_hw39.2.2.2.2.1
theorem k0_off251_inb : ∀ (v5114 : BitVec 32) (k0_hw39 : k0_chk39 v5114), ∀ a, (k0_off251 v5114) a + S128x512.size a ≤ S640x3072.size a := fun v5114 k0_hw39 => k0_hw39.2.2.2.2.2.1
theorem k0_off255_inb : ∀ (v5114 : BitVec 32) (k0_hw39 : k0_chk39 v5114), ∀ a, (k0_off255 v5114) a + S128x512.size a ≤ S640x3072.size a := fun v5114 k0_hw39 => k0_hw39.2.2.2.2.2.2

def k0_off256 (v5127 : BitVec 32) : Fin 2 → Nat :=
  let c128_i32_2183 : BitVec 32 := 128#32
  let v5128 : BitVec 32 := Scalar.muli v5127 c128_i32_2183
  let v5129 : BitVec 32 := v5128
  let v5233 : Index := Scalar.indexCast v5129
  let c2560_2240 : Index := 2560#32
  ![v5233.toNat, 2560]

def k0_chk40 (v5127 : BitVec 32) : Prop :=
  (128 ∣ (k0_mult32 v5127).toNat) ∧
  (∀ a, (k0_off236 v5127) a + S128x512.size a ≤ S640x3072.size a) ∧
  (∀ a, (k0_off240 v5127) a + S128x512.size a ≤ S640x3072.size a) ∧
  (∀ a, (k0_off244 v5127) a + S128x512.size a ≤ S640x3072.size a) ∧
  (∀ a, (k0_off248 v5127) a + S128x512.size a ≤ S640x3072.size a) ∧
  (∀ a, (k0_off252 v5127) a + S128x512.size a ≤ S640x3072.size a) ∧
  (∀ a, (k0_off256 v5127) a + S128x512.size a ≤ S640x3072.size a)
theorem k0_mult32_dvd : ∀ (v5127 : BitVec 32) (k0_hw40 : k0_chk40 v5127), 128 ∣ (k0_mult32 v5127).toNat := fun v5127 k0_hw40 => k0_hw40.1
theorem k0_off236_inb : ∀ (v5127 : BitVec 32) (k0_hw40 : k0_chk40 v5127), ∀ a, (k0_off236 v5127) a + S128x512.size a ≤ S640x3072.size a := fun v5127 k0_hw40 => k0_hw40.2.1
theorem k0_off240_inb : ∀ (v5127 : BitVec 32) (k0_hw40 : k0_chk40 v5127), ∀ a, (k0_off240 v5127) a + S128x512.size a ≤ S640x3072.size a := fun v5127 k0_hw40 => k0_hw40.2.2.1
theorem k0_off244_inb : ∀ (v5127 : BitVec 32) (k0_hw40 : k0_chk40 v5127), ∀ a, (k0_off244 v5127) a + S128x512.size a ≤ S640x3072.size a := fun v5127 k0_hw40 => k0_hw40.2.2.2.1
theorem k0_off248_inb : ∀ (v5127 : BitVec 32) (k0_hw40 : k0_chk40 v5127), ∀ a, (k0_off248 v5127) a + S128x512.size a ≤ S640x3072.size a := fun v5127 k0_hw40 => k0_hw40.2.2.2.2.1
theorem k0_off252_inb : ∀ (v5127 : BitVec 32) (k0_hw40 : k0_chk40 v5127), ∀ a, (k0_off252 v5127) a + S128x512.size a ≤ S640x3072.size a := fun v5127 k0_hw40 => k0_hw40.2.2.2.2.2.1
theorem k0_off256_inb : ∀ (v5127 : BitVec 32) (k0_hw40 : k0_chk40 v5127), ∀ a, (k0_off256 v5127) a + S128x512.size a ≤ S640x3072.size a := fun v5127 k0_hw40 => k0_hw40.2.2.2.2.2.2

def k0_off257 (v5505 : BitVec 32) (v5506 : BitVec 32) : Fin 3 → Nat :=
  let c0_i32_2347 : BitVec 32 := 0#32
  let v5507 : BitVec 32 := Scalar.addi v5505 c0_i32_2347
  let v5508 : BitVec 1 := Scalar.cmpi .slt v5507 v5506
  let c0_i32_2348 : BitVec 32 := 0#32
  let v5509 : BitVec 32 := Scalar.addi v5505 c0_i32_2348
  let c19_i32_2349 : BitVec 32 := 19#32
  let v5510 : BitVec 32 := Scalar.minsi v5505 c19_i32_2349
  let v5511 : BitVec 32 := Scalar.select v5508 v5509 v5510
  let c20_i32_2350 : BitVec 32 := 20#32
  let v5512 : BitVec 32 := Scalar.select v5508 v5511 c20_i32_2350
  let v5513 : Index := Scalar.indexCast v5512
  let c0_2351 : Index := 0#32
  let c0_2352 : Index := 0#32
  ![v5513.toNat, 0, 0]

def k0_off258 (v5505 : BitVec 32) (v5506 : BitVec 32) : Fin 2 → Nat :=
  let c1_2353 : Index := 1#32
  let c0_i32_2347 : BitVec 32 := 0#32
  let v5507 : BitVec 32 := Scalar.addi v5505 c0_i32_2347
  let v5508 : BitVec 1 := Scalar.cmpi .slt v5507 v5506
  let c0_i32_2348 : BitVec 32 := 0#32
  let v5509 : BitVec 32 := Scalar.addi v5505 c0_i32_2348
  let c19_i32_2349 : BitVec 32 := 19#32
  let v5510 : BitVec 32 := Scalar.minsi v5505 c19_i32_2349
  let v5511 : BitVec 32 := Scalar.select v5508 v5509 v5510
  let v5516 : Index := Scalar.indexCast v5511
  ![1, v5516.toNat]
def k0_mult33 (v5517 : BitVec 32) : BitVec 32 :=
  let c128_i32_2354 : BitVec 32 := 128#32
  let v5518 : BitVec 32 := Scalar.muli v5517 c128_i32_2354
  v5518

def k0_off259 (v5505 : BitVec 32) (v5506 : BitVec 32) : Fin 3 → Nat :=
  let c1_i32_2355 : BitVec 32 := 1#32
  let v5520 : BitVec 32 := Scalar.addi v5505 c1_i32_2355
  let v5521 : BitVec 1 := Scalar.cmpi .slt v5520 v5506
  let c1_i32_2356 : BitVec 32 := 1#32
  let v5522 : BitVec 32 := Scalar.addi v5505 c1_i32_2356
  let c19_i32_2357 : BitVec 32 := 19#32
  let v5523 : BitVec 32 := Scalar.minsi v5505 c19_i32_2357
  let v5524 : BitVec 32 := Scalar.select v5521 v5522 v5523
  let c20_i32_2358 : BitVec 32 := 20#32
  let v5525 : BitVec 32 := Scalar.select v5521 v5524 c20_i32_2358
  let v5526 : Index := Scalar.indexCast v5525
  let c0_2359 : Index := 0#32
  let c0_2360 : Index := 0#32
  ![v5526.toNat, 0, 0]
def k0_off260 (v5505 : BitVec 32) (v5506 : BitVec 32) : Fin 2 → Nat :=
  let c1_2361 : Index := 1#32
  let c1_i32_2355 : BitVec 32 := 1#32
  let v5520 : BitVec 32 := Scalar.addi v5505 c1_i32_2355
  let v5521 : BitVec 1 := Scalar.cmpi .slt v5520 v5506
  let c1_i32_2356 : BitVec 32 := 1#32
  let v5522 : BitVec 32 := Scalar.addi v5505 c1_i32_2356
  let c19_i32_2357 : BitVec 32 := 19#32
  let v5523 : BitVec 32 := Scalar.minsi v5505 c19_i32_2357
  let v5524 : BitVec 32 := Scalar.select v5521 v5522 v5523
  let v5529 : Index := Scalar.indexCast v5524
  ![1, v5529.toNat]
def k0_mult34 (v5530 : BitVec 32) : BitVec 32 :=
  let c128_i32_2362 : BitVec 32 := 128#32
  let v5531 : BitVec 32 := Scalar.muli v5530 c128_i32_2362
  v5531

def k0_off261 (v5505 : BitVec 32) (v5506 : BitVec 32) : Fin 3 → Nat :=
  let c2_i32_2363 : BitVec 32 := 2#32
  let v5533 : BitVec 32 := Scalar.addi v5505 c2_i32_2363
  let v5534 : BitVec 1 := Scalar.cmpi .slt v5533 v5506
  let c2_i32_2364 : BitVec 32 := 2#32
  let v5535 : BitVec 32 := Scalar.addi v5505 c2_i32_2364
  let c19_i32_2365 : BitVec 32 := 19#32
  let v5536 : BitVec 32 := Scalar.minsi v5505 c19_i32_2365
  let v5537 : BitVec 32 := Scalar.select v5534 v5535 v5536
  let c20_i32_2366 : BitVec 32 := 20#32
  let v5538 : BitVec 32 := Scalar.select v5534 v5537 c20_i32_2366
  let v5539 : Index := Scalar.indexCast v5538
  let c0_2367 : Index := 0#32
  let c0_2368 : Index := 0#32
  ![v5539.toNat, 0, 0]
def k0_off262 (v5505 : BitVec 32) (v5506 : BitVec 32) : Fin 2 → Nat :=
  let c1_2369 : Index := 1#32
  let c2_i32_2363 : BitVec 32 := 2#32
  let v5533 : BitVec 32 := Scalar.addi v5505 c2_i32_2363
  let v5534 : BitVec 1 := Scalar.cmpi .slt v5533 v5506
  let c2_i32_2364 : BitVec 32 := 2#32
  let v5535 : BitVec 32 := Scalar.addi v5505 c2_i32_2364
  let c19_i32_2365 : BitVec 32 := 19#32
  let v5536 : BitVec 32 := Scalar.minsi v5505 c19_i32_2365
  let v5537 : BitVec 32 := Scalar.select v5534 v5535 v5536
  let v5542 : Index := Scalar.indexCast v5537
  ![1, v5542.toNat]
def k0_mult35 (v5543 : BitVec 32) : BitVec 32 :=
  let c128_i32_2370 : BitVec 32 := 128#32
  let v5544 : BitVec 32 := Scalar.muli v5543 c128_i32_2370
  v5544

def k0_off263 (v5505 : BitVec 32) (v5506 : BitVec 32) : Fin 3 → Nat :=
  let c3_i32_2371 : BitVec 32 := 3#32
  let v5546 : BitVec 32 := Scalar.addi v5505 c3_i32_2371
  let v5547 : BitVec 1 := Scalar.cmpi .slt v5546 v5506
  let c3_i32_2372 : BitVec 32 := 3#32
  let v5548 : BitVec 32 := Scalar.addi v5505 c3_i32_2372
  let c19_i32_2373 : BitVec 32 := 19#32
  let v5549 : BitVec 32 := Scalar.minsi v5505 c19_i32_2373
  let v5550 : BitVec 32 := Scalar.select v5547 v5548 v5549
  let c20_i32_2374 : BitVec 32 := 20#32
  let v5551 : BitVec 32 := Scalar.select v5547 v5550 c20_i32_2374
  let v5552 : Index := Scalar.indexCast v5551
  let c0_2375 : Index := 0#32
  let c0_2376 : Index := 0#32
  ![v5552.toNat, 0, 0]
def k0_off264 (v5505 : BitVec 32) (v5506 : BitVec 32) : Fin 2 → Nat :=
  let c1_2377 : Index := 1#32
  let c3_i32_2371 : BitVec 32 := 3#32
  let v5546 : BitVec 32 := Scalar.addi v5505 c3_i32_2371
  let v5547 : BitVec 1 := Scalar.cmpi .slt v5546 v5506
  let c3_i32_2372 : BitVec 32 := 3#32
  let v5548 : BitVec 32 := Scalar.addi v5505 c3_i32_2372
  let c19_i32_2373 : BitVec 32 := 19#32
  let v5549 : BitVec 32 := Scalar.minsi v5505 c19_i32_2373
  let v5550 : BitVec 32 := Scalar.select v5547 v5548 v5549
  let v5555 : Index := Scalar.indexCast v5550
  ![1, v5555.toNat]

def k0_chk41 (v5505 : BitVec 32) (v5506 : BitVec 32) : Prop :=
  (∀ a, (k0_off257 v5505 v5506) a + S1x128x128.size a ≤ S21x128x128.size a) ∧
  (∀ a, (k0_off258 v5505 v5506) a + S1x1.size a ≤ S3x20.size a) ∧
  (∀ a, (k0_off259 v5505 v5506) a + S1x128x128.size a ≤ S21x128x128.size a) ∧
  (∀ a, (k0_off260 v5505 v5506) a + S1x1.size a ≤ S3x20.size a) ∧
  (∀ a, (k0_off261 v5505 v5506) a + S1x128x128.size a ≤ S21x128x128.size a) ∧
  (∀ a, (k0_off262 v5505 v5506) a + S1x1.size a ≤ S3x20.size a) ∧
  (∀ a, (k0_off263 v5505 v5506) a + S1x128x128.size a ≤ S21x128x128.size a) ∧
  (∀ a, (k0_off264 v5505 v5506) a + S1x1.size a ≤ S3x20.size a)
theorem k0_off257_inb : ∀ (v5505 : BitVec 32) (v5506 : BitVec 32) (k0_hw41 : k0_chk41 v5505 v5506), ∀ a, (k0_off257 v5505 v5506) a + S1x128x128.size a ≤ S21x128x128.size a := fun v5505 v5506 k0_hw41 => k0_hw41.1
theorem k0_off258_inb : ∀ (v5505 : BitVec 32) (v5506 : BitVec 32) (k0_hw41 : k0_chk41 v5505 v5506), ∀ a, (k0_off258 v5505 v5506) a + S1x1.size a ≤ S3x20.size a := fun v5505 v5506 k0_hw41 => k0_hw41.2.1
theorem k0_off259_inb : ∀ (v5505 : BitVec 32) (v5506 : BitVec 32) (k0_hw41 : k0_chk41 v5505 v5506), ∀ a, (k0_off259 v5505 v5506) a + S1x128x128.size a ≤ S21x128x128.size a := fun v5505 v5506 k0_hw41 => k0_hw41.2.2.1
theorem k0_off260_inb : ∀ (v5505 : BitVec 32) (v5506 : BitVec 32) (k0_hw41 : k0_chk41 v5505 v5506), ∀ a, (k0_off260 v5505 v5506) a + S1x1.size a ≤ S3x20.size a := fun v5505 v5506 k0_hw41 => k0_hw41.2.2.2.1
theorem k0_off261_inb : ∀ (v5505 : BitVec 32) (v5506 : BitVec 32) (k0_hw41 : k0_chk41 v5505 v5506), ∀ a, (k0_off261 v5505 v5506) a + S1x128x128.size a ≤ S21x128x128.size a := fun v5505 v5506 k0_hw41 => k0_hw41.2.2.2.2.1
theorem k0_off262_inb : ∀ (v5505 : BitVec 32) (v5506 : BitVec 32) (k0_hw41 : k0_chk41 v5505 v5506), ∀ a, (k0_off262 v5505 v5506) a + S1x1.size a ≤ S3x20.size a := fun v5505 v5506 k0_hw41 => k0_hw41.2.2.2.2.2.1
theorem k0_off263_inb : ∀ (v5505 : BitVec 32) (v5506 : BitVec 32) (k0_hw41 : k0_chk41 v5505 v5506), ∀ a, (k0_off263 v5505 v5506) a + S1x128x128.size a ≤ S21x128x128.size a := fun v5505 v5506 k0_hw41 => k0_hw41.2.2.2.2.2.2.1
theorem k0_off264_inb : ∀ (v5505 : BitVec 32) (v5506 : BitVec 32) (k0_hw41 : k0_chk41 v5505 v5506), ∀ a, (k0_off264 v5505 v5506) a + S1x1.size a ≤ S3x20.size a := fun v5505 v5506 k0_hw41 => k0_hw41.2.2.2.2.2.2.2

def k0_mult36 (v5556 : BitVec 32) : BitVec 32 :=
  let c128_i32_2378 : BitVec 32 := 128#32
  let v5557 : BitVec 32 := Scalar.muli v5556 c128_i32_2378
  v5557

def k0_off265 (v5517 : BitVec 32) : Fin 2 → Nat :=
  let c128_i32_2354 : BitVec 32 := 128#32
  let v5518 : BitVec 32 := Scalar.muli v5517 c128_i32_2354
  let v5519 : BitVec 32 := v5518
  let v5563 : Index := Scalar.indexCast v5519
  let c0_2382 : Index := 0#32
  ![v5563.toNat, 0]
def k0_off266 (v5530 : BitVec 32) : Fin 2 → Nat :=
  let c128_i32_2362 : BitVec 32 := 128#32
  let v5531 : BitVec 32 := Scalar.muli v5530 c128_i32_2362
  let v5532 : BitVec 32 := v5531
  let v5565 : Index := Scalar.indexCast v5532
  let c0_2383 : Index := 0#32
  ![v5565.toNat, 0]
def k0_off267 (v5543 : BitVec 32) : Fin 2 → Nat :=
  let c128_i32_2370 : BitVec 32 := 128#32
  let v5544 : BitVec 32 := Scalar.muli v5543 c128_i32_2370
  let v5545 : BitVec 32 := v5544
  let v5567 : Index := Scalar.indexCast v5545
  let c0_2384 : Index := 0#32
  ![v5567.toNat, 0]
def k0_off268 (v5556 : BitVec 32) : Fin 2 → Nat :=
  let c128_i32_2378 : BitVec 32 := 128#32
  let v5557 : BitVec 32 := Scalar.muli v5556 c128_i32_2378
  let v5558 : BitVec 32 := v5557
  let v5569 : Index := Scalar.indexCast v5558
  let c0_2385 : Index := 0#32
  ![v5569.toNat, 0]
def k0_off269 (v5517 : BitVec 32) : Fin 2 → Nat :=
  let c128_i32_2354 : BitVec 32 := 128#32
  let v5518 : BitVec 32 := Scalar.muli v5517 c128_i32_2354
  let v5519 : BitVec 32 := v5518
  let v5581 : Index := Scalar.indexCast v5519
  let c512_2391 : Index := 512#32
  ![v5581.toNat, 512]
def k0_off270 (v5530 : BitVec 32) : Fin 2 → Nat :=
  let c128_i32_2362 : BitVec 32 := 128#32
  let v5531 : BitVec 32 := Scalar.muli v5530 c128_i32_2362
  let v5532 : BitVec 32 := v5531
  let v5583 : Index := Scalar.indexCast v5532
  let c512_2392 : Index := 512#32
  ![v5583.toNat, 512]
def k0_off271 (v5543 : BitVec 32) : Fin 2 → Nat :=
  let c128_i32_2370 : BitVec 32 := 128#32
  let v5544 : BitVec 32 := Scalar.muli v5543 c128_i32_2370
  let v5545 : BitVec 32 := v5544
  let v5585 : Index := Scalar.indexCast v5545
  let c512_2393 : Index := 512#32
  ![v5585.toNat, 512]
def k0_off272 (v5556 : BitVec 32) : Fin 2 → Nat :=
  let c128_i32_2378 : BitVec 32 := 128#32
  let v5557 : BitVec 32 := Scalar.muli v5556 c128_i32_2378
  let v5558 : BitVec 32 := v5557
  let v5587 : Index := Scalar.indexCast v5558
  let c512_2394 : Index := 512#32
  ![v5587.toNat, 512]
def k0_off273 (v5517 : BitVec 32) : Fin 2 → Nat :=
  let c128_i32_2354 : BitVec 32 := 128#32
  let v5518 : BitVec 32 := Scalar.muli v5517 c128_i32_2354
  let v5519 : BitVec 32 := v5518
  let v5599 : Index := Scalar.indexCast v5519
  let c1024_2400 : Index := 1024#32
  ![v5599.toNat, 1024]
def k0_off274 (v5530 : BitVec 32) : Fin 2 → Nat :=
  let c128_i32_2362 : BitVec 32 := 128#32
  let v5531 : BitVec 32 := Scalar.muli v5530 c128_i32_2362
  let v5532 : BitVec 32 := v5531
  let v5601 : Index := Scalar.indexCast v5532
  let c1024_2401 : Index := 1024#32
  ![v5601.toNat, 1024]
def k0_off275 (v5543 : BitVec 32) : Fin 2 → Nat :=
  let c128_i32_2370 : BitVec 32 := 128#32
  let v5544 : BitVec 32 := Scalar.muli v5543 c128_i32_2370
  let v5545 : BitVec 32 := v5544
  let v5603 : Index := Scalar.indexCast v5545
  let c1024_2402 : Index := 1024#32
  ![v5603.toNat, 1024]
def k0_off276 (v5556 : BitVec 32) : Fin 2 → Nat :=
  let c128_i32_2378 : BitVec 32 := 128#32
  let v5557 : BitVec 32 := Scalar.muli v5556 c128_i32_2378
  let v5558 : BitVec 32 := v5557
  let v5605 : Index := Scalar.indexCast v5558
  let c1024_2403 : Index := 1024#32
  ![v5605.toNat, 1024]
def k0_off277 (v5517 : BitVec 32) : Fin 2 → Nat :=
  let c128_i32_2354 : BitVec 32 := 128#32
  let v5518 : BitVec 32 := Scalar.muli v5517 c128_i32_2354
  let v5519 : BitVec 32 := v5518
  let v5620 : Index := Scalar.indexCast v5519
  let c1536_2414 : Index := 1536#32
  ![v5620.toNat, 1536]
def k0_off278 (v5530 : BitVec 32) : Fin 2 → Nat :=
  let c128_i32_2362 : BitVec 32 := 128#32
  let v5531 : BitVec 32 := Scalar.muli v5530 c128_i32_2362
  let v5532 : BitVec 32 := v5531
  let v5622 : Index := Scalar.indexCast v5532
  let c1536_2415 : Index := 1536#32
  ![v5622.toNat, 1536]
def k0_off279 (v5543 : BitVec 32) : Fin 2 → Nat :=
  let c128_i32_2370 : BitVec 32 := 128#32
  let v5544 : BitVec 32 := Scalar.muli v5543 c128_i32_2370
  let v5545 : BitVec 32 := v5544
  let v5624 : Index := Scalar.indexCast v5545
  let c1536_2416 : Index := 1536#32
  ![v5624.toNat, 1536]
def k0_off280 (v5556 : BitVec 32) : Fin 2 → Nat :=
  let c128_i32_2378 : BitVec 32 := 128#32
  let v5557 : BitVec 32 := Scalar.muli v5556 c128_i32_2378
  let v5558 : BitVec 32 := v5557
  let v5626 : Index := Scalar.indexCast v5558
  let c1536_2417 : Index := 1536#32
  ![v5626.toNat, 1536]
def k0_off281 (v5517 : BitVec 32) : Fin 2 → Nat :=
  let c128_i32_2354 : BitVec 32 := 128#32
  let v5518 : BitVec 32 := Scalar.muli v5517 c128_i32_2354
  let v5519 : BitVec 32 := v5518
  let v5638 : Index := Scalar.indexCast v5519
  let c2048_2423 : Index := 2048#32
  ![v5638.toNat, 2048]
def k0_off282 (v5530 : BitVec 32) : Fin 2 → Nat :=
  let c128_i32_2362 : BitVec 32 := 128#32
  let v5531 : BitVec 32 := Scalar.muli v5530 c128_i32_2362
  let v5532 : BitVec 32 := v5531
  let v5640 : Index := Scalar.indexCast v5532
  let c2048_2424 : Index := 2048#32
  ![v5640.toNat, 2048]
def k0_off283 (v5543 : BitVec 32) : Fin 2 → Nat :=
  let c128_i32_2370 : BitVec 32 := 128#32
  let v5544 : BitVec 32 := Scalar.muli v5543 c128_i32_2370
  let v5545 : BitVec 32 := v5544
  let v5642 : Index := Scalar.indexCast v5545
  let c2048_2425 : Index := 2048#32
  ![v5642.toNat, 2048]
def k0_off284 (v5556 : BitVec 32) : Fin 2 → Nat :=
  let c128_i32_2378 : BitVec 32 := 128#32
  let v5557 : BitVec 32 := Scalar.muli v5556 c128_i32_2378
  let v5558 : BitVec 32 := v5557
  let v5644 : Index := Scalar.indexCast v5558
  let c2048_2426 : Index := 2048#32
  ![v5644.toNat, 2048]
def k0_off285 (v5517 : BitVec 32) : Fin 2 → Nat :=
  let c128_i32_2354 : BitVec 32 := 128#32
  let v5518 : BitVec 32 := Scalar.muli v5517 c128_i32_2354
  let v5519 : BitVec 32 := v5518
  let v5656 : Index := Scalar.indexCast v5519
  let c2560_2432 : Index := 2560#32
  ![v5656.toNat, 2560]

def k0_chk42 (v5517 : BitVec 32) : Prop :=
  (128 ∣ (k0_mult33 v5517).toNat) ∧
  (∀ a, (k0_off265 v5517) a + S128x512.size a ≤ S640x3072.size a) ∧
  (∀ a, (k0_off269 v5517) a + S128x512.size a ≤ S640x3072.size a) ∧
  (∀ a, (k0_off273 v5517) a + S128x512.size a ≤ S640x3072.size a) ∧
  (∀ a, (k0_off277 v5517) a + S128x512.size a ≤ S640x3072.size a) ∧
  (∀ a, (k0_off281 v5517) a + S128x512.size a ≤ S640x3072.size a) ∧
  (∀ a, (k0_off285 v5517) a + S128x512.size a ≤ S640x3072.size a)
theorem k0_mult33_dvd : ∀ (v5517 : BitVec 32) (k0_hw42 : k0_chk42 v5517), 128 ∣ (k0_mult33 v5517).toNat := fun v5517 k0_hw42 => k0_hw42.1
theorem k0_off265_inb : ∀ (v5517 : BitVec 32) (k0_hw42 : k0_chk42 v5517), ∀ a, (k0_off265 v5517) a + S128x512.size a ≤ S640x3072.size a := fun v5517 k0_hw42 => k0_hw42.2.1
theorem k0_off269_inb : ∀ (v5517 : BitVec 32) (k0_hw42 : k0_chk42 v5517), ∀ a, (k0_off269 v5517) a + S128x512.size a ≤ S640x3072.size a := fun v5517 k0_hw42 => k0_hw42.2.2.1
theorem k0_off273_inb : ∀ (v5517 : BitVec 32) (k0_hw42 : k0_chk42 v5517), ∀ a, (k0_off273 v5517) a + S128x512.size a ≤ S640x3072.size a := fun v5517 k0_hw42 => k0_hw42.2.2.2.1
theorem k0_off277_inb : ∀ (v5517 : BitVec 32) (k0_hw42 : k0_chk42 v5517), ∀ a, (k0_off277 v5517) a + S128x512.size a ≤ S640x3072.size a := fun v5517 k0_hw42 => k0_hw42.2.2.2.2.1
theorem k0_off281_inb : ∀ (v5517 : BitVec 32) (k0_hw42 : k0_chk42 v5517), ∀ a, (k0_off281 v5517) a + S128x512.size a ≤ S640x3072.size a := fun v5517 k0_hw42 => k0_hw42.2.2.2.2.2.1
theorem k0_off285_inb : ∀ (v5517 : BitVec 32) (k0_hw42 : k0_chk42 v5517), ∀ a, (k0_off285 v5517) a + S128x512.size a ≤ S640x3072.size a := fun v5517 k0_hw42 => k0_hw42.2.2.2.2.2.2

def k0_off286 (v5530 : BitVec 32) : Fin 2 → Nat :=
  let c128_i32_2362 : BitVec 32 := 128#32
  let v5531 : BitVec 32 := Scalar.muli v5530 c128_i32_2362
  let v5532 : BitVec 32 := v5531
  let v5658 : Index := Scalar.indexCast v5532
  let c2560_2433 : Index := 2560#32
  ![v5658.toNat, 2560]

def k0_chk43 (v5530 : BitVec 32) : Prop :=
  (128 ∣ (k0_mult34 v5530).toNat) ∧
  (∀ a, (k0_off266 v5530) a + S128x512.size a ≤ S640x3072.size a) ∧
  (∀ a, (k0_off270 v5530) a + S128x512.size a ≤ S640x3072.size a) ∧
  (∀ a, (k0_off274 v5530) a + S128x512.size a ≤ S640x3072.size a) ∧
  (∀ a, (k0_off278 v5530) a + S128x512.size a ≤ S640x3072.size a) ∧
  (∀ a, (k0_off282 v5530) a + S128x512.size a ≤ S640x3072.size a) ∧
  (∀ a, (k0_off286 v5530) a + S128x512.size a ≤ S640x3072.size a)
theorem k0_mult34_dvd : ∀ (v5530 : BitVec 32) (k0_hw43 : k0_chk43 v5530), 128 ∣ (k0_mult34 v5530).toNat := fun v5530 k0_hw43 => k0_hw43.1
theorem k0_off266_inb : ∀ (v5530 : BitVec 32) (k0_hw43 : k0_chk43 v5530), ∀ a, (k0_off266 v5530) a + S128x512.size a ≤ S640x3072.size a := fun v5530 k0_hw43 => k0_hw43.2.1
theorem k0_off270_inb : ∀ (v5530 : BitVec 32) (k0_hw43 : k0_chk43 v5530), ∀ a, (k0_off270 v5530) a + S128x512.size a ≤ S640x3072.size a := fun v5530 k0_hw43 => k0_hw43.2.2.1
theorem k0_off274_inb : ∀ (v5530 : BitVec 32) (k0_hw43 : k0_chk43 v5530), ∀ a, (k0_off274 v5530) a + S128x512.size a ≤ S640x3072.size a := fun v5530 k0_hw43 => k0_hw43.2.2.2.1
theorem k0_off278_inb : ∀ (v5530 : BitVec 32) (k0_hw43 : k0_chk43 v5530), ∀ a, (k0_off278 v5530) a + S128x512.size a ≤ S640x3072.size a := fun v5530 k0_hw43 => k0_hw43.2.2.2.2.1
theorem k0_off282_inb : ∀ (v5530 : BitVec 32) (k0_hw43 : k0_chk43 v5530), ∀ a, (k0_off282 v5530) a + S128x512.size a ≤ S640x3072.size a := fun v5530 k0_hw43 => k0_hw43.2.2.2.2.2.1
theorem k0_off286_inb : ∀ (v5530 : BitVec 32) (k0_hw43 : k0_chk43 v5530), ∀ a, (k0_off286 v5530) a + S128x512.size a ≤ S640x3072.size a := fun v5530 k0_hw43 => k0_hw43.2.2.2.2.2.2

def k0_off287 (v5543 : BitVec 32) : Fin 2 → Nat :=
  let c128_i32_2370 : BitVec 32 := 128#32
  let v5544 : BitVec 32 := Scalar.muli v5543 c128_i32_2370
  let v5545 : BitVec 32 := v5544
  let v5660 : Index := Scalar.indexCast v5545
  let c2560_2434 : Index := 2560#32
  ![v5660.toNat, 2560]

def k0_chk44 (v5543 : BitVec 32) : Prop :=
  (128 ∣ (k0_mult35 v5543).toNat) ∧
  (∀ a, (k0_off267 v5543) a + S128x512.size a ≤ S640x3072.size a) ∧
  (∀ a, (k0_off271 v5543) a + S128x512.size a ≤ S640x3072.size a) ∧
  (∀ a, (k0_off275 v5543) a + S128x512.size a ≤ S640x3072.size a) ∧
  (∀ a, (k0_off279 v5543) a + S128x512.size a ≤ S640x3072.size a) ∧
  (∀ a, (k0_off283 v5543) a + S128x512.size a ≤ S640x3072.size a) ∧
  (∀ a, (k0_off287 v5543) a + S128x512.size a ≤ S640x3072.size a)
theorem k0_mult35_dvd : ∀ (v5543 : BitVec 32) (k0_hw44 : k0_chk44 v5543), 128 ∣ (k0_mult35 v5543).toNat := fun v5543 k0_hw44 => k0_hw44.1
theorem k0_off267_inb : ∀ (v5543 : BitVec 32) (k0_hw44 : k0_chk44 v5543), ∀ a, (k0_off267 v5543) a + S128x512.size a ≤ S640x3072.size a := fun v5543 k0_hw44 => k0_hw44.2.1
theorem k0_off271_inb : ∀ (v5543 : BitVec 32) (k0_hw44 : k0_chk44 v5543), ∀ a, (k0_off271 v5543) a + S128x512.size a ≤ S640x3072.size a := fun v5543 k0_hw44 => k0_hw44.2.2.1
theorem k0_off275_inb : ∀ (v5543 : BitVec 32) (k0_hw44 : k0_chk44 v5543), ∀ a, (k0_off275 v5543) a + S128x512.size a ≤ S640x3072.size a := fun v5543 k0_hw44 => k0_hw44.2.2.2.1
theorem k0_off279_inb : ∀ (v5543 : BitVec 32) (k0_hw44 : k0_chk44 v5543), ∀ a, (k0_off279 v5543) a + S128x512.size a ≤ S640x3072.size a := fun v5543 k0_hw44 => k0_hw44.2.2.2.2.1
theorem k0_off283_inb : ∀ (v5543 : BitVec 32) (k0_hw44 : k0_chk44 v5543), ∀ a, (k0_off283 v5543) a + S128x512.size a ≤ S640x3072.size a := fun v5543 k0_hw44 => k0_hw44.2.2.2.2.2.1
theorem k0_off287_inb : ∀ (v5543 : BitVec 32) (k0_hw44 : k0_chk44 v5543), ∀ a, (k0_off287 v5543) a + S128x512.size a ≤ S640x3072.size a := fun v5543 k0_hw44 => k0_hw44.2.2.2.2.2.2

def k0_off288 (v5556 : BitVec 32) : Fin 2 → Nat :=
  let c128_i32_2378 : BitVec 32 := 128#32
  let v5557 : BitVec 32 := Scalar.muli v5556 c128_i32_2378
  let v5558 : BitVec 32 := v5557
  let v5662 : Index := Scalar.indexCast v5558
  let c2560_2435 : Index := 2560#32
  ![v5662.toNat, 2560]

def k0_chk45 (v5556 : BitVec 32) : Prop :=
  (128 ∣ (k0_mult36 v5556).toNat) ∧
  (∀ a, (k0_off268 v5556) a + S128x512.size a ≤ S640x3072.size a) ∧
  (∀ a, (k0_off272 v5556) a + S128x512.size a ≤ S640x3072.size a) ∧
  (∀ a, (k0_off276 v5556) a + S128x512.size a ≤ S640x3072.size a) ∧
  (∀ a, (k0_off280 v5556) a + S128x512.size a ≤ S640x3072.size a) ∧
  (∀ a, (k0_off284 v5556) a + S128x512.size a ≤ S640x3072.size a) ∧
  (∀ a, (k0_off288 v5556) a + S128x512.size a ≤ S640x3072.size a)
theorem k0_mult36_dvd : ∀ (v5556 : BitVec 32) (k0_hw45 : k0_chk45 v5556), 128 ∣ (k0_mult36 v5556).toNat := fun v5556 k0_hw45 => k0_hw45.1
theorem k0_off268_inb : ∀ (v5556 : BitVec 32) (k0_hw45 : k0_chk45 v5556), ∀ a, (k0_off268 v5556) a + S128x512.size a ≤ S640x3072.size a := fun v5556 k0_hw45 => k0_hw45.2.1
theorem k0_off272_inb : ∀ (v5556 : BitVec 32) (k0_hw45 : k0_chk45 v5556), ∀ a, (k0_off272 v5556) a + S128x512.size a ≤ S640x3072.size a := fun v5556 k0_hw45 => k0_hw45.2.2.1
theorem k0_off276_inb : ∀ (v5556 : BitVec 32) (k0_hw45 : k0_chk45 v5556), ∀ a, (k0_off276 v5556) a + S128x512.size a ≤ S640x3072.size a := fun v5556 k0_hw45 => k0_hw45.2.2.2.1
theorem k0_off280_inb : ∀ (v5556 : BitVec 32) (k0_hw45 : k0_chk45 v5556), ∀ a, (k0_off280 v5556) a + S128x512.size a ≤ S640x3072.size a := fun v5556 k0_hw45 => k0_hw45.2.2.2.2.1
theorem k0_off284_inb : ∀ (v5556 : BitVec 32) (k0_hw45 : k0_chk45 v5556), ∀ a, (k0_off284 v5556) a + S128x512.size a ≤ S640x3072.size a := fun v5556 k0_hw45 => k0_hw45.2.2.2.2.2.1
theorem k0_off288_inb : ∀ (v5556 : BitVec 32) (k0_hw45 : k0_chk45 v5556), ∀ a, (k0_off288 v5556) a + S128x512.size a ≤ S640x3072.size a := fun v5556 k0_hw45 => k0_hw45.2.2.2.2.2.2

def k0_off289 (v5809 : BitVec 32) (v5810 : BitVec 32) : Fin 3 → Nat :=
  let c0_i32_2524 : BitVec 32 := 0#32
  let v5811 : BitVec 32 := Scalar.addi v5809 c0_i32_2524
  let v5812 : BitVec 1 := Scalar.cmpi .slt v5811 v5810
  let c0_i32_2525 : BitVec 32 := 0#32
  let v5813 : BitVec 32 := Scalar.addi v5809 c0_i32_2525
  let c19_i32_2526 : BitVec 32 := 19#32
  let v5814 : BitVec 32 := Scalar.minsi v5809 c19_i32_2526
  let v5815 : BitVec 32 := Scalar.select v5812 v5813 v5814
  let c20_i32_2527 : BitVec 32 := 20#32
  let v5816 : BitVec 32 := Scalar.select v5812 v5815 c20_i32_2527
  let v5817 : Index := Scalar.indexCast v5816
  let c0_2528 : Index := 0#32
  let c0_2529 : Index := 0#32
  ![v5817.toNat, 0, 0]

def k0_off290 (v5809 : BitVec 32) (v5810 : BitVec 32) : Fin 2 → Nat :=
  let c1_2530 : Index := 1#32
  let c0_i32_2524 : BitVec 32 := 0#32
  let v5811 : BitVec 32 := Scalar.addi v5809 c0_i32_2524
  let v5812 : BitVec 1 := Scalar.cmpi .slt v5811 v5810
  let c0_i32_2525 : BitVec 32 := 0#32
  let v5813 : BitVec 32 := Scalar.addi v5809 c0_i32_2525
  let c19_i32_2526 : BitVec 32 := 19#32
  let v5814 : BitVec 32 := Scalar.minsi v5809 c19_i32_2526
  let v5815 : BitVec 32 := Scalar.select v5812 v5813 v5814
  let v5820 : Index := Scalar.indexCast v5815
  ![1, v5820.toNat]
def k0_mult37 (v5821 : BitVec 32) : BitVec 32 :=
  let c128_i32_2531 : BitVec 32 := 128#32
  let v5822 : BitVec 32 := Scalar.muli v5821 c128_i32_2531
  v5822

def k0_off291 (v5809 : BitVec 32) (v5810 : BitVec 32) : Fin 3 → Nat :=
  let c1_i32_2532 : BitVec 32 := 1#32
  let v5824 : BitVec 32 := Scalar.addi v5809 c1_i32_2532
  let v5825 : BitVec 1 := Scalar.cmpi .slt v5824 v5810
  let c1_i32_2533 : BitVec 32 := 1#32
  let v5826 : BitVec 32 := Scalar.addi v5809 c1_i32_2533
  let c19_i32_2534 : BitVec 32 := 19#32
  let v5827 : BitVec 32 := Scalar.minsi v5809 c19_i32_2534
  let v5828 : BitVec 32 := Scalar.select v5825 v5826 v5827
  let c20_i32_2535 : BitVec 32 := 20#32
  let v5829 : BitVec 32 := Scalar.select v5825 v5828 c20_i32_2535
  let v5830 : Index := Scalar.indexCast v5829
  let c0_2536 : Index := 0#32
  let c0_2537 : Index := 0#32
  ![v5830.toNat, 0, 0]
def k0_off292 (v5809 : BitVec 32) (v5810 : BitVec 32) : Fin 2 → Nat :=
  let c1_2538 : Index := 1#32
  let c1_i32_2532 : BitVec 32 := 1#32
  let v5824 : BitVec 32 := Scalar.addi v5809 c1_i32_2532
  let v5825 : BitVec 1 := Scalar.cmpi .slt v5824 v5810
  let c1_i32_2533 : BitVec 32 := 1#32
  let v5826 : BitVec 32 := Scalar.addi v5809 c1_i32_2533
  let c19_i32_2534 : BitVec 32 := 19#32
  let v5827 : BitVec 32 := Scalar.minsi v5809 c19_i32_2534
  let v5828 : BitVec 32 := Scalar.select v5825 v5826 v5827
  let v5833 : Index := Scalar.indexCast v5828
  ![1, v5833.toNat]
def k0_mult38 (v5834 : BitVec 32) : BitVec 32 :=
  let c128_i32_2539 : BitVec 32 := 128#32
  let v5835 : BitVec 32 := Scalar.muli v5834 c128_i32_2539
  v5835

def k0_off293 (v5809 : BitVec 32) (v5810 : BitVec 32) : Fin 3 → Nat :=
  let c2_i32_2540 : BitVec 32 := 2#32
  let v5837 : BitVec 32 := Scalar.addi v5809 c2_i32_2540
  let v5838 : BitVec 1 := Scalar.cmpi .slt v5837 v5810
  let c2_i32_2541 : BitVec 32 := 2#32
  let v5839 : BitVec 32 := Scalar.addi v5809 c2_i32_2541
  let c19_i32_2542 : BitVec 32 := 19#32
  let v5840 : BitVec 32 := Scalar.minsi v5809 c19_i32_2542
  let v5841 : BitVec 32 := Scalar.select v5838 v5839 v5840
  let c20_i32_2543 : BitVec 32 := 20#32
  let v5842 : BitVec 32 := Scalar.select v5838 v5841 c20_i32_2543
  let v5843 : Index := Scalar.indexCast v5842
  let c0_2544 : Index := 0#32
  let c0_2545 : Index := 0#32
  ![v5843.toNat, 0, 0]
def k0_off294 (v5809 : BitVec 32) (v5810 : BitVec 32) : Fin 2 → Nat :=
  let c1_2546 : Index := 1#32
  let c2_i32_2540 : BitVec 32 := 2#32
  let v5837 : BitVec 32 := Scalar.addi v5809 c2_i32_2540
  let v5838 : BitVec 1 := Scalar.cmpi .slt v5837 v5810
  let c2_i32_2541 : BitVec 32 := 2#32
  let v5839 : BitVec 32 := Scalar.addi v5809 c2_i32_2541
  let c19_i32_2542 : BitVec 32 := 19#32
  let v5840 : BitVec 32 := Scalar.minsi v5809 c19_i32_2542
  let v5841 : BitVec 32 := Scalar.select v5838 v5839 v5840
  let v5846 : Index := Scalar.indexCast v5841
  ![1, v5846.toNat]
def k0_mult39 (v5847 : BitVec 32) : BitVec 32 :=
  let c128_i32_2547 : BitVec 32 := 128#32
  let v5848 : BitVec 32 := Scalar.muli v5847 c128_i32_2547
  v5848

def k0_off295 (v5809 : BitVec 32) (v5810 : BitVec 32) : Fin 3 → Nat :=
  let c3_i32_2548 : BitVec 32 := 3#32
  let v5850 : BitVec 32 := Scalar.addi v5809 c3_i32_2548
  let v5851 : BitVec 1 := Scalar.cmpi .slt v5850 v5810
  let c3_i32_2549 : BitVec 32 := 3#32
  let v5852 : BitVec 32 := Scalar.addi v5809 c3_i32_2549
  let c19_i32_2550 : BitVec 32 := 19#32
  let v5853 : BitVec 32 := Scalar.minsi v5809 c19_i32_2550
  let v5854 : BitVec 32 := Scalar.select v5851 v5852 v5853
  let c20_i32_2551 : BitVec 32 := 20#32
  let v5855 : BitVec 32 := Scalar.select v5851 v5854 c20_i32_2551
  let v5856 : Index := Scalar.indexCast v5855
  let c0_2552 : Index := 0#32
  let c0_2553 : Index := 0#32
  ![v5856.toNat, 0, 0]
def k0_off296 (v5809 : BitVec 32) (v5810 : BitVec 32) : Fin 2 → Nat :=
  let c1_2554 : Index := 1#32
  let c3_i32_2548 : BitVec 32 := 3#32
  let v5850 : BitVec 32 := Scalar.addi v5809 c3_i32_2548
  let v5851 : BitVec 1 := Scalar.cmpi .slt v5850 v5810
  let c3_i32_2549 : BitVec 32 := 3#32
  let v5852 : BitVec 32 := Scalar.addi v5809 c3_i32_2549
  let c19_i32_2550 : BitVec 32 := 19#32
  let v5853 : BitVec 32 := Scalar.minsi v5809 c19_i32_2550
  let v5854 : BitVec 32 := Scalar.select v5851 v5852 v5853
  let v5859 : Index := Scalar.indexCast v5854
  ![1, v5859.toNat]

def k0_chk46 (v5809 : BitVec 32) (v5810 : BitVec 32) : Prop :=
  (∀ a, (k0_off289 v5809 v5810) a + S1x128x128.size a ≤ S21x128x128.size a) ∧
  (∀ a, (k0_off290 v5809 v5810) a + S1x1.size a ≤ S3x20.size a) ∧
  (∀ a, (k0_off291 v5809 v5810) a + S1x128x128.size a ≤ S21x128x128.size a) ∧
  (∀ a, (k0_off292 v5809 v5810) a + S1x1.size a ≤ S3x20.size a) ∧
  (∀ a, (k0_off293 v5809 v5810) a + S1x128x128.size a ≤ S21x128x128.size a) ∧
  (∀ a, (k0_off294 v5809 v5810) a + S1x1.size a ≤ S3x20.size a) ∧
  (∀ a, (k0_off295 v5809 v5810) a + S1x128x128.size a ≤ S21x128x128.size a) ∧
  (∀ a, (k0_off296 v5809 v5810) a + S1x1.size a ≤ S3x20.size a)
theorem k0_off289_inb : ∀ (v5809 : BitVec 32) (v5810 : BitVec 32) (k0_hw46 : k0_chk46 v5809 v5810), ∀ a, (k0_off289 v5809 v5810) a + S1x128x128.size a ≤ S21x128x128.size a := fun v5809 v5810 k0_hw46 => k0_hw46.1
theorem k0_off290_inb : ∀ (v5809 : BitVec 32) (v5810 : BitVec 32) (k0_hw46 : k0_chk46 v5809 v5810), ∀ a, (k0_off290 v5809 v5810) a + S1x1.size a ≤ S3x20.size a := fun v5809 v5810 k0_hw46 => k0_hw46.2.1
theorem k0_off291_inb : ∀ (v5809 : BitVec 32) (v5810 : BitVec 32) (k0_hw46 : k0_chk46 v5809 v5810), ∀ a, (k0_off291 v5809 v5810) a + S1x128x128.size a ≤ S21x128x128.size a := fun v5809 v5810 k0_hw46 => k0_hw46.2.2.1
theorem k0_off292_inb : ∀ (v5809 : BitVec 32) (v5810 : BitVec 32) (k0_hw46 : k0_chk46 v5809 v5810), ∀ a, (k0_off292 v5809 v5810) a + S1x1.size a ≤ S3x20.size a := fun v5809 v5810 k0_hw46 => k0_hw46.2.2.2.1
theorem k0_off293_inb : ∀ (v5809 : BitVec 32) (v5810 : BitVec 32) (k0_hw46 : k0_chk46 v5809 v5810), ∀ a, (k0_off293 v5809 v5810) a + S1x128x128.size a ≤ S21x128x128.size a := fun v5809 v5810 k0_hw46 => k0_hw46.2.2.2.2.1
theorem k0_off294_inb : ∀ (v5809 : BitVec 32) (v5810 : BitVec 32) (k0_hw46 : k0_chk46 v5809 v5810), ∀ a, (k0_off294 v5809 v5810) a + S1x1.size a ≤ S3x20.size a := fun v5809 v5810 k0_hw46 => k0_hw46.2.2.2.2.2.1
theorem k0_off295_inb : ∀ (v5809 : BitVec 32) (v5810 : BitVec 32) (k0_hw46 : k0_chk46 v5809 v5810), ∀ a, (k0_off295 v5809 v5810) a + S1x128x128.size a ≤ S21x128x128.size a := fun v5809 v5810 k0_hw46 => k0_hw46.2.2.2.2.2.2.1
theorem k0_off296_inb : ∀ (v5809 : BitVec 32) (v5810 : BitVec 32) (k0_hw46 : k0_chk46 v5809 v5810), ∀ a, (k0_off296 v5809 v5810) a + S1x1.size a ≤ S3x20.size a := fun v5809 v5810 k0_hw46 => k0_hw46.2.2.2.2.2.2.2

def k0_mult40 (v5860 : BitVec 32) : BitVec 32 :=
  let c128_i32_2555 : BitVec 32 := 128#32
  let v5861 : BitVec 32 := Scalar.muli v5860 c128_i32_2555
  v5861

def k0_off297 (v5821 : BitVec 32) : Fin 2 → Nat :=
  let c128_i32_2531 : BitVec 32 := 128#32
  let v5822 : BitVec 32 := Scalar.muli v5821 c128_i32_2531
  let v5823 : BitVec 32 := v5822
  let v5867 : Index := Scalar.indexCast v5823
  let c0_2559 : Index := 0#32
  ![v5867.toNat, 0]
def k0_off298 (v5834 : BitVec 32) : Fin 2 → Nat :=
  let c128_i32_2539 : BitVec 32 := 128#32
  let v5835 : BitVec 32 := Scalar.muli v5834 c128_i32_2539
  let v5836 : BitVec 32 := v5835
  let v5869 : Index := Scalar.indexCast v5836
  let c0_2560 : Index := 0#32
  ![v5869.toNat, 0]
def k0_off299 (v5847 : BitVec 32) : Fin 2 → Nat :=
  let c128_i32_2547 : BitVec 32 := 128#32
  let v5848 : BitVec 32 := Scalar.muli v5847 c128_i32_2547
  let v5849 : BitVec 32 := v5848
  let v5871 : Index := Scalar.indexCast v5849
  let c0_2561 : Index := 0#32
  ![v5871.toNat, 0]
def k0_off300 (v5860 : BitVec 32) : Fin 2 → Nat :=
  let c128_i32_2555 : BitVec 32 := 128#32
  let v5861 : BitVec 32 := Scalar.muli v5860 c128_i32_2555
  let v5862 : BitVec 32 := v5861
  let v5873 : Index := Scalar.indexCast v5862
  let c0_2562 : Index := 0#32
  ![v5873.toNat, 0]
def k0_off301 (v5821 : BitVec 32) : Fin 2 → Nat :=
  let c128_i32_2531 : BitVec 32 := 128#32
  let v5822 : BitVec 32 := Scalar.muli v5821 c128_i32_2531
  let v5823 : BitVec 32 := v5822
  let v5885 : Index := Scalar.indexCast v5823
  let c512_2568 : Index := 512#32
  ![v5885.toNat, 512]
def k0_off302 (v5834 : BitVec 32) : Fin 2 → Nat :=
  let c128_i32_2539 : BitVec 32 := 128#32
  let v5835 : BitVec 32 := Scalar.muli v5834 c128_i32_2539
  let v5836 : BitVec 32 := v5835
  let v5887 : Index := Scalar.indexCast v5836
  let c512_2569 : Index := 512#32
  ![v5887.toNat, 512]
def k0_off303 (v5847 : BitVec 32) : Fin 2 → Nat :=
  let c128_i32_2547 : BitVec 32 := 128#32
  let v5848 : BitVec 32 := Scalar.muli v5847 c128_i32_2547
  let v5849 : BitVec 32 := v5848
  let v5889 : Index := Scalar.indexCast v5849
  let c512_2570 : Index := 512#32
  ![v5889.toNat, 512]
def k0_off304 (v5860 : BitVec 32) : Fin 2 → Nat :=
  let c128_i32_2555 : BitVec 32 := 128#32
  let v5861 : BitVec 32 := Scalar.muli v5860 c128_i32_2555
  let v5862 : BitVec 32 := v5861
  let v5891 : Index := Scalar.indexCast v5862
  let c512_2571 : Index := 512#32
  ![v5891.toNat, 512]
def k0_off305 (v5821 : BitVec 32) : Fin 2 → Nat :=
  let c128_i32_2531 : BitVec 32 := 128#32
  let v5822 : BitVec 32 := Scalar.muli v5821 c128_i32_2531
  let v5823 : BitVec 32 := v5822
  let v5903 : Index := Scalar.indexCast v5823
  let c1024_2577 : Index := 1024#32
  ![v5903.toNat, 1024]
def k0_off306 (v5834 : BitVec 32) : Fin 2 → Nat :=
  let c128_i32_2539 : BitVec 32 := 128#32
  let v5835 : BitVec 32 := Scalar.muli v5834 c128_i32_2539
  let v5836 : BitVec 32 := v5835
  let v5905 : Index := Scalar.indexCast v5836
  let c1024_2578 : Index := 1024#32
  ![v5905.toNat, 1024]
def k0_off307 (v5847 : BitVec 32) : Fin 2 → Nat :=
  let c128_i32_2547 : BitVec 32 := 128#32
  let v5848 : BitVec 32 := Scalar.muli v5847 c128_i32_2547
  let v5849 : BitVec 32 := v5848
  let v5907 : Index := Scalar.indexCast v5849
  let c1024_2579 : Index := 1024#32
  ![v5907.toNat, 1024]
def k0_off308 (v5860 : BitVec 32) : Fin 2 → Nat :=
  let c128_i32_2555 : BitVec 32 := 128#32
  let v5861 : BitVec 32 := Scalar.muli v5860 c128_i32_2555
  let v5862 : BitVec 32 := v5861
  let v5909 : Index := Scalar.indexCast v5862
  let c1024_2580 : Index := 1024#32
  ![v5909.toNat, 1024]
def k0_off309 (v5821 : BitVec 32) : Fin 2 → Nat :=
  let c128_i32_2531 : BitVec 32 := 128#32
  let v5822 : BitVec 32 := Scalar.muli v5821 c128_i32_2531
  let v5823 : BitVec 32 := v5822
  let v5924 : Index := Scalar.indexCast v5823
  let c1536_2591 : Index := 1536#32
  ![v5924.toNat, 1536]
def k0_off310 (v5834 : BitVec 32) : Fin 2 → Nat :=
  let c128_i32_2539 : BitVec 32 := 128#32
  let v5835 : BitVec 32 := Scalar.muli v5834 c128_i32_2539
  let v5836 : BitVec 32 := v5835
  let v5926 : Index := Scalar.indexCast v5836
  let c1536_2592 : Index := 1536#32
  ![v5926.toNat, 1536]
def k0_off311 (v5847 : BitVec 32) : Fin 2 → Nat :=
  let c128_i32_2547 : BitVec 32 := 128#32
  let v5848 : BitVec 32 := Scalar.muli v5847 c128_i32_2547
  let v5849 : BitVec 32 := v5848
  let v5928 : Index := Scalar.indexCast v5849
  let c1536_2593 : Index := 1536#32
  ![v5928.toNat, 1536]
def k0_off312 (v5860 : BitVec 32) : Fin 2 → Nat :=
  let c128_i32_2555 : BitVec 32 := 128#32
  let v5861 : BitVec 32 := Scalar.muli v5860 c128_i32_2555
  let v5862 : BitVec 32 := v5861
  let v5930 : Index := Scalar.indexCast v5862
  let c1536_2594 : Index := 1536#32
  ![v5930.toNat, 1536]
def k0_off313 (v5821 : BitVec 32) : Fin 2 → Nat :=
  let c128_i32_2531 : BitVec 32 := 128#32
  let v5822 : BitVec 32 := Scalar.muli v5821 c128_i32_2531
  let v5823 : BitVec 32 := v5822
  let v5942 : Index := Scalar.indexCast v5823
  let c2048_2600 : Index := 2048#32
  ![v5942.toNat, 2048]
def k0_off314 (v5834 : BitVec 32) : Fin 2 → Nat :=
  let c128_i32_2539 : BitVec 32 := 128#32
  let v5835 : BitVec 32 := Scalar.muli v5834 c128_i32_2539
  let v5836 : BitVec 32 := v5835
  let v5944 : Index := Scalar.indexCast v5836
  let c2048_2601 : Index := 2048#32
  ![v5944.toNat, 2048]
def k0_off315 (v5847 : BitVec 32) : Fin 2 → Nat :=
  let c128_i32_2547 : BitVec 32 := 128#32
  let v5848 : BitVec 32 := Scalar.muli v5847 c128_i32_2547
  let v5849 : BitVec 32 := v5848
  let v5946 : Index := Scalar.indexCast v5849
  let c2048_2602 : Index := 2048#32
  ![v5946.toNat, 2048]
def k0_off316 (v5860 : BitVec 32) : Fin 2 → Nat :=
  let c128_i32_2555 : BitVec 32 := 128#32
  let v5861 : BitVec 32 := Scalar.muli v5860 c128_i32_2555
  let v5862 : BitVec 32 := v5861
  let v5948 : Index := Scalar.indexCast v5862
  let c2048_2603 : Index := 2048#32
  ![v5948.toNat, 2048]
def k0_off317 (v5821 : BitVec 32) : Fin 2 → Nat :=
  let c128_i32_2531 : BitVec 32 := 128#32
  let v5822 : BitVec 32 := Scalar.muli v5821 c128_i32_2531
  let v5823 : BitVec 32 := v5822
  let v5960 : Index := Scalar.indexCast v5823
  let c2560_2609 : Index := 2560#32
  ![v5960.toNat, 2560]

def k0_chk47 (v5821 : BitVec 32) : Prop :=
  (128 ∣ (k0_mult37 v5821).toNat) ∧
  (∀ a, (k0_off297 v5821) a + S128x512.size a ≤ S640x3072.size a) ∧
  (∀ a, (k0_off301 v5821) a + S128x512.size a ≤ S640x3072.size a) ∧
  (∀ a, (k0_off305 v5821) a + S128x512.size a ≤ S640x3072.size a) ∧
  (∀ a, (k0_off309 v5821) a + S128x512.size a ≤ S640x3072.size a) ∧
  (∀ a, (k0_off313 v5821) a + S128x512.size a ≤ S640x3072.size a) ∧
  (∀ a, (k0_off317 v5821) a + S128x512.size a ≤ S640x3072.size a)
theorem k0_mult37_dvd : ∀ (v5821 : BitVec 32) (k0_hw47 : k0_chk47 v5821), 128 ∣ (k0_mult37 v5821).toNat := fun v5821 k0_hw47 => k0_hw47.1
theorem k0_off297_inb : ∀ (v5821 : BitVec 32) (k0_hw47 : k0_chk47 v5821), ∀ a, (k0_off297 v5821) a + S128x512.size a ≤ S640x3072.size a := fun v5821 k0_hw47 => k0_hw47.2.1
theorem k0_off301_inb : ∀ (v5821 : BitVec 32) (k0_hw47 : k0_chk47 v5821), ∀ a, (k0_off301 v5821) a + S128x512.size a ≤ S640x3072.size a := fun v5821 k0_hw47 => k0_hw47.2.2.1
theorem k0_off305_inb : ∀ (v5821 : BitVec 32) (k0_hw47 : k0_chk47 v5821), ∀ a, (k0_off305 v5821) a + S128x512.size a ≤ S640x3072.size a := fun v5821 k0_hw47 => k0_hw47.2.2.2.1
theorem k0_off309_inb : ∀ (v5821 : BitVec 32) (k0_hw47 : k0_chk47 v5821), ∀ a, (k0_off309 v5821) a + S128x512.size a ≤ S640x3072.size a := fun v5821 k0_hw47 => k0_hw47.2.2.2.2.1
theorem k0_off313_inb : ∀ (v5821 : BitVec 32) (k0_hw47 : k0_chk47 v5821), ∀ a, (k0_off313 v5821) a + S128x512.size a ≤ S640x3072.size a := fun v5821 k0_hw47 => k0_hw47.2.2.2.2.2.1
theorem k0_off317_inb : ∀ (v5821 : BitVec 32) (k0_hw47 : k0_chk47 v5821), ∀ a, (k0_off317 v5821) a + S128x512.size a ≤ S640x3072.size a := fun v5821 k0_hw47 => k0_hw47.2.2.2.2.2.2

def k0_off318 (v5834 : BitVec 32) : Fin 2 → Nat :=
  let c128_i32_2539 : BitVec 32 := 128#32
  let v5835 : BitVec 32 := Scalar.muli v5834 c128_i32_2539
  let v5836 : BitVec 32 := v5835
  let v5962 : Index := Scalar.indexCast v5836
  let c2560_2610 : Index := 2560#32
  ![v5962.toNat, 2560]

def k0_chk48 (v5834 : BitVec 32) : Prop :=
  (128 ∣ (k0_mult38 v5834).toNat) ∧
  (∀ a, (k0_off298 v5834) a + S128x512.size a ≤ S640x3072.size a) ∧
  (∀ a, (k0_off302 v5834) a + S128x512.size a ≤ S640x3072.size a) ∧
  (∀ a, (k0_off306 v5834) a + S128x512.size a ≤ S640x3072.size a) ∧
  (∀ a, (k0_off310 v5834) a + S128x512.size a ≤ S640x3072.size a) ∧
  (∀ a, (k0_off314 v5834) a + S128x512.size a ≤ S640x3072.size a) ∧
  (∀ a, (k0_off318 v5834) a + S128x512.size a ≤ S640x3072.size a)
theorem k0_mult38_dvd : ∀ (v5834 : BitVec 32) (k0_hw48 : k0_chk48 v5834), 128 ∣ (k0_mult38 v5834).toNat := fun v5834 k0_hw48 => k0_hw48.1
theorem k0_off298_inb : ∀ (v5834 : BitVec 32) (k0_hw48 : k0_chk48 v5834), ∀ a, (k0_off298 v5834) a + S128x512.size a ≤ S640x3072.size a := fun v5834 k0_hw48 => k0_hw48.2.1
theorem k0_off302_inb : ∀ (v5834 : BitVec 32) (k0_hw48 : k0_chk48 v5834), ∀ a, (k0_off302 v5834) a + S128x512.size a ≤ S640x3072.size a := fun v5834 k0_hw48 => k0_hw48.2.2.1
theorem k0_off306_inb : ∀ (v5834 : BitVec 32) (k0_hw48 : k0_chk48 v5834), ∀ a, (k0_off306 v5834) a + S128x512.size a ≤ S640x3072.size a := fun v5834 k0_hw48 => k0_hw48.2.2.2.1
theorem k0_off310_inb : ∀ (v5834 : BitVec 32) (k0_hw48 : k0_chk48 v5834), ∀ a, (k0_off310 v5834) a + S128x512.size a ≤ S640x3072.size a := fun v5834 k0_hw48 => k0_hw48.2.2.2.2.1
theorem k0_off314_inb : ∀ (v5834 : BitVec 32) (k0_hw48 : k0_chk48 v5834), ∀ a, (k0_off314 v5834) a + S128x512.size a ≤ S640x3072.size a := fun v5834 k0_hw48 => k0_hw48.2.2.2.2.2.1
theorem k0_off318_inb : ∀ (v5834 : BitVec 32) (k0_hw48 : k0_chk48 v5834), ∀ a, (k0_off318 v5834) a + S128x512.size a ≤ S640x3072.size a := fun v5834 k0_hw48 => k0_hw48.2.2.2.2.2.2

def k0_off319 (v5847 : BitVec 32) : Fin 2 → Nat :=
  let c128_i32_2547 : BitVec 32 := 128#32
  let v5848 : BitVec 32 := Scalar.muli v5847 c128_i32_2547
  let v5849 : BitVec 32 := v5848
  let v5964 : Index := Scalar.indexCast v5849
  let c2560_2611 : Index := 2560#32
  ![v5964.toNat, 2560]

def k0_chk49 (v5847 : BitVec 32) : Prop :=
  (128 ∣ (k0_mult39 v5847).toNat) ∧
  (∀ a, (k0_off299 v5847) a + S128x512.size a ≤ S640x3072.size a) ∧
  (∀ a, (k0_off303 v5847) a + S128x512.size a ≤ S640x3072.size a) ∧
  (∀ a, (k0_off307 v5847) a + S128x512.size a ≤ S640x3072.size a) ∧
  (∀ a, (k0_off311 v5847) a + S128x512.size a ≤ S640x3072.size a) ∧
  (∀ a, (k0_off315 v5847) a + S128x512.size a ≤ S640x3072.size a) ∧
  (∀ a, (k0_off319 v5847) a + S128x512.size a ≤ S640x3072.size a)
theorem k0_mult39_dvd : ∀ (v5847 : BitVec 32) (k0_hw49 : k0_chk49 v5847), 128 ∣ (k0_mult39 v5847).toNat := fun v5847 k0_hw49 => k0_hw49.1
theorem k0_off299_inb : ∀ (v5847 : BitVec 32) (k0_hw49 : k0_chk49 v5847), ∀ a, (k0_off299 v5847) a + S128x512.size a ≤ S640x3072.size a := fun v5847 k0_hw49 => k0_hw49.2.1
theorem k0_off303_inb : ∀ (v5847 : BitVec 32) (k0_hw49 : k0_chk49 v5847), ∀ a, (k0_off303 v5847) a + S128x512.size a ≤ S640x3072.size a := fun v5847 k0_hw49 => k0_hw49.2.2.1
theorem k0_off307_inb : ∀ (v5847 : BitVec 32) (k0_hw49 : k0_chk49 v5847), ∀ a, (k0_off307 v5847) a + S128x512.size a ≤ S640x3072.size a := fun v5847 k0_hw49 => k0_hw49.2.2.2.1
theorem k0_off311_inb : ∀ (v5847 : BitVec 32) (k0_hw49 : k0_chk49 v5847), ∀ a, (k0_off311 v5847) a + S128x512.size a ≤ S640x3072.size a := fun v5847 k0_hw49 => k0_hw49.2.2.2.2.1
theorem k0_off315_inb : ∀ (v5847 : BitVec 32) (k0_hw49 : k0_chk49 v5847), ∀ a, (k0_off315 v5847) a + S128x512.size a ≤ S640x3072.size a := fun v5847 k0_hw49 => k0_hw49.2.2.2.2.2.1
theorem k0_off319_inb : ∀ (v5847 : BitVec 32) (k0_hw49 : k0_chk49 v5847), ∀ a, (k0_off319 v5847) a + S128x512.size a ≤ S640x3072.size a := fun v5847 k0_hw49 => k0_hw49.2.2.2.2.2.2

def k0_off320 (v5860 : BitVec 32) : Fin 2 → Nat :=
  let c128_i32_2555 : BitVec 32 := 128#32
  let v5861 : BitVec 32 := Scalar.muli v5860 c128_i32_2555
  let v5862 : BitVec 32 := v5861
  let v5966 : Index := Scalar.indexCast v5862
  let c2560_2612 : Index := 2560#32
  ![v5966.toNat, 2560]

def k0_chk50 (v5860 : BitVec 32) : Prop :=
  (128 ∣ (k0_mult40 v5860).toNat) ∧
  (∀ a, (k0_off300 v5860) a + S128x512.size a ≤ S640x3072.size a) ∧
  (∀ a, (k0_off304 v5860) a + S128x512.size a ≤ S640x3072.size a) ∧
  (∀ a, (k0_off308 v5860) a + S128x512.size a ≤ S640x3072.size a) ∧
  (∀ a, (k0_off312 v5860) a + S128x512.size a ≤ S640x3072.size a) ∧
  (∀ a, (k0_off316 v5860) a + S128x512.size a ≤ S640x3072.size a) ∧
  (∀ a, (k0_off320 v5860) a + S128x512.size a ≤ S640x3072.size a)
theorem k0_mult40_dvd : ∀ (v5860 : BitVec 32) (k0_hw50 : k0_chk50 v5860), 128 ∣ (k0_mult40 v5860).toNat := fun v5860 k0_hw50 => k0_hw50.1
theorem k0_off300_inb : ∀ (v5860 : BitVec 32) (k0_hw50 : k0_chk50 v5860), ∀ a, (k0_off300 v5860) a + S128x512.size a ≤ S640x3072.size a := fun v5860 k0_hw50 => k0_hw50.2.1
theorem k0_off304_inb : ∀ (v5860 : BitVec 32) (k0_hw50 : k0_chk50 v5860), ∀ a, (k0_off304 v5860) a + S128x512.size a ≤ S640x3072.size a := fun v5860 k0_hw50 => k0_hw50.2.2.1
theorem k0_off308_inb : ∀ (v5860 : BitVec 32) (k0_hw50 : k0_chk50 v5860), ∀ a, (k0_off308 v5860) a + S128x512.size a ≤ S640x3072.size a := fun v5860 k0_hw50 => k0_hw50.2.2.2.1
theorem k0_off312_inb : ∀ (v5860 : BitVec 32) (k0_hw50 : k0_chk50 v5860), ∀ a, (k0_off312 v5860) a + S128x512.size a ≤ S640x3072.size a := fun v5860 k0_hw50 => k0_hw50.2.2.2.2.1
theorem k0_off316_inb : ∀ (v5860 : BitVec 32) (k0_hw50 : k0_chk50 v5860), ∀ a, (k0_off316 v5860) a + S128x512.size a ≤ S640x3072.size a := fun v5860 k0_hw50 => k0_hw50.2.2.2.2.2.1
theorem k0_off320_inb : ∀ (v5860 : BitVec 32) (k0_hw50 : k0_chk50 v5860), ∀ a, (k0_off320 v5860) a + S128x512.size a ≤ S640x3072.size a := fun v5860 k0_hw50 => k0_hw50.2.2.2.2.2.2

def k0_off321 (v5981 : BitVec 32) (v5982 : BitVec 32) : Fin 3 → Nat :=
  let c0_i32_2627 : BitVec 32 := 0#32
  let v5983 : BitVec 32 := Scalar.addi v5981 c0_i32_2627
  let v5984 : BitVec 1 := Scalar.cmpi .slt v5983 v5982
  let c0_i32_2628 : BitVec 32 := 0#32
  let v5985 : BitVec 32 := Scalar.addi v5981 c0_i32_2628
  let c19_i32_2629 : BitVec 32 := 19#32
  let v5986 : BitVec 32 := Scalar.minsi v5981 c19_i32_2629
  let v5987 : BitVec 32 := Scalar.select v5984 v5985 v5986
  let c20_i32_2630 : BitVec 32 := 20#32
  let v5988 : BitVec 32 := Scalar.select v5984 v5987 c20_i32_2630
  let v5989 : Index := Scalar.indexCast v5988
  let c0_2631 : Index := 0#32
  let c0_2632 : Index := 0#32
  ![v5989.toNat, 0, 0]

def k0_off322 (v5981 : BitVec 32) (v5982 : BitVec 32) : Fin 2 → Nat :=
  let c2_2633 : Index := 2#32
  let c0_i32_2627 : BitVec 32 := 0#32
  let v5983 : BitVec 32 := Scalar.addi v5981 c0_i32_2627
  let v5984 : BitVec 1 := Scalar.cmpi .slt v5983 v5982
  let c0_i32_2628 : BitVec 32 := 0#32
  let v5985 : BitVec 32 := Scalar.addi v5981 c0_i32_2628
  let c19_i32_2629 : BitVec 32 := 19#32
  let v5986 : BitVec 32 := Scalar.minsi v5981 c19_i32_2629
  let v5987 : BitVec 32 := Scalar.select v5984 v5985 v5986
  let v5992 : Index := Scalar.indexCast v5987
  ![2, v5992.toNat]
def k0_mult41 (v5993 : BitVec 32) : BitVec 32 :=
  let c128_i32_2634 : BitVec 32 := 128#32
  let v5994 : BitVec 32 := Scalar.muli v5993 c128_i32_2634
  v5994

def k0_off323 (v5981 : BitVec 32) (v5982 : BitVec 32) : Fin 3 → Nat :=
  let c1_i32_2635 : BitVec 32 := 1#32
  let v5996 : BitVec 32 := Scalar.addi v5981 c1_i32_2635
  let v5997 : BitVec 1 := Scalar.cmpi .slt v5996 v5982
  let c1_i32_2636 : BitVec 32 := 1#32
  let v5998 : BitVec 32 := Scalar.addi v5981 c1_i32_2636
  let c19_i32_2637 : BitVec 32 := 19#32
  let v5999 : BitVec 32 := Scalar.minsi v5981 c19_i32_2637
  let v6000 : BitVec 32 := Scalar.select v5997 v5998 v5999
  let c20_i32_2638 : BitVec 32 := 20#32
  let v6001 : BitVec 32 := Scalar.select v5997 v6000 c20_i32_2638
  let v6002 : Index := Scalar.indexCast v6001
  let c0_2639 : Index := 0#32
  let c0_2640 : Index := 0#32
  ![v6002.toNat, 0, 0]
def k0_off324 (v5981 : BitVec 32) (v5982 : BitVec 32) : Fin 2 → Nat :=
  let c2_2641 : Index := 2#32
  let c1_i32_2635 : BitVec 32 := 1#32
  let v5996 : BitVec 32 := Scalar.addi v5981 c1_i32_2635
  let v5997 : BitVec 1 := Scalar.cmpi .slt v5996 v5982
  let c1_i32_2636 : BitVec 32 := 1#32
  let v5998 : BitVec 32 := Scalar.addi v5981 c1_i32_2636
  let c19_i32_2637 : BitVec 32 := 19#32
  let v5999 : BitVec 32 := Scalar.minsi v5981 c19_i32_2637
  let v6000 : BitVec 32 := Scalar.select v5997 v5998 v5999
  let v6005 : Index := Scalar.indexCast v6000
  ![2, v6005.toNat]
def k0_mult42 (v6006 : BitVec 32) : BitVec 32 :=
  let c128_i32_2642 : BitVec 32 := 128#32
  let v6007 : BitVec 32 := Scalar.muli v6006 c128_i32_2642
  v6007

def k0_off325 (v5981 : BitVec 32) (v5982 : BitVec 32) : Fin 3 → Nat :=
  let c2_i32_2643 : BitVec 32 := 2#32
  let v6009 : BitVec 32 := Scalar.addi v5981 c2_i32_2643
  let v6010 : BitVec 1 := Scalar.cmpi .slt v6009 v5982
  let c2_i32_2644 : BitVec 32 := 2#32
  let v6011 : BitVec 32 := Scalar.addi v5981 c2_i32_2644
  let c19_i32_2645 : BitVec 32 := 19#32
  let v6012 : BitVec 32 := Scalar.minsi v5981 c19_i32_2645
  let v6013 : BitVec 32 := Scalar.select v6010 v6011 v6012
  let c20_i32_2646 : BitVec 32 := 20#32
  let v6014 : BitVec 32 := Scalar.select v6010 v6013 c20_i32_2646
  let v6015 : Index := Scalar.indexCast v6014
  let c0_2647 : Index := 0#32
  let c0_2648 : Index := 0#32
  ![v6015.toNat, 0, 0]
def k0_off326 (v5981 : BitVec 32) (v5982 : BitVec 32) : Fin 2 → Nat :=
  let c2_2649 : Index := 2#32
  let c2_i32_2643 : BitVec 32 := 2#32
  let v6009 : BitVec 32 := Scalar.addi v5981 c2_i32_2643
  let v6010 : BitVec 1 := Scalar.cmpi .slt v6009 v5982
  let c2_i32_2644 : BitVec 32 := 2#32
  let v6011 : BitVec 32 := Scalar.addi v5981 c2_i32_2644
  let c19_i32_2645 : BitVec 32 := 19#32
  let v6012 : BitVec 32 := Scalar.minsi v5981 c19_i32_2645
  let v6013 : BitVec 32 := Scalar.select v6010 v6011 v6012
  let v6018 : Index := Scalar.indexCast v6013
  ![2, v6018.toNat]
def k0_mult43 (v6019 : BitVec 32) : BitVec 32 :=
  let c128_i32_2650 : BitVec 32 := 128#32
  let v6020 : BitVec 32 := Scalar.muli v6019 c128_i32_2650
  v6020

def k0_off327 (v5981 : BitVec 32) (v5982 : BitVec 32) : Fin 3 → Nat :=
  let c3_i32_2651 : BitVec 32 := 3#32
  let v6022 : BitVec 32 := Scalar.addi v5981 c3_i32_2651
  let v6023 : BitVec 1 := Scalar.cmpi .slt v6022 v5982
  let c3_i32_2652 : BitVec 32 := 3#32
  let v6024 : BitVec 32 := Scalar.addi v5981 c3_i32_2652
  let c19_i32_2653 : BitVec 32 := 19#32
  let v6025 : BitVec 32 := Scalar.minsi v5981 c19_i32_2653
  let v6026 : BitVec 32 := Scalar.select v6023 v6024 v6025
  let c20_i32_2654 : BitVec 32 := 20#32
  let v6027 : BitVec 32 := Scalar.select v6023 v6026 c20_i32_2654
  let v6028 : Index := Scalar.indexCast v6027
  let c0_2655 : Index := 0#32
  let c0_2656 : Index := 0#32
  ![v6028.toNat, 0, 0]
def k0_off328 (v5981 : BitVec 32) (v5982 : BitVec 32) : Fin 2 → Nat :=
  let c2_2657 : Index := 2#32
  let c3_i32_2651 : BitVec 32 := 3#32
  let v6022 : BitVec 32 := Scalar.addi v5981 c3_i32_2651
  let v6023 : BitVec 1 := Scalar.cmpi .slt v6022 v5982
  let c3_i32_2652 : BitVec 32 := 3#32
  let v6024 : BitVec 32 := Scalar.addi v5981 c3_i32_2652
  let c19_i32_2653 : BitVec 32 := 19#32
  let v6025 : BitVec 32 := Scalar.minsi v5981 c19_i32_2653
  let v6026 : BitVec 32 := Scalar.select v6023 v6024 v6025
  let v6031 : Index := Scalar.indexCast v6026
  ![2, v6031.toNat]

def k0_chk51 (v5981 : BitVec 32) (v5982 : BitVec 32) : Prop :=
  (∀ a, (k0_off321 v5981 v5982) a + S1x128x128.size a ≤ S21x128x128.size a) ∧
  (∀ a, (k0_off322 v5981 v5982) a + S1x1.size a ≤ S3x20.size a) ∧
  (∀ a, (k0_off323 v5981 v5982) a + S1x128x128.size a ≤ S21x128x128.size a) ∧
  (∀ a, (k0_off324 v5981 v5982) a + S1x1.size a ≤ S3x20.size a) ∧
  (∀ a, (k0_off325 v5981 v5982) a + S1x128x128.size a ≤ S21x128x128.size a) ∧
  (∀ a, (k0_off326 v5981 v5982) a + S1x1.size a ≤ S3x20.size a) ∧
  (∀ a, (k0_off327 v5981 v5982) a + S1x128x128.size a ≤ S21x128x128.size a) ∧
  (∀ a, (k0_off328 v5981 v5982) a + S1x1.size a ≤ S3x20.size a)
theorem k0_off321_inb : ∀ (v5981 : BitVec 32) (v5982 : BitVec 32) (k0_hw51 : k0_chk51 v5981 v5982), ∀ a, (k0_off321 v5981 v5982) a + S1x128x128.size a ≤ S21x128x128.size a := fun v5981 v5982 k0_hw51 => k0_hw51.1
theorem k0_off322_inb : ∀ (v5981 : BitVec 32) (v5982 : BitVec 32) (k0_hw51 : k0_chk51 v5981 v5982), ∀ a, (k0_off322 v5981 v5982) a + S1x1.size a ≤ S3x20.size a := fun v5981 v5982 k0_hw51 => k0_hw51.2.1
theorem k0_off323_inb : ∀ (v5981 : BitVec 32) (v5982 : BitVec 32) (k0_hw51 : k0_chk51 v5981 v5982), ∀ a, (k0_off323 v5981 v5982) a + S1x128x128.size a ≤ S21x128x128.size a := fun v5981 v5982 k0_hw51 => k0_hw51.2.2.1
theorem k0_off324_inb : ∀ (v5981 : BitVec 32) (v5982 : BitVec 32) (k0_hw51 : k0_chk51 v5981 v5982), ∀ a, (k0_off324 v5981 v5982) a + S1x1.size a ≤ S3x20.size a := fun v5981 v5982 k0_hw51 => k0_hw51.2.2.2.1
theorem k0_off325_inb : ∀ (v5981 : BitVec 32) (v5982 : BitVec 32) (k0_hw51 : k0_chk51 v5981 v5982), ∀ a, (k0_off325 v5981 v5982) a + S1x128x128.size a ≤ S21x128x128.size a := fun v5981 v5982 k0_hw51 => k0_hw51.2.2.2.2.1
theorem k0_off326_inb : ∀ (v5981 : BitVec 32) (v5982 : BitVec 32) (k0_hw51 : k0_chk51 v5981 v5982), ∀ a, (k0_off326 v5981 v5982) a + S1x1.size a ≤ S3x20.size a := fun v5981 v5982 k0_hw51 => k0_hw51.2.2.2.2.2.1
theorem k0_off327_inb : ∀ (v5981 : BitVec 32) (v5982 : BitVec 32) (k0_hw51 : k0_chk51 v5981 v5982), ∀ a, (k0_off327 v5981 v5982) a + S1x128x128.size a ≤ S21x128x128.size a := fun v5981 v5982 k0_hw51 => k0_hw51.2.2.2.2.2.2.1
theorem k0_off328_inb : ∀ (v5981 : BitVec 32) (v5982 : BitVec 32) (k0_hw51 : k0_chk51 v5981 v5982), ∀ a, (k0_off328 v5981 v5982) a + S1x1.size a ≤ S3x20.size a := fun v5981 v5982 k0_hw51 => k0_hw51.2.2.2.2.2.2.2

def k0_mult44 (v6032 : BitVec 32) : BitVec 32 :=
  let c128_i32_2658 : BitVec 32 := 128#32
  let v6033 : BitVec 32 := Scalar.muli v6032 c128_i32_2658
  v6033

def k0_off329 (v5993 : BitVec 32) : Fin 2 → Nat :=
  let c128_i32_2634 : BitVec 32 := 128#32
  let v5994 : BitVec 32 := Scalar.muli v5993 c128_i32_2634
  let v5995 : BitVec 32 := v5994
  let v6039 : Index := Scalar.indexCast v5995
  let c0_2662 : Index := 0#32
  ![v6039.toNat, 0]
def k0_off330 (v6006 : BitVec 32) : Fin 2 → Nat :=
  let c128_i32_2642 : BitVec 32 := 128#32
  let v6007 : BitVec 32 := Scalar.muli v6006 c128_i32_2642
  let v6008 : BitVec 32 := v6007
  let v6041 : Index := Scalar.indexCast v6008
  let c0_2663 : Index := 0#32
  ![v6041.toNat, 0]
def k0_off331 (v6019 : BitVec 32) : Fin 2 → Nat :=
  let c128_i32_2650 : BitVec 32 := 128#32
  let v6020 : BitVec 32 := Scalar.muli v6019 c128_i32_2650
  let v6021 : BitVec 32 := v6020
  let v6043 : Index := Scalar.indexCast v6021
  let c0_2664 : Index := 0#32
  ![v6043.toNat, 0]
def k0_off332 (v6032 : BitVec 32) : Fin 2 → Nat :=
  let c128_i32_2658 : BitVec 32 := 128#32
  let v6033 : BitVec 32 := Scalar.muli v6032 c128_i32_2658
  let v6034 : BitVec 32 := v6033
  let v6045 : Index := Scalar.indexCast v6034
  let c0_2665 : Index := 0#32
  ![v6045.toNat, 0]
def k0_off333 (v5993 : BitVec 32) : Fin 2 → Nat :=
  let c128_i32_2634 : BitVec 32 := 128#32
  let v5994 : BitVec 32 := Scalar.muli v5993 c128_i32_2634
  let v5995 : BitVec 32 := v5994
  let v6057 : Index := Scalar.indexCast v5995
  let c512_2671 : Index := 512#32
  ![v6057.toNat, 512]
def k0_off334 (v6006 : BitVec 32) : Fin 2 → Nat :=
  let c128_i32_2642 : BitVec 32 := 128#32
  let v6007 : BitVec 32 := Scalar.muli v6006 c128_i32_2642
  let v6008 : BitVec 32 := v6007
  let v6059 : Index := Scalar.indexCast v6008
  let c512_2672 : Index := 512#32
  ![v6059.toNat, 512]
def k0_off335 (v6019 : BitVec 32) : Fin 2 → Nat :=
  let c128_i32_2650 : BitVec 32 := 128#32
  let v6020 : BitVec 32 := Scalar.muli v6019 c128_i32_2650
  let v6021 : BitVec 32 := v6020
  let v6061 : Index := Scalar.indexCast v6021
  let c512_2673 : Index := 512#32
  ![v6061.toNat, 512]
def k0_off336 (v6032 : BitVec 32) : Fin 2 → Nat :=
  let c128_i32_2658 : BitVec 32 := 128#32
  let v6033 : BitVec 32 := Scalar.muli v6032 c128_i32_2658
  let v6034 : BitVec 32 := v6033
  let v6063 : Index := Scalar.indexCast v6034
  let c512_2674 : Index := 512#32
  ![v6063.toNat, 512]
def k0_off337 (v5993 : BitVec 32) : Fin 2 → Nat :=
  let c128_i32_2634 : BitVec 32 := 128#32
  let v5994 : BitVec 32 := Scalar.muli v5993 c128_i32_2634
  let v5995 : BitVec 32 := v5994
  let v6075 : Index := Scalar.indexCast v5995
  let c1024_2680 : Index := 1024#32
  ![v6075.toNat, 1024]
def k0_off338 (v6006 : BitVec 32) : Fin 2 → Nat :=
  let c128_i32_2642 : BitVec 32 := 128#32
  let v6007 : BitVec 32 := Scalar.muli v6006 c128_i32_2642
  let v6008 : BitVec 32 := v6007
  let v6077 : Index := Scalar.indexCast v6008
  let c1024_2681 : Index := 1024#32
  ![v6077.toNat, 1024]
def k0_off339 (v6019 : BitVec 32) : Fin 2 → Nat :=
  let c128_i32_2650 : BitVec 32 := 128#32
  let v6020 : BitVec 32 := Scalar.muli v6019 c128_i32_2650
  let v6021 : BitVec 32 := v6020
  let v6079 : Index := Scalar.indexCast v6021
  let c1024_2682 : Index := 1024#32
  ![v6079.toNat, 1024]
def k0_off340 (v6032 : BitVec 32) : Fin 2 → Nat :=
  let c128_i32_2658 : BitVec 32 := 128#32
  let v6033 : BitVec 32 := Scalar.muli v6032 c128_i32_2658
  let v6034 : BitVec 32 := v6033
  let v6081 : Index := Scalar.indexCast v6034
  let c1024_2683 : Index := 1024#32
  ![v6081.toNat, 1024]
def k0_off341 (v5993 : BitVec 32) : Fin 2 → Nat :=
  let c128_i32_2634 : BitVec 32 := 128#32
  let v5994 : BitVec 32 := Scalar.muli v5993 c128_i32_2634
  let v5995 : BitVec 32 := v5994
  let v6096 : Index := Scalar.indexCast v5995
  let c1536_2694 : Index := 1536#32
  ![v6096.toNat, 1536]
def k0_off342 (v6006 : BitVec 32) : Fin 2 → Nat :=
  let c128_i32_2642 : BitVec 32 := 128#32
  let v6007 : BitVec 32 := Scalar.muli v6006 c128_i32_2642
  let v6008 : BitVec 32 := v6007
  let v6098 : Index := Scalar.indexCast v6008
  let c1536_2695 : Index := 1536#32
  ![v6098.toNat, 1536]
def k0_off343 (v6019 : BitVec 32) : Fin 2 → Nat :=
  let c128_i32_2650 : BitVec 32 := 128#32
  let v6020 : BitVec 32 := Scalar.muli v6019 c128_i32_2650
  let v6021 : BitVec 32 := v6020
  let v6100 : Index := Scalar.indexCast v6021
  let c1536_2696 : Index := 1536#32
  ![v6100.toNat, 1536]
def k0_off344 (v6032 : BitVec 32) : Fin 2 → Nat :=
  let c128_i32_2658 : BitVec 32 := 128#32
  let v6033 : BitVec 32 := Scalar.muli v6032 c128_i32_2658
  let v6034 : BitVec 32 := v6033
  let v6102 : Index := Scalar.indexCast v6034
  let c1536_2697 : Index := 1536#32
  ![v6102.toNat, 1536]
def k0_off345 (v5993 : BitVec 32) : Fin 2 → Nat :=
  let c128_i32_2634 : BitVec 32 := 128#32
  let v5994 : BitVec 32 := Scalar.muli v5993 c128_i32_2634
  let v5995 : BitVec 32 := v5994
  let v6114 : Index := Scalar.indexCast v5995
  let c2048_2703 : Index := 2048#32
  ![v6114.toNat, 2048]
def k0_off346 (v6006 : BitVec 32) : Fin 2 → Nat :=
  let c128_i32_2642 : BitVec 32 := 128#32
  let v6007 : BitVec 32 := Scalar.muli v6006 c128_i32_2642
  let v6008 : BitVec 32 := v6007
  let v6116 : Index := Scalar.indexCast v6008
  let c2048_2704 : Index := 2048#32
  ![v6116.toNat, 2048]
def k0_off347 (v6019 : BitVec 32) : Fin 2 → Nat :=
  let c128_i32_2650 : BitVec 32 := 128#32
  let v6020 : BitVec 32 := Scalar.muli v6019 c128_i32_2650
  let v6021 : BitVec 32 := v6020
  let v6118 : Index := Scalar.indexCast v6021
  let c2048_2705 : Index := 2048#32
  ![v6118.toNat, 2048]
def k0_off348 (v6032 : BitVec 32) : Fin 2 → Nat :=
  let c128_i32_2658 : BitVec 32 := 128#32
  let v6033 : BitVec 32 := Scalar.muli v6032 c128_i32_2658
  let v6034 : BitVec 32 := v6033
  let v6120 : Index := Scalar.indexCast v6034
  let c2048_2706 : Index := 2048#32
  ![v6120.toNat, 2048]
def k0_off349 (v5993 : BitVec 32) : Fin 2 → Nat :=
  let c128_i32_2634 : BitVec 32 := 128#32
  let v5994 : BitVec 32 := Scalar.muli v5993 c128_i32_2634
  let v5995 : BitVec 32 := v5994
  let v6132 : Index := Scalar.indexCast v5995
  let c2560_2712 : Index := 2560#32
  ![v6132.toNat, 2560]

def k0_chk52 (v5993 : BitVec 32) : Prop :=
  (128 ∣ (k0_mult41 v5993).toNat) ∧
  (∀ a, (k0_off329 v5993) a + S128x512.size a ≤ S640x3072.size a) ∧
  (∀ a, (k0_off333 v5993) a + S128x512.size a ≤ S640x3072.size a) ∧
  (∀ a, (k0_off337 v5993) a + S128x512.size a ≤ S640x3072.size a) ∧
  (∀ a, (k0_off341 v5993) a + S128x512.size a ≤ S640x3072.size a) ∧
  (∀ a, (k0_off345 v5993) a + S128x512.size a ≤ S640x3072.size a) ∧
  (∀ a, (k0_off349 v5993) a + S128x512.size a ≤ S640x3072.size a)
theorem k0_mult41_dvd : ∀ (v5993 : BitVec 32) (k0_hw52 : k0_chk52 v5993), 128 ∣ (k0_mult41 v5993).toNat := fun v5993 k0_hw52 => k0_hw52.1
theorem k0_off329_inb : ∀ (v5993 : BitVec 32) (k0_hw52 : k0_chk52 v5993), ∀ a, (k0_off329 v5993) a + S128x512.size a ≤ S640x3072.size a := fun v5993 k0_hw52 => k0_hw52.2.1
theorem k0_off333_inb : ∀ (v5993 : BitVec 32) (k0_hw52 : k0_chk52 v5993), ∀ a, (k0_off333 v5993) a + S128x512.size a ≤ S640x3072.size a := fun v5993 k0_hw52 => k0_hw52.2.2.1
theorem k0_off337_inb : ∀ (v5993 : BitVec 32) (k0_hw52 : k0_chk52 v5993), ∀ a, (k0_off337 v5993) a + S128x512.size a ≤ S640x3072.size a := fun v5993 k0_hw52 => k0_hw52.2.2.2.1
theorem k0_off341_inb : ∀ (v5993 : BitVec 32) (k0_hw52 : k0_chk52 v5993), ∀ a, (k0_off341 v5993) a + S128x512.size a ≤ S640x3072.size a := fun v5993 k0_hw52 => k0_hw52.2.2.2.2.1
theorem k0_off345_inb : ∀ (v5993 : BitVec 32) (k0_hw52 : k0_chk52 v5993), ∀ a, (k0_off345 v5993) a + S128x512.size a ≤ S640x3072.size a := fun v5993 k0_hw52 => k0_hw52.2.2.2.2.2.1
theorem k0_off349_inb : ∀ (v5993 : BitVec 32) (k0_hw52 : k0_chk52 v5993), ∀ a, (k0_off349 v5993) a + S128x512.size a ≤ S640x3072.size a := fun v5993 k0_hw52 => k0_hw52.2.2.2.2.2.2

def k0_off350 (v6006 : BitVec 32) : Fin 2 → Nat :=
  let c128_i32_2642 : BitVec 32 := 128#32
  let v6007 : BitVec 32 := Scalar.muli v6006 c128_i32_2642
  let v6008 : BitVec 32 := v6007
  let v6134 : Index := Scalar.indexCast v6008
  let c2560_2713 : Index := 2560#32
  ![v6134.toNat, 2560]

def k0_chk53 (v6006 : BitVec 32) : Prop :=
  (128 ∣ (k0_mult42 v6006).toNat) ∧
  (∀ a, (k0_off330 v6006) a + S128x512.size a ≤ S640x3072.size a) ∧
  (∀ a, (k0_off334 v6006) a + S128x512.size a ≤ S640x3072.size a) ∧
  (∀ a, (k0_off338 v6006) a + S128x512.size a ≤ S640x3072.size a) ∧
  (∀ a, (k0_off342 v6006) a + S128x512.size a ≤ S640x3072.size a) ∧
  (∀ a, (k0_off346 v6006) a + S128x512.size a ≤ S640x3072.size a) ∧
  (∀ a, (k0_off350 v6006) a + S128x512.size a ≤ S640x3072.size a)
theorem k0_mult42_dvd : ∀ (v6006 : BitVec 32) (k0_hw53 : k0_chk53 v6006), 128 ∣ (k0_mult42 v6006).toNat := fun v6006 k0_hw53 => k0_hw53.1
theorem k0_off330_inb : ∀ (v6006 : BitVec 32) (k0_hw53 : k0_chk53 v6006), ∀ a, (k0_off330 v6006) a + S128x512.size a ≤ S640x3072.size a := fun v6006 k0_hw53 => k0_hw53.2.1
theorem k0_off334_inb : ∀ (v6006 : BitVec 32) (k0_hw53 : k0_chk53 v6006), ∀ a, (k0_off334 v6006) a + S128x512.size a ≤ S640x3072.size a := fun v6006 k0_hw53 => k0_hw53.2.2.1
theorem k0_off338_inb : ∀ (v6006 : BitVec 32) (k0_hw53 : k0_chk53 v6006), ∀ a, (k0_off338 v6006) a + S128x512.size a ≤ S640x3072.size a := fun v6006 k0_hw53 => k0_hw53.2.2.2.1
theorem k0_off342_inb : ∀ (v6006 : BitVec 32) (k0_hw53 : k0_chk53 v6006), ∀ a, (k0_off342 v6006) a + S128x512.size a ≤ S640x3072.size a := fun v6006 k0_hw53 => k0_hw53.2.2.2.2.1
theorem k0_off346_inb : ∀ (v6006 : BitVec 32) (k0_hw53 : k0_chk53 v6006), ∀ a, (k0_off346 v6006) a + S128x512.size a ≤ S640x3072.size a := fun v6006 k0_hw53 => k0_hw53.2.2.2.2.2.1
theorem k0_off350_inb : ∀ (v6006 : BitVec 32) (k0_hw53 : k0_chk53 v6006), ∀ a, (k0_off350 v6006) a + S128x512.size a ≤ S640x3072.size a := fun v6006 k0_hw53 => k0_hw53.2.2.2.2.2.2

def k0_off351 (v6019 : BitVec 32) : Fin 2 → Nat :=
  let c128_i32_2650 : BitVec 32 := 128#32
  let v6020 : BitVec 32 := Scalar.muli v6019 c128_i32_2650
  let v6021 : BitVec 32 := v6020
  let v6136 : Index := Scalar.indexCast v6021
  let c2560_2714 : Index := 2560#32
  ![v6136.toNat, 2560]

def k0_chk54 (v6019 : BitVec 32) : Prop :=
  (128 ∣ (k0_mult43 v6019).toNat) ∧
  (∀ a, (k0_off331 v6019) a + S128x512.size a ≤ S640x3072.size a) ∧
  (∀ a, (k0_off335 v6019) a + S128x512.size a ≤ S640x3072.size a) ∧
  (∀ a, (k0_off339 v6019) a + S128x512.size a ≤ S640x3072.size a) ∧
  (∀ a, (k0_off343 v6019) a + S128x512.size a ≤ S640x3072.size a) ∧
  (∀ a, (k0_off347 v6019) a + S128x512.size a ≤ S640x3072.size a) ∧
  (∀ a, (k0_off351 v6019) a + S128x512.size a ≤ S640x3072.size a)
theorem k0_mult43_dvd : ∀ (v6019 : BitVec 32) (k0_hw54 : k0_chk54 v6019), 128 ∣ (k0_mult43 v6019).toNat := fun v6019 k0_hw54 => k0_hw54.1
theorem k0_off331_inb : ∀ (v6019 : BitVec 32) (k0_hw54 : k0_chk54 v6019), ∀ a, (k0_off331 v6019) a + S128x512.size a ≤ S640x3072.size a := fun v6019 k0_hw54 => k0_hw54.2.1
theorem k0_off335_inb : ∀ (v6019 : BitVec 32) (k0_hw54 : k0_chk54 v6019), ∀ a, (k0_off335 v6019) a + S128x512.size a ≤ S640x3072.size a := fun v6019 k0_hw54 => k0_hw54.2.2.1
theorem k0_off339_inb : ∀ (v6019 : BitVec 32) (k0_hw54 : k0_chk54 v6019), ∀ a, (k0_off339 v6019) a + S128x512.size a ≤ S640x3072.size a := fun v6019 k0_hw54 => k0_hw54.2.2.2.1
theorem k0_off343_inb : ∀ (v6019 : BitVec 32) (k0_hw54 : k0_chk54 v6019), ∀ a, (k0_off343 v6019) a + S128x512.size a ≤ S640x3072.size a := fun v6019 k0_hw54 => k0_hw54.2.2.2.2.1
theorem k0_off347_inb : ∀ (v6019 : BitVec 32) (k0_hw54 : k0_chk54 v6019), ∀ a, (k0_off347 v6019) a + S128x512.size a ≤ S640x3072.size a := fun v6019 k0_hw54 => k0_hw54.2.2.2.2.2.1
theorem k0_off351_inb : ∀ (v6019 : BitVec 32) (k0_hw54 : k0_chk54 v6019), ∀ a, (k0_off351 v6019) a + S128x512.size a ≤ S640x3072.size a := fun v6019 k0_hw54 => k0_hw54.2.2.2.2.2.2

def k0_off352 (v6032 : BitVec 32) : Fin 2 → Nat :=
  let c128_i32_2658 : BitVec 32 := 128#32
  let v6033 : BitVec 32 := Scalar.muli v6032 c128_i32_2658
  let v6034 : BitVec 32 := v6033
  let v6138 : Index := Scalar.indexCast v6034
  let c2560_2715 : Index := 2560#32
  ![v6138.toNat, 2560]

def k0_chk55 (v6032 : BitVec 32) : Prop :=
  (128 ∣ (k0_mult44 v6032).toNat) ∧
  (∀ a, (k0_off332 v6032) a + S128x512.size a ≤ S640x3072.size a) ∧
  (∀ a, (k0_off336 v6032) a + S128x512.size a ≤ S640x3072.size a) ∧
  (∀ a, (k0_off340 v6032) a + S128x512.size a ≤ S640x3072.size a) ∧
  (∀ a, (k0_off344 v6032) a + S128x512.size a ≤ S640x3072.size a) ∧
  (∀ a, (k0_off348 v6032) a + S128x512.size a ≤ S640x3072.size a) ∧
  (∀ a, (k0_off352 v6032) a + S128x512.size a ≤ S640x3072.size a)
theorem k0_mult44_dvd : ∀ (v6032 : BitVec 32) (k0_hw55 : k0_chk55 v6032), 128 ∣ (k0_mult44 v6032).toNat := fun v6032 k0_hw55 => k0_hw55.1
theorem k0_off332_inb : ∀ (v6032 : BitVec 32) (k0_hw55 : k0_chk55 v6032), ∀ a, (k0_off332 v6032) a + S128x512.size a ≤ S640x3072.size a := fun v6032 k0_hw55 => k0_hw55.2.1
theorem k0_off336_inb : ∀ (v6032 : BitVec 32) (k0_hw55 : k0_chk55 v6032), ∀ a, (k0_off336 v6032) a + S128x512.size a ≤ S640x3072.size a := fun v6032 k0_hw55 => k0_hw55.2.2.1
theorem k0_off340_inb : ∀ (v6032 : BitVec 32) (k0_hw55 : k0_chk55 v6032), ∀ a, (k0_off340 v6032) a + S128x512.size a ≤ S640x3072.size a := fun v6032 k0_hw55 => k0_hw55.2.2.2.1
theorem k0_off344_inb : ∀ (v6032 : BitVec 32) (k0_hw55 : k0_chk55 v6032), ∀ a, (k0_off344 v6032) a + S128x512.size a ≤ S640x3072.size a := fun v6032 k0_hw55 => k0_hw55.2.2.2.2.1
theorem k0_off348_inb : ∀ (v6032 : BitVec 32) (k0_hw55 : k0_chk55 v6032), ∀ a, (k0_off348 v6032) a + S128x512.size a ≤ S640x3072.size a := fun v6032 k0_hw55 => k0_hw55.2.2.2.2.2.1
theorem k0_off352_inb : ∀ (v6032 : BitVec 32) (k0_hw55 : k0_chk55 v6032), ∀ a, (k0_off352 v6032) a + S128x512.size a ≤ S640x3072.size a := fun v6032 k0_hw55 => k0_hw55.2.2.2.2.2.2

def k0_off353 (v6153 : BitVec 32) (v6154 : BitVec 32) : Fin 3 → Nat :=
  let c0_i32_2730 : BitVec 32 := 0#32
  let v6155 : BitVec 32 := Scalar.addi v6153 c0_i32_2730
  let v6156 : BitVec 1 := Scalar.cmpi .slt v6155 v6154
  let c0_i32_2731 : BitVec 32 := 0#32
  let v6157 : BitVec 32 := Scalar.addi v6153 c0_i32_2731
  let c19_i32_2732 : BitVec 32 := 19#32
  let v6158 : BitVec 32 := Scalar.minsi v6153 c19_i32_2732
  let v6159 : BitVec 32 := Scalar.select v6156 v6157 v6158
  let c20_i32_2733 : BitVec 32 := 20#32
  let v6160 : BitVec 32 := Scalar.select v6156 v6159 c20_i32_2733
  let v6161 : Index := Scalar.indexCast v6160
  let c0_2734 : Index := 0#32
  let c0_2735 : Index := 0#32
  ![v6161.toNat, 0, 0]

def k0_off354 (v6153 : BitVec 32) (v6154 : BitVec 32) : Fin 2 → Nat :=
  let c2_2736 : Index := 2#32
  let c0_i32_2730 : BitVec 32 := 0#32
  let v6155 : BitVec 32 := Scalar.addi v6153 c0_i32_2730
  let v6156 : BitVec 1 := Scalar.cmpi .slt v6155 v6154
  let c0_i32_2731 : BitVec 32 := 0#32
  let v6157 : BitVec 32 := Scalar.addi v6153 c0_i32_2731
  let c19_i32_2732 : BitVec 32 := 19#32
  let v6158 : BitVec 32 := Scalar.minsi v6153 c19_i32_2732
  let v6159 : BitVec 32 := Scalar.select v6156 v6157 v6158
  let v6164 : Index := Scalar.indexCast v6159
  ![2, v6164.toNat]
def k0_mult45 (v6165 : BitVec 32) : BitVec 32 :=
  let c128_i32_2737 : BitVec 32 := 128#32
  let v6166 : BitVec 32 := Scalar.muli v6165 c128_i32_2737
  v6166

def k0_off355 (v6153 : BitVec 32) (v6154 : BitVec 32) : Fin 3 → Nat :=
  let c1_i32_2738 : BitVec 32 := 1#32
  let v6168 : BitVec 32 := Scalar.addi v6153 c1_i32_2738
  let v6169 : BitVec 1 := Scalar.cmpi .slt v6168 v6154
  let c1_i32_2739 : BitVec 32 := 1#32
  let v6170 : BitVec 32 := Scalar.addi v6153 c1_i32_2739
  let c19_i32_2740 : BitVec 32 := 19#32
  let v6171 : BitVec 32 := Scalar.minsi v6153 c19_i32_2740
  let v6172 : BitVec 32 := Scalar.select v6169 v6170 v6171
  let c20_i32_2741 : BitVec 32 := 20#32
  let v6173 : BitVec 32 := Scalar.select v6169 v6172 c20_i32_2741
  let v6174 : Index := Scalar.indexCast v6173
  let c0_2742 : Index := 0#32
  let c0_2743 : Index := 0#32
  ![v6174.toNat, 0, 0]
def k0_off356 (v6153 : BitVec 32) (v6154 : BitVec 32) : Fin 2 → Nat :=
  let c2_2744 : Index := 2#32
  let c1_i32_2738 : BitVec 32 := 1#32
  let v6168 : BitVec 32 := Scalar.addi v6153 c1_i32_2738
  let v6169 : BitVec 1 := Scalar.cmpi .slt v6168 v6154
  let c1_i32_2739 : BitVec 32 := 1#32
  let v6170 : BitVec 32 := Scalar.addi v6153 c1_i32_2739
  let c19_i32_2740 : BitVec 32 := 19#32
  let v6171 : BitVec 32 := Scalar.minsi v6153 c19_i32_2740
  let v6172 : BitVec 32 := Scalar.select v6169 v6170 v6171
  let v6177 : Index := Scalar.indexCast v6172
  ![2, v6177.toNat]
def k0_mult46 (v6178 : BitVec 32) : BitVec 32 :=
  let c128_i32_2745 : BitVec 32 := 128#32
  let v6179 : BitVec 32 := Scalar.muli v6178 c128_i32_2745
  v6179

def k0_off357 (v6153 : BitVec 32) (v6154 : BitVec 32) : Fin 3 → Nat :=
  let c2_i32_2746 : BitVec 32 := 2#32
  let v6181 : BitVec 32 := Scalar.addi v6153 c2_i32_2746
  let v6182 : BitVec 1 := Scalar.cmpi .slt v6181 v6154
  let c2_i32_2747 : BitVec 32 := 2#32
  let v6183 : BitVec 32 := Scalar.addi v6153 c2_i32_2747
  let c19_i32_2748 : BitVec 32 := 19#32
  let v6184 : BitVec 32 := Scalar.minsi v6153 c19_i32_2748
  let v6185 : BitVec 32 := Scalar.select v6182 v6183 v6184
  let c20_i32_2749 : BitVec 32 := 20#32
  let v6186 : BitVec 32 := Scalar.select v6182 v6185 c20_i32_2749
  let v6187 : Index := Scalar.indexCast v6186
  let c0_2750 : Index := 0#32
  let c0_2751 : Index := 0#32
  ![v6187.toNat, 0, 0]
def k0_off358 (v6153 : BitVec 32) (v6154 : BitVec 32) : Fin 2 → Nat :=
  let c2_2752 : Index := 2#32
  let c2_i32_2746 : BitVec 32 := 2#32
  let v6181 : BitVec 32 := Scalar.addi v6153 c2_i32_2746
  let v6182 : BitVec 1 := Scalar.cmpi .slt v6181 v6154
  let c2_i32_2747 : BitVec 32 := 2#32
  let v6183 : BitVec 32 := Scalar.addi v6153 c2_i32_2747
  let c19_i32_2748 : BitVec 32 := 19#32
  let v6184 : BitVec 32 := Scalar.minsi v6153 c19_i32_2748
  let v6185 : BitVec 32 := Scalar.select v6182 v6183 v6184
  let v6190 : Index := Scalar.indexCast v6185
  ![2, v6190.toNat]
def k0_mult47 (v6191 : BitVec 32) : BitVec 32 :=
  let c128_i32_2753 : BitVec 32 := 128#32
  let v6192 : BitVec 32 := Scalar.muli v6191 c128_i32_2753
  v6192

def k0_off359 (v6153 : BitVec 32) (v6154 : BitVec 32) : Fin 3 → Nat :=
  let c3_i32_2754 : BitVec 32 := 3#32
  let v6194 : BitVec 32 := Scalar.addi v6153 c3_i32_2754
  let v6195 : BitVec 1 := Scalar.cmpi .slt v6194 v6154
  let c3_i32_2755 : BitVec 32 := 3#32
  let v6196 : BitVec 32 := Scalar.addi v6153 c3_i32_2755
  let c19_i32_2756 : BitVec 32 := 19#32
  let v6197 : BitVec 32 := Scalar.minsi v6153 c19_i32_2756
  let v6198 : BitVec 32 := Scalar.select v6195 v6196 v6197
  let c20_i32_2757 : BitVec 32 := 20#32
  let v6199 : BitVec 32 := Scalar.select v6195 v6198 c20_i32_2757
  let v6200 : Index := Scalar.indexCast v6199
  let c0_2758 : Index := 0#32
  let c0_2759 : Index := 0#32
  ![v6200.toNat, 0, 0]
def k0_off360 (v6153 : BitVec 32) (v6154 : BitVec 32) : Fin 2 → Nat :=
  let c2_2760 : Index := 2#32
  let c3_i32_2754 : BitVec 32 := 3#32
  let v6194 : BitVec 32 := Scalar.addi v6153 c3_i32_2754
  let v6195 : BitVec 1 := Scalar.cmpi .slt v6194 v6154
  let c3_i32_2755 : BitVec 32 := 3#32
  let v6196 : BitVec 32 := Scalar.addi v6153 c3_i32_2755
  let c19_i32_2756 : BitVec 32 := 19#32
  let v6197 : BitVec 32 := Scalar.minsi v6153 c19_i32_2756
  let v6198 : BitVec 32 := Scalar.select v6195 v6196 v6197
  let v6203 : Index := Scalar.indexCast v6198
  ![2, v6203.toNat]

def k0_chk56 (v6153 : BitVec 32) (v6154 : BitVec 32) : Prop :=
  (∀ a, (k0_off353 v6153 v6154) a + S1x128x128.size a ≤ S21x128x128.size a) ∧
  (∀ a, (k0_off354 v6153 v6154) a + S1x1.size a ≤ S3x20.size a) ∧
  (∀ a, (k0_off355 v6153 v6154) a + S1x128x128.size a ≤ S21x128x128.size a) ∧
  (∀ a, (k0_off356 v6153 v6154) a + S1x1.size a ≤ S3x20.size a) ∧
  (∀ a, (k0_off357 v6153 v6154) a + S1x128x128.size a ≤ S21x128x128.size a) ∧
  (∀ a, (k0_off358 v6153 v6154) a + S1x1.size a ≤ S3x20.size a) ∧
  (∀ a, (k0_off359 v6153 v6154) a + S1x128x128.size a ≤ S21x128x128.size a) ∧
  (∀ a, (k0_off360 v6153 v6154) a + S1x1.size a ≤ S3x20.size a)
theorem k0_off353_inb : ∀ (v6153 : BitVec 32) (v6154 : BitVec 32) (k0_hw56 : k0_chk56 v6153 v6154), ∀ a, (k0_off353 v6153 v6154) a + S1x128x128.size a ≤ S21x128x128.size a := fun v6153 v6154 k0_hw56 => k0_hw56.1
theorem k0_off354_inb : ∀ (v6153 : BitVec 32) (v6154 : BitVec 32) (k0_hw56 : k0_chk56 v6153 v6154), ∀ a, (k0_off354 v6153 v6154) a + S1x1.size a ≤ S3x20.size a := fun v6153 v6154 k0_hw56 => k0_hw56.2.1
theorem k0_off355_inb : ∀ (v6153 : BitVec 32) (v6154 : BitVec 32) (k0_hw56 : k0_chk56 v6153 v6154), ∀ a, (k0_off355 v6153 v6154) a + S1x128x128.size a ≤ S21x128x128.size a := fun v6153 v6154 k0_hw56 => k0_hw56.2.2.1
theorem k0_off356_inb : ∀ (v6153 : BitVec 32) (v6154 : BitVec 32) (k0_hw56 : k0_chk56 v6153 v6154), ∀ a, (k0_off356 v6153 v6154) a + S1x1.size a ≤ S3x20.size a := fun v6153 v6154 k0_hw56 => k0_hw56.2.2.2.1
theorem k0_off357_inb : ∀ (v6153 : BitVec 32) (v6154 : BitVec 32) (k0_hw56 : k0_chk56 v6153 v6154), ∀ a, (k0_off357 v6153 v6154) a + S1x128x128.size a ≤ S21x128x128.size a := fun v6153 v6154 k0_hw56 => k0_hw56.2.2.2.2.1
theorem k0_off358_inb : ∀ (v6153 : BitVec 32) (v6154 : BitVec 32) (k0_hw56 : k0_chk56 v6153 v6154), ∀ a, (k0_off358 v6153 v6154) a + S1x1.size a ≤ S3x20.size a := fun v6153 v6154 k0_hw56 => k0_hw56.2.2.2.2.2.1
theorem k0_off359_inb : ∀ (v6153 : BitVec 32) (v6154 : BitVec 32) (k0_hw56 : k0_chk56 v6153 v6154), ∀ a, (k0_off359 v6153 v6154) a + S1x128x128.size a ≤ S21x128x128.size a := fun v6153 v6154 k0_hw56 => k0_hw56.2.2.2.2.2.2.1
theorem k0_off360_inb : ∀ (v6153 : BitVec 32) (v6154 : BitVec 32) (k0_hw56 : k0_chk56 v6153 v6154), ∀ a, (k0_off360 v6153 v6154) a + S1x1.size a ≤ S3x20.size a := fun v6153 v6154 k0_hw56 => k0_hw56.2.2.2.2.2.2.2

def k0_mult48 (v6204 : BitVec 32) : BitVec 32 :=
  let c128_i32_2761 : BitVec 32 := 128#32
  let v6205 : BitVec 32 := Scalar.muli v6204 c128_i32_2761
  v6205

def k0_off361 (v6165 : BitVec 32) : Fin 2 → Nat :=
  let c128_i32_2737 : BitVec 32 := 128#32
  let v6166 : BitVec 32 := Scalar.muli v6165 c128_i32_2737
  let v6167 : BitVec 32 := v6166
  let v6211 : Index := Scalar.indexCast v6167
  let c0_2765 : Index := 0#32
  ![v6211.toNat, 0]
def k0_off362 (v6178 : BitVec 32) : Fin 2 → Nat :=
  let c128_i32_2745 : BitVec 32 := 128#32
  let v6179 : BitVec 32 := Scalar.muli v6178 c128_i32_2745
  let v6180 : BitVec 32 := v6179
  let v6213 : Index := Scalar.indexCast v6180
  let c0_2766 : Index := 0#32
  ![v6213.toNat, 0]
def k0_off363 (v6191 : BitVec 32) : Fin 2 → Nat :=
  let c128_i32_2753 : BitVec 32 := 128#32
  let v6192 : BitVec 32 := Scalar.muli v6191 c128_i32_2753
  let v6193 : BitVec 32 := v6192
  let v6215 : Index := Scalar.indexCast v6193
  let c0_2767 : Index := 0#32
  ![v6215.toNat, 0]
def k0_off364 (v6204 : BitVec 32) : Fin 2 → Nat :=
  let c128_i32_2761 : BitVec 32 := 128#32
  let v6205 : BitVec 32 := Scalar.muli v6204 c128_i32_2761
  let v6206 : BitVec 32 := v6205
  let v6217 : Index := Scalar.indexCast v6206
  let c0_2768 : Index := 0#32
  ![v6217.toNat, 0]
def k0_off365 (v6165 : BitVec 32) : Fin 2 → Nat :=
  let c128_i32_2737 : BitVec 32 := 128#32
  let v6166 : BitVec 32 := Scalar.muli v6165 c128_i32_2737
  let v6167 : BitVec 32 := v6166
  let v6229 : Index := Scalar.indexCast v6167
  let c512_2774 : Index := 512#32
  ![v6229.toNat, 512]
def k0_off366 (v6178 : BitVec 32) : Fin 2 → Nat :=
  let c128_i32_2745 : BitVec 32 := 128#32
  let v6179 : BitVec 32 := Scalar.muli v6178 c128_i32_2745
  let v6180 : BitVec 32 := v6179
  let v6231 : Index := Scalar.indexCast v6180
  let c512_2775 : Index := 512#32
  ![v6231.toNat, 512]
def k0_off367 (v6191 : BitVec 32) : Fin 2 → Nat :=
  let c128_i32_2753 : BitVec 32 := 128#32
  let v6192 : BitVec 32 := Scalar.muli v6191 c128_i32_2753
  let v6193 : BitVec 32 := v6192
  let v6233 : Index := Scalar.indexCast v6193
  let c512_2776 : Index := 512#32
  ![v6233.toNat, 512]
def k0_off368 (v6204 : BitVec 32) : Fin 2 → Nat :=
  let c128_i32_2761 : BitVec 32 := 128#32
  let v6205 : BitVec 32 := Scalar.muli v6204 c128_i32_2761
  let v6206 : BitVec 32 := v6205
  let v6235 : Index := Scalar.indexCast v6206
  let c512_2777 : Index := 512#32
  ![v6235.toNat, 512]
def k0_off369 (v6165 : BitVec 32) : Fin 2 → Nat :=
  let c128_i32_2737 : BitVec 32 := 128#32
  let v6166 : BitVec 32 := Scalar.muli v6165 c128_i32_2737
  let v6167 : BitVec 32 := v6166
  let v6247 : Index := Scalar.indexCast v6167
  let c1024_2783 : Index := 1024#32
  ![v6247.toNat, 1024]
def k0_off370 (v6178 : BitVec 32) : Fin 2 → Nat :=
  let c128_i32_2745 : BitVec 32 := 128#32
  let v6179 : BitVec 32 := Scalar.muli v6178 c128_i32_2745
  let v6180 : BitVec 32 := v6179
  let v6249 : Index := Scalar.indexCast v6180
  let c1024_2784 : Index := 1024#32
  ![v6249.toNat, 1024]
def k0_off371 (v6191 : BitVec 32) : Fin 2 → Nat :=
  let c128_i32_2753 : BitVec 32 := 128#32
  let v6192 : BitVec 32 := Scalar.muli v6191 c128_i32_2753
  let v6193 : BitVec 32 := v6192
  let v6251 : Index := Scalar.indexCast v6193
  let c1024_2785 : Index := 1024#32
  ![v6251.toNat, 1024]
def k0_off372 (v6204 : BitVec 32) : Fin 2 → Nat :=
  let c128_i32_2761 : BitVec 32 := 128#32
  let v6205 : BitVec 32 := Scalar.muli v6204 c128_i32_2761
  let v6206 : BitVec 32 := v6205
  let v6253 : Index := Scalar.indexCast v6206
  let c1024_2786 : Index := 1024#32
  ![v6253.toNat, 1024]
def k0_off373 (v6165 : BitVec 32) : Fin 2 → Nat :=
  let c128_i32_2737 : BitVec 32 := 128#32
  let v6166 : BitVec 32 := Scalar.muli v6165 c128_i32_2737
  let v6167 : BitVec 32 := v6166
  let v6268 : Index := Scalar.indexCast v6167
  let c1536_2797 : Index := 1536#32
  ![v6268.toNat, 1536]
def k0_off374 (v6178 : BitVec 32) : Fin 2 → Nat :=
  let c128_i32_2745 : BitVec 32 := 128#32
  let v6179 : BitVec 32 := Scalar.muli v6178 c128_i32_2745
  let v6180 : BitVec 32 := v6179
  let v6270 : Index := Scalar.indexCast v6180
  let c1536_2798 : Index := 1536#32
  ![v6270.toNat, 1536]
def k0_off375 (v6191 : BitVec 32) : Fin 2 → Nat :=
  let c128_i32_2753 : BitVec 32 := 128#32
  let v6192 : BitVec 32 := Scalar.muli v6191 c128_i32_2753
  let v6193 : BitVec 32 := v6192
  let v6272 : Index := Scalar.indexCast v6193
  let c1536_2799 : Index := 1536#32
  ![v6272.toNat, 1536]
def k0_off376 (v6204 : BitVec 32) : Fin 2 → Nat :=
  let c128_i32_2761 : BitVec 32 := 128#32
  let v6205 : BitVec 32 := Scalar.muli v6204 c128_i32_2761
  let v6206 : BitVec 32 := v6205
  let v6274 : Index := Scalar.indexCast v6206
  let c1536_2800 : Index := 1536#32
  ![v6274.toNat, 1536]
def k0_off377 (v6165 : BitVec 32) : Fin 2 → Nat :=
  let c128_i32_2737 : BitVec 32 := 128#32
  let v6166 : BitVec 32 := Scalar.muli v6165 c128_i32_2737
  let v6167 : BitVec 32 := v6166
  let v6286 : Index := Scalar.indexCast v6167
  let c2048_2806 : Index := 2048#32
  ![v6286.toNat, 2048]
def k0_off378 (v6178 : BitVec 32) : Fin 2 → Nat :=
  let c128_i32_2745 : BitVec 32 := 128#32
  let v6179 : BitVec 32 := Scalar.muli v6178 c128_i32_2745
  let v6180 : BitVec 32 := v6179
  let v6288 : Index := Scalar.indexCast v6180
  let c2048_2807 : Index := 2048#32
  ![v6288.toNat, 2048]
def k0_off379 (v6191 : BitVec 32) : Fin 2 → Nat :=
  let c128_i32_2753 : BitVec 32 := 128#32
  let v6192 : BitVec 32 := Scalar.muli v6191 c128_i32_2753
  let v6193 : BitVec 32 := v6192
  let v6290 : Index := Scalar.indexCast v6193
  let c2048_2808 : Index := 2048#32
  ![v6290.toNat, 2048]
def k0_off380 (v6204 : BitVec 32) : Fin 2 → Nat :=
  let c128_i32_2761 : BitVec 32 := 128#32
  let v6205 : BitVec 32 := Scalar.muli v6204 c128_i32_2761
  let v6206 : BitVec 32 := v6205
  let v6292 : Index := Scalar.indexCast v6206
  let c2048_2809 : Index := 2048#32
  ![v6292.toNat, 2048]
def k0_off381 (v6165 : BitVec 32) : Fin 2 → Nat :=
  let c128_i32_2737 : BitVec 32 := 128#32
  let v6166 : BitVec 32 := Scalar.muli v6165 c128_i32_2737
  let v6167 : BitVec 32 := v6166
  let v6304 : Index := Scalar.indexCast v6167
  let c2560_2815 : Index := 2560#32
  ![v6304.toNat, 2560]

def k0_chk57 (v6165 : BitVec 32) : Prop :=
  (128 ∣ (k0_mult45 v6165).toNat) ∧
  (∀ a, (k0_off361 v6165) a + S128x512.size a ≤ S640x3072.size a) ∧
  (∀ a, (k0_off365 v6165) a + S128x512.size a ≤ S640x3072.size a) ∧
  (∀ a, (k0_off369 v6165) a + S128x512.size a ≤ S640x3072.size a) ∧
  (∀ a, (k0_off373 v6165) a + S128x512.size a ≤ S640x3072.size a) ∧
  (∀ a, (k0_off377 v6165) a + S128x512.size a ≤ S640x3072.size a) ∧
  (∀ a, (k0_off381 v6165) a + S128x512.size a ≤ S640x3072.size a)
theorem k0_mult45_dvd : ∀ (v6165 : BitVec 32) (k0_hw57 : k0_chk57 v6165), 128 ∣ (k0_mult45 v6165).toNat := fun v6165 k0_hw57 => k0_hw57.1
theorem k0_off361_inb : ∀ (v6165 : BitVec 32) (k0_hw57 : k0_chk57 v6165), ∀ a, (k0_off361 v6165) a + S128x512.size a ≤ S640x3072.size a := fun v6165 k0_hw57 => k0_hw57.2.1
theorem k0_off365_inb : ∀ (v6165 : BitVec 32) (k0_hw57 : k0_chk57 v6165), ∀ a, (k0_off365 v6165) a + S128x512.size a ≤ S640x3072.size a := fun v6165 k0_hw57 => k0_hw57.2.2.1
theorem k0_off369_inb : ∀ (v6165 : BitVec 32) (k0_hw57 : k0_chk57 v6165), ∀ a, (k0_off369 v6165) a + S128x512.size a ≤ S640x3072.size a := fun v6165 k0_hw57 => k0_hw57.2.2.2.1
theorem k0_off373_inb : ∀ (v6165 : BitVec 32) (k0_hw57 : k0_chk57 v6165), ∀ a, (k0_off373 v6165) a + S128x512.size a ≤ S640x3072.size a := fun v6165 k0_hw57 => k0_hw57.2.2.2.2.1
theorem k0_off377_inb : ∀ (v6165 : BitVec 32) (k0_hw57 : k0_chk57 v6165), ∀ a, (k0_off377 v6165) a + S128x512.size a ≤ S640x3072.size a := fun v6165 k0_hw57 => k0_hw57.2.2.2.2.2.1
theorem k0_off381_inb : ∀ (v6165 : BitVec 32) (k0_hw57 : k0_chk57 v6165), ∀ a, (k0_off381 v6165) a + S128x512.size a ≤ S640x3072.size a := fun v6165 k0_hw57 => k0_hw57.2.2.2.2.2.2

def k0_off382 (v6178 : BitVec 32) : Fin 2 → Nat :=
  let c128_i32_2745 : BitVec 32 := 128#32
  let v6179 : BitVec 32 := Scalar.muli v6178 c128_i32_2745
  let v6180 : BitVec 32 := v6179
  let v6306 : Index := Scalar.indexCast v6180
  let c2560_2816 : Index := 2560#32
  ![v6306.toNat, 2560]

def k0_chk58 (v6178 : BitVec 32) : Prop :=
  (128 ∣ (k0_mult46 v6178).toNat) ∧
  (∀ a, (k0_off362 v6178) a + S128x512.size a ≤ S640x3072.size a) ∧
  (∀ a, (k0_off366 v6178) a + S128x512.size a ≤ S640x3072.size a) ∧
  (∀ a, (k0_off370 v6178) a + S128x512.size a ≤ S640x3072.size a) ∧
  (∀ a, (k0_off374 v6178) a + S128x512.size a ≤ S640x3072.size a) ∧
  (∀ a, (k0_off378 v6178) a + S128x512.size a ≤ S640x3072.size a) ∧
  (∀ a, (k0_off382 v6178) a + S128x512.size a ≤ S640x3072.size a)
theorem k0_mult46_dvd : ∀ (v6178 : BitVec 32) (k0_hw58 : k0_chk58 v6178), 128 ∣ (k0_mult46 v6178).toNat := fun v6178 k0_hw58 => k0_hw58.1
theorem k0_off362_inb : ∀ (v6178 : BitVec 32) (k0_hw58 : k0_chk58 v6178), ∀ a, (k0_off362 v6178) a + S128x512.size a ≤ S640x3072.size a := fun v6178 k0_hw58 => k0_hw58.2.1
theorem k0_off366_inb : ∀ (v6178 : BitVec 32) (k0_hw58 : k0_chk58 v6178), ∀ a, (k0_off366 v6178) a + S128x512.size a ≤ S640x3072.size a := fun v6178 k0_hw58 => k0_hw58.2.2.1
theorem k0_off370_inb : ∀ (v6178 : BitVec 32) (k0_hw58 : k0_chk58 v6178), ∀ a, (k0_off370 v6178) a + S128x512.size a ≤ S640x3072.size a := fun v6178 k0_hw58 => k0_hw58.2.2.2.1
theorem k0_off374_inb : ∀ (v6178 : BitVec 32) (k0_hw58 : k0_chk58 v6178), ∀ a, (k0_off374 v6178) a + S128x512.size a ≤ S640x3072.size a := fun v6178 k0_hw58 => k0_hw58.2.2.2.2.1
theorem k0_off378_inb : ∀ (v6178 : BitVec 32) (k0_hw58 : k0_chk58 v6178), ∀ a, (k0_off378 v6178) a + S128x512.size a ≤ S640x3072.size a := fun v6178 k0_hw58 => k0_hw58.2.2.2.2.2.1
theorem k0_off382_inb : ∀ (v6178 : BitVec 32) (k0_hw58 : k0_chk58 v6178), ∀ a, (k0_off382 v6178) a + S128x512.size a ≤ S640x3072.size a := fun v6178 k0_hw58 => k0_hw58.2.2.2.2.2.2

def k0_off383 (v6191 : BitVec 32) : Fin 2 → Nat :=
  let c128_i32_2753 : BitVec 32 := 128#32
  let v6192 : BitVec 32 := Scalar.muli v6191 c128_i32_2753
  let v6193 : BitVec 32 := v6192
  let v6308 : Index := Scalar.indexCast v6193
  let c2560_2817 : Index := 2560#32
  ![v6308.toNat, 2560]

def k0_chk59 (v6191 : BitVec 32) : Prop :=
  (128 ∣ (k0_mult47 v6191).toNat) ∧
  (∀ a, (k0_off363 v6191) a + S128x512.size a ≤ S640x3072.size a) ∧
  (∀ a, (k0_off367 v6191) a + S128x512.size a ≤ S640x3072.size a) ∧
  (∀ a, (k0_off371 v6191) a + S128x512.size a ≤ S640x3072.size a) ∧
  (∀ a, (k0_off375 v6191) a + S128x512.size a ≤ S640x3072.size a) ∧
  (∀ a, (k0_off379 v6191) a + S128x512.size a ≤ S640x3072.size a) ∧
  (∀ a, (k0_off383 v6191) a + S128x512.size a ≤ S640x3072.size a)
theorem k0_mult47_dvd : ∀ (v6191 : BitVec 32) (k0_hw59 : k0_chk59 v6191), 128 ∣ (k0_mult47 v6191).toNat := fun v6191 k0_hw59 => k0_hw59.1
theorem k0_off363_inb : ∀ (v6191 : BitVec 32) (k0_hw59 : k0_chk59 v6191), ∀ a, (k0_off363 v6191) a + S128x512.size a ≤ S640x3072.size a := fun v6191 k0_hw59 => k0_hw59.2.1
theorem k0_off367_inb : ∀ (v6191 : BitVec 32) (k0_hw59 : k0_chk59 v6191), ∀ a, (k0_off367 v6191) a + S128x512.size a ≤ S640x3072.size a := fun v6191 k0_hw59 => k0_hw59.2.2.1
theorem k0_off371_inb : ∀ (v6191 : BitVec 32) (k0_hw59 : k0_chk59 v6191), ∀ a, (k0_off371 v6191) a + S128x512.size a ≤ S640x3072.size a := fun v6191 k0_hw59 => k0_hw59.2.2.2.1
theorem k0_off375_inb : ∀ (v6191 : BitVec 32) (k0_hw59 : k0_chk59 v6191), ∀ a, (k0_off375 v6191) a + S128x512.size a ≤ S640x3072.size a := fun v6191 k0_hw59 => k0_hw59.2.2.2.2.1
theorem k0_off379_inb : ∀ (v6191 : BitVec 32) (k0_hw59 : k0_chk59 v6191), ∀ a, (k0_off379 v6191) a + S128x512.size a ≤ S640x3072.size a := fun v6191 k0_hw59 => k0_hw59.2.2.2.2.2.1
theorem k0_off383_inb : ∀ (v6191 : BitVec 32) (k0_hw59 : k0_chk59 v6191), ∀ a, (k0_off383 v6191) a + S128x512.size a ≤ S640x3072.size a := fun v6191 k0_hw59 => k0_hw59.2.2.2.2.2.2

def k0_off384 (v6204 : BitVec 32) : Fin 2 → Nat :=
  let c128_i32_2761 : BitVec 32 := 128#32
  let v6205 : BitVec 32 := Scalar.muli v6204 c128_i32_2761
  let v6206 : BitVec 32 := v6205
  let v6310 : Index := Scalar.indexCast v6206
  let c2560_2818 : Index := 2560#32
  ![v6310.toNat, 2560]

def k0_chk60 (v6204 : BitVec 32) : Prop :=
  (128 ∣ (k0_mult48 v6204).toNat) ∧
  (∀ a, (k0_off364 v6204) a + S128x512.size a ≤ S640x3072.size a) ∧
  (∀ a, (k0_off368 v6204) a + S128x512.size a ≤ S640x3072.size a) ∧
  (∀ a, (k0_off372 v6204) a + S128x512.size a ≤ S640x3072.size a) ∧
  (∀ a, (k0_off376 v6204) a + S128x512.size a ≤ S640x3072.size a) ∧
  (∀ a, (k0_off380 v6204) a + S128x512.size a ≤ S640x3072.size a) ∧
  (∀ a, (k0_off384 v6204) a + S128x512.size a ≤ S640x3072.size a)
theorem k0_mult48_dvd : ∀ (v6204 : BitVec 32) (k0_hw60 : k0_chk60 v6204), 128 ∣ (k0_mult48 v6204).toNat := fun v6204 k0_hw60 => k0_hw60.1
theorem k0_off364_inb : ∀ (v6204 : BitVec 32) (k0_hw60 : k0_chk60 v6204), ∀ a, (k0_off364 v6204) a + S128x512.size a ≤ S640x3072.size a := fun v6204 k0_hw60 => k0_hw60.2.1
theorem k0_off368_inb : ∀ (v6204 : BitVec 32) (k0_hw60 : k0_chk60 v6204), ∀ a, (k0_off368 v6204) a + S128x512.size a ≤ S640x3072.size a := fun v6204 k0_hw60 => k0_hw60.2.2.1
theorem k0_off372_inb : ∀ (v6204 : BitVec 32) (k0_hw60 : k0_chk60 v6204), ∀ a, (k0_off372 v6204) a + S128x512.size a ≤ S640x3072.size a := fun v6204 k0_hw60 => k0_hw60.2.2.2.1
theorem k0_off376_inb : ∀ (v6204 : BitVec 32) (k0_hw60 : k0_chk60 v6204), ∀ a, (k0_off376 v6204) a + S128x512.size a ≤ S640x3072.size a := fun v6204 k0_hw60 => k0_hw60.2.2.2.2.1
theorem k0_off380_inb : ∀ (v6204 : BitVec 32) (k0_hw60 : k0_chk60 v6204), ∀ a, (k0_off380 v6204) a + S128x512.size a ≤ S640x3072.size a := fun v6204 k0_hw60 => k0_hw60.2.2.2.2.2.1
theorem k0_off384_inb : ∀ (v6204 : BitVec 32) (k0_hw60 : k0_chk60 v6204), ∀ a, (k0_off384 v6204) a + S128x512.size a ≤ S640x3072.size a := fun v6204 k0_hw60 => k0_hw60.2.2.2.2.2.2

def k0_off385 (v6325 : BitVec 32) (v6326 : BitVec 32) : Fin 3 → Nat :=
  let c0_i32_2833 : BitVec 32 := 0#32
  let v6327 : BitVec 32 := Scalar.addi v6325 c0_i32_2833
  let v6328 : BitVec 1 := Scalar.cmpi .slt v6327 v6326
  let c0_i32_2834 : BitVec 32 := 0#32
  let v6329 : BitVec 32 := Scalar.addi v6325 c0_i32_2834
  let c19_i32_2835 : BitVec 32 := 19#32
  let v6330 : BitVec 32 := Scalar.minsi v6325 c19_i32_2835
  let v6331 : BitVec 32 := Scalar.select v6328 v6329 v6330
  let c20_i32_2836 : BitVec 32 := 20#32
  let v6332 : BitVec 32 := Scalar.select v6328 v6331 c20_i32_2836
  let v6333 : Index := Scalar.indexCast v6332
  let c0_2837 : Index := 0#32
  let c0_2838 : Index := 0#32
  ![v6333.toNat, 0, 0]

def k0_off386 (v6325 : BitVec 32) (v6326 : BitVec 32) : Fin 2 → Nat :=
  let c2_2839 : Index := 2#32
  let c0_i32_2833 : BitVec 32 := 0#32
  let v6327 : BitVec 32 := Scalar.addi v6325 c0_i32_2833
  let v6328 : BitVec 1 := Scalar.cmpi .slt v6327 v6326
  let c0_i32_2834 : BitVec 32 := 0#32
  let v6329 : BitVec 32 := Scalar.addi v6325 c0_i32_2834
  let c19_i32_2835 : BitVec 32 := 19#32
  let v6330 : BitVec 32 := Scalar.minsi v6325 c19_i32_2835
  let v6331 : BitVec 32 := Scalar.select v6328 v6329 v6330
  let v6336 : Index := Scalar.indexCast v6331
  ![2, v6336.toNat]
def k0_mult49 (v6337 : BitVec 32) : BitVec 32 :=
  let c128_i32_2840 : BitVec 32 := 128#32
  let v6338 : BitVec 32 := Scalar.muli v6337 c128_i32_2840
  v6338

def k0_off387 (v6325 : BitVec 32) (v6326 : BitVec 32) : Fin 3 → Nat :=
  let c1_i32_2841 : BitVec 32 := 1#32
  let v6340 : BitVec 32 := Scalar.addi v6325 c1_i32_2841
  let v6341 : BitVec 1 := Scalar.cmpi .slt v6340 v6326
  let c1_i32_2842 : BitVec 32 := 1#32
  let v6342 : BitVec 32 := Scalar.addi v6325 c1_i32_2842
  let c19_i32_2843 : BitVec 32 := 19#32
  let v6343 : BitVec 32 := Scalar.minsi v6325 c19_i32_2843
  let v6344 : BitVec 32 := Scalar.select v6341 v6342 v6343
  let c20_i32_2844 : BitVec 32 := 20#32
  let v6345 : BitVec 32 := Scalar.select v6341 v6344 c20_i32_2844
  let v6346 : Index := Scalar.indexCast v6345
  let c0_2845 : Index := 0#32
  let c0_2846 : Index := 0#32
  ![v6346.toNat, 0, 0]
def k0_off388 (v6325 : BitVec 32) (v6326 : BitVec 32) : Fin 2 → Nat :=
  let c2_2847 : Index := 2#32
  let c1_i32_2841 : BitVec 32 := 1#32
  let v6340 : BitVec 32 := Scalar.addi v6325 c1_i32_2841
  let v6341 : BitVec 1 := Scalar.cmpi .slt v6340 v6326
  let c1_i32_2842 : BitVec 32 := 1#32
  let v6342 : BitVec 32 := Scalar.addi v6325 c1_i32_2842
  let c19_i32_2843 : BitVec 32 := 19#32
  let v6343 : BitVec 32 := Scalar.minsi v6325 c19_i32_2843
  let v6344 : BitVec 32 := Scalar.select v6341 v6342 v6343
  let v6349 : Index := Scalar.indexCast v6344
  ![2, v6349.toNat]
def k0_mult50 (v6350 : BitVec 32) : BitVec 32 :=
  let c128_i32_2848 : BitVec 32 := 128#32
  let v6351 : BitVec 32 := Scalar.muli v6350 c128_i32_2848
  v6351

def k0_off389 (v6325 : BitVec 32) (v6326 : BitVec 32) : Fin 3 → Nat :=
  let c2_i32_2849 : BitVec 32 := 2#32
  let v6353 : BitVec 32 := Scalar.addi v6325 c2_i32_2849
  let v6354 : BitVec 1 := Scalar.cmpi .slt v6353 v6326
  let c2_i32_2850 : BitVec 32 := 2#32
  let v6355 : BitVec 32 := Scalar.addi v6325 c2_i32_2850
  let c19_i32_2851 : BitVec 32 := 19#32
  let v6356 : BitVec 32 := Scalar.minsi v6325 c19_i32_2851
  let v6357 : BitVec 32 := Scalar.select v6354 v6355 v6356
  let c20_i32_2852 : BitVec 32 := 20#32
  let v6358 : BitVec 32 := Scalar.select v6354 v6357 c20_i32_2852
  let v6359 : Index := Scalar.indexCast v6358
  let c0_2853 : Index := 0#32
  let c0_2854 : Index := 0#32
  ![v6359.toNat, 0, 0]
def k0_off390 (v6325 : BitVec 32) (v6326 : BitVec 32) : Fin 2 → Nat :=
  let c2_2855 : Index := 2#32
  let c2_i32_2849 : BitVec 32 := 2#32
  let v6353 : BitVec 32 := Scalar.addi v6325 c2_i32_2849
  let v6354 : BitVec 1 := Scalar.cmpi .slt v6353 v6326
  let c2_i32_2850 : BitVec 32 := 2#32
  let v6355 : BitVec 32 := Scalar.addi v6325 c2_i32_2850
  let c19_i32_2851 : BitVec 32 := 19#32
  let v6356 : BitVec 32 := Scalar.minsi v6325 c19_i32_2851
  let v6357 : BitVec 32 := Scalar.select v6354 v6355 v6356
  let v6362 : Index := Scalar.indexCast v6357
  ![2, v6362.toNat]
def k0_mult51 (v6363 : BitVec 32) : BitVec 32 :=
  let c128_i32_2856 : BitVec 32 := 128#32
  let v6364 : BitVec 32 := Scalar.muli v6363 c128_i32_2856
  v6364

def k0_off391 (v6325 : BitVec 32) (v6326 : BitVec 32) : Fin 3 → Nat :=
  let c3_i32_2857 : BitVec 32 := 3#32
  let v6366 : BitVec 32 := Scalar.addi v6325 c3_i32_2857
  let v6367 : BitVec 1 := Scalar.cmpi .slt v6366 v6326
  let c3_i32_2858 : BitVec 32 := 3#32
  let v6368 : BitVec 32 := Scalar.addi v6325 c3_i32_2858
  let c19_i32_2859 : BitVec 32 := 19#32
  let v6369 : BitVec 32 := Scalar.minsi v6325 c19_i32_2859
  let v6370 : BitVec 32 := Scalar.select v6367 v6368 v6369
  let c20_i32_2860 : BitVec 32 := 20#32
  let v6371 : BitVec 32 := Scalar.select v6367 v6370 c20_i32_2860
  let v6372 : Index := Scalar.indexCast v6371
  let c0_2861 : Index := 0#32
  let c0_2862 : Index := 0#32
  ![v6372.toNat, 0, 0]
def k0_off392 (v6325 : BitVec 32) (v6326 : BitVec 32) : Fin 2 → Nat :=
  let c2_2863 : Index := 2#32
  let c3_i32_2857 : BitVec 32 := 3#32
  let v6366 : BitVec 32 := Scalar.addi v6325 c3_i32_2857
  let v6367 : BitVec 1 := Scalar.cmpi .slt v6366 v6326
  let c3_i32_2858 : BitVec 32 := 3#32
  let v6368 : BitVec 32 := Scalar.addi v6325 c3_i32_2858
  let c19_i32_2859 : BitVec 32 := 19#32
  let v6369 : BitVec 32 := Scalar.minsi v6325 c19_i32_2859
  let v6370 : BitVec 32 := Scalar.select v6367 v6368 v6369
  let v6375 : Index := Scalar.indexCast v6370
  ![2, v6375.toNat]

def k0_chk61 (v6325 : BitVec 32) (v6326 : BitVec 32) : Prop :=
  (∀ a, (k0_off385 v6325 v6326) a + S1x128x128.size a ≤ S21x128x128.size a) ∧
  (∀ a, (k0_off386 v6325 v6326) a + S1x1.size a ≤ S3x20.size a) ∧
  (∀ a, (k0_off387 v6325 v6326) a + S1x128x128.size a ≤ S21x128x128.size a) ∧
  (∀ a, (k0_off388 v6325 v6326) a + S1x1.size a ≤ S3x20.size a) ∧
  (∀ a, (k0_off389 v6325 v6326) a + S1x128x128.size a ≤ S21x128x128.size a) ∧
  (∀ a, (k0_off390 v6325 v6326) a + S1x1.size a ≤ S3x20.size a) ∧
  (∀ a, (k0_off391 v6325 v6326) a + S1x128x128.size a ≤ S21x128x128.size a) ∧
  (∀ a, (k0_off392 v6325 v6326) a + S1x1.size a ≤ S3x20.size a)
theorem k0_off385_inb : ∀ (v6325 : BitVec 32) (v6326 : BitVec 32) (k0_hw61 : k0_chk61 v6325 v6326), ∀ a, (k0_off385 v6325 v6326) a + S1x128x128.size a ≤ S21x128x128.size a := fun v6325 v6326 k0_hw61 => k0_hw61.1
theorem k0_off386_inb : ∀ (v6325 : BitVec 32) (v6326 : BitVec 32) (k0_hw61 : k0_chk61 v6325 v6326), ∀ a, (k0_off386 v6325 v6326) a + S1x1.size a ≤ S3x20.size a := fun v6325 v6326 k0_hw61 => k0_hw61.2.1
theorem k0_off387_inb : ∀ (v6325 : BitVec 32) (v6326 : BitVec 32) (k0_hw61 : k0_chk61 v6325 v6326), ∀ a, (k0_off387 v6325 v6326) a + S1x128x128.size a ≤ S21x128x128.size a := fun v6325 v6326 k0_hw61 => k0_hw61.2.2.1
theorem k0_off388_inb : ∀ (v6325 : BitVec 32) (v6326 : BitVec 32) (k0_hw61 : k0_chk61 v6325 v6326), ∀ a, (k0_off388 v6325 v6326) a + S1x1.size a ≤ S3x20.size a := fun v6325 v6326 k0_hw61 => k0_hw61.2.2.2.1
theorem k0_off389_inb : ∀ (v6325 : BitVec 32) (v6326 : BitVec 32) (k0_hw61 : k0_chk61 v6325 v6326), ∀ a, (k0_off389 v6325 v6326) a + S1x128x128.size a ≤ S21x128x128.size a := fun v6325 v6326 k0_hw61 => k0_hw61.2.2.2.2.1
theorem k0_off390_inb : ∀ (v6325 : BitVec 32) (v6326 : BitVec 32) (k0_hw61 : k0_chk61 v6325 v6326), ∀ a, (k0_off390 v6325 v6326) a + S1x1.size a ≤ S3x20.size a := fun v6325 v6326 k0_hw61 => k0_hw61.2.2.2.2.2.1
theorem k0_off391_inb : ∀ (v6325 : BitVec 32) (v6326 : BitVec 32) (k0_hw61 : k0_chk61 v6325 v6326), ∀ a, (k0_off391 v6325 v6326) a + S1x128x128.size a ≤ S21x128x128.size a := fun v6325 v6326 k0_hw61 => k0_hw61.2.2.2.2.2.2.1
theorem k0_off392_inb : ∀ (v6325 : BitVec 32) (v6326 : BitVec 32) (k0_hw61 : k0_chk61 v6325 v6326), ∀ a, (k0_off392 v6325 v6326) a + S1x1.size a ≤ S3x20.size a := fun v6325 v6326 k0_hw61 => k0_hw61.2.2.2.2.2.2.2

def k0_mult52 (v6376 : BitVec 32) : BitVec 32 :=
  let c128_i32_2864 : BitVec 32 := 128#32
  let v6377 : BitVec 32 := Scalar.muli v6376 c128_i32_2864
  v6377

def k0_off393 (v6337 : BitVec 32) : Fin 2 → Nat :=
  let c128_i32_2840 : BitVec 32 := 128#32
  let v6338 : BitVec 32 := Scalar.muli v6337 c128_i32_2840
  let v6339 : BitVec 32 := v6338
  let v6383 : Index := Scalar.indexCast v6339
  let c0_2868 : Index := 0#32
  ![v6383.toNat, 0]
def k0_off394 (v6350 : BitVec 32) : Fin 2 → Nat :=
  let c128_i32_2848 : BitVec 32 := 128#32
  let v6351 : BitVec 32 := Scalar.muli v6350 c128_i32_2848
  let v6352 : BitVec 32 := v6351
  let v6385 : Index := Scalar.indexCast v6352
  let c0_2869 : Index := 0#32
  ![v6385.toNat, 0]
def k0_off395 (v6363 : BitVec 32) : Fin 2 → Nat :=
  let c128_i32_2856 : BitVec 32 := 128#32
  let v6364 : BitVec 32 := Scalar.muli v6363 c128_i32_2856
  let v6365 : BitVec 32 := v6364
  let v6387 : Index := Scalar.indexCast v6365
  let c0_2870 : Index := 0#32
  ![v6387.toNat, 0]
def k0_off396 (v6376 : BitVec 32) : Fin 2 → Nat :=
  let c128_i32_2864 : BitVec 32 := 128#32
  let v6377 : BitVec 32 := Scalar.muli v6376 c128_i32_2864
  let v6378 : BitVec 32 := v6377
  let v6389 : Index := Scalar.indexCast v6378
  let c0_2871 : Index := 0#32
  ![v6389.toNat, 0]
def k0_off397 (v6337 : BitVec 32) : Fin 2 → Nat :=
  let c128_i32_2840 : BitVec 32 := 128#32
  let v6338 : BitVec 32 := Scalar.muli v6337 c128_i32_2840
  let v6339 : BitVec 32 := v6338
  let v6401 : Index := Scalar.indexCast v6339
  let c512_2877 : Index := 512#32
  ![v6401.toNat, 512]
def k0_off398 (v6350 : BitVec 32) : Fin 2 → Nat :=
  let c128_i32_2848 : BitVec 32 := 128#32
  let v6351 : BitVec 32 := Scalar.muli v6350 c128_i32_2848
  let v6352 : BitVec 32 := v6351
  let v6403 : Index := Scalar.indexCast v6352
  let c512_2878 : Index := 512#32
  ![v6403.toNat, 512]
def k0_off399 (v6363 : BitVec 32) : Fin 2 → Nat :=
  let c128_i32_2856 : BitVec 32 := 128#32
  let v6364 : BitVec 32 := Scalar.muli v6363 c128_i32_2856
  let v6365 : BitVec 32 := v6364
  let v6405 : Index := Scalar.indexCast v6365
  let c512_2879 : Index := 512#32
  ![v6405.toNat, 512]
def k0_off400 (v6376 : BitVec 32) : Fin 2 → Nat :=
  let c128_i32_2864 : BitVec 32 := 128#32
  let v6377 : BitVec 32 := Scalar.muli v6376 c128_i32_2864
  let v6378 : BitVec 32 := v6377
  let v6407 : Index := Scalar.indexCast v6378
  let c512_2880 : Index := 512#32
  ![v6407.toNat, 512]
def k0_off401 (v6337 : BitVec 32) : Fin 2 → Nat :=
  let c128_i32_2840 : BitVec 32 := 128#32
  let v6338 : BitVec 32 := Scalar.muli v6337 c128_i32_2840
  let v6339 : BitVec 32 := v6338
  let v6419 : Index := Scalar.indexCast v6339
  let c1024_2886 : Index := 1024#32
  ![v6419.toNat, 1024]
def k0_off402 (v6350 : BitVec 32) : Fin 2 → Nat :=
  let c128_i32_2848 : BitVec 32 := 128#32
  let v6351 : BitVec 32 := Scalar.muli v6350 c128_i32_2848
  let v6352 : BitVec 32 := v6351
  let v6421 : Index := Scalar.indexCast v6352
  let c1024_2887 : Index := 1024#32
  ![v6421.toNat, 1024]
def k0_off403 (v6363 : BitVec 32) : Fin 2 → Nat :=
  let c128_i32_2856 : BitVec 32 := 128#32
  let v6364 : BitVec 32 := Scalar.muli v6363 c128_i32_2856
  let v6365 : BitVec 32 := v6364
  let v6423 : Index := Scalar.indexCast v6365
  let c1024_2888 : Index := 1024#32
  ![v6423.toNat, 1024]
def k0_off404 (v6376 : BitVec 32) : Fin 2 → Nat :=
  let c128_i32_2864 : BitVec 32 := 128#32
  let v6377 : BitVec 32 := Scalar.muli v6376 c128_i32_2864
  let v6378 : BitVec 32 := v6377
  let v6425 : Index := Scalar.indexCast v6378
  let c1024_2889 : Index := 1024#32
  ![v6425.toNat, 1024]
def k0_off405 (v6337 : BitVec 32) : Fin 2 → Nat :=
  let c128_i32_2840 : BitVec 32 := 128#32
  let v6338 : BitVec 32 := Scalar.muli v6337 c128_i32_2840
  let v6339 : BitVec 32 := v6338
  let v6440 : Index := Scalar.indexCast v6339
  let c1536_2900 : Index := 1536#32
  ![v6440.toNat, 1536]
def k0_off406 (v6350 : BitVec 32) : Fin 2 → Nat :=
  let c128_i32_2848 : BitVec 32 := 128#32
  let v6351 : BitVec 32 := Scalar.muli v6350 c128_i32_2848
  let v6352 : BitVec 32 := v6351
  let v6442 : Index := Scalar.indexCast v6352
  let c1536_2901 : Index := 1536#32
  ![v6442.toNat, 1536]
def k0_off407 (v6363 : BitVec 32) : Fin 2 → Nat :=
  let c128_i32_2856 : BitVec 32 := 128#32
  let v6364 : BitVec 32 := Scalar.muli v6363 c128_i32_2856
  let v6365 : BitVec 32 := v6364
  let v6444 : Index := Scalar.indexCast v6365
  let c1536_2902 : Index := 1536#32
  ![v6444.toNat, 1536]
def k0_off408 (v6376 : BitVec 32) : Fin 2 → Nat :=
  let c128_i32_2864 : BitVec 32 := 128#32
  let v6377 : BitVec 32 := Scalar.muli v6376 c128_i32_2864
  let v6378 : BitVec 32 := v6377
  let v6446 : Index := Scalar.indexCast v6378
  let c1536_2903 : Index := 1536#32
  ![v6446.toNat, 1536]
def k0_off409 (v6337 : BitVec 32) : Fin 2 → Nat :=
  let c128_i32_2840 : BitVec 32 := 128#32
  let v6338 : BitVec 32 := Scalar.muli v6337 c128_i32_2840
  let v6339 : BitVec 32 := v6338
  let v6458 : Index := Scalar.indexCast v6339
  let c2048_2909 : Index := 2048#32
  ![v6458.toNat, 2048]
def k0_off410 (v6350 : BitVec 32) : Fin 2 → Nat :=
  let c128_i32_2848 : BitVec 32 := 128#32
  let v6351 : BitVec 32 := Scalar.muli v6350 c128_i32_2848
  let v6352 : BitVec 32 := v6351
  let v6460 : Index := Scalar.indexCast v6352
  let c2048_2910 : Index := 2048#32
  ![v6460.toNat, 2048]
def k0_off411 (v6363 : BitVec 32) : Fin 2 → Nat :=
  let c128_i32_2856 : BitVec 32 := 128#32
  let v6364 : BitVec 32 := Scalar.muli v6363 c128_i32_2856
  let v6365 : BitVec 32 := v6364
  let v6462 : Index := Scalar.indexCast v6365
  let c2048_2911 : Index := 2048#32
  ![v6462.toNat, 2048]
def k0_off412 (v6376 : BitVec 32) : Fin 2 → Nat :=
  let c128_i32_2864 : BitVec 32 := 128#32
  let v6377 : BitVec 32 := Scalar.muli v6376 c128_i32_2864
  let v6378 : BitVec 32 := v6377
  let v6464 : Index := Scalar.indexCast v6378
  let c2048_2912 : Index := 2048#32
  ![v6464.toNat, 2048]
def k0_off413 (v6337 : BitVec 32) : Fin 2 → Nat :=
  let c128_i32_2840 : BitVec 32 := 128#32
  let v6338 : BitVec 32 := Scalar.muli v6337 c128_i32_2840
  let v6339 : BitVec 32 := v6338
  let v6476 : Index := Scalar.indexCast v6339
  let c2560_2918 : Index := 2560#32
  ![v6476.toNat, 2560]

def k0_chk62 (v6337 : BitVec 32) : Prop :=
  (128 ∣ (k0_mult49 v6337).toNat) ∧
  (∀ a, (k0_off393 v6337) a + S128x512.size a ≤ S640x3072.size a) ∧
  (∀ a, (k0_off397 v6337) a + S128x512.size a ≤ S640x3072.size a) ∧
  (∀ a, (k0_off401 v6337) a + S128x512.size a ≤ S640x3072.size a) ∧
  (∀ a, (k0_off405 v6337) a + S128x512.size a ≤ S640x3072.size a) ∧
  (∀ a, (k0_off409 v6337) a + S128x512.size a ≤ S640x3072.size a) ∧
  (∀ a, (k0_off413 v6337) a + S128x512.size a ≤ S640x3072.size a)
theorem k0_mult49_dvd : ∀ (v6337 : BitVec 32) (k0_hw62 : k0_chk62 v6337), 128 ∣ (k0_mult49 v6337).toNat := fun v6337 k0_hw62 => k0_hw62.1
theorem k0_off393_inb : ∀ (v6337 : BitVec 32) (k0_hw62 : k0_chk62 v6337), ∀ a, (k0_off393 v6337) a + S128x512.size a ≤ S640x3072.size a := fun v6337 k0_hw62 => k0_hw62.2.1
theorem k0_off397_inb : ∀ (v6337 : BitVec 32) (k0_hw62 : k0_chk62 v6337), ∀ a, (k0_off397 v6337) a + S128x512.size a ≤ S640x3072.size a := fun v6337 k0_hw62 => k0_hw62.2.2.1
theorem k0_off401_inb : ∀ (v6337 : BitVec 32) (k0_hw62 : k0_chk62 v6337), ∀ a, (k0_off401 v6337) a + S128x512.size a ≤ S640x3072.size a := fun v6337 k0_hw62 => k0_hw62.2.2.2.1
theorem k0_off405_inb : ∀ (v6337 : BitVec 32) (k0_hw62 : k0_chk62 v6337), ∀ a, (k0_off405 v6337) a + S128x512.size a ≤ S640x3072.size a := fun v6337 k0_hw62 => k0_hw62.2.2.2.2.1
theorem k0_off409_inb : ∀ (v6337 : BitVec 32) (k0_hw62 : k0_chk62 v6337), ∀ a, (k0_off409 v6337) a + S128x512.size a ≤ S640x3072.size a := fun v6337 k0_hw62 => k0_hw62.2.2.2.2.2.1
theorem k0_off413_inb : ∀ (v6337 : BitVec 32) (k0_hw62 : k0_chk62 v6337), ∀ a, (k0_off413 v6337) a + S128x512.size a ≤ S640x3072.size a := fun v6337 k0_hw62 => k0_hw62.2.2.2.2.2.2

def k0_off414 (v6350 : BitVec 32) : Fin 2 → Nat :=
  let c128_i32_2848 : BitVec 32 := 128#32
  let v6351 : BitVec 32 := Scalar.muli v6350 c128_i32_2848
  let v6352 : BitVec 32 := v6351
  let v6478 : Index := Scalar.indexCast v6352
  let c2560_2919 : Index := 2560#32
  ![v6478.toNat, 2560]

def k0_chk63 (v6350 : BitVec 32) : Prop :=
  (128 ∣ (k0_mult50 v6350).toNat) ∧
  (∀ a, (k0_off394 v6350) a + S128x512.size a ≤ S640x3072.size a) ∧
  (∀ a, (k0_off398 v6350) a + S128x512.size a ≤ S640x3072.size a) ∧
  (∀ a, (k0_off402 v6350) a + S128x512.size a ≤ S640x3072.size a) ∧
  (∀ a, (k0_off406 v6350) a + S128x512.size a ≤ S640x3072.size a) ∧
  (∀ a, (k0_off410 v6350) a + S128x512.size a ≤ S640x3072.size a) ∧
  (∀ a, (k0_off414 v6350) a + S128x512.size a ≤ S640x3072.size a)
theorem k0_mult50_dvd : ∀ (v6350 : BitVec 32) (k0_hw63 : k0_chk63 v6350), 128 ∣ (k0_mult50 v6350).toNat := fun v6350 k0_hw63 => k0_hw63.1
theorem k0_off394_inb : ∀ (v6350 : BitVec 32) (k0_hw63 : k0_chk63 v6350), ∀ a, (k0_off394 v6350) a + S128x512.size a ≤ S640x3072.size a := fun v6350 k0_hw63 => k0_hw63.2.1
theorem k0_off398_inb : ∀ (v6350 : BitVec 32) (k0_hw63 : k0_chk63 v6350), ∀ a, (k0_off398 v6350) a + S128x512.size a ≤ S640x3072.size a := fun v6350 k0_hw63 => k0_hw63.2.2.1
theorem k0_off402_inb : ∀ (v6350 : BitVec 32) (k0_hw63 : k0_chk63 v6350), ∀ a, (k0_off402 v6350) a + S128x512.size a ≤ S640x3072.size a := fun v6350 k0_hw63 => k0_hw63.2.2.2.1
theorem k0_off406_inb : ∀ (v6350 : BitVec 32) (k0_hw63 : k0_chk63 v6350), ∀ a, (k0_off406 v6350) a + S128x512.size a ≤ S640x3072.size a := fun v6350 k0_hw63 => k0_hw63.2.2.2.2.1
theorem k0_off410_inb : ∀ (v6350 : BitVec 32) (k0_hw63 : k0_chk63 v6350), ∀ a, (k0_off410 v6350) a + S128x512.size a ≤ S640x3072.size a := fun v6350 k0_hw63 => k0_hw63.2.2.2.2.2.1
theorem k0_off414_inb : ∀ (v6350 : BitVec 32) (k0_hw63 : k0_chk63 v6350), ∀ a, (k0_off414 v6350) a + S128x512.size a ≤ S640x3072.size a := fun v6350 k0_hw63 => k0_hw63.2.2.2.2.2.2

def k0_off415 (v6363 : BitVec 32) : Fin 2 → Nat :=
  let c128_i32_2856 : BitVec 32 := 128#32
  let v6364 : BitVec 32 := Scalar.muli v6363 c128_i32_2856
  let v6365 : BitVec 32 := v6364
  let v6480 : Index := Scalar.indexCast v6365
  let c2560_2920 : Index := 2560#32
  ![v6480.toNat, 2560]

def k0_chk64 (v6363 : BitVec 32) : Prop :=
  (128 ∣ (k0_mult51 v6363).toNat) ∧
  (∀ a, (k0_off395 v6363) a + S128x512.size a ≤ S640x3072.size a) ∧
  (∀ a, (k0_off399 v6363) a + S128x512.size a ≤ S640x3072.size a) ∧
  (∀ a, (k0_off403 v6363) a + S128x512.size a ≤ S640x3072.size a) ∧
  (∀ a, (k0_off407 v6363) a + S128x512.size a ≤ S640x3072.size a) ∧
  (∀ a, (k0_off411 v6363) a + S128x512.size a ≤ S640x3072.size a) ∧
  (∀ a, (k0_off415 v6363) a + S128x512.size a ≤ S640x3072.size a)
theorem k0_mult51_dvd : ∀ (v6363 : BitVec 32) (k0_hw64 : k0_chk64 v6363), 128 ∣ (k0_mult51 v6363).toNat := fun v6363 k0_hw64 => k0_hw64.1
theorem k0_off395_inb : ∀ (v6363 : BitVec 32) (k0_hw64 : k0_chk64 v6363), ∀ a, (k0_off395 v6363) a + S128x512.size a ≤ S640x3072.size a := fun v6363 k0_hw64 => k0_hw64.2.1
theorem k0_off399_inb : ∀ (v6363 : BitVec 32) (k0_hw64 : k0_chk64 v6363), ∀ a, (k0_off399 v6363) a + S128x512.size a ≤ S640x3072.size a := fun v6363 k0_hw64 => k0_hw64.2.2.1
theorem k0_off403_inb : ∀ (v6363 : BitVec 32) (k0_hw64 : k0_chk64 v6363), ∀ a, (k0_off403 v6363) a + S128x512.size a ≤ S640x3072.size a := fun v6363 k0_hw64 => k0_hw64.2.2.2.1
theorem k0_off407_inb : ∀ (v6363 : BitVec 32) (k0_hw64 : k0_chk64 v6363), ∀ a, (k0_off407 v6363) a + S128x512.size a ≤ S640x3072.size a := fun v6363 k0_hw64 => k0_hw64.2.2.2.2.1
theorem k0_off411_inb : ∀ (v6363 : BitVec 32) (k0_hw64 : k0_chk64 v6363), ∀ a, (k0_off411 v6363) a + S128x512.size a ≤ S640x3072.size a := fun v6363 k0_hw64 => k0_hw64.2.2.2.2.2.1
theorem k0_off415_inb : ∀ (v6363 : BitVec 32) (k0_hw64 : k0_chk64 v6363), ∀ a, (k0_off415 v6363) a + S128x512.size a ≤ S640x3072.size a := fun v6363 k0_hw64 => k0_hw64.2.2.2.2.2.2

def k0_off416 (v6376 : BitVec 32) : Fin 2 → Nat :=
  let c128_i32_2864 : BitVec 32 := 128#32
  let v6377 : BitVec 32 := Scalar.muli v6376 c128_i32_2864
  let v6378 : BitVec 32 := v6377
  let v6482 : Index := Scalar.indexCast v6378
  let c2560_2921 : Index := 2560#32
  ![v6482.toNat, 2560]

def k0_chk65 (v6376 : BitVec 32) : Prop :=
  (128 ∣ (k0_mult52 v6376).toNat) ∧
  (∀ a, (k0_off396 v6376) a + S128x512.size a ≤ S640x3072.size a) ∧
  (∀ a, (k0_off400 v6376) a + S128x512.size a ≤ S640x3072.size a) ∧
  (∀ a, (k0_off404 v6376) a + S128x512.size a ≤ S640x3072.size a) ∧
  (∀ a, (k0_off408 v6376) a + S128x512.size a ≤ S640x3072.size a) ∧
  (∀ a, (k0_off412 v6376) a + S128x512.size a ≤ S640x3072.size a) ∧
  (∀ a, (k0_off416 v6376) a + S128x512.size a ≤ S640x3072.size a)
theorem k0_mult52_dvd : ∀ (v6376 : BitVec 32) (k0_hw65 : k0_chk65 v6376), 128 ∣ (k0_mult52 v6376).toNat := fun v6376 k0_hw65 => k0_hw65.1
theorem k0_off396_inb : ∀ (v6376 : BitVec 32) (k0_hw65 : k0_chk65 v6376), ∀ a, (k0_off396 v6376) a + S128x512.size a ≤ S640x3072.size a := fun v6376 k0_hw65 => k0_hw65.2.1
theorem k0_off400_inb : ∀ (v6376 : BitVec 32) (k0_hw65 : k0_chk65 v6376), ∀ a, (k0_off400 v6376) a + S128x512.size a ≤ S640x3072.size a := fun v6376 k0_hw65 => k0_hw65.2.2.1
theorem k0_off404_inb : ∀ (v6376 : BitVec 32) (k0_hw65 : k0_chk65 v6376), ∀ a, (k0_off404 v6376) a + S128x512.size a ≤ S640x3072.size a := fun v6376 k0_hw65 => k0_hw65.2.2.2.1
theorem k0_off408_inb : ∀ (v6376 : BitVec 32) (k0_hw65 : k0_chk65 v6376), ∀ a, (k0_off408 v6376) a + S128x512.size a ≤ S640x3072.size a := fun v6376 k0_hw65 => k0_hw65.2.2.2.2.1
theorem k0_off412_inb : ∀ (v6376 : BitVec 32) (k0_hw65 : k0_chk65 v6376), ∀ a, (k0_off412 v6376) a + S128x512.size a ≤ S640x3072.size a := fun v6376 k0_hw65 => k0_hw65.2.2.2.2.2.1
theorem k0_off416_inb : ∀ (v6376 : BitVec 32) (k0_hw65 : k0_chk65 v6376), ∀ a, (k0_off416 v6376) a + S128x512.size a ≤ S640x3072.size a := fun v6376 k0_hw65 => k0_hw65.2.2.2.2.2.2

def k0_off417 (v6497 : BitVec 32) (v6498 : BitVec 32) : Fin 3 → Nat :=
  let c0_i32_2936 : BitVec 32 := 0#32
  let v6499 : BitVec 32 := Scalar.addi v6497 c0_i32_2936
  let v6500 : BitVec 1 := Scalar.cmpi .slt v6499 v6498
  let c0_i32_2937 : BitVec 32 := 0#32
  let v6501 : BitVec 32 := Scalar.addi v6497 c0_i32_2937
  let c19_i32_2938 : BitVec 32 := 19#32
  let v6502 : BitVec 32 := Scalar.minsi v6497 c19_i32_2938
  let v6503 : BitVec 32 := Scalar.select v6500 v6501 v6502
  let c20_i32_2939 : BitVec 32 := 20#32
  let v6504 : BitVec 32 := Scalar.select v6500 v6503 c20_i32_2939
  let v6505 : Index := Scalar.indexCast v6504
  let c0_2940 : Index := 0#32
  let c0_2941 : Index := 0#32
  ![v6505.toNat, 0, 0]

def k0_off418 (v6497 : BitVec 32) (v6498 : BitVec 32) : Fin 2 → Nat :=
  let c2_2942 : Index := 2#32
  let c0_i32_2936 : BitVec 32 := 0#32
  let v6499 : BitVec 32 := Scalar.addi v6497 c0_i32_2936
  let v6500 : BitVec 1 := Scalar.cmpi .slt v6499 v6498
  let c0_i32_2937 : BitVec 32 := 0#32
  let v6501 : BitVec 32 := Scalar.addi v6497 c0_i32_2937
  let c19_i32_2938 : BitVec 32 := 19#32
  let v6502 : BitVec 32 := Scalar.minsi v6497 c19_i32_2938
  let v6503 : BitVec 32 := Scalar.select v6500 v6501 v6502
  let v6508 : Index := Scalar.indexCast v6503
  ![2, v6508.toNat]
def k0_mult53 (v6509 : BitVec 32) : BitVec 32 :=
  let c128_i32_2943 : BitVec 32 := 128#32
  let v6510 : BitVec 32 := Scalar.muli v6509 c128_i32_2943
  v6510

def k0_off419 (v6497 : BitVec 32) (v6498 : BitVec 32) : Fin 3 → Nat :=
  let c1_i32_2944 : BitVec 32 := 1#32
  let v6512 : BitVec 32 := Scalar.addi v6497 c1_i32_2944
  let v6513 : BitVec 1 := Scalar.cmpi .slt v6512 v6498
  let c1_i32_2945 : BitVec 32 := 1#32
  let v6514 : BitVec 32 := Scalar.addi v6497 c1_i32_2945
  let c19_i32_2946 : BitVec 32 := 19#32
  let v6515 : BitVec 32 := Scalar.minsi v6497 c19_i32_2946
  let v6516 : BitVec 32 := Scalar.select v6513 v6514 v6515
  let c20_i32_2947 : BitVec 32 := 20#32
  let v6517 : BitVec 32 := Scalar.select v6513 v6516 c20_i32_2947
  let v6518 : Index := Scalar.indexCast v6517
  let c0_2948 : Index := 0#32
  let c0_2949 : Index := 0#32
  ![v6518.toNat, 0, 0]
def k0_off420 (v6497 : BitVec 32) (v6498 : BitVec 32) : Fin 2 → Nat :=
  let c2_2950 : Index := 2#32
  let c1_i32_2944 : BitVec 32 := 1#32
  let v6512 : BitVec 32 := Scalar.addi v6497 c1_i32_2944
  let v6513 : BitVec 1 := Scalar.cmpi .slt v6512 v6498
  let c1_i32_2945 : BitVec 32 := 1#32
  let v6514 : BitVec 32 := Scalar.addi v6497 c1_i32_2945
  let c19_i32_2946 : BitVec 32 := 19#32
  let v6515 : BitVec 32 := Scalar.minsi v6497 c19_i32_2946
  let v6516 : BitVec 32 := Scalar.select v6513 v6514 v6515
  let v6521 : Index := Scalar.indexCast v6516
  ![2, v6521.toNat]
def k0_mult54 (v6522 : BitVec 32) : BitVec 32 :=
  let c128_i32_2951 : BitVec 32 := 128#32
  let v6523 : BitVec 32 := Scalar.muli v6522 c128_i32_2951
  v6523

def k0_off421 (v6497 : BitVec 32) (v6498 : BitVec 32) : Fin 3 → Nat :=
  let c2_i32_2952 : BitVec 32 := 2#32
  let v6525 : BitVec 32 := Scalar.addi v6497 c2_i32_2952
  let v6526 : BitVec 1 := Scalar.cmpi .slt v6525 v6498
  let c2_i32_2953 : BitVec 32 := 2#32
  let v6527 : BitVec 32 := Scalar.addi v6497 c2_i32_2953
  let c19_i32_2954 : BitVec 32 := 19#32
  let v6528 : BitVec 32 := Scalar.minsi v6497 c19_i32_2954
  let v6529 : BitVec 32 := Scalar.select v6526 v6527 v6528
  let c20_i32_2955 : BitVec 32 := 20#32
  let v6530 : BitVec 32 := Scalar.select v6526 v6529 c20_i32_2955
  let v6531 : Index := Scalar.indexCast v6530
  let c0_2956 : Index := 0#32
  let c0_2957 : Index := 0#32
  ![v6531.toNat, 0, 0]
def k0_off422 (v6497 : BitVec 32) (v6498 : BitVec 32) : Fin 2 → Nat :=
  let c2_2958 : Index := 2#32
  let c2_i32_2952 : BitVec 32 := 2#32
  let v6525 : BitVec 32 := Scalar.addi v6497 c2_i32_2952
  let v6526 : BitVec 1 := Scalar.cmpi .slt v6525 v6498
  let c2_i32_2953 : BitVec 32 := 2#32
  let v6527 : BitVec 32 := Scalar.addi v6497 c2_i32_2953
  let c19_i32_2954 : BitVec 32 := 19#32
  let v6528 : BitVec 32 := Scalar.minsi v6497 c19_i32_2954
  let v6529 : BitVec 32 := Scalar.select v6526 v6527 v6528
  let v6534 : Index := Scalar.indexCast v6529
  ![2, v6534.toNat]
def k0_mult55 (v6535 : BitVec 32) : BitVec 32 :=
  let c128_i32_2959 : BitVec 32 := 128#32
  let v6536 : BitVec 32 := Scalar.muli v6535 c128_i32_2959
  v6536

def k0_off423 (v6497 : BitVec 32) (v6498 : BitVec 32) : Fin 3 → Nat :=
  let c3_i32_2960 : BitVec 32 := 3#32
  let v6538 : BitVec 32 := Scalar.addi v6497 c3_i32_2960
  let v6539 : BitVec 1 := Scalar.cmpi .slt v6538 v6498
  let c3_i32_2961 : BitVec 32 := 3#32
  let v6540 : BitVec 32 := Scalar.addi v6497 c3_i32_2961
  let c19_i32_2962 : BitVec 32 := 19#32
  let v6541 : BitVec 32 := Scalar.minsi v6497 c19_i32_2962
  let v6542 : BitVec 32 := Scalar.select v6539 v6540 v6541
  let c20_i32_2963 : BitVec 32 := 20#32
  let v6543 : BitVec 32 := Scalar.select v6539 v6542 c20_i32_2963
  let v6544 : Index := Scalar.indexCast v6543
  let c0_2964 : Index := 0#32
  let c0_2965 : Index := 0#32
  ![v6544.toNat, 0, 0]
def k0_off424 (v6497 : BitVec 32) (v6498 : BitVec 32) : Fin 2 → Nat :=
  let c2_2966 : Index := 2#32
  let c3_i32_2960 : BitVec 32 := 3#32
  let v6538 : BitVec 32 := Scalar.addi v6497 c3_i32_2960
  let v6539 : BitVec 1 := Scalar.cmpi .slt v6538 v6498
  let c3_i32_2961 : BitVec 32 := 3#32
  let v6540 : BitVec 32 := Scalar.addi v6497 c3_i32_2961
  let c19_i32_2962 : BitVec 32 := 19#32
  let v6541 : BitVec 32 := Scalar.minsi v6497 c19_i32_2962
  let v6542 : BitVec 32 := Scalar.select v6539 v6540 v6541
  let v6547 : Index := Scalar.indexCast v6542
  ![2, v6547.toNat]

def k0_chk66 (v6497 : BitVec 32) (v6498 : BitVec 32) : Prop :=
  (∀ a, (k0_off417 v6497 v6498) a + S1x128x128.size a ≤ S21x128x128.size a) ∧
  (∀ a, (k0_off418 v6497 v6498) a + S1x1.size a ≤ S3x20.size a) ∧
  (∀ a, (k0_off419 v6497 v6498) a + S1x128x128.size a ≤ S21x128x128.size a) ∧
  (∀ a, (k0_off420 v6497 v6498) a + S1x1.size a ≤ S3x20.size a) ∧
  (∀ a, (k0_off421 v6497 v6498) a + S1x128x128.size a ≤ S21x128x128.size a) ∧
  (∀ a, (k0_off422 v6497 v6498) a + S1x1.size a ≤ S3x20.size a) ∧
  (∀ a, (k0_off423 v6497 v6498) a + S1x128x128.size a ≤ S21x128x128.size a) ∧
  (∀ a, (k0_off424 v6497 v6498) a + S1x1.size a ≤ S3x20.size a)
theorem k0_off417_inb : ∀ (v6497 : BitVec 32) (v6498 : BitVec 32) (k0_hw66 : k0_chk66 v6497 v6498), ∀ a, (k0_off417 v6497 v6498) a + S1x128x128.size a ≤ S21x128x128.size a := fun v6497 v6498 k0_hw66 => k0_hw66.1
theorem k0_off418_inb : ∀ (v6497 : BitVec 32) (v6498 : BitVec 32) (k0_hw66 : k0_chk66 v6497 v6498), ∀ a, (k0_off418 v6497 v6498) a + S1x1.size a ≤ S3x20.size a := fun v6497 v6498 k0_hw66 => k0_hw66.2.1
theorem k0_off419_inb : ∀ (v6497 : BitVec 32) (v6498 : BitVec 32) (k0_hw66 : k0_chk66 v6497 v6498), ∀ a, (k0_off419 v6497 v6498) a + S1x128x128.size a ≤ S21x128x128.size a := fun v6497 v6498 k0_hw66 => k0_hw66.2.2.1
theorem k0_off420_inb : ∀ (v6497 : BitVec 32) (v6498 : BitVec 32) (k0_hw66 : k0_chk66 v6497 v6498), ∀ a, (k0_off420 v6497 v6498) a + S1x1.size a ≤ S3x20.size a := fun v6497 v6498 k0_hw66 => k0_hw66.2.2.2.1
theorem k0_off421_inb : ∀ (v6497 : BitVec 32) (v6498 : BitVec 32) (k0_hw66 : k0_chk66 v6497 v6498), ∀ a, (k0_off421 v6497 v6498) a + S1x128x128.size a ≤ S21x128x128.size a := fun v6497 v6498 k0_hw66 => k0_hw66.2.2.2.2.1
theorem k0_off422_inb : ∀ (v6497 : BitVec 32) (v6498 : BitVec 32) (k0_hw66 : k0_chk66 v6497 v6498), ∀ a, (k0_off422 v6497 v6498) a + S1x1.size a ≤ S3x20.size a := fun v6497 v6498 k0_hw66 => k0_hw66.2.2.2.2.2.1
theorem k0_off423_inb : ∀ (v6497 : BitVec 32) (v6498 : BitVec 32) (k0_hw66 : k0_chk66 v6497 v6498), ∀ a, (k0_off423 v6497 v6498) a + S1x128x128.size a ≤ S21x128x128.size a := fun v6497 v6498 k0_hw66 => k0_hw66.2.2.2.2.2.2.1
theorem k0_off424_inb : ∀ (v6497 : BitVec 32) (v6498 : BitVec 32) (k0_hw66 : k0_chk66 v6497 v6498), ∀ a, (k0_off424 v6497 v6498) a + S1x1.size a ≤ S3x20.size a := fun v6497 v6498 k0_hw66 => k0_hw66.2.2.2.2.2.2.2

def k0_mult56 (v6548 : BitVec 32) : BitVec 32 :=
  let c128_i32_2967 : BitVec 32 := 128#32
  let v6549 : BitVec 32 := Scalar.muli v6548 c128_i32_2967
  v6549

def k0_off425 (v6509 : BitVec 32) : Fin 2 → Nat :=
  let c128_i32_2943 : BitVec 32 := 128#32
  let v6510 : BitVec 32 := Scalar.muli v6509 c128_i32_2943
  let v6511 : BitVec 32 := v6510
  let v6555 : Index := Scalar.indexCast v6511
  let c0_2971 : Index := 0#32
  ![v6555.toNat, 0]
def k0_off426 (v6522 : BitVec 32) : Fin 2 → Nat :=
  let c128_i32_2951 : BitVec 32 := 128#32
  let v6523 : BitVec 32 := Scalar.muli v6522 c128_i32_2951
  let v6524 : BitVec 32 := v6523
  let v6557 : Index := Scalar.indexCast v6524
  let c0_2972 : Index := 0#32
  ![v6557.toNat, 0]
def k0_off427 (v6535 : BitVec 32) : Fin 2 → Nat :=
  let c128_i32_2959 : BitVec 32 := 128#32
  let v6536 : BitVec 32 := Scalar.muli v6535 c128_i32_2959
  let v6537 : BitVec 32 := v6536
  let v6559 : Index := Scalar.indexCast v6537
  let c0_2973 : Index := 0#32
  ![v6559.toNat, 0]
def k0_off428 (v6548 : BitVec 32) : Fin 2 → Nat :=
  let c128_i32_2967 : BitVec 32 := 128#32
  let v6549 : BitVec 32 := Scalar.muli v6548 c128_i32_2967
  let v6550 : BitVec 32 := v6549
  let v6561 : Index := Scalar.indexCast v6550
  let c0_2974 : Index := 0#32
  ![v6561.toNat, 0]
def k0_off429 (v6509 : BitVec 32) : Fin 2 → Nat :=
  let c128_i32_2943 : BitVec 32 := 128#32
  let v6510 : BitVec 32 := Scalar.muli v6509 c128_i32_2943
  let v6511 : BitVec 32 := v6510
  let v6573 : Index := Scalar.indexCast v6511
  let c512_2980 : Index := 512#32
  ![v6573.toNat, 512]
def k0_off430 (v6522 : BitVec 32) : Fin 2 → Nat :=
  let c128_i32_2951 : BitVec 32 := 128#32
  let v6523 : BitVec 32 := Scalar.muli v6522 c128_i32_2951
  let v6524 : BitVec 32 := v6523
  let v6575 : Index := Scalar.indexCast v6524
  let c512_2981 : Index := 512#32
  ![v6575.toNat, 512]
def k0_off431 (v6535 : BitVec 32) : Fin 2 → Nat :=
  let c128_i32_2959 : BitVec 32 := 128#32
  let v6536 : BitVec 32 := Scalar.muli v6535 c128_i32_2959
  let v6537 : BitVec 32 := v6536
  let v6577 : Index := Scalar.indexCast v6537
  let c512_2982 : Index := 512#32
  ![v6577.toNat, 512]
def k0_off432 (v6548 : BitVec 32) : Fin 2 → Nat :=
  let c128_i32_2967 : BitVec 32 := 128#32
  let v6549 : BitVec 32 := Scalar.muli v6548 c128_i32_2967
  let v6550 : BitVec 32 := v6549
  let v6579 : Index := Scalar.indexCast v6550
  let c512_2983 : Index := 512#32
  ![v6579.toNat, 512]
def k0_off433 (v6509 : BitVec 32) : Fin 2 → Nat :=
  let c128_i32_2943 : BitVec 32 := 128#32
  let v6510 : BitVec 32 := Scalar.muli v6509 c128_i32_2943
  let v6511 : BitVec 32 := v6510
  let v6591 : Index := Scalar.indexCast v6511
  let c1024_2989 : Index := 1024#32
  ![v6591.toNat, 1024]
def k0_off434 (v6522 : BitVec 32) : Fin 2 → Nat :=
  let c128_i32_2951 : BitVec 32 := 128#32
  let v6523 : BitVec 32 := Scalar.muli v6522 c128_i32_2951
  let v6524 : BitVec 32 := v6523
  let v6593 : Index := Scalar.indexCast v6524
  let c1024_2990 : Index := 1024#32
  ![v6593.toNat, 1024]
def k0_off435 (v6535 : BitVec 32) : Fin 2 → Nat :=
  let c128_i32_2959 : BitVec 32 := 128#32
  let v6536 : BitVec 32 := Scalar.muli v6535 c128_i32_2959
  let v6537 : BitVec 32 := v6536
  let v6595 : Index := Scalar.indexCast v6537
  let c1024_2991 : Index := 1024#32
  ![v6595.toNat, 1024]
def k0_off436 (v6548 : BitVec 32) : Fin 2 → Nat :=
  let c128_i32_2967 : BitVec 32 := 128#32
  let v6549 : BitVec 32 := Scalar.muli v6548 c128_i32_2967
  let v6550 : BitVec 32 := v6549
  let v6597 : Index := Scalar.indexCast v6550
  let c1024_2992 : Index := 1024#32
  ![v6597.toNat, 1024]
def k0_off437 (v6509 : BitVec 32) : Fin 2 → Nat :=
  let c128_i32_2943 : BitVec 32 := 128#32
  let v6510 : BitVec 32 := Scalar.muli v6509 c128_i32_2943
  let v6511 : BitVec 32 := v6510
  let v6612 : Index := Scalar.indexCast v6511
  let c1536_3003 : Index := 1536#32
  ![v6612.toNat, 1536]
def k0_off438 (v6522 : BitVec 32) : Fin 2 → Nat :=
  let c128_i32_2951 : BitVec 32 := 128#32
  let v6523 : BitVec 32 := Scalar.muli v6522 c128_i32_2951
  let v6524 : BitVec 32 := v6523
  let v6614 : Index := Scalar.indexCast v6524
  let c1536_3004 : Index := 1536#32
  ![v6614.toNat, 1536]
def k0_off439 (v6535 : BitVec 32) : Fin 2 → Nat :=
  let c128_i32_2959 : BitVec 32 := 128#32
  let v6536 : BitVec 32 := Scalar.muli v6535 c128_i32_2959
  let v6537 : BitVec 32 := v6536
  let v6616 : Index := Scalar.indexCast v6537
  let c1536_3005 : Index := 1536#32
  ![v6616.toNat, 1536]
def k0_off440 (v6548 : BitVec 32) : Fin 2 → Nat :=
  let c128_i32_2967 : BitVec 32 := 128#32
  let v6549 : BitVec 32 := Scalar.muli v6548 c128_i32_2967
  let v6550 : BitVec 32 := v6549
  let v6618 : Index := Scalar.indexCast v6550
  let c1536_3006 : Index := 1536#32
  ![v6618.toNat, 1536]
def k0_off441 (v6509 : BitVec 32) : Fin 2 → Nat :=
  let c128_i32_2943 : BitVec 32 := 128#32
  let v6510 : BitVec 32 := Scalar.muli v6509 c128_i32_2943
  let v6511 : BitVec 32 := v6510
  let v6630 : Index := Scalar.indexCast v6511
  let c2048_3012 : Index := 2048#32
  ![v6630.toNat, 2048]
def k0_off442 (v6522 : BitVec 32) : Fin 2 → Nat :=
  let c128_i32_2951 : BitVec 32 := 128#32
  let v6523 : BitVec 32 := Scalar.muli v6522 c128_i32_2951
  let v6524 : BitVec 32 := v6523
  let v6632 : Index := Scalar.indexCast v6524
  let c2048_3013 : Index := 2048#32
  ![v6632.toNat, 2048]
def k0_off443 (v6535 : BitVec 32) : Fin 2 → Nat :=
  let c128_i32_2959 : BitVec 32 := 128#32
  let v6536 : BitVec 32 := Scalar.muli v6535 c128_i32_2959
  let v6537 : BitVec 32 := v6536
  let v6634 : Index := Scalar.indexCast v6537
  let c2048_3014 : Index := 2048#32
  ![v6634.toNat, 2048]
def k0_off444 (v6548 : BitVec 32) : Fin 2 → Nat :=
  let c128_i32_2967 : BitVec 32 := 128#32
  let v6549 : BitVec 32 := Scalar.muli v6548 c128_i32_2967
  let v6550 : BitVec 32 := v6549
  let v6636 : Index := Scalar.indexCast v6550
  let c2048_3015 : Index := 2048#32
  ![v6636.toNat, 2048]
def k0_off445 (v6509 : BitVec 32) : Fin 2 → Nat :=
  let c128_i32_2943 : BitVec 32 := 128#32
  let v6510 : BitVec 32 := Scalar.muli v6509 c128_i32_2943
  let v6511 : BitVec 32 := v6510
  let v6648 : Index := Scalar.indexCast v6511
  let c2560_3021 : Index := 2560#32
  ![v6648.toNat, 2560]

def k0_chk67 (v6509 : BitVec 32) : Prop :=
  (128 ∣ (k0_mult53 v6509).toNat) ∧
  (∀ a, (k0_off425 v6509) a + S128x512.size a ≤ S640x3072.size a) ∧
  (∀ a, (k0_off429 v6509) a + S128x512.size a ≤ S640x3072.size a) ∧
  (∀ a, (k0_off433 v6509) a + S128x512.size a ≤ S640x3072.size a) ∧
  (∀ a, (k0_off437 v6509) a + S128x512.size a ≤ S640x3072.size a) ∧
  (∀ a, (k0_off441 v6509) a + S128x512.size a ≤ S640x3072.size a) ∧
  (∀ a, (k0_off445 v6509) a + S128x512.size a ≤ S640x3072.size a)
theorem k0_mult53_dvd : ∀ (v6509 : BitVec 32) (k0_hw67 : k0_chk67 v6509), 128 ∣ (k0_mult53 v6509).toNat := fun v6509 k0_hw67 => k0_hw67.1
theorem k0_off425_inb : ∀ (v6509 : BitVec 32) (k0_hw67 : k0_chk67 v6509), ∀ a, (k0_off425 v6509) a + S128x512.size a ≤ S640x3072.size a := fun v6509 k0_hw67 => k0_hw67.2.1
theorem k0_off429_inb : ∀ (v6509 : BitVec 32) (k0_hw67 : k0_chk67 v6509), ∀ a, (k0_off429 v6509) a + S128x512.size a ≤ S640x3072.size a := fun v6509 k0_hw67 => k0_hw67.2.2.1
theorem k0_off433_inb : ∀ (v6509 : BitVec 32) (k0_hw67 : k0_chk67 v6509), ∀ a, (k0_off433 v6509) a + S128x512.size a ≤ S640x3072.size a := fun v6509 k0_hw67 => k0_hw67.2.2.2.1
theorem k0_off437_inb : ∀ (v6509 : BitVec 32) (k0_hw67 : k0_chk67 v6509), ∀ a, (k0_off437 v6509) a + S128x512.size a ≤ S640x3072.size a := fun v6509 k0_hw67 => k0_hw67.2.2.2.2.1
theorem k0_off441_inb : ∀ (v6509 : BitVec 32) (k0_hw67 : k0_chk67 v6509), ∀ a, (k0_off441 v6509) a + S128x512.size a ≤ S640x3072.size a := fun v6509 k0_hw67 => k0_hw67.2.2.2.2.2.1
theorem k0_off445_inb : ∀ (v6509 : BitVec 32) (k0_hw67 : k0_chk67 v6509), ∀ a, (k0_off445 v6509) a + S128x512.size a ≤ S640x3072.size a := fun v6509 k0_hw67 => k0_hw67.2.2.2.2.2.2

def k0_off446 (v6522 : BitVec 32) : Fin 2 → Nat :=
  let c128_i32_2951 : BitVec 32 := 128#32
  let v6523 : BitVec 32 := Scalar.muli v6522 c128_i32_2951
  let v6524 : BitVec 32 := v6523
  let v6650 : Index := Scalar.indexCast v6524
  let c2560_3022 : Index := 2560#32
  ![v6650.toNat, 2560]

def k0_chk68 (v6522 : BitVec 32) : Prop :=
  (128 ∣ (k0_mult54 v6522).toNat) ∧
  (∀ a, (k0_off426 v6522) a + S128x512.size a ≤ S640x3072.size a) ∧
  (∀ a, (k0_off430 v6522) a + S128x512.size a ≤ S640x3072.size a) ∧
  (∀ a, (k0_off434 v6522) a + S128x512.size a ≤ S640x3072.size a) ∧
  (∀ a, (k0_off438 v6522) a + S128x512.size a ≤ S640x3072.size a) ∧
  (∀ a, (k0_off442 v6522) a + S128x512.size a ≤ S640x3072.size a) ∧
  (∀ a, (k0_off446 v6522) a + S128x512.size a ≤ S640x3072.size a)
theorem k0_mult54_dvd : ∀ (v6522 : BitVec 32) (k0_hw68 : k0_chk68 v6522), 128 ∣ (k0_mult54 v6522).toNat := fun v6522 k0_hw68 => k0_hw68.1
theorem k0_off426_inb : ∀ (v6522 : BitVec 32) (k0_hw68 : k0_chk68 v6522), ∀ a, (k0_off426 v6522) a + S128x512.size a ≤ S640x3072.size a := fun v6522 k0_hw68 => k0_hw68.2.1
theorem k0_off430_inb : ∀ (v6522 : BitVec 32) (k0_hw68 : k0_chk68 v6522), ∀ a, (k0_off430 v6522) a + S128x512.size a ≤ S640x3072.size a := fun v6522 k0_hw68 => k0_hw68.2.2.1
theorem k0_off434_inb : ∀ (v6522 : BitVec 32) (k0_hw68 : k0_chk68 v6522), ∀ a, (k0_off434 v6522) a + S128x512.size a ≤ S640x3072.size a := fun v6522 k0_hw68 => k0_hw68.2.2.2.1
theorem k0_off438_inb : ∀ (v6522 : BitVec 32) (k0_hw68 : k0_chk68 v6522), ∀ a, (k0_off438 v6522) a + S128x512.size a ≤ S640x3072.size a := fun v6522 k0_hw68 => k0_hw68.2.2.2.2.1
theorem k0_off442_inb : ∀ (v6522 : BitVec 32) (k0_hw68 : k0_chk68 v6522), ∀ a, (k0_off442 v6522) a + S128x512.size a ≤ S640x3072.size a := fun v6522 k0_hw68 => k0_hw68.2.2.2.2.2.1
theorem k0_off446_inb : ∀ (v6522 : BitVec 32) (k0_hw68 : k0_chk68 v6522), ∀ a, (k0_off446 v6522) a + S128x512.size a ≤ S640x3072.size a := fun v6522 k0_hw68 => k0_hw68.2.2.2.2.2.2

def k0_off447 (v6535 : BitVec 32) : Fin 2 → Nat :=
  let c128_i32_2959 : BitVec 32 := 128#32
  let v6536 : BitVec 32 := Scalar.muli v6535 c128_i32_2959
  let v6537 : BitVec 32 := v6536
  let v6652 : Index := Scalar.indexCast v6537
  let c2560_3023 : Index := 2560#32
  ![v6652.toNat, 2560]

def k0_chk69 (v6535 : BitVec 32) : Prop :=
  (128 ∣ (k0_mult55 v6535).toNat) ∧
  (∀ a, (k0_off427 v6535) a + S128x512.size a ≤ S640x3072.size a) ∧
  (∀ a, (k0_off431 v6535) a + S128x512.size a ≤ S640x3072.size a) ∧
  (∀ a, (k0_off435 v6535) a + S128x512.size a ≤ S640x3072.size a) ∧
  (∀ a, (k0_off439 v6535) a + S128x512.size a ≤ S640x3072.size a) ∧
  (∀ a, (k0_off443 v6535) a + S128x512.size a ≤ S640x3072.size a) ∧
  (∀ a, (k0_off447 v6535) a + S128x512.size a ≤ S640x3072.size a)
theorem k0_mult55_dvd : ∀ (v6535 : BitVec 32) (k0_hw69 : k0_chk69 v6535), 128 ∣ (k0_mult55 v6535).toNat := fun v6535 k0_hw69 => k0_hw69.1
theorem k0_off427_inb : ∀ (v6535 : BitVec 32) (k0_hw69 : k0_chk69 v6535), ∀ a, (k0_off427 v6535) a + S128x512.size a ≤ S640x3072.size a := fun v6535 k0_hw69 => k0_hw69.2.1
theorem k0_off431_inb : ∀ (v6535 : BitVec 32) (k0_hw69 : k0_chk69 v6535), ∀ a, (k0_off431 v6535) a + S128x512.size a ≤ S640x3072.size a := fun v6535 k0_hw69 => k0_hw69.2.2.1
theorem k0_off435_inb : ∀ (v6535 : BitVec 32) (k0_hw69 : k0_chk69 v6535), ∀ a, (k0_off435 v6535) a + S128x512.size a ≤ S640x3072.size a := fun v6535 k0_hw69 => k0_hw69.2.2.2.1
theorem k0_off439_inb : ∀ (v6535 : BitVec 32) (k0_hw69 : k0_chk69 v6535), ∀ a, (k0_off439 v6535) a + S128x512.size a ≤ S640x3072.size a := fun v6535 k0_hw69 => k0_hw69.2.2.2.2.1
theorem k0_off443_inb : ∀ (v6535 : BitVec 32) (k0_hw69 : k0_chk69 v6535), ∀ a, (k0_off443 v6535) a + S128x512.size a ≤ S640x3072.size a := fun v6535 k0_hw69 => k0_hw69.2.2.2.2.2.1
theorem k0_off447_inb : ∀ (v6535 : BitVec 32) (k0_hw69 : k0_chk69 v6535), ∀ a, (k0_off447 v6535) a + S128x512.size a ≤ S640x3072.size a := fun v6535 k0_hw69 => k0_hw69.2.2.2.2.2.2

def k0_off448 (v6548 : BitVec 32) : Fin 2 → Nat :=
  let c128_i32_2967 : BitVec 32 := 128#32
  let v6549 : BitVec 32 := Scalar.muli v6548 c128_i32_2967
  let v6550 : BitVec 32 := v6549
  let v6654 : Index := Scalar.indexCast v6550
  let c2560_3024 : Index := 2560#32
  ![v6654.toNat, 2560]

def k0_chk70 (v6548 : BitVec 32) : Prop :=
  (128 ∣ (k0_mult56 v6548).toNat) ∧
  (∀ a, (k0_off428 v6548) a + S128x512.size a ≤ S640x3072.size a) ∧
  (∀ a, (k0_off432 v6548) a + S128x512.size a ≤ S640x3072.size a) ∧
  (∀ a, (k0_off436 v6548) a + S128x512.size a ≤ S640x3072.size a) ∧
  (∀ a, (k0_off440 v6548) a + S128x512.size a ≤ S640x3072.size a) ∧
  (∀ a, (k0_off444 v6548) a + S128x512.size a ≤ S640x3072.size a) ∧
  (∀ a, (k0_off448 v6548) a + S128x512.size a ≤ S640x3072.size a)
theorem k0_mult56_dvd : ∀ (v6548 : BitVec 32) (k0_hw70 : k0_chk70 v6548), 128 ∣ (k0_mult56 v6548).toNat := fun v6548 k0_hw70 => k0_hw70.1
theorem k0_off428_inb : ∀ (v6548 : BitVec 32) (k0_hw70 : k0_chk70 v6548), ∀ a, (k0_off428 v6548) a + S128x512.size a ≤ S640x3072.size a := fun v6548 k0_hw70 => k0_hw70.2.1
theorem k0_off432_inb : ∀ (v6548 : BitVec 32) (k0_hw70 : k0_chk70 v6548), ∀ a, (k0_off432 v6548) a + S128x512.size a ≤ S640x3072.size a := fun v6548 k0_hw70 => k0_hw70.2.2.1
theorem k0_off436_inb : ∀ (v6548 : BitVec 32) (k0_hw70 : k0_chk70 v6548), ∀ a, (k0_off436 v6548) a + S128x512.size a ≤ S640x3072.size a := fun v6548 k0_hw70 => k0_hw70.2.2.2.1
theorem k0_off440_inb : ∀ (v6548 : BitVec 32) (k0_hw70 : k0_chk70 v6548), ∀ a, (k0_off440 v6548) a + S128x512.size a ≤ S640x3072.size a := fun v6548 k0_hw70 => k0_hw70.2.2.2.2.1
theorem k0_off444_inb : ∀ (v6548 : BitVec 32) (k0_hw70 : k0_chk70 v6548), ∀ a, (k0_off444 v6548) a + S128x512.size a ≤ S640x3072.size a := fun v6548 k0_hw70 => k0_hw70.2.2.2.2.2.1
theorem k0_off448_inb : ∀ (v6548 : BitVec 32) (k0_hw70 : k0_chk70 v6548), ∀ a, (k0_off448 v6548) a + S128x512.size a ≤ S640x3072.size a := fun v6548 k0_hw70 => k0_hw70.2.2.2.2.2.2

def k0_off449 (v6669 : BitVec 32) (v6670 : BitVec 32) : Fin 3 → Nat :=
  let c0_i32_3039 : BitVec 32 := 0#32
  let v6671 : BitVec 32 := Scalar.addi v6669 c0_i32_3039
  let v6672 : BitVec 1 := Scalar.cmpi .slt v6671 v6670
  let c0_i32_3040 : BitVec 32 := 0#32
  let v6673 : BitVec 32 := Scalar.addi v6669 c0_i32_3040
  let c19_i32_3041 : BitVec 32 := 19#32
  let v6674 : BitVec 32 := Scalar.minsi v6669 c19_i32_3041
  let v6675 : BitVec 32 := Scalar.select v6672 v6673 v6674
  let c20_i32_3042 : BitVec 32 := 20#32
  let v6676 : BitVec 32 := Scalar.select v6672 v6675 c20_i32_3042
  let v6677 : Index := Scalar.indexCast v6676
  let c0_3043 : Index := 0#32
  let c0_3044 : Index := 0#32
  ![v6677.toNat, 0, 0]

def k0_off450 (v6669 : BitVec 32) (v6670 : BitVec 32) : Fin 2 → Nat :=
  let c2_3045 : Index := 2#32
  let c0_i32_3039 : BitVec 32 := 0#32
  let v6671 : BitVec 32 := Scalar.addi v6669 c0_i32_3039
  let v6672 : BitVec 1 := Scalar.cmpi .slt v6671 v6670
  let c0_i32_3040 : BitVec 32 := 0#32
  let v6673 : BitVec 32 := Scalar.addi v6669 c0_i32_3040
  let c19_i32_3041 : BitVec 32 := 19#32
  let v6674 : BitVec 32 := Scalar.minsi v6669 c19_i32_3041
  let v6675 : BitVec 32 := Scalar.select v6672 v6673 v6674
  let v6680 : Index := Scalar.indexCast v6675
  ![2, v6680.toNat]
def k0_mult57 (v6681 : BitVec 32) : BitVec 32 :=
  let c128_i32_3046 : BitVec 32 := 128#32
  let v6682 : BitVec 32 := Scalar.muli v6681 c128_i32_3046
  v6682

def k0_off451 (v6669 : BitVec 32) (v6670 : BitVec 32) : Fin 3 → Nat :=
  let c1_i32_3047 : BitVec 32 := 1#32
  let v6684 : BitVec 32 := Scalar.addi v6669 c1_i32_3047
  let v6685 : BitVec 1 := Scalar.cmpi .slt v6684 v6670
  let c1_i32_3048 : BitVec 32 := 1#32
  let v6686 : BitVec 32 := Scalar.addi v6669 c1_i32_3048
  let c19_i32_3049 : BitVec 32 := 19#32
  let v6687 : BitVec 32 := Scalar.minsi v6669 c19_i32_3049
  let v6688 : BitVec 32 := Scalar.select v6685 v6686 v6687
  let c20_i32_3050 : BitVec 32 := 20#32
  let v6689 : BitVec 32 := Scalar.select v6685 v6688 c20_i32_3050
  let v6690 : Index := Scalar.indexCast v6689
  let c0_3051 : Index := 0#32
  let c0_3052 : Index := 0#32
  ![v6690.toNat, 0, 0]
def k0_off452 (v6669 : BitVec 32) (v6670 : BitVec 32) : Fin 2 → Nat :=
  let c2_3053 : Index := 2#32
  let c1_i32_3047 : BitVec 32 := 1#32
  let v6684 : BitVec 32 := Scalar.addi v6669 c1_i32_3047
  let v6685 : BitVec 1 := Scalar.cmpi .slt v6684 v6670
  let c1_i32_3048 : BitVec 32 := 1#32
  let v6686 : BitVec 32 := Scalar.addi v6669 c1_i32_3048
  let c19_i32_3049 : BitVec 32 := 19#32
  let v6687 : BitVec 32 := Scalar.minsi v6669 c19_i32_3049
  let v6688 : BitVec 32 := Scalar.select v6685 v6686 v6687
  let v6693 : Index := Scalar.indexCast v6688
  ![2, v6693.toNat]
def k0_mult58 (v6694 : BitVec 32) : BitVec 32 :=
  let c128_i32_3054 : BitVec 32 := 128#32
  let v6695 : BitVec 32 := Scalar.muli v6694 c128_i32_3054
  v6695

def k0_off453 (v6669 : BitVec 32) (v6670 : BitVec 32) : Fin 3 → Nat :=
  let c2_i32_3055 : BitVec 32 := 2#32
  let v6697 : BitVec 32 := Scalar.addi v6669 c2_i32_3055
  let v6698 : BitVec 1 := Scalar.cmpi .slt v6697 v6670
  let c2_i32_3056 : BitVec 32 := 2#32
  let v6699 : BitVec 32 := Scalar.addi v6669 c2_i32_3056
  let c19_i32_3057 : BitVec 32 := 19#32
  let v6700 : BitVec 32 := Scalar.minsi v6669 c19_i32_3057
  let v6701 : BitVec 32 := Scalar.select v6698 v6699 v6700
  let c20_i32_3058 : BitVec 32 := 20#32
  let v6702 : BitVec 32 := Scalar.select v6698 v6701 c20_i32_3058
  let v6703 : Index := Scalar.indexCast v6702
  let c0_3059 : Index := 0#32
  let c0_3060 : Index := 0#32
  ![v6703.toNat, 0, 0]
def k0_off454 (v6669 : BitVec 32) (v6670 : BitVec 32) : Fin 2 → Nat :=
  let c2_3061 : Index := 2#32
  let c2_i32_3055 : BitVec 32 := 2#32
  let v6697 : BitVec 32 := Scalar.addi v6669 c2_i32_3055
  let v6698 : BitVec 1 := Scalar.cmpi .slt v6697 v6670
  let c2_i32_3056 : BitVec 32 := 2#32
  let v6699 : BitVec 32 := Scalar.addi v6669 c2_i32_3056
  let c19_i32_3057 : BitVec 32 := 19#32
  let v6700 : BitVec 32 := Scalar.minsi v6669 c19_i32_3057
  let v6701 : BitVec 32 := Scalar.select v6698 v6699 v6700
  let v6706 : Index := Scalar.indexCast v6701
  ![2, v6706.toNat]
def k0_mult59 (v6707 : BitVec 32) : BitVec 32 :=
  let c128_i32_3062 : BitVec 32 := 128#32
  let v6708 : BitVec 32 := Scalar.muli v6707 c128_i32_3062
  v6708

def k0_off455 (v6669 : BitVec 32) (v6670 : BitVec 32) : Fin 3 → Nat :=
  let c3_i32_3063 : BitVec 32 := 3#32
  let v6710 : BitVec 32 := Scalar.addi v6669 c3_i32_3063
  let v6711 : BitVec 1 := Scalar.cmpi .slt v6710 v6670
  let c3_i32_3064 : BitVec 32 := 3#32
  let v6712 : BitVec 32 := Scalar.addi v6669 c3_i32_3064
  let c19_i32_3065 : BitVec 32 := 19#32
  let v6713 : BitVec 32 := Scalar.minsi v6669 c19_i32_3065
  let v6714 : BitVec 32 := Scalar.select v6711 v6712 v6713
  let c20_i32_3066 : BitVec 32 := 20#32
  let v6715 : BitVec 32 := Scalar.select v6711 v6714 c20_i32_3066
  let v6716 : Index := Scalar.indexCast v6715
  let c0_3067 : Index := 0#32
  let c0_3068 : Index := 0#32
  ![v6716.toNat, 0, 0]
def k0_off456 (v6669 : BitVec 32) (v6670 : BitVec 32) : Fin 2 → Nat :=
  let c2_3069 : Index := 2#32
  let c3_i32_3063 : BitVec 32 := 3#32
  let v6710 : BitVec 32 := Scalar.addi v6669 c3_i32_3063
  let v6711 : BitVec 1 := Scalar.cmpi .slt v6710 v6670
  let c3_i32_3064 : BitVec 32 := 3#32
  let v6712 : BitVec 32 := Scalar.addi v6669 c3_i32_3064
  let c19_i32_3065 : BitVec 32 := 19#32
  let v6713 : BitVec 32 := Scalar.minsi v6669 c19_i32_3065
  let v6714 : BitVec 32 := Scalar.select v6711 v6712 v6713
  let v6719 : Index := Scalar.indexCast v6714
  ![2, v6719.toNat]

def k0_chk71 (v6669 : BitVec 32) (v6670 : BitVec 32) : Prop :=
  (∀ a, (k0_off449 v6669 v6670) a + S1x128x128.size a ≤ S21x128x128.size a) ∧
  (∀ a, (k0_off450 v6669 v6670) a + S1x1.size a ≤ S3x20.size a) ∧
  (∀ a, (k0_off451 v6669 v6670) a + S1x128x128.size a ≤ S21x128x128.size a) ∧
  (∀ a, (k0_off452 v6669 v6670) a + S1x1.size a ≤ S3x20.size a) ∧
  (∀ a, (k0_off453 v6669 v6670) a + S1x128x128.size a ≤ S21x128x128.size a) ∧
  (∀ a, (k0_off454 v6669 v6670) a + S1x1.size a ≤ S3x20.size a) ∧
  (∀ a, (k0_off455 v6669 v6670) a + S1x128x128.size a ≤ S21x128x128.size a) ∧
  (∀ a, (k0_off456 v6669 v6670) a + S1x1.size a ≤ S3x20.size a)
theorem k0_off449_inb : ∀ (v6669 : BitVec 32) (v6670 : BitVec 32) (k0_hw71 : k0_chk71 v6669 v6670), ∀ a, (k0_off449 v6669 v6670) a + S1x128x128.size a ≤ S21x128x128.size a := fun v6669 v6670 k0_hw71 => k0_hw71.1
theorem k0_off450_inb : ∀ (v6669 : BitVec 32) (v6670 : BitVec 32) (k0_hw71 : k0_chk71 v6669 v6670), ∀ a, (k0_off450 v6669 v6670) a + S1x1.size a ≤ S3x20.size a := fun v6669 v6670 k0_hw71 => k0_hw71.2.1
theorem k0_off451_inb : ∀ (v6669 : BitVec 32) (v6670 : BitVec 32) (k0_hw71 : k0_chk71 v6669 v6670), ∀ a, (k0_off451 v6669 v6670) a + S1x128x128.size a ≤ S21x128x128.size a := fun v6669 v6670 k0_hw71 => k0_hw71.2.2.1
theorem k0_off452_inb : ∀ (v6669 : BitVec 32) (v6670 : BitVec 32) (k0_hw71 : k0_chk71 v6669 v6670), ∀ a, (k0_off452 v6669 v6670) a + S1x1.size a ≤ S3x20.size a := fun v6669 v6670 k0_hw71 => k0_hw71.2.2.2.1
theorem k0_off453_inb : ∀ (v6669 : BitVec 32) (v6670 : BitVec 32) (k0_hw71 : k0_chk71 v6669 v6670), ∀ a, (k0_off453 v6669 v6670) a + S1x128x128.size a ≤ S21x128x128.size a := fun v6669 v6670 k0_hw71 => k0_hw71.2.2.2.2.1
theorem k0_off454_inb : ∀ (v6669 : BitVec 32) (v6670 : BitVec 32) (k0_hw71 : k0_chk71 v6669 v6670), ∀ a, (k0_off454 v6669 v6670) a + S1x1.size a ≤ S3x20.size a := fun v6669 v6670 k0_hw71 => k0_hw71.2.2.2.2.2.1
theorem k0_off455_inb : ∀ (v6669 : BitVec 32) (v6670 : BitVec 32) (k0_hw71 : k0_chk71 v6669 v6670), ∀ a, (k0_off455 v6669 v6670) a + S1x128x128.size a ≤ S21x128x128.size a := fun v6669 v6670 k0_hw71 => k0_hw71.2.2.2.2.2.2.1
theorem k0_off456_inb : ∀ (v6669 : BitVec 32) (v6670 : BitVec 32) (k0_hw71 : k0_chk71 v6669 v6670), ∀ a, (k0_off456 v6669 v6670) a + S1x1.size a ≤ S3x20.size a := fun v6669 v6670 k0_hw71 => k0_hw71.2.2.2.2.2.2.2

def k0_mult60 (v6720 : BitVec 32) : BitVec 32 :=
  let c128_i32_3070 : BitVec 32 := 128#32
  let v6721 : BitVec 32 := Scalar.muli v6720 c128_i32_3070
  v6721

def k0_off457 (v6681 : BitVec 32) : Fin 2 → Nat :=
  let c128_i32_3046 : BitVec 32 := 128#32
  let v6682 : BitVec 32 := Scalar.muli v6681 c128_i32_3046
  let v6683 : BitVec 32 := v6682
  let v6727 : Index := Scalar.indexCast v6683
  let c0_3074 : Index := 0#32
  ![v6727.toNat, 0]
def k0_off458 (v6694 : BitVec 32) : Fin 2 → Nat :=
  let c128_i32_3054 : BitVec 32 := 128#32
  let v6695 : BitVec 32 := Scalar.muli v6694 c128_i32_3054
  let v6696 : BitVec 32 := v6695
  let v6729 : Index := Scalar.indexCast v6696
  let c0_3075 : Index := 0#32
  ![v6729.toNat, 0]
def k0_off459 (v6707 : BitVec 32) : Fin 2 → Nat :=
  let c128_i32_3062 : BitVec 32 := 128#32
  let v6708 : BitVec 32 := Scalar.muli v6707 c128_i32_3062
  let v6709 : BitVec 32 := v6708
  let v6731 : Index := Scalar.indexCast v6709
  let c0_3076 : Index := 0#32
  ![v6731.toNat, 0]
def k0_off460 (v6720 : BitVec 32) : Fin 2 → Nat :=
  let c128_i32_3070 : BitVec 32 := 128#32
  let v6721 : BitVec 32 := Scalar.muli v6720 c128_i32_3070
  let v6722 : BitVec 32 := v6721
  let v6733 : Index := Scalar.indexCast v6722
  let c0_3077 : Index := 0#32
  ![v6733.toNat, 0]
def k0_off461 (v6681 : BitVec 32) : Fin 2 → Nat :=
  let c128_i32_3046 : BitVec 32 := 128#32
  let v6682 : BitVec 32 := Scalar.muli v6681 c128_i32_3046
  let v6683 : BitVec 32 := v6682
  let v6745 : Index := Scalar.indexCast v6683
  let c512_3083 : Index := 512#32
  ![v6745.toNat, 512]
def k0_off462 (v6694 : BitVec 32) : Fin 2 → Nat :=
  let c128_i32_3054 : BitVec 32 := 128#32
  let v6695 : BitVec 32 := Scalar.muli v6694 c128_i32_3054
  let v6696 : BitVec 32 := v6695
  let v6747 : Index := Scalar.indexCast v6696
  let c512_3084 : Index := 512#32
  ![v6747.toNat, 512]
def k0_off463 (v6707 : BitVec 32) : Fin 2 → Nat :=
  let c128_i32_3062 : BitVec 32 := 128#32
  let v6708 : BitVec 32 := Scalar.muli v6707 c128_i32_3062
  let v6709 : BitVec 32 := v6708
  let v6749 : Index := Scalar.indexCast v6709
  let c512_3085 : Index := 512#32
  ![v6749.toNat, 512]
def k0_off464 (v6720 : BitVec 32) : Fin 2 → Nat :=
  let c128_i32_3070 : BitVec 32 := 128#32
  let v6721 : BitVec 32 := Scalar.muli v6720 c128_i32_3070
  let v6722 : BitVec 32 := v6721
  let v6751 : Index := Scalar.indexCast v6722
  let c512_3086 : Index := 512#32
  ![v6751.toNat, 512]
def k0_off465 (v6681 : BitVec 32) : Fin 2 → Nat :=
  let c128_i32_3046 : BitVec 32 := 128#32
  let v6682 : BitVec 32 := Scalar.muli v6681 c128_i32_3046
  let v6683 : BitVec 32 := v6682
  let v6763 : Index := Scalar.indexCast v6683
  let c1024_3092 : Index := 1024#32
  ![v6763.toNat, 1024]
def k0_off466 (v6694 : BitVec 32) : Fin 2 → Nat :=
  let c128_i32_3054 : BitVec 32 := 128#32
  let v6695 : BitVec 32 := Scalar.muli v6694 c128_i32_3054
  let v6696 : BitVec 32 := v6695
  let v6765 : Index := Scalar.indexCast v6696
  let c1024_3093 : Index := 1024#32
  ![v6765.toNat, 1024]
def k0_off467 (v6707 : BitVec 32) : Fin 2 → Nat :=
  let c128_i32_3062 : BitVec 32 := 128#32
  let v6708 : BitVec 32 := Scalar.muli v6707 c128_i32_3062
  let v6709 : BitVec 32 := v6708
  let v6767 : Index := Scalar.indexCast v6709
  let c1024_3094 : Index := 1024#32
  ![v6767.toNat, 1024]
def k0_off468 (v6720 : BitVec 32) : Fin 2 → Nat :=
  let c128_i32_3070 : BitVec 32 := 128#32
  let v6721 : BitVec 32 := Scalar.muli v6720 c128_i32_3070
  let v6722 : BitVec 32 := v6721
  let v6769 : Index := Scalar.indexCast v6722
  let c1024_3095 : Index := 1024#32
  ![v6769.toNat, 1024]
def k0_off469 (v6681 : BitVec 32) : Fin 2 → Nat :=
  let c128_i32_3046 : BitVec 32 := 128#32
  let v6682 : BitVec 32 := Scalar.muli v6681 c128_i32_3046
  let v6683 : BitVec 32 := v6682
  let v6784 : Index := Scalar.indexCast v6683
  let c1536_3106 : Index := 1536#32
  ![v6784.toNat, 1536]
def k0_off470 (v6694 : BitVec 32) : Fin 2 → Nat :=
  let c128_i32_3054 : BitVec 32 := 128#32
  let v6695 : BitVec 32 := Scalar.muli v6694 c128_i32_3054
  let v6696 : BitVec 32 := v6695
  let v6786 : Index := Scalar.indexCast v6696
  let c1536_3107 : Index := 1536#32
  ![v6786.toNat, 1536]
def k0_off471 (v6707 : BitVec 32) : Fin 2 → Nat :=
  let c128_i32_3062 : BitVec 32 := 128#32
  let v6708 : BitVec 32 := Scalar.muli v6707 c128_i32_3062
  let v6709 : BitVec 32 := v6708
  let v6788 : Index := Scalar.indexCast v6709
  let c1536_3108 : Index := 1536#32
  ![v6788.toNat, 1536]
def k0_off472 (v6720 : BitVec 32) : Fin 2 → Nat :=
  let c128_i32_3070 : BitVec 32 := 128#32
  let v6721 : BitVec 32 := Scalar.muli v6720 c128_i32_3070
  let v6722 : BitVec 32 := v6721
  let v6790 : Index := Scalar.indexCast v6722
  let c1536_3109 : Index := 1536#32
  ![v6790.toNat, 1536]
def k0_off473 (v6681 : BitVec 32) : Fin 2 → Nat :=
  let c128_i32_3046 : BitVec 32 := 128#32
  let v6682 : BitVec 32 := Scalar.muli v6681 c128_i32_3046
  let v6683 : BitVec 32 := v6682
  let v6802 : Index := Scalar.indexCast v6683
  let c2048_3115 : Index := 2048#32
  ![v6802.toNat, 2048]
def k0_off474 (v6694 : BitVec 32) : Fin 2 → Nat :=
  let c128_i32_3054 : BitVec 32 := 128#32
  let v6695 : BitVec 32 := Scalar.muli v6694 c128_i32_3054
  let v6696 : BitVec 32 := v6695
  let v6804 : Index := Scalar.indexCast v6696
  let c2048_3116 : Index := 2048#32
  ![v6804.toNat, 2048]
def k0_off475 (v6707 : BitVec 32) : Fin 2 → Nat :=
  let c128_i32_3062 : BitVec 32 := 128#32
  let v6708 : BitVec 32 := Scalar.muli v6707 c128_i32_3062
  let v6709 : BitVec 32 := v6708
  let v6806 : Index := Scalar.indexCast v6709
  let c2048_3117 : Index := 2048#32
  ![v6806.toNat, 2048]
def k0_off476 (v6720 : BitVec 32) : Fin 2 → Nat :=
  let c128_i32_3070 : BitVec 32 := 128#32
  let v6721 : BitVec 32 := Scalar.muli v6720 c128_i32_3070
  let v6722 : BitVec 32 := v6721
  let v6808 : Index := Scalar.indexCast v6722
  let c2048_3118 : Index := 2048#32
  ![v6808.toNat, 2048]
def k0_off477 (v6681 : BitVec 32) : Fin 2 → Nat :=
  let c128_i32_3046 : BitVec 32 := 128#32
  let v6682 : BitVec 32 := Scalar.muli v6681 c128_i32_3046
  let v6683 : BitVec 32 := v6682
  let v6820 : Index := Scalar.indexCast v6683
  let c2560_3124 : Index := 2560#32
  ![v6820.toNat, 2560]

def k0_chk72 (v6681 : BitVec 32) : Prop :=
  (128 ∣ (k0_mult57 v6681).toNat) ∧
  (∀ a, (k0_off457 v6681) a + S128x512.size a ≤ S640x3072.size a) ∧
  (∀ a, (k0_off461 v6681) a + S128x512.size a ≤ S640x3072.size a) ∧
  (∀ a, (k0_off465 v6681) a + S128x512.size a ≤ S640x3072.size a) ∧
  (∀ a, (k0_off469 v6681) a + S128x512.size a ≤ S640x3072.size a) ∧
  (∀ a, (k0_off473 v6681) a + S128x512.size a ≤ S640x3072.size a) ∧
  (∀ a, (k0_off477 v6681) a + S128x512.size a ≤ S640x3072.size a)
theorem k0_mult57_dvd : ∀ (v6681 : BitVec 32) (k0_hw72 : k0_chk72 v6681), 128 ∣ (k0_mult57 v6681).toNat := fun v6681 k0_hw72 => k0_hw72.1
theorem k0_off457_inb : ∀ (v6681 : BitVec 32) (k0_hw72 : k0_chk72 v6681), ∀ a, (k0_off457 v6681) a + S128x512.size a ≤ S640x3072.size a := fun v6681 k0_hw72 => k0_hw72.2.1
theorem k0_off461_inb : ∀ (v6681 : BitVec 32) (k0_hw72 : k0_chk72 v6681), ∀ a, (k0_off461 v6681) a + S128x512.size a ≤ S640x3072.size a := fun v6681 k0_hw72 => k0_hw72.2.2.1
theorem k0_off465_inb : ∀ (v6681 : BitVec 32) (k0_hw72 : k0_chk72 v6681), ∀ a, (k0_off465 v6681) a + S128x512.size a ≤ S640x3072.size a := fun v6681 k0_hw72 => k0_hw72.2.2.2.1
theorem k0_off469_inb : ∀ (v6681 : BitVec 32) (k0_hw72 : k0_chk72 v6681), ∀ a, (k0_off469 v6681) a + S128x512.size a ≤ S640x3072.size a := fun v6681 k0_hw72 => k0_hw72.2.2.2.2.1
theorem k0_off473_inb : ∀ (v6681 : BitVec 32) (k0_hw72 : k0_chk72 v6681), ∀ a, (k0_off473 v6681) a + S128x512.size a ≤ S640x3072.size a := fun v6681 k0_hw72 => k0_hw72.2.2.2.2.2.1
theorem k0_off477_inb : ∀ (v6681 : BitVec 32) (k0_hw72 : k0_chk72 v6681), ∀ a, (k0_off477 v6681) a + S128x512.size a ≤ S640x3072.size a := fun v6681 k0_hw72 => k0_hw72.2.2.2.2.2.2

def k0_off478 (v6694 : BitVec 32) : Fin 2 → Nat :=
  let c128_i32_3054 : BitVec 32 := 128#32
  let v6695 : BitVec 32 := Scalar.muli v6694 c128_i32_3054
  let v6696 : BitVec 32 := v6695
  let v6822 : Index := Scalar.indexCast v6696
  let c2560_3125 : Index := 2560#32
  ![v6822.toNat, 2560]

def k0_chk73 (v6694 : BitVec 32) : Prop :=
  (128 ∣ (k0_mult58 v6694).toNat) ∧
  (∀ a, (k0_off458 v6694) a + S128x512.size a ≤ S640x3072.size a) ∧
  (∀ a, (k0_off462 v6694) a + S128x512.size a ≤ S640x3072.size a) ∧
  (∀ a, (k0_off466 v6694) a + S128x512.size a ≤ S640x3072.size a) ∧
  (∀ a, (k0_off470 v6694) a + S128x512.size a ≤ S640x3072.size a) ∧
  (∀ a, (k0_off474 v6694) a + S128x512.size a ≤ S640x3072.size a) ∧
  (∀ a, (k0_off478 v6694) a + S128x512.size a ≤ S640x3072.size a)
theorem k0_mult58_dvd : ∀ (v6694 : BitVec 32) (k0_hw73 : k0_chk73 v6694), 128 ∣ (k0_mult58 v6694).toNat := fun v6694 k0_hw73 => k0_hw73.1
theorem k0_off458_inb : ∀ (v6694 : BitVec 32) (k0_hw73 : k0_chk73 v6694), ∀ a, (k0_off458 v6694) a + S128x512.size a ≤ S640x3072.size a := fun v6694 k0_hw73 => k0_hw73.2.1
theorem k0_off462_inb : ∀ (v6694 : BitVec 32) (k0_hw73 : k0_chk73 v6694), ∀ a, (k0_off462 v6694) a + S128x512.size a ≤ S640x3072.size a := fun v6694 k0_hw73 => k0_hw73.2.2.1
theorem k0_off466_inb : ∀ (v6694 : BitVec 32) (k0_hw73 : k0_chk73 v6694), ∀ a, (k0_off466 v6694) a + S128x512.size a ≤ S640x3072.size a := fun v6694 k0_hw73 => k0_hw73.2.2.2.1
theorem k0_off470_inb : ∀ (v6694 : BitVec 32) (k0_hw73 : k0_chk73 v6694), ∀ a, (k0_off470 v6694) a + S128x512.size a ≤ S640x3072.size a := fun v6694 k0_hw73 => k0_hw73.2.2.2.2.1
theorem k0_off474_inb : ∀ (v6694 : BitVec 32) (k0_hw73 : k0_chk73 v6694), ∀ a, (k0_off474 v6694) a + S128x512.size a ≤ S640x3072.size a := fun v6694 k0_hw73 => k0_hw73.2.2.2.2.2.1
theorem k0_off478_inb : ∀ (v6694 : BitVec 32) (k0_hw73 : k0_chk73 v6694), ∀ a, (k0_off478 v6694) a + S128x512.size a ≤ S640x3072.size a := fun v6694 k0_hw73 => k0_hw73.2.2.2.2.2.2

def k0_off479 (v6707 : BitVec 32) : Fin 2 → Nat :=
  let c128_i32_3062 : BitVec 32 := 128#32
  let v6708 : BitVec 32 := Scalar.muli v6707 c128_i32_3062
  let v6709 : BitVec 32 := v6708
  let v6824 : Index := Scalar.indexCast v6709
  let c2560_3126 : Index := 2560#32
  ![v6824.toNat, 2560]

def k0_chk74 (v6707 : BitVec 32) : Prop :=
  (128 ∣ (k0_mult59 v6707).toNat) ∧
  (∀ a, (k0_off459 v6707) a + S128x512.size a ≤ S640x3072.size a) ∧
  (∀ a, (k0_off463 v6707) a + S128x512.size a ≤ S640x3072.size a) ∧
  (∀ a, (k0_off467 v6707) a + S128x512.size a ≤ S640x3072.size a) ∧
  (∀ a, (k0_off471 v6707) a + S128x512.size a ≤ S640x3072.size a) ∧
  (∀ a, (k0_off475 v6707) a + S128x512.size a ≤ S640x3072.size a) ∧
  (∀ a, (k0_off479 v6707) a + S128x512.size a ≤ S640x3072.size a)
theorem k0_mult59_dvd : ∀ (v6707 : BitVec 32) (k0_hw74 : k0_chk74 v6707), 128 ∣ (k0_mult59 v6707).toNat := fun v6707 k0_hw74 => k0_hw74.1
theorem k0_off459_inb : ∀ (v6707 : BitVec 32) (k0_hw74 : k0_chk74 v6707), ∀ a, (k0_off459 v6707) a + S128x512.size a ≤ S640x3072.size a := fun v6707 k0_hw74 => k0_hw74.2.1
theorem k0_off463_inb : ∀ (v6707 : BitVec 32) (k0_hw74 : k0_chk74 v6707), ∀ a, (k0_off463 v6707) a + S128x512.size a ≤ S640x3072.size a := fun v6707 k0_hw74 => k0_hw74.2.2.1
theorem k0_off467_inb : ∀ (v6707 : BitVec 32) (k0_hw74 : k0_chk74 v6707), ∀ a, (k0_off467 v6707) a + S128x512.size a ≤ S640x3072.size a := fun v6707 k0_hw74 => k0_hw74.2.2.2.1
theorem k0_off471_inb : ∀ (v6707 : BitVec 32) (k0_hw74 : k0_chk74 v6707), ∀ a, (k0_off471 v6707) a + S128x512.size a ≤ S640x3072.size a := fun v6707 k0_hw74 => k0_hw74.2.2.2.2.1
theorem k0_off475_inb : ∀ (v6707 : BitVec 32) (k0_hw74 : k0_chk74 v6707), ∀ a, (k0_off475 v6707) a + S128x512.size a ≤ S640x3072.size a := fun v6707 k0_hw74 => k0_hw74.2.2.2.2.2.1
theorem k0_off479_inb : ∀ (v6707 : BitVec 32) (k0_hw74 : k0_chk74 v6707), ∀ a, (k0_off479 v6707) a + S128x512.size a ≤ S640x3072.size a := fun v6707 k0_hw74 => k0_hw74.2.2.2.2.2.2

def k0_off480 (v6720 : BitVec 32) : Fin 2 → Nat :=
  let c128_i32_3070 : BitVec 32 := 128#32
  let v6721 : BitVec 32 := Scalar.muli v6720 c128_i32_3070
  let v6722 : BitVec 32 := v6721
  let v6826 : Index := Scalar.indexCast v6722
  let c2560_3127 : Index := 2560#32
  ![v6826.toNat, 2560]

def k0_chk75 (v6720 : BitVec 32) : Prop :=
  (128 ∣ (k0_mult60 v6720).toNat) ∧
  (∀ a, (k0_off460 v6720) a + S128x512.size a ≤ S640x3072.size a) ∧
  (∀ a, (k0_off464 v6720) a + S128x512.size a ≤ S640x3072.size a) ∧
  (∀ a, (k0_off468 v6720) a + S128x512.size a ≤ S640x3072.size a) ∧
  (∀ a, (k0_off472 v6720) a + S128x512.size a ≤ S640x3072.size a) ∧
  (∀ a, (k0_off476 v6720) a + S128x512.size a ≤ S640x3072.size a) ∧
  (∀ a, (k0_off480 v6720) a + S128x512.size a ≤ S640x3072.size a)
theorem k0_mult60_dvd : ∀ (v6720 : BitVec 32) (k0_hw75 : k0_chk75 v6720), 128 ∣ (k0_mult60 v6720).toNat := fun v6720 k0_hw75 => k0_hw75.1
theorem k0_off460_inb : ∀ (v6720 : BitVec 32) (k0_hw75 : k0_chk75 v6720), ∀ a, (k0_off460 v6720) a + S128x512.size a ≤ S640x3072.size a := fun v6720 k0_hw75 => k0_hw75.2.1
theorem k0_off464_inb : ∀ (v6720 : BitVec 32) (k0_hw75 : k0_chk75 v6720), ∀ a, (k0_off464 v6720) a + S128x512.size a ≤ S640x3072.size a := fun v6720 k0_hw75 => k0_hw75.2.2.1
theorem k0_off468_inb : ∀ (v6720 : BitVec 32) (k0_hw75 : k0_chk75 v6720), ∀ a, (k0_off468 v6720) a + S128x512.size a ≤ S640x3072.size a := fun v6720 k0_hw75 => k0_hw75.2.2.2.1
theorem k0_off472_inb : ∀ (v6720 : BitVec 32) (k0_hw75 : k0_chk75 v6720), ∀ a, (k0_off472 v6720) a + S128x512.size a ≤ S640x3072.size a := fun v6720 k0_hw75 => k0_hw75.2.2.2.2.1
theorem k0_off476_inb : ∀ (v6720 : BitVec 32) (k0_hw75 : k0_chk75 v6720), ∀ a, (k0_off476 v6720) a + S128x512.size a ≤ S640x3072.size a := fun v6720 k0_hw75 => k0_hw75.2.2.2.2.2.1
theorem k0_off480_inb : ∀ (v6720 : BitVec 32) (k0_hw75 : k0_chk75 v6720), ∀ a, (k0_off480 v6720) a + S128x512.size a ≤ S640x3072.size a := fun v6720 k0_hw75 => k0_hw75.2.2.2.2.2.2
-- ==== ReferenceIdeal.lean ====
abbrev S3x640x3072 : Shape := ⟨3, ![3, 640, 3072]⟩
abbrev S3x3072 : Shape := ⟨2, ![3, 3072]⟩
abbrev S3x6 : Shape := ⟨2, ![3, 6]⟩
abbrev S3x20 : Shape := ⟨2, ![3, 20]⟩
abbrev S3x20x128x4 : Shape := ⟨4, ![3, 20, 128, 4]⟩
abbrev S3 : Shape := ⟨1, ![3]⟩
abbrev S20 : Shape := ⟨1, ![20]⟩
abbrev S3x20x128x4x1 : Shape := ⟨5, ![3, 20, 128, 4, 1]⟩
abbrev S3x20x128x4x32 : Shape := ⟨5, ![3, 20, 128, 4, 32]⟩
abbrev S32 : Shape := ⟨1, ![32]⟩
abbrev S_ : Shape := ⟨0, ![]⟩
abbrev S3x1 : Shape := ⟨2, ![3, 1]⟩
abbrev S1x20 : Shape := ⟨2, ![1, 20]⟩
abbrev S3x5 : Shape := ⟨2, ![3, 5]⟩
abbrev S3x5x1 : Shape := ⟨3, ![3, 5, 1]⟩
abbrev S1x1x20 : Shape := ⟨3, ![1, 1, 20]⟩
abbrev S3x5x20 : Shape := ⟨3, ![3, 5, 20]⟩
abbrev S3x20x1x1x1 : Shape := ⟨5, ![3, 20, 1, 1, 1]⟩
abbrev S3x20x128x128 : Shape := ⟨4, ![3, 20, 128, 128]⟩
abbrev S3x5x128x3072 : Shape := ⟨4, ![3, 5, 128, 3072]⟩
abbrev S3x20x1 : Shape := ⟨3, ![3, 20, 1]⟩
abbrev S3x20x2 : Shape := ⟨3, ![3, 20, 2]⟩
abbrev S3x20x128x3072 : Shape := ⟨4, ![3, 20, 128, 3072]⟩
abbrev S60 : Shape := ⟨1, ![60]⟩
abbrev S60x128x3072 : Shape := ⟨3, ![60, 128, 3072]⟩
abbrev S15x128x3072 : Shape := ⟨3, ![15, 128, 3072]⟩
abbrev S60x1 : Shape := ⟨2, ![60, 1]⟩
abbrev S3x1x3072 : Shape := ⟨3, ![3, 1, 3072]⟩
abbrev S3x20x128 : Shape := ⟨3, ![3, 20, 128]⟩
abbrev S60x128 : Shape := ⟨2, ![60, 128]⟩
abbrev S15x128 : Shape := ⟨2, ![15, 128]⟩
abbrev S3x640 : Shape := ⟨2, ![3, 640]⟩
abbrev S3x640x1 : Shape := ⟨3, ![3, 640, 1]⟩

abbrev nBuf : Space → Nat
  | .hbm => 109
  | .vmem => 2
  | .smem => 0
  | _ => 0

abbrev bufTy : (tb : Table) → Fin (tcTables nBuf tb) → BufTy
  | .hbm, ⟨0, _⟩ => ⟨S3x640x3072, .fp8e4m3⟩
  | .hbm, ⟨1, _⟩ => ⟨S3x3072, .f32⟩
  | .hbm, ⟨2, _⟩ => ⟨S3x6, .i32⟩
  | .hbm, ⟨3, _⟩ => ⟨S3x20, .i32⟩
  | .hbm, ⟨4, _⟩ => ⟨S3x20x128x4, .i32⟩
  | .hbm, ⟨5, _⟩ => ⟨S3, .i32⟩
  | .hbm, ⟨6, _⟩ => ⟨S20, .i32⟩
  | .hbm, ⟨7, _⟩ => ⟨S3x20x128x4x1, .i32⟩
  | .hbm, ⟨8, _⟩ => ⟨S3x20x128x4x32, .i32⟩
  | .hbm, ⟨9, _⟩ => ⟨S32, .i32⟩
  | .hbm, ⟨10, _⟩ => ⟨S3x20x128x4x32, .i32⟩
  | .hbm, ⟨11, _⟩ => ⟨S3x20x128x4x32, .i32⟩
  | .hbm, ⟨12, _⟩ => ⟨S_, .i32⟩
  | .hbm, ⟨13, _⟩ => ⟨S3x20x128x4x32, .i32⟩
  | .hbm, ⟨14, _⟩ => ⟨S3x20x128x4x32, .i32⟩
  | .hbm, ⟨15, _⟩ => ⟨S3x1, .i32⟩
  | .hbm, ⟨16, _⟩ => ⟨S3, .i32⟩
  | .hbm, ⟨17, _⟩ => ⟨S1x20, .i32⟩
  | .hbm, ⟨18, _⟩ => ⟨S3x1, .i32⟩
  | .hbm, ⟨19, _⟩ => ⟨S3x20, .i32⟩
  | .hbm, ⟨20, _⟩ => ⟨S3x20, .i32⟩
  | .hbm, ⟨21, _⟩ => ⟨S3x20, .i1⟩
  | .hbm, ⟨22, _⟩ => ⟨S3x5, .i32⟩
  | .hbm, ⟨23, _⟩ => ⟨S3x5x1, .i32⟩
  | .hbm, ⟨24, _⟩ => ⟨S1x1x20, .i32⟩
  | .hbm, ⟨25, _⟩ => ⟨S3x5x20, .i32⟩
  | .hbm, ⟨26, _⟩ => ⟨S3x5x20, .i32⟩
  | .hbm, ⟨27, _⟩ => ⟨S3x5x20, .i1⟩
  | .hbm, ⟨28, _⟩ => ⟨S3x5x20, .i32⟩
  | .hbm, ⟨29, _⟩ => ⟨S_, .i32⟩
  | .hbm, ⟨30, _⟩ => ⟨S3x20, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S3x20, .i32⟩
  | .hbm, ⟨35, _⟩ => ⟨S3x20, .i32⟩
  | .hbm, ⟨36, _⟩ => ⟨S_, .i32⟩
  | .hbm, ⟨37, _⟩ => ⟨S3x20, .i32⟩
  | .hbm, ⟨38, _⟩ => ⟨S3x20, .i32⟩
  | .hbm, ⟨39, _⟩ => ⟨S3x20, .i32⟩
  | .hbm, ⟨40, _⟩ => ⟨S3x20x1x1x1, .i32⟩
  | .hbm, ⟨41, _⟩ => ⟨S3x20x128x4x32, .i32⟩
  | .hbm, ⟨42, _⟩ => ⟨S3x20x128x4x32, .i32⟩
  | .hbm, ⟨43, _⟩ => ⟨S3x20x128x128, .i32⟩
  | .hbm, ⟨44, _⟩ => ⟨S3x20x128x128, .f32⟩
  | .hbm, ⟨45, _⟩ => ⟨S3x640x3072, .f32⟩
  | .hbm, ⟨46, _⟩ => ⟨S3x5x128x3072, .f32⟩
  | .hbm, ⟨47, _⟩ => ⟨S3x1, .i32⟩
  | .hbm, ⟨48, _⟩ => ⟨S_, .i32⟩
  | .hbm, ⟨49, _⟩ => ⟨S3x1, .i32⟩
  | .hbm, ⟨50, _⟩ => ⟨S3x1, .i1⟩
  | .hbm, ⟨51, _⟩ => ⟨S_, .i32⟩
  | .hbm, ⟨52, _⟩ => ⟨S3x1, .i32⟩
  | .hbm, ⟨53, _⟩ => ⟨S3x1, .i32⟩
  | .hbm, ⟨54, _⟩ => ⟨S3x1, .i32⟩
  | .hbm, ⟨55, _⟩ => ⟨S_, .i32⟩
  | .hbm, ⟨56, _⟩ => ⟨S3x20, .i32⟩
  | .hbm, ⟨57, _⟩ => ⟨S3x20, .i1⟩
  | .hbm, ⟨58, _⟩ => ⟨S_, .i32⟩
  | .hbm, ⟨59, _⟩ => ⟨S3x20, .i32⟩
  | .hbm, ⟨60, _⟩ => ⟨S3x20, .i32⟩
  | .hbm, ⟨61, _⟩ => ⟨S3x20, .i32⟩
  | .hbm, ⟨62, _⟩ => ⟨S3x20, .i32⟩
  | .hbm, ⟨63, _⟩ => ⟨S3x20x1, .i32⟩
  | .hbm, ⟨64, _⟩ => ⟨S3x20x1, .i32⟩
  | .hbm, ⟨65, _⟩ => ⟨S3x20x2, .i32⟩
  | .hbm, ⟨66, _⟩ => ⟨S3x20x128x3072, .f32⟩
  | .hbm, ⟨67, _⟩ => ⟨S3x20x128x3072, .f32⟩
  | .hbm, ⟨68, _⟩ => ⟨S3x1, .i32⟩
  | .hbm, ⟨69, _⟩ => ⟨S_, .i32⟩
  | .hbm, ⟨70, _⟩ => ⟨S3x1, .i32⟩
  | .hbm, ⟨71, _⟩ => ⟨S3x1, .i32⟩
  | .hbm, ⟨72, _⟩ => ⟨S3x20, .i32⟩
  | .hbm, ⟨73, _⟩ => ⟨S3x20, .i32⟩
  | .hbm, ⟨74, _⟩ => ⟨S60, .i32⟩
  | .hbm, ⟨75, _⟩ => ⟨S60x128x3072, .f32⟩
  | .hbm, ⟨76, _⟩ => ⟨S_, .f32⟩
  | .hbm, ⟨77, _⟩ => ⟨S15x128x3072, .f32⟩
  | .hbm, ⟨78, _⟩ => ⟨S60x1, .i32⟩
  | .hbm, ⟨79, _⟩ => ⟨S15x128x3072, .f32⟩
  | .hbm, ⟨80, _⟩ => ⟨S3x640x3072, .f32⟩
  | .hbm, ⟨81, _⟩ => ⟨S3x1x3072, .f32⟩
  | .hbm, ⟨82, _⟩ => ⟨S3x640x3072, .f32⟩
  | .hbm, ⟨83, _⟩ => ⟨S3x640x3072, .f32⟩
  | .hbm, ⟨84, _⟩ => ⟨S_, .f32⟩
  | .hbm, ⟨85, _⟩ => ⟨S3x20x128, .f32⟩
  | .hbm, ⟨86, _⟩ => ⟨S60x128, .f32⟩
  | .hbm, ⟨87, _⟩ => ⟨S_, .f32⟩
  | .hbm, ⟨88, _⟩ => ⟨S15x128, .f32⟩
  | .hbm, ⟨89, _⟩ => ⟨S60x1, .i32⟩
  | .hbm, ⟨90, _⟩ => ⟨S15x128, .f32⟩
  | .hbm, ⟨91, _⟩ => ⟨S3x640, .f32⟩
  | .hbm, ⟨92, _⟩ => ⟨S_, .f32⟩
  | .hbm, ⟨93, _⟩ => ⟨S3x640, .f32⟩
  | .hbm, ⟨94, _⟩ => ⟨S3x640, .i1⟩
  | .hbm, ⟨95, _⟩ => ⟨S3x640x1, .i1⟩
  | .hbm, ⟨96, _⟩ => ⟨S_, .f32⟩
  | .hbm, ⟨97, _⟩ => ⟨S_, .f32⟩
  | .hbm, ⟨98, _⟩ => ⟨S3x640, .f32⟩
  | .hbm, ⟨99, _⟩ => ⟨S3x640, .f32⟩
  | .hbm, ⟨100, _⟩ => ⟨S3x640x1, .f32⟩
  | .hbm, ⟨101, _⟩ => ⟨S3x640x3072, .f32⟩
  | .hbm, ⟨102, _⟩ => ⟨S3x640x3072, .f32⟩
  | .hbm, ⟨103, _⟩ => ⟨S_, .f32⟩
  | .hbm, ⟨104, _⟩ => ⟨S_, .f32⟩
  | .hbm, ⟨105, _⟩ => ⟨S3x640x3072, .i1⟩
  | .hbm, ⟨106, _⟩ => ⟨S3x640x3072, .f32⟩
  | .hbm, ⟨107, _⟩ => ⟨S3x640x3072, .f32⟩
  | .hbm, ⟨108, _⟩ => ⟨S3x640x3072, .bf16⟩
  | .local _ .vmem, ⟨0, _⟩ => ⟨S3x640x3072, .fp8e4m3⟩
  | .local _ .vmem, ⟨1, _⟩ => ⟨S3x640x3072, .f32⟩
  | _, _ => ⟨S3x640x3072, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_v23 : Ref sig .tc := ⟨.hbm, 30, rfl⟩
abbrev main_c_1 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_3 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_c_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_call1_v0 : Ref sig .tc := ⟨.hbm, 97, rfl⟩
abbrev main_call1_v1 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x640x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Value.lean ====
module

public import proofs.«01_k».proof.Proof.Gen.ReferenceIdeal.Run
public import proofs.«01_k».proof.Proof.Gen.ReferenceIdeal.Read
-- ==== Proof.Words.lean ====
module

public import proofs.«01_k».proof.Pre_tiles_in_range
public import proofs.«01_k».proof.Proof.Gen.Pre_tiles_in_range
public import Idealize.ShloMosaic.Lib.PointwiseCore
public import Idealize.ShloMosaic.Lib.ReduceAll
public import Idealize.ShloMosaic.Lib.WordCmp
public import Idealize.ShloMosaic.Lib.Tactic.WordOmega

/-! What the precondition says of the row pointers and the tile columns, as facts about natural numbers. -/

@[expose] public section

set_option maxRecDepth 16384

noncomputable section

namespace Cert.Pre_tiles_in_range.Hand

open Cert.Pre_tiles_in_range Idealize.ShloMosaic

variable {F : FTy → Type} [FloatOps F] [Facts]

/-- The precondition at each entry: every batch's first pointer is zero, a row has at most four tiles, every tile column is below five. -/
theorem entries (a0 : FVec F S3x640x3072 .fp8e4m3) (a1 : FVec F S3x3072 .f32) (a2 : IVec S3x6 32) (a3 : IVec S3x20 32)
    (a4 : IVec S3x20x128x4 32) (h : fn a0 a1 a2 a3 a4 = fun _ => 1#1) :
    (∀ (b : Fin 3) (r : Fin 5), (a2 (ix2 b 0)).toNat = 0
      ∧ (a2 (ix2 b r.castSucc)).toInt ≤ (a2 (ix2 b r.succ)).toInt
      ∧ (a2 (ix2 b r.succ)).toInt ≤ (a2 (ix2 b r.castSucc) + 4#32).toInt)
    ∧ (∀ (b : Fin 3) (e : Fin 20), (a3 (ix2 b e)).toNat < 5) := by
  have h0 := congrFun h ix0
  unfold fn fn_part1 at h0
  obtain ⟨hA, hB⟩ := IntOp.andi_eq_one.1 h0
  haveI : Subsingleton S_.Idx := ⟨fun i j => funext fun a => a.elim0⟩
  refine ⟨fun b r => ?_, fun b e => ?_⟩
  · have h1 := Host.reduce_andi_all _ _ _ _ _ hA (ix2 b r)
    pointwise at h1
    obtain ⟨h2, h3⟩ := IntOp.andi_eq_one.1 h1
    obtain ⟨h4, h5⟩ := IntOp.andi_eq_one.1 h2
    rw [WordCmp.cmpi_eq_eq, WordCmp.ofBool_decide_eq_one_iff] at h4
    rw [WordCmp.cmpi_sle_eq, WordCmp.ofBool_decide_eq_one_iff] at h3 h5
    have e1 : (ix2 b ⟨1 + r.val, by omega⟩ : S3x6.Idx) = ix2 b r.succ := congrArg (ix2 b) (Fin.ext (Nat.add_comm 1 r.val))
    rw [e1] at h3 h5
    exact ⟨by rw [h4]; rfl, h5, h3⟩
  · have h1 := Host.reduce_andi_all _ _ _ _ _ hB (ix2 b e)
    pointwise at h1
    obtain ⟨h2, h3⟩ := IntOp.andi_eq_one.1 h1
    rw [WordCmp.cmpi_sge_eq, WordCmp.ofBool_decide_eq_one_iff] at h2
    rw [WordCmp.cmpi_slt_eq, WordCmp.ofBool_decide_eq_one_iff] at h3
    generalize a3 (ix2 b e) = v at h2 h3 ⊢
    have e0 : (0#32).toInt = 0 := rfl
    have e5 : (5#32).toInt = 5 := rfl
    rw [e0] at h2; rw [e5] at h3
    have e := BitVec.toInt_eq_toNat_cond v
    have l := v.isLt
    split at e <;> omega

/-- The same over the naturals: each pointer is at most four more than the one before it, so every pointer is at most 20. -/
theorem bounds (a0 : FVec F S3x640x3072 .fp8e4m3) (a1 : FVec F S3x3072 .f32) (a2 : IVec S3x6 32) (a3 : IVec S3x20 32)
    (a4 : IVec S3x20x128x4 32) (h : fn a0 a1 a2 a3 a4 = fun _ => 1#1) :
    (∀ i, (a2 i).toNat ≤ 20) ∧ (∀ i, (a3 i).toNat < 5)
    ∧ (∀ b : Fin 3, (a2 (ix2 b 0)).toNat = 0)
    ∧ (∀ (b : Fin 3) (r : Fin 5), (a2 (ix2 b r.castSucc)).toNat ≤ (a2 (ix2 b r.succ)).toNat
      ∧ (a2 (ix2 b r.succ)).toNat ≤ (a2 (ix2 b r.castSucc)).toNat + 4) := by
  obtain ⟨hA, hB⟩ := entries a0 a1 a2 a3 a4 h
  have step : ∀ v w : BitVec 32, v.toNat ≤ 16 → v.toInt ≤ w.toInt → w.toInt ≤ (v + 4#32).toInt → v.toNat ≤ w.toNat ∧ w.toNat ≤ v.toNat + 4 := by
    intro v w hv h1 h2
    have e : (v + 4#32).toNat = v.toNat + 4 := by rw [BitVec.toNat_add]; simp; omega
    have e1 := BitVec.toInt_eq_toNat_cond v
    have e2 := BitVec.toInt_eq_toNat_cond w
    have e3 := BitVec.toInt_eq_toNat_cond (v + 4#32)
    have l := w.isLt
    rw [e] at e3
    split at e1 <;> split at e2 <;> split at e3 <;> omega
  have le : ∀ (b : Fin 3) (k : Fin 6), (a2 (ix2 b k)).toNat ≤ 4 * k.val := by
    intro b k
    induction k using Fin.induction with
    | zero => rw [(hA b 0).1]; exact Nat.zero_le _
    | succ r ih =>
      rw [Fin.val_castSucc] at ih
      have s := step _ _ (by have := r.isLt; omega) (hA b r).2.1 (hA b r).2.2
      rw [Fin.val_succ]; omega
  refine ⟨fun i => ?_, fun i => ?_, fun b => (hA b 0).1, fun b r => ?_⟩
  · rw [eq_ix2 i]
    have s := le (i 0) (i 1)
    have l : (i 1).val < 6 := (i 1).isLt
    omega
  · rw [eq_ix2 i]; exact hB (i 0) (i 1)
  · have s := le b r.castSucc
    rw [Fin.val_castSucc] at s
    exact step _ _ (by have := r.isLt; omega) (hA b r).2.1 (hA b r).2.2

end Cert.Pre_tiles_in_range.Hand

end
-- ==== Proof.Kernel.Run.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev sc0 : Memref sig .tc .vmem S3x3072 .f32 := Memref.whole cc0_scratch0
abbrev sc3 : Memref sig .tc .vmem S3x80x128 .i32 := Memref.whole cc0_scratch3
abbrev sc4 : Memref sig .tc .vmem S3x640 .f32 := Memref.whole cc0_scratch4
abbrev sc5 : Memref sig .tc .vmem S640x3072 .fp8e4m3 := Memref.whole cc0_scratch5
abbrev sc6 : Memref sig .tc .vmem S640x3072 .fp8e4m3 := Memref.whole cc0_scratch6
abbrev sc7 : Memref sig .tc .vmem S640x3072 .fp8e4m3 := Memref.whole cc0_scratch7
abbrev sc8 : Memref sig .tc .vmem S21x128x128 .fp8e4m3 := Memref.whole cc0_scratch8
abbrev sc9 : Memref sig .tc .vmem S21x128x128 .fp8e4m3 := Memref.whole cc0_scratch9
abbrev sc10 : Memref sig .tc .vmem S21x128x128 .fp8e4m3 := Memref.whole cc0_scratch10
abbrev sc11 : Memref sig .tc .vmem S5x128x128 .f32 := Memref.whole cc0_scratch11
abbrev sc12 : Memref sig .tc .vmem S5x128x128 .f32 := Memref.whole cc0_scratch12
abbrev sc13 : Memref sig .tc .vmem S5x128x128 .f32 := Memref.whole cc0_scratch13
abbrev sc14 : Memref sig .tc .vmem S640x3072 .bf16 := Memref.whole cc0_scratch14
abbrev sc15 : Memref sig .tc .vmem S640x3072 .bf16 := Memref.whole cc0_scratch15
abbrev sc16 : Memref sig .tc .vmem S640x3072 .bf16 := Memref.whole cc0_scratch16
abbrev sc1 : Memref sig .tc .smem S3x6 .i32 := Memref.whole cc0_scratch1
abbrev sc2 : Memref sig .tc .smem S3x20 .i32 := Memref.whole cc0_scratch2
abbrev hb0 : Memref sig .tc .hbm S3x640x3072 .fp8e4m3 := Memref.whole main_arg0
abbrev hb1 : Memref sig .tc .hbm S3x3072 .f32 := Memref.whole main_arg1
abbrev hb2 : Memref sig .tc .hbm S3x6 .i32 := Memref.whole main_arg2
abbrev hb3 : Memref sig .tc .hbm S3x20 .i32 := Memref.whole main_arg3
abbrev hb4 : Memref sig .tc .hbm S3x80x128 .i32 := Memref.whole main_v1
abbrev hb5 : Memref sig .tc .hbm S3x640x3072 .bf16 := Memref.whole main_v2_0
abbrev hb6 : Memref sig .tc .hbm S3x640 .f32 := Memref.whole main_v2_1
abbrev BufAt (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufAt (F := F) c M) : sProp 𝕄 :=
  M.view.loc (c : Thread nD τ) ↦{fullShare} f

/-! ## The words the body assumes facts of -/

/-- The tile slot the body reads for the `j`-th tile of a row whose pointers are `v` and `w`: slot 20 (all zero) past the row's end. -/
def slotSel (j v w : BitVec 32) : BitVec 32 :=
  Scalar.select (Scalar.cmpi .slt (Scalar.addi v j) w)
    (Scalar.select (Scalar.cmpi .slt (Scalar.addi v j) w) (Scalar.addi v j) (Scalar.minsi v 19#32)) 20#32
/-- The slot whose tile column the body reads beside it. -/
def pickSel (j v w : BitVec 32) : BitVec 32 :=
  Scalar.select (Scalar.cmpi .slt (Scalar.addi v j) w) (Scalar.addi v j) (Scalar.minsi v 19#32)

theorem slotSel_fin : ∀ (j : Fin 4) (n m : Fin 21), (Scalar.indexCast (slotSel (BitVec.ofNat 32 j) (BitVec.ofNat 32 n) (BitVec.ofNat 32 m))).toNat
    = if n.val + j.val < m.val then n.val + j.val else 20 := by decide +kernel
theorem pickSel_fin : ∀ (j : Fin 4) (n m : Fin 21), (Scalar.indexCast (pickSel (BitVec.ofNat 32 j) (BitVec.ofNat 32 n) (BitVec.ofNat 32 m))).toNat
    = if n.val + j.val < m.val then n.val + j.val else min n.val 19 := by decide +kernel

theorem slotSel_toNat (j : Fin 4) (v w : BitVec 32) (hv : v.toNat ≤ 20) (hw : w.toNat ≤ 20) :
    (Scalar.indexCast (slotSel (BitVec.ofNat 32 j) v w)).toNat = if v.toNat + j.val < w.toNat then v.toNat + j.val else 20 := by
  have h := slotSel_fin j ⟨v.toNat, by omega⟩ ⟨w.toNat, by omega⟩
  simpa only [BitVec.ofNat_toNat, BitVec.setWidth_eq] using h
theorem pickSel_toNat (j : Fin 4) (v w : BitVec 32) (hv : v.toNat ≤ 20) (hw : w.toNat ≤ 20) :
    (Scalar.indexCast (pickSel (BitVec.ofNat 32 j) v w)).toNat = if v.toNat + j.val < w.toNat then v.toNat + j.val else min v.toNat 19 := by
  have h := pickSel_fin j ⟨v.toNat, by omega⟩ ⟨w.toNat, by omega⟩
  simpa only [BitVec.ofNat_toNat, BitVec.setWidth_eq] using h

/-- What the body assumes of a row's two pointers, for batch `b`. -/
def RpChk (b : ℕ) (v w : BitVec 32) : Prop :=
  (∀ a, (![(Scalar.indexCast (slotSel 0#32 v w)).toNat, 0, 0] : Fin 3 → ℕ) a + S1x128x128.size a ≤ S21x128x128.size a) ∧
  (∀ a, (![b, (Scalar.indexCast (pickSel 0#32 v w)).toNat] : Fin 2 → ℕ) a + S1x1.size a ≤ S3x20.size a) ∧
  (∀ a, (![(Scalar.indexCast (slotSel 1#32 v w)).toNat, 0, 0] : Fin 3 → ℕ) a + S1x128x128.size a ≤ S21x128x128.size a) ∧
  (∀ a, (![b, (Scalar.indexCast (pickSel 1#32 v w)).toNat] : Fin 2 → ℕ) a + S1x1.size a ≤ S3x20.size a) ∧
  (∀ a, (![(Scalar.indexCast (slotSel 2#32 v w)).toNat, 0, 0] : Fin 3 → ℕ) a + S1x128x128.size a ≤ S21x128x128.size a) ∧
  (∀ a, (![b, (Scalar.indexCast (pickSel 2#32 v w)).toNat] : Fin 2 → ℕ) a + S1x1.size a ≤ S3x20.size a) ∧
  (∀ a, (![(Scalar.indexCast (slotSel 3#32 v w)).toNat, 0, 0] : Fin 3 → ℕ) a + S1x128x128.size a ≤ S21x128x128.size a) ∧
  (∀ a, (![b, (Scalar.indexCast (pickSel 3#32 v w)).toNat] : Fin 2 → ℕ) a + S1x1.size a ≤ S3x20.size a)

theorem slot_inb (j : Fin 4) (v w : BitVec 32) (hv : v.toNat ≤ 20) (hw : w.toNat ≤ 20) (a : Fin 3) :
    (![(Scalar.indexCast (slotSel (BitVec.ofNat 32 j) v w)).toNat, 0, 0] : Fin 3 → ℕ) a + S1x128x128.size a ≤ S21x128x128.size a := by
  have h := slotSel_toNat j v w hv hw
  fin_cases a
  · change (Scalar.indexCast (slotSel (BitVec.ofNat 32 j) v w)).toNat + 1 ≤ 21
    rw [h]; split <;> omega
  · exact Nat.le_refl 128
  · exact Nat.le_refl 128
theorem pick_inb (b : ℕ) (hb : b < 3) (j : Fin 4) (v w : BitVec 32) (hv : v.toNat ≤ 20) (hw : w.toNat ≤ 20) (a : Fin 2) :
    (![b, (Scalar.indexCast (pickSel (BitVec.ofNat 32 j) v w)).toNat] : Fin 2 → ℕ) a + S1x1.size a ≤ S3x20.size a := by
  have h := pickSel_toNat j v w hv hw
  fin_cases a
  · change b + 1 ≤ 3; omega
  · change (Scalar.indexCast (pickSel (BitVec.ofNat 32 j) v w)).toNat + 1 ≤ 20
    rw [h]; split <;> omega

theorem rpChk_of (b : ℕ) (hb : b < 3) (v w : BitVec 32) (hv : v.toNat ≤ 20) (hw : w.toNat ≤ 20) : RpChk b v w :=
  ⟨slot_inb 0 v w hv hw, pick_inb b hb 0 v w hv hw, slot_inb 1 v w hv hw, pick_inb b hb 1 v w hv hw,
   slot_inb 2 v w hv hw, pick_inb b hb 2 v w hv hw, slot_inb 3 v w hv hw, pick_inb b hb 3 v w hv hw⟩

/-- What the body assumes of a tile column. -/
def TcChk (v : BitVec 32) : Prop :=
  (128 ∣ (Scalar.muli v 128#32).toNat) ∧
  (∀ a, (![(Scalar.indexCast (Scalar.muli v 128#32)).toNat, 0] : Fin 2 → ℕ) a + S128x512.size a ≤ S640x3072.size a) ∧
  (∀ a, (![(Scalar.indexCast (Scalar.muli v 128#32)).toNat, 512] : Fin 2 → ℕ) a + S128x512.size a ≤ S640x3072.size a) ∧
  (∀ a, (![(Scalar.indexCast (Scalar.muli v 128#32)).toNat, 1024] : Fin 2 → ℕ) a + S128x512.size a ≤ S640x3072.size a) ∧
  (∀ a, (![(Scalar.indexCast (Scalar.muli v 128#32)).toNat, 1536] : Fin 2 → ℕ) a + S128x512.size a ≤ S640x3072.size a) ∧
  (∀ a, (![(Scalar.indexCast (Scalar.muli v 128#32)).toNat, 2048] : Fin 2 → ℕ) a + S128x512.size a ≤ S640x3072.size a) ∧
  (∀ a, (![(Scalar.indexCast (Scalar.muli v 128#32)).toNat, 2560] : Fin 2 → ℕ) a + S128x512.size a ≤ S640x3072.size a)

theorem colRow_fin : ∀ n : Fin 5, (Scalar.muli (BitVec.ofNat 32 n) 128#32).toNat = 128 * n.val
    ∧ (Scalar.indexCast (Scalar.muli (BitVec.ofNat 32 n) 128#32)).toNat = 128 * n.val := by decide +kernel
theorem colRow (v : BitVec 32) (hv : v.toNat < 5) : (Scalar.muli v 128#32).toNat = 128 * v.toNat
    ∧ (Scalar.indexCast (Scalar.muli v 128#32)).toNat = 128 * v.toNat := by
  have h := colRow_fin ⟨v.toNat, hv⟩
  simpa only [BitVec.ofNat_toNat, BitVec.setWidth_eq] using h
theorem colRow_inb (q : ℕ) (hq : q + 512 ≤ 3072) (v : BitVec 32) (hv : v.toNat < 5) (a : Fin 2) :
    (![(Scalar.indexCast (Scalar.muli v 128#32)).toNat, q] : Fin 2 → ℕ) a + S128x512.size a ≤ S640x3072.size a := by
  fin_cases a
  · change (Scalar.indexCast (Scalar.muli v 128#32)).toNat + 128 ≤ 640
    rw [(colRow v hv).2]; omega
  · exact hq
theorem tcChk_of (v : BitVec 32) (hv : v.toNat < 5) : TcChk v :=
  ⟨⟨v.toNat, (colRow v hv).1⟩, colRow_inb 0 (by omega) v hv, colRow_inb 512 (by omega) v hv, colRow_inb 1024 (by omega) v hv,
   colRow_inb 1536 (by omega) v hv, colRow_inb 2048 (by omega) v hv, colRow_inb 2560 (by omega) v hv⟩

/-- A word loaded from the row pointers' copy is one of the row pointers. -/
theorem rp_word {c : Dev nD} (fh2 : BufAt (F := F) c hb2) (f1 : BufAt (F := F) c sc1) (P : BitVec 32 → Prop) (h : ∀ i, P (fh2 i))
    (r : LoadRect S3x6) (x : r.shape.Idx) :
    P (View.readAt (Elt F) sc1.view r (View.write (Elt F) (Memref.whole cc0_scratch1).view f1
      (ReadAs.same.apply (View.read (Elt F) (Memref.whole main_arg2).view fh2)) Finset.univ) x) := by
  rw [View.readAt_apply, View.read_write_univ]
  exact h _
theorem tc_word {c : Dev nD} (fh3 : BufAt (F := F) c hb3) (f2 : BufAt (F := F) c sc2) (P : BitVec 32 → Prop) (h : ∀ i, P (fh3 i))
    (r : LoadRect S3x20) (x : r.shape.Idx) :
    P (View.readAt (Elt F) sc2.view r (View.write (Elt F) (Memref.whole cc0_scratch2).view f2
      (ReadAs.same.apply (View.read (Elt F) (Memref.whole main_arg3).view fh3)) Finset.univ) x) := by
  rw [View.readAt_apply, View.read_write_univ]
  exact h _

theorem chk_one {P : BitVec 32 → Prop} {C : BitVec 32 → Prop} (h : ∀ v, P v → C v) {v : BitVec 32} (hv : P v) : C v := h v hv
theorem chk_two {P : BitVec 32 → Prop} {C : BitVec 32 → BitVec 32 → Prop} (h : ∀ v w, P v → P w → C v w) {v w : BitVec 32} (hv : P v) (hw : P w) : C v w := h v w hv hw

/-! ## The body, run once -/

set_option maxHeartbeats 20000000 in
set_option sl_exec.dischHeartbeats 200000 in
set_option sl_exec.rejoinFuel 200 in
set_option sl_exec.stepHeartbeats 2000000 in
/-- The whole body from buffers at any contents: what it leaves in the two results, and the run itself. The thirty copies out of the
    row blocks complete on one semaphore cell, which the run treats as one batch. -/
def kernelRun (c : Dev nD) (fh0 : BufAt (F := F) c hb0) (fh1 : BufAt (F := F) c hb1) (fh2 : BufAt (F := F) c hb2) (fh3 : BufAt (F := F) c hb3) (fh4 : BufAt (F := F) c hb4) (fh5 : BufAt (F := F) c hb5) (fh6 : BufAt (F := F) c hb6)
    (f0 : BufAt (F := F) c sc0) (f3 : BufAt (F := F) c sc3) (f4 : BufAt (F := F) c sc4) (f5 : BufAt (F := F) c sc5) (f6 : BufAt (F := F) c sc6) (f7 : BufAt (F := F) c sc7) (f8 : BufAt (F := F) c sc8) (f9 : BufAt (F := F) c sc9) (f10 : BufAt (F := F) c sc10) (f11 : BufAt (F := F) c sc11) (f12 : BufAt (F := F) c sc12) (f13 : BufAt (F := F) c sc13) (f14 : BufAt (F := F) c sc14) (f15 : BufAt (F := F) c sc15) (f16 : BufAt (F := F) c sc16) (f1 : BufAt (F := F) c sc1) (f2 : BufAt (F := F) c sc2)
    (hrp : ∀ i, (fh2 i : BitVec 32).toNat ≤ 20) (htc : ∀ i, (fh3 i : BitVec 32).toNat < 5) :
    { G : BufAt (F := F) c hb5 × BufAt (F := F) c hb6 // ∀ (W : Waits sig Unit) (K : PUnit → sProp 𝕄),
      iprop((pt (F := F) c sc0 f0 ∗ pt (F := F) c sc3 f3 ∗ pt (F := F) c sc4 f4 ∗ pt (F := F) c sc5 f5 ∗ pt (F := F) c sc6 f6 ∗ pt (F := F) c sc7 f7 ∗ pt (F := F) c sc8 f8 ∗ pt (F := F) c sc9 f9 ∗ pt (F := F) c sc10 f10 ∗ pt (F := F) c sc11 f11 ∗ pt (F := F) c sc12 f12 ∗ pt (F := F) c sc13 f13 ∗ pt (F := F) c sc14 f14 ∗ pt (F := F) c sc15 f15 ∗ pt (F := F) c sc16 f16 ∗ pt (F := F) c sc1 f1 ∗ pt (F := F) c sc2 f2)
        ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0)
        ∗ (pt (F := F) c hb0 fh0 ∗ pt (F := F) c hb1 fh1 ∗ pt (F := F) c hb2 fh2 ∗ pt (F := F) c hb3 fh3 ∗ pt (F := F) c hb4 fh4 ∗ pt (F := F) c hb5 fh5 ∗ pt (F := F) c hb6 fh6)
        ∗ owes (c : Thread nD τ) 0 W
        ∗ ((((∃ f, pt (F := F) c sc0 f) ∗ (∃ f, pt (F := F) c sc3 f) ∗ (∃ f, pt (F := F) c sc4 f) ∗ (∃ f, pt (F := F) c sc5 f) ∗ (∃ f, pt (F := F) c sc6 f) ∗ (∃ f, pt (F := F) c sc7 f) ∗ (∃ f, pt (F := F) c sc8 f) ∗ (∃ f, pt (F := F) c sc9 f) ∗ (∃ f, pt (F := F) c sc10 f) ∗ (∃ f, pt (F := F) c sc11 f) ∗ (∃ f, pt (F := F) c sc12 f) ∗ (∃ f, pt (F := F) c sc13 f) ∗ (∃ f, pt (F := F) c sc14 f) ∗ (∃ f, pt (F := F) c sc15 f) ∗ (∃ f, pt (F := F) c sc16 f) ∗ (∃ f, pt (F := F) c sc1 f) ∗ (∃ f, pt (F := F) c sc2 f))
          ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0)
          ∗ (pt (F := F) c hb0 fh0 ∗ pt (F := F) c hb1 fh1 ∗ pt (F := F) c hb2 fh2 ∗ pt (F := F) c hb3 fh3 ∗ pt (F := F) c hb4 fh4 ∗ pt (F := F) c hb5 G.1 ∗ pt (F := F) c hb6 G.2)
          ∗ (∃ W', owes (c : Thread nD τ) 0 W')) -∗ K ⟨⟩))
      ⊢ wp frame (wpE (defs₀ (F := F)) Variants.none (c : Thread nD τ) none) Set.univ
        (cc0_cluster_gcn_agg (Memref.whole main_arg0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) (Memref.whole main_v2_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20) K } := by
  refine ⟨(?g5, ?g6), fun W K => ?run⟩
  case run =>
    have plan : Transfers.BatchOf (c : Thread nD τ) (SemLoc.dma (sig := sig) 7) 30 (windows := true) := trivial
    rw [cc0_cluster_gcn_agg_eq_skeleton]
    unfold cc0_cluster_gcn_agg_skel
    iintro ⟨⟨S0, S3, S4, S5, S6, S7, S8, S9, S10, S11, S12, S13, S14, S15, S16, S1, S2⟩,
      ⟨Q0, Q1, Q2, Q3, Q4, Q5, Q6, Q7, Q8⟩, ⟨H0, H1, H2, H3, H4, H5, H6⟩, HO, Hk⟩
    sl_exec_parts (disch := first
      | (refine chk_one (P := fun z => z.toNat < 5) ?_ ?_
         · intro v hv
           delta k0_chk2 k0_chk3 k0_chk4 k0_chk5 k0_chk7 k0_chk8 k0_chk9 k0_chk10 k0_chk12 k0_chk13 k0_chk14 k0_chk15 k0_chk17 k0_chk18 k0_chk19 k0_chk20 k0_chk22 k0_chk23 k0_chk24 k0_chk25 k0_chk27 k0_chk28 k0_chk29 k0_chk30 k0_chk32 k0_chk33 k0_chk34 k0_chk35 k0_chk37 k0_chk38 k0_chk39 k0_chk40 k0_chk42 k0_chk43 k0_chk44 k0_chk45 k0_chk47 k0_chk48 k0_chk49 k0_chk50 k0_chk52 k0_chk53 k0_chk54 k0_chk55 k0_chk57 k0_chk58 k0_chk59 k0_chk60 k0_chk62 k0_chk63 k0_chk64 k0_chk65 k0_chk67 k0_chk68 k0_chk69 k0_chk70 k0_chk72 k0_chk73 k0_chk74 k0_chk75
           exact tcChk_of v hv
         · first
           | exact tc_word fh3 f2 (fun z => z.toNat < 5) htc _ _
           | fail)
      | (refine chk_two (P := fun z => z.toNat ≤ 20) ?_ ?_ ?_
         · intro v w hv hw
           delta k0_chk1 k0_chk6 k0_chk11 k0_chk16 k0_chk21 k0_chk26 k0_chk31 k0_chk36 k0_chk41 k0_chk46 k0_chk51 k0_chk56 k0_chk61 k0_chk66 k0_chk71
           exact rpChk_of _ (by decide) v w hv hw
         · exact rp_word fh2 f1 (fun z => z.toNat ≤ 20) hrp _ _
         · exact rp_word fh2 f1 (fun z => z.toNat ≤ 20) hrp _ _))
    sl_step
    iapply Hk
    isplitl [S0 S3 S4 S5 S6 S7 S8 S9 S10 S11 S12 S13 S14 S15 S16 S1 S2]
    · isplitl [S0]; · iexists _; iexact S0
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      isplitl [S9]; · iexists _; iexact S9
      isplitl [S10]; · iexists _; iexact S10
      isplitl [S11]; · iexists _; iexact S11
      isplitl [S12]; · iexists _; iexact S12
      isplitl [S13]; · iexists _; iexact S13
      isplitl [S14]; · iexists _; iexact S14
      isplitl [S15]; · iexists _; iexact S15
      isplitl [S16]; · iexists _; iexact S16
      isplitl [S1]; · iexists _; iexact S1
      iexists _; iexact S2
    isplitl [Q0 Q1 Q2 Q3 Q4 Q5 Q6 Q7 Q8]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      iexact Q8
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    iexists _; iexact HO

end Cert.Kernel.Hand

end
-- ==== Proof.Kernel.Frame.lean ====
module

public import proofs.«01_k».proof.Proof.Kernel.Run
public import proofs.«01_k».proof.Proof.Gen.Kernel.Frame
public import proofs.«01_k».proof.Proof.Words

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch: the buffers the body copies from, the two results it writes, its own semaphore cells -/

/-- The buffers in main memory the body copies from. -/
def H0 : Finset (Ref sig .tc) := {main_arg0, main_arg1, main_arg2, main_arg3, main_v1}
/-- The two results, written by the body's own copies. -/
def R0 : Finset (Ref sig .tc) := {main_v2_0, main_v2_1}
theorem H0_sub : H0 ⊆ Pipeline.restRefs sig cfg0.spec := by decide
theorem R0_sub : R0 ⊆ Pipeline.restRefs sig cfg0.spec \ H0 := by decide
/-- The body's nine semaphore cells. -/
abbrev osem0 : Fin 9 → SemLoc sig := fun j => SemLoc.dma ⟨j.val, by have := j.isLt; exact lt_of_lt_of_le this (by decide)⟩
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3, 4, 5, 6, 7, 8] (by decide) (by decide)]; rfl
theorem hbmPts0_eq (c : Dev nD) :
    (bigSep H0 (fun b => ((c : Thread nD τ).loc b) ↦{fullShare} V m c b) : sProp 𝕄) = iprop(pt (F := F) c hb0 (V m c main_arg0) ∗ pt (F := F) c hb1 (V m c main_arg1) ∗ pt (F := F) c hb2 (V m c main_arg2) ∗ pt (F := F) c hb3 (V m c main_arg3) ∗ pt (F := F) c hb4 (V m c main_v1)) := by
  rw [BI.bigSep_eq_bigSepL_of_eq [main_arg0, main_arg1, main_arg2, main_arg3, main_v1] (by decide) (by decide)]; rfl
theorem ownedPts0_eq (c : Dev nD) :
    (Pipeline.owned R0 c : sProp 𝕄) = iprop((∃ f, pt (F := F) c hb5 f) ∗ (∃ f, pt (F := F) c hb6 f)) := by
  unfold Pipeline.owned; rw [BI.bigSep_eq_bigSepL_of_eq [main_v2_0, main_v2_1] (by decide) (by decide)]; rfl
theorem PhiDR0_eq (c : Dev nD) :
    (Pipeline.ΦDR osem0 cfg0.spec H0 R0 (V m) c : sProp 𝕄)
      = iprop(iprop((∃ f, pt (F := F) c sc0 f) ∗ (∃ f, pt (F := F) c sc3 f) ∗ (∃ f, pt (F := F) c sc4 f) ∗ (∃ f, pt (F := F) c sc5 f) ∗ (∃ f, pt (F := F) c sc6 f) ∗ (∃ f, pt (F := F) c sc7 f) ∗ (∃ f, pt (F := F) c sc8 f) ∗ (∃ f, pt (F := F) c sc9 f) ∗ (∃ f, pt (F := F) c sc10 f) ∗ (∃ f, pt (F := F) c sc11 f) ∗ (∃ f, pt (F := F) c sc12 f) ∗ (∃ f, pt (F := F) c sc13 f) ∗ (∃ f, pt (F := F) c sc14 f) ∗ (∃ f, pt (F := F) c sc15 f) ∗ (∃ f, pt (F := F) c sc16 f) ∗ (∃ f, pt (F := F) c sc1 f) ∗ (∃ f, pt (F := F) c sc2 f))
          ∗ (∃ r, prngReg c r) ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(pt (F := F) c hb0 (V m c main_arg0) ∗ pt (F := F) c hb1 (V m c main_arg1) ∗ pt (F := F) c hb2 (V m c main_arg2) ∗ pt (F := F) c hb3 (V m c main_arg3) ∗ pt (F := F) c hb4 (V m c main_v1))
          ∗ iprop((∃ f, pt (F := F) c hb5 f) ∗ (∃ f, pt (F := F) c hb6 f))) := by
  rw [Pipeline.ΦDR_eq, scopedRest0_eq, ownSems00_eq, hbmPts0_eq, ownedPts0_eq]

/-- Core `c`'s copies of the arguments when the body starts satisfy the word bounds. -/
abbrev Bounded (c : Dev nD) : Prop :=
  (∀ i, (V m c main_arg2 i : BitVec 32).toNat ≤ 20) ∧ (∀ i, (V m c main_arg3 i : BitVec 32).toNat < 5)

/-! ## The frame: every buffer the claim names is unchanged -/

/-- The proof data: nothing is staged, the body's buffers and cells are the invariant. -/
def dats (_ : Fin 1) (c : Dev nD) : Dat τ (Elt F) Unit ℕ (Pipeline.UD sig nD τ) ℕ cfg0 c where
  A w := w.elim0
  after w := w.elim0
  Φ _ := Pipeline.ΦDR osem0 cfg0.spec H0 R0 (V m) c
  q w := w.elim0
  owed _ := 0

theorem sound_body (hb : ∀ c, Bounded m c) (c : Dev nD) (t : Fin cfg0.N) :
    iprop((dats m 0 c).Φ t.castSucc ∗ (dats m 0 c).owesAt () t.castSucc)
      ⊢ wp frame (wpE (defs₀ (F := F)) Variants.none c none) Set.univ (bodyAt0 t)
        (fun _ => iprop((dats m 0 c).Φ t.succ ∗ (dats m 0 c).owesAt () t.succ)) := by
  unfold bodyAt0
  rw [show (dats m 0 c).Φ t.succ = (dats m 0 c).Φ t.castSucc from rfl]
  rw [show (dats m 0 c).Φ t.castSucc = Pipeline.ΦDR osem0 cfg0.spec H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%f0, S0⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩, ⟨%f16, S16⟩, ⟨%f1, S1⟩, ⟨%f2, S2⟩⟩, Hg, ⟨Q0, Q1, Q2, Q3, Q4, Q5, Q6, Q7, Q8⟩, ⟨H0, H1, H2, H3, H4⟩, ⟨⟨%f5', H5⟩, ⟨%f6', H6⟩⟩⟩, ⟨%W, -, HW⟩⟩
  iapply ((kernelRun c (V m c main_arg0) (V m c main_arg1) (V m c main_arg2) (V m c main_arg3) (V m c main_v1) f5' f6' f0 f3 f4 f5 f6 f7 f8 f9 f10 f11 f12 f13 f14 f15 f16 f1 f2 (hb c).1 (hb c).2).2 W _)
  isplitl [S0 S3 S4 S5 S6 S7 S8 S9 S10 S11 S12 S13 S14 S15 S16 S1 S2]
  · isplitl [S0]; · iexact S0
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S1]; · iexact S1
    iexact S2
  isplitl [Q0 Q1 Q2 Q3 Q4 Q5 Q6 Q7 Q8]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    iexact Q8
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HW]; · iexact HW
  iintro ⟨HS, HQ, ⟨H0, H1, H2, H3, H4, H5, H6⟩, ⟨%W', HW'⟩⟩
  isplitl [HS Hg HQ H0 H1 H2 H3 H4 H5 H6]
  · isplitl [HS]; · iexact HS
    isplitl [Hg]; · iexact Hg
    isplitl [HQ]; · iexact HQ
    isplitl [H0 H1 H2 H3 H4]
    · isplitl [H0]; · iexact H0
      isplitl [H1]; · iexact H1
      isplitl [H2]; · iexact H2
      isplitl [H3]; · iexact H3
      iexact H4
    isplitl [H5]; · iexists _; iexact H5
    iexists _; iexact H6
  iexists W'; isplitr; · ipureintro; exact fun _ _ => Or.inl trivial
  iexact HW'

theorem defs₀_row (t : Fin cfg0.N) : defs₀ (F := F) .tc cfg0.body (cfg0.bodyArgs t (cfg0.slots t)) = bodyAt0 t := by
  unfold defs₀; rw [Defs.onTc_tc]

/-- There is no staged block to hand over. -/
theorem no_blocks (P : Fin cfg0.W → sProp 𝕄) : bigSep Finset.univ P = iprop(emp) := by
  rw [show (Finset.univ : Finset (Fin cfg0.W)) = ∅ from rfl, BI.bigSep_empty]; rfl

theorem body_obligation (hb : ∀ c, Bounded m c) (c : Dev nD) : BodyObligation (dats (F := F) m 0 c) (defs₀ (F := F)) Variants.none () Set.univ := fun t => by
  rw [no_blocks, no_blocks, defs₀_row]
  refine triple_restated (sound_body m hb c t) rfl ?_ fun _ => ?_
  · iintro ⟨A, B, -⟩; isplitl [A]; · iexact A
    iexact B
  · iintro ⟨A, B⟩; isplitl [A]; · iexact A
    isplitl [B]; · iexact B
    iempintro

/-- @main up to the region. -/
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main (hb : ∀ c, Bounded m c) : θ_run defs (onTc (τ := τ) (main (F := F))) (s₀ m ρ)
    (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m hb c).loose) (hshare := fun c w => w.elim0)
    (howed := fun _ _ => rfl) (V := V m) (hmain := hmain' m Variants.none) (hA := fun c w => w.elim0)
    (hin := fun _ => .rfl) (hout := fun _ => .rfl)

/-- The arguments are unchanged and every counter is back at zero. -/
theorem frame (hb : ∀ c, Bounded m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c)⟩, h.2⟩) (run_main m ρ hb)

end Cert.Kernel.Hand

end
-- ==== Proof.KernelIdeal.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev sc0 : Memref sig .tc .vmem S3x3072 .f32 := Memref.whole cc0_scratch0
abbrev sc3 : Memref sig .tc .vmem S3x80x128 .i32 := Memref.whole cc0_scratch3
abbrev sc4 : Memref sig .tc .vmem S3x640 .f32 := Memref.whole cc0_scratch4
abbrev sc5 : Memref sig .tc .vmem S640x3072 .fp8e4m3 := Memref.whole cc0_scratch5
abbrev sc6 : Memref sig .tc .vmem S640x3072 .fp8e4m3 := Memref.whole cc0_scratch6
abbrev sc7 : Memref sig .tc .vmem S640x3072 .fp8e4m3 := Memref.whole cc0_scratch7
abbrev sc8 : Memref sig .tc .vmem S21x128x128 .fp8e4m3 := Memref.whole cc0_scratch8
abbrev sc9 : Memref sig .tc .vmem S21x128x128 .fp8e4m3 := Memref.whole cc0_scratch9
abbrev sc10 : Memref sig .tc .vmem S21x128x128 .fp8e4m3 := Memref.whole cc0_scratch10
abbrev sc11 : Memref sig .tc .vmem S5x128x128 .f32 := Memref.whole cc0_scratch11
abbrev sc12 : Memref sig .tc .vmem S5x128x128 .f32 := Memref.whole cc0_scratch12
abbrev sc13 : Memref sig .tc .vmem S5x128x128 .f32 := Memref.whole cc0_scratch13
abbrev sc14 : Memref sig .tc .vmem S640x3072 .bf16 := Memref.whole cc0_scratch14
abbrev sc15 : Memref sig .tc .vmem S640x3072 .bf16 := Memref.whole cc0_scratch15
abbrev sc16 : Memref sig .tc .vmem S640x3072 .bf16 := Memref.whole cc0_scratch16
abbrev sc1 : Memref sig .tc .smem S3x6 .i32 := Memref.whole cc0_scratch1
abbrev sc2 : Memref sig .tc .smem S3x20 .i32 := Memref.whole cc0_scratch2
abbrev hb0 : Memref sig .tc .hbm S3x640x3072 .fp8e4m3 := Memref.whole main_arg0
abbrev hb1 : Memref sig .tc .hbm S3x3072 .f32 := Memref.whole main_arg1
abbrev hb2 : Memref sig .tc .hbm S3x6 .i32 := Memref.whole main_arg2
abbrev hb3 : Memref sig .tc .hbm S3x20 .i32 := Memref.whole main_arg3
abbrev hb4 : Memref sig .tc .hbm S3x80x128 .i32 := Memref.whole main_v1
abbrev hb5 : Memref sig .tc .hbm S3x640x3072 .bf16 := Memref.whole main_v2_0
abbrev hb6 : Memref sig .tc .hbm S3x640 .f32 := Memref.whole main_v2_1
abbrev BufAt (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufAt (F := F) c M) : sProp 𝕄 :=
  M.view.loc (c : Thread nD τ) ↦{fullShare} f

/-! ## The words the body assumes facts of -/

/-- The tile slot the body reads for the `j`-th tile of a row whose pointers are `v` and `w`: slot 20 (all zero) past the row's end. -/
def slotSel (j v w : BitVec 32) : BitVec 32 :=
  Scalar.select (Scalar.cmpi .slt (Scalar.addi v j) w)
    (Scalar.select (Scalar.cmpi .slt (Scalar.addi v j) w) (Scalar.addi v j) (Scalar.minsi v 19#32)) 20#32
/-- The slot whose tile column the body reads beside it. -/
def pickSel (j v w : BitVec 32) : BitVec 32 :=
  Scalar.select (Scalar.cmpi .slt (Scalar.addi v j) w) (Scalar.addi v j) (Scalar.minsi v 19#32)

theorem slotSel_fin : ∀ (j : Fin 4) (n m : Fin 21), (Scalar.indexCast (slotSel (BitVec.ofNat 32 j) (BitVec.ofNat 32 n) (BitVec.ofNat 32 m))).toNat
    = if n.val + j.val < m.val then n.val + j.val else 20 := by decide +kernel
theorem pickSel_fin : ∀ (j : Fin 4) (n m : Fin 21), (Scalar.indexCast (pickSel (BitVec.ofNat 32 j) (BitVec.ofNat 32 n) (BitVec.ofNat 32 m))).toNat
    = if n.val + j.val < m.val then n.val + j.val else min n.val 19 := by decide +kernel

theorem slotSel_toNat (j : Fin 4) (v w : BitVec 32) (hv : v.toNat ≤ 20) (hw : w.toNat ≤ 20) :
    (Scalar.indexCast (slotSel (BitVec.ofNat 32 j) v w)).toNat = if v.toNat + j.val < w.toNat then v.toNat + j.val else 20 := by
  have h := slotSel_fin j ⟨v.toNat, by omega⟩ ⟨w.toNat, by omega⟩
  simpa only [BitVec.ofNat_toNat, BitVec.setWidth_eq] using h
theorem pickSel_toNat (j : Fin 4) (v w : BitVec 32) (hv : v.toNat ≤ 20) (hw : w.toNat ≤ 20) :
    (Scalar.indexCast (pickSel (BitVec.ofNat 32 j) v w)).toNat = if v.toNat + j.val < w.toNat then v.toNat + j.val else min v.toNat 19 := by
  have h := pickSel_fin j ⟨v.toNat, by omega⟩ ⟨w.toNat, by omega⟩
  simpa only [BitVec.ofNat_toNat, BitVec.setWidth_eq] using h

/-- What the body assumes of a row's two pointers, for batch `b`. -/
def RpChk (b : ℕ) (v w : BitVec 32) : Prop :=
  (∀ a, (![(Scalar.indexCast (slotSel 0#32 v w)).toNat, 0, 0] : Fin 3 → ℕ) a + S1x128x128.size a ≤ S21x128x128.size a) ∧
  (∀ a, (![b, (Scalar.indexCast (pickSel 0#32 v w)).toNat] : Fin 2 → ℕ) a + S1x1.size a ≤ S3x20.size a) ∧
  (∀ a, (![(Scalar.indexCast (slotSel 1#32 v w)).toNat, 0, 0] : Fin 3 → ℕ) a + S1x128x128.size a ≤ S21x128x128.size a) ∧
  (∀ a, (![b, (Scalar.indexCast (pickSel 1#32 v w)).toNat] : Fin 2 → ℕ) a + S1x1.size a ≤ S3x20.size a) ∧
  (∀ a, (![(Scalar.indexCast (slotSel 2#32 v w)).toNat, 0, 0] : Fin 3 → ℕ) a + S1x128x128.size a ≤ S21x128x128.size a) ∧
  (∀ a, (![b, (Scalar.indexCast (pickSel 2#32 v w)).toNat] : Fin 2 → ℕ) a + S1x1.size a ≤ S3x20.size a) ∧
  (∀ a, (![(Scalar.indexCast (slotSel 3#32 v w)).toNat, 0, 0] : Fin 3 → ℕ) a + S1x128x128.size a ≤ S21x128x128.size a) ∧
  (∀ a, (![b, (Scalar.indexCast (pickSel 3#32 v w)).toNat] : Fin 2 → ℕ) a + S1x1.size a ≤ S3x20.size a)

theorem slot_inb (j : Fin 4) (v w : BitVec 32) (hv : v.toNat ≤ 20) (hw : w.toNat ≤ 20) (a : Fin 3) :
    (![(Scalar.indexCast (slotSel (BitVec.ofNat 32 j) v w)).toNat, 0, 0] : Fin 3 → ℕ) a + S1x128x128.size a ≤ S21x128x128.size a := by
  have h := slotSel_toNat j v w hv hw
  fin_cases a
  · change (Scalar.indexCast (slotSel (BitVec.ofNat 32 j) v w)).toNat + 1 ≤ 21
    rw [h]; split <;> omega
  · exact Nat.le_refl 128
  · exact Nat.le_refl 128
theorem pick_inb (b : ℕ) (hb : b < 3) (j : Fin 4) (v w : BitVec 32) (hv : v.toNat ≤ 20) (hw : w.toNat ≤ 20) (a : Fin 2) :
    (![b, (Scalar.indexCast (pickSel (BitVec.ofNat 32 j) v w)).toNat] : Fin 2 → ℕ) a + S1x1.size a ≤ S3x20.size a := by
  have h := pickSel_toNat j v w hv hw
  fin_cases a
  · change b + 1 ≤ 3; omega
  · change (Scalar.indexCast (pickSel (BitVec.ofNat 32 j) v w)).toNat + 1 ≤ 20
    rw [h]; split <;> omega

theorem rpChk_of (b : ℕ) (hb : b < 3) (v w : BitVec 32) (hv : v.toNat ≤ 20) (hw : w.toNat ≤ 20) : RpChk b v w :=
  ⟨slot_inb 0 v w hv hw, pick_inb b hb 0 v w hv hw, slot_inb 1 v w hv hw, pick_inb b hb 1 v w hv hw,
   slot_inb 2 v w hv hw, pick_inb b hb 2 v w hv hw, slot_inb 3 v w hv hw, pick_inb b hb 3 v w hv hw⟩

/-- What the body assumes of a tile column. -/
def TcChk (v : BitVec 32) : Prop :=
  (128 ∣ (Scalar.muli v 128#32).toNat) ∧
  (∀ a, (![(Scalar.indexCast (Scalar.muli v 128#32)).toNat, 0] : Fin 2 → ℕ) a + S128x512.size a ≤ S640x3072.size a) ∧
  (∀ a, (![(Scalar.indexCast (Scalar.muli v 128#32)).toNat, 512] : Fin 2 → ℕ) a + S128x512.size a ≤ S640x3072.size a) ∧
  (∀ a, (![(Scalar.indexCast (Scalar.muli v 128#32)).toNat, 1024] : Fin 2 → ℕ) a + S128x512.size a ≤ S640x3072.size a) ∧
  (∀ a, (![(Scalar.indexCast (Scalar.muli v 128#32)).toNat, 1536] : Fin 2 → ℕ) a + S128x512.size a ≤ S640x3072.size a) ∧
  (∀ a, (![(Scalar.indexCast (Scalar.muli v 128#32)).toNat, 2048] : Fin 2 → ℕ) a + S128x512.size a ≤ S640x3072.size a) ∧
  (∀ a, (![(Scalar.indexCast (Scalar.muli v 128#32)).toNat, 2560] : Fin 2 → ℕ) a + S128x512.size a ≤ S640x3072.size a)

theorem colRow_fin : ∀ n : Fin 5, (Scalar.muli (BitVec.ofNat 32 n) 128#32).toNat = 128 * n.val
    ∧ (Scalar.indexCast (Scalar.muli (BitVec.ofNat 32 n) 128#32)).toNat = 128 * n.val := by decide +kernel
theorem colRow (v : BitVec 32) (hv : v.toNat < 5) : (Scalar.muli v 128#32).toNat = 128 * v.toNat
    ∧ (Scalar.indexCast (Scalar.muli v 128#32)).toNat = 128 * v.toNat := by
  have h := colRow_fin ⟨v.toNat, hv⟩
  simpa only [BitVec.ofNat_toNat, BitVec.setWidth_eq] using h
theorem colRow_inb (q : ℕ) (hq : q + 512 ≤ 3072) (v : BitVec 32) (hv : v.toNat < 5) (a : Fin 2) :
    (![(Scalar.indexCast (Scalar.muli v 128#32)).toNat, q] : Fin 2 → ℕ) a + S128x512.size a ≤ S640x3072.size a := by
  fin_cases a
  · change (Scalar.indexCast (Scalar.muli v 128#32)).toNat + 128 ≤ 640
    rw [(colRow v hv).2]; omega
  · exact hq
theorem tcChk_of (v : BitVec 32) (hv : v.toNat < 5) : TcChk v :=
  ⟨⟨v.toNat, (colRow v hv).1⟩, colRow_inb 0 (by omega) v hv, colRow_inb 512 (by omega) v hv, colRow_inb 1024 (by omega) v hv,
   colRow_inb 1536 (by omega) v hv, colRow_inb 2048 (by omega) v hv, colRow_inb 2560 (by omega) v hv⟩

/-- A word loaded from the row pointers' copy is one of the row pointers. -/
theorem rp_word {c : Dev nD} (fh2 : BufAt (F := F) c hb2) (f1 : BufAt (F := F) c sc1) (P : BitVec 32 → Prop) (h : ∀ i, P (fh2 i))
    (r : LoadRect S3x6) (x : r.shape.Idx) :
    P (View.readAt (Elt F) sc1.view r (View.write (Elt F) (Memref.whole cc0_scratch1).view f1
      (ReadAs.same.apply (View.read (Elt F) (Memref.whole main_arg2).view fh2)) Finset.univ) x) := by
  rw [View.readAt_apply, View.read_write_univ]
  exact h _
theorem tc_word {c : Dev nD} (fh3 : BufAt (F := F) c hb3) (f2 : BufAt (F := F) c sc2) (P : BitVec 32 → Prop) (h : ∀ i, P (fh3 i))
    (r : LoadRect S3x20) (x : r.shape.Idx) :
    P (View.readAt (Elt F) sc2.view r (View.write (Elt F) (Memref.whole cc0_scratch2).view f2
      (ReadAs.same.apply (View.read (Elt F) (Memref.whole main_arg3).view fh3)) Finset.univ) x) := by
  rw [View.readAt_apply, View.read_write_univ]
  exact h _

theorem chk_one {P : BitVec 32 → Prop} {C : BitVec 32 → Prop} (h : ∀ v, P v → C v) {v : BitVec 32} (hv : P v) : C v := h v hv
theorem chk_two {P : BitVec 32 → Prop} {C : BitVec 32 → BitVec 32 → Prop} (h : ∀ v w, P v → P w → C v w) {v w : BitVec 32} (hv : P v) (hw : P w) : C v w := h v w hv hw

/-! ## The body, run once -/

set_option maxHeartbeats 20000000 in
set_option sl_exec.dischHeartbeats 200000 in
set_option sl_exec.rejoinFuel 200 in
set_option sl_exec.stepHeartbeats 2000000 in
/-- The whole body from buffers at any contents: what it leaves in the two results, and the run itself. The thirty copies out of the
    row blocks complete on one semaphore cell, which the run treats as one batch. -/
def kernelRun (c : Dev nD) (fh0 : BufAt (F := F) c hb0) (fh1 : BufAt (F := F) c hb1) (fh2 : BufAt (F := F) c hb2) (fh3 : BufAt (F := F) c hb3) (fh4 : BufAt (F := F) c hb4) (fh5 : BufAt (F := F) c hb5) (fh6 : BufAt (F := F) c hb6)
    (f0 : BufAt (F := F) c sc0) (f3 : BufAt (F := F) c sc3) (f4 : BufAt (F := F) c sc4) (f5 : BufAt (F := F) c sc5) (f6 : BufAt (F := F) c sc6) (f7 : BufAt (F := F) c sc7) (f8 : BufAt (F := F) c sc8) (f9 : BufAt (F := F) c sc9) (f10 : BufAt (F := F) c sc10) (f11 : BufAt (F := F) c sc11) (f12 : BufAt (F := F) c sc12) (f13 : BufAt (F := F) c sc13) (f14 : BufAt (F := F) c sc14) (f15 : BufAt (F := F) c sc15) (f16 : BufAt (F := F) c sc16) (f1 : BufAt (F := F) c sc1) (f2 : BufAt (F := F) c sc2)
    (hrp : ∀ i, (fh2 i : BitVec 32).toNat ≤ 20) (htc : ∀ i, (fh3 i : BitVec 32).toNat < 5) :
    { G : BufAt (F := F) c hb5 × BufAt (F := F) c hb6 // ∀ (W : Waits sig Unit) (K : PUnit → sProp 𝕄),
      iprop((pt (F := F) c sc0 f0 ∗ pt (F := F) c sc3 f3 ∗ pt (F := F) c sc4 f4 ∗ pt (F := F) c sc5 f5 ∗ pt (F := F) c sc6 f6 ∗ pt (F := F) c sc7 f7 ∗ pt (F := F) c sc8 f8 ∗ pt (F := F) c sc9 f9 ∗ pt (F := F) c sc10 f10 ∗ pt (F := F) c sc11 f11 ∗ pt (F := F) c sc12 f12 ∗ pt (F := F) c sc13 f13 ∗ pt (F := F) c sc14 f14 ∗ pt (F := F) c sc15 f15 ∗ pt (F := F) c sc16 f16 ∗ pt (F := F) c sc1 f1 ∗ pt (F := F) c sc2 f2)
        ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0)
        ∗ (pt (F := F) c hb0 fh0 ∗ pt (F := F) c hb1 fh1 ∗ pt (F := F) c hb2 fh2 ∗ pt (F := F) c hb3 fh3 ∗ pt (F := F) c hb4 fh4 ∗ pt (F := F) c hb5 fh5 ∗ pt (F := F) c hb6 fh6)
        ∗ owes (c : Thread nD τ) 0 W
        ∗ ((((∃ f, pt (F := F) c sc0 f) ∗ (∃ f, pt (F := F) c sc3 f) ∗ (∃ f, pt (F := F) c sc4 f) ∗ (∃ f, pt (F := F) c sc5 f) ∗ (∃ f, pt (F := F) c sc6 f) ∗ (∃ f, pt (F := F) c sc7 f) ∗ (∃ f, pt (F := F) c sc8 f) ∗ (∃ f, pt (F := F) c sc9 f) ∗ (∃ f, pt (F := F) c sc10 f) ∗ (∃ f, pt (F := F) c sc11 f) ∗ (∃ f, pt (F := F) c sc12 f) ∗ (∃ f, pt (F := F) c sc13 f) ∗ (∃ f, pt (F := F) c sc14 f) ∗ (∃ f, pt (F := F) c sc15 f) ∗ (∃ f, pt (F := F) c sc16 f) ∗ (∃ f, pt (F := F) c sc1 f) ∗ (∃ f, pt (F := F) c sc2 f))
          ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0)
          ∗ (pt (F := F) c hb0 fh0 ∗ pt (F := F) c hb1 fh1 ∗ pt (F := F) c hb2 fh2 ∗ pt (F := F) c hb3 fh3 ∗ pt (F := F) c hb4 fh4 ∗ pt (F := F) c hb5 G.1 ∗ pt (F := F) c hb6 G.2)
          ∗ (∃ W', owes (c : Thread nD τ) 0 W')) -∗ K ⟨⟩))
      ⊢ wp frame (wpE (defs₀ (F := F)) Variants.none (c : Thread nD τ) none) Set.univ
        (cc0_cluster_gcn_agg (Memref.whole main_arg0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) (Memref.whole main_v2_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20) K } := by
  refine ⟨(?g5, ?g6), fun W K => ?run⟩
  case run =>
    have plan : Transfers.BatchOf (c : Thread nD τ) (SemLoc.dma (sig := sig) 7) 30 (windows := true) := trivial
    rw [cc0_cluster_gcn_agg_eq_skeleton]
    unfold cc0_cluster_gcn_agg_skel
    iintro ⟨⟨S0, S3, S4, S5, S6, S7, S8, S9, S10, S11, S12, S13, S14, S15, S16, S1, S2⟩,
      ⟨Q0, Q1, Q2, Q3, Q4, Q5, Q6, Q7, Q8⟩, ⟨H0, H1, H2, H3, H4, H5, H6⟩, HO, Hk⟩
    sl_exec_parts (disch := first
      | (refine chk_one (P := fun z => z.toNat < 5) ?_ ?_
         · intro v hv
           delta k0_chk2 k0_chk3 k0_chk4 k0_chk5 k0_chk7 k0_chk8 k0_chk9 k0_chk10 k0_chk12 k0_chk13 k0_chk14 k0_chk15 k0_chk17 k0_chk18 k0_chk19 k0_chk20 k0_chk22 k0_chk23 k0_chk24 k0_chk25 k0_chk27 k0_chk28 k0_chk29 k0_chk30 k0_chk32 k0_chk33 k0_chk34 k0_chk35 k0_chk37 k0_chk38 k0_chk39 k0_chk40 k0_chk42 k0_chk43 k0_chk44 k0_chk45 k0_chk47 k0_chk48 k0_chk49 k0_chk50 k0_chk52 k0_chk53 k0_chk54 k0_chk55 k0_chk57 k0_chk58 k0_chk59 k0_chk60 k0_chk62 k0_chk63 k0_chk64 k0_chk65 k0_chk67 k0_chk68 k0_chk69 k0_chk70 k0_chk72 k0_chk73 k0_chk74 k0_chk75
           exact tcChk_of v hv
         · first
           | exact tc_word fh3 f2 (fun z => z.toNat < 5) htc _ _
           | fail)
      | (refine chk_two (P := fun z => z.toNat ≤ 20) ?_ ?_ ?_
         · intro v w hv hw
           delta k0_chk1 k0_chk6 k0_chk11 k0_chk16 k0_chk21 k0_chk26 k0_chk31 k0_chk36 k0_chk41 k0_chk46 k0_chk51 k0_chk56 k0_chk61 k0_chk66 k0_chk71
           exact rpChk_of _ (by decide) v w hv hw
         · exact rp_word fh2 f1 (fun z => z.toNat ≤ 20) hrp _ _
         · exact rp_word fh2 f1 (fun z => z.toNat ≤ 20) hrp _ _))
    sl_step
    iapply Hk
    isplitl [S0 S3 S4 S5 S6 S7 S8 S9 S10 S11 S12 S13 S14 S15 S16 S1 S2]
    · isplitl [S0]; · iexists _; iexact S0
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      isplitl [S9]; · iexists _; iexact S9
      isplitl [S10]; · iexists _; iexact S10
      isplitl [S11]; · iexists _; iexact S11
      isplitl [S12]; · iexists _; iexact S12
      isplitl [S13]; · iexists _; iexact S13
      isplitl [S14]; · iexists _; iexact S14
      isplitl [S15]; · iexists _; iexact S15
      isplitl [S16]; · iexists _; iexact S16
      isplitl [S1]; · iexists _; iexact S1
      iexists _; iexact S2
    isplitl [Q0 Q1 Q2 Q3 Q4 Q5 Q6 Q7 Q8]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      iexact Q8
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    iexists _; iexact HO

end Cert.KernelIdeal.Hand

end
-- ==== Proof.KernelIdeal.Frame.lean ====
module

public import proofs.«01_k».proof.Proof.KernelIdeal.Run
public import proofs.«01_k».proof.Proof.Gen.KernelIdeal.Frame
public import proofs.«01_k».proof.Proof.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch: the buffers the body copies from, the two results it writes, its own semaphore cells -/

/-- The buffers in main memory the body copies from. -/
def H0 : Finset (Ref sig .tc) := {main_arg0, main_arg1, main_arg2, main_arg3, main_v1}
/-- The two results, written by the body's own copies. -/
def R0 : Finset (Ref sig .tc) := {main_v2_0, main_v2_1}
theorem H0_sub : H0 ⊆ Pipeline.restRefs sig cfg0.spec := by decide
theorem R0_sub : R0 ⊆ Pipeline.restRefs sig cfg0.spec \ H0 := by decide
/-- The body's nine semaphore cells. -/
abbrev osem0 : Fin 9 → SemLoc sig := fun j => SemLoc.dma ⟨j.val, by have := j.isLt; exact lt_of_lt_of_le this (by decide)⟩
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3, 4, 5, 6, 7, 8] (by decide) (by decide)]; rfl
theorem hbmPts0_eq (c : Dev nD) :
    (bigSep H0 (fun b => ((c : Thread nD τ).loc b) ↦{fullShare} V m c b) : sProp 𝕄) = iprop(pt (F := F) c hb0 (V m c main_arg0) ∗ pt (F := F) c hb1 (V m c main_arg1) ∗ pt (F := F) c hb2 (V m c main_arg2) ∗ pt (F := F) c hb3 (V m c main_arg3) ∗ pt (F := F) c hb4 (V m c main_v1)) := by
  rw [BI.bigSep_eq_bigSepL_of_eq [main_arg0, main_arg1, main_arg2, main_arg3, main_v1] (by decide) (by decide)]; rfl
theorem ownedPts0_eq (c : Dev nD) :
    (Pipeline.owned R0 c : sProp 𝕄) = iprop((∃ f, pt (F := F) c hb5 f) ∗ (∃ f, pt (F := F) c hb6 f)) := by
  unfold Pipeline.owned; rw [BI.bigSep_eq_bigSepL_of_eq [main_v2_0, main_v2_1] (by decide) (by decide)]; rfl
theorem PhiDR0_eq (c : Dev nD) :
    (Pipeline.ΦDR osem0 cfg0.spec H0 R0 (V m) c : sProp 𝕄)
      = iprop(iprop((∃ f, pt (F := F) c sc0 f) ∗ (∃ f, pt (F := F) c sc3 f) ∗ (∃ f, pt (F := F) c sc4 f) ∗ (∃ f, pt (F := F) c sc5 f) ∗ (∃ f, pt (F := F) c sc6 f) ∗ (∃ f, pt (F := F) c sc7 f) ∗ (∃ f, pt (F := F) c sc8 f) ∗ (∃ f, pt (F := F) c sc9 f) ∗ (∃ f, pt (F := F) c sc10 f) ∗ (∃ f, pt (F := F) c sc11 f) ∗ (∃ f, pt (F := F) c sc12 f) ∗ (∃ f, pt (F := F) c sc13 f) ∗ (∃ f, pt (F := F) c sc14 f) ∗ (∃ f, pt (F := F) c sc15 f) ∗ (∃ f, pt (F := F) c sc16 f) ∗ (∃ f, pt (F := F) c sc1 f) ∗ (∃ f, pt (F := F) c sc2 f))
          ∗ (∃ r, prngReg c r) ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(pt (F := F) c hb0 (V m c main_arg0) ∗ pt (F := F) c hb1 (V m c main_arg1) ∗ pt (F := F) c hb2 (V m c main_arg2) ∗ pt (F := F) c hb3 (V m c main_arg3) ∗ pt (F := F) c hb4 (V m c main_v1))
          ∗ iprop((∃ f, pt (F := F) c hb5 f) ∗ (∃ f, pt (F := F) c hb6 f))) := by
  rw [Pipeline.ΦDR_eq, scopedRest0_eq, ownSems00_eq, hbmPts0_eq, ownedPts0_eq]

/-- Core `c`'s copies of the arguments when the body starts satisfy the word bounds. -/
abbrev Bounded (c : Dev nD) : Prop :=
  (∀ i, (V m c main_arg2 i : BitVec 32).toNat ≤ 20) ∧ (∀ i, (V m c main_arg3 i : BitVec 32).toNat < 5)

/-! ## The frame: every buffer the claim names is unchanged -/

/-- The proof data: nothing is staged, the body's buffers and cells are the invariant. -/
def dats (_ : Fin 1) (c : Dev nD) : Dat τ (Elt F) Unit ℕ (Pipeline.UD sig nD τ) ℕ cfg0 c where
  A w := w.elim0
  after w := w.elim0
  Φ _ := Pipeline.ΦDR osem0 cfg0.spec H0 R0 (V m) c
  q w := w.elim0
  owed _ := 0

theorem sound_body (hb : ∀ c, Bounded m c) (c : Dev nD) (t : Fin cfg0.N) :
    iprop((dats m 0 c).Φ t.castSucc ∗ (dats m 0 c).owesAt () t.castSucc)
      ⊢ wp frame (wpE (defs₀ (F := F)) Variants.none c none) Set.univ (bodyAt0 t)
        (fun _ => iprop((dats m 0 c).Φ t.succ ∗ (dats m 0 c).owesAt () t.succ)) := by
  unfold bodyAt0
  rw [show (dats m 0 c).Φ t.succ = (dats m 0 c).Φ t.castSucc from rfl]
  rw [show (dats m 0 c).Φ t.castSucc = Pipeline.ΦDR osem0 cfg0.spec H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%f0, S0⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩, ⟨%f16, S16⟩, ⟨%f1, S1⟩, ⟨%f2, S2⟩⟩, Hg, ⟨Q0, Q1, Q2, Q3, Q4, Q5, Q6, Q7, Q8⟩, ⟨H0, H1, H2, H3, H4⟩, ⟨⟨%f5', H5⟩, ⟨%f6', H6⟩⟩⟩, ⟨%W, -, HW⟩⟩
  iapply ((kernelRun c (V m c main_arg0) (V m c main_arg1) (V m c main_arg2) (V m c main_arg3) (V m c main_v1) f5' f6' f0 f3 f4 f5 f6 f7 f8 f9 f10 f11 f12 f13 f14 f15 f16 f1 f2 (hb c).1 (hb c).2).2 W _)
  isplitl [S0 S3 S4 S5 S6 S7 S8 S9 S10 S11 S12 S13 S14 S15 S16 S1 S2]
  · isplitl [S0]; · iexact S0
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S1]; · iexact S1
    iexact S2
  isplitl [Q0 Q1 Q2 Q3 Q4 Q5 Q6 Q7 Q8]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    iexact Q8
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HW]; · iexact HW
  iintro ⟨HS, HQ, ⟨H0, H1, H2, H3, H4, H5, H6⟩, ⟨%W', HW'⟩⟩
  isplitl [HS Hg HQ H0 H1 H2 H3 H4 H5 H6]
  · isplitl [HS]; · iexact HS
    isplitl [Hg]; · iexact Hg
    isplitl [HQ]; · iexact HQ
    isplitl [H0 H1 H2 H3 H4]
    · isplitl [H0]; · iexact H0
      isplitl [H1]; · iexact H1
      isplitl [H2]; · iexact H2
      isplitl [H3]; · iexact H3
      iexact H4
    isplitl [H5]; · iexists _; iexact H5
    iexists _; iexact H6
  iexists W'; isplitr; · ipureintro; exact fun _ _ => Or.inl trivial
  iexact HW'

theorem defs₀_row (t : Fin cfg0.N) : defs₀ (F := F) .tc cfg0.body (cfg0.bodyArgs t (cfg0.slots t)) = bodyAt0 t := by
  unfold defs₀; rw [Defs.onTc_tc]

/-- There is no staged block to hand over. -/
theorem no_blocks (P : Fin cfg0.W → sProp 𝕄) : bigSep Finset.univ P = iprop(emp) := by
  rw [show (Finset.univ : Finset (Fin cfg0.W)) = ∅ from rfl, BI.bigSep_empty]; rfl

theorem body_obligation (hb : ∀ c, Bounded m c) (c : Dev nD) : BodyObligation (dats (F := F) m 0 c) (defs₀ (F := F)) Variants.none () Set.univ := fun t => by
  rw [no_blocks, no_blocks, defs₀_row]
  refine triple_restated (sound_body m hb c t) rfl ?_ fun _ => ?_
  · iintro ⟨A, B, -⟩; isplitl [A]; · iexact A
    iexact B
  · iintro ⟨A, B⟩; isplitl [A]; · iexact A
    isplitl [B]; · iexact B
    iempintro

/-- @main up to the region. -/
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main (hb : ∀ c, Bounded m c) : θ_run defs (onTc (τ := τ) (main (F := F))) (s₀ m ρ)
    (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m hb c).loose) (hshare := fun c w => w.elim0)
    (howed := fun _ _ => rfl) (V := V m) (hmain := hmain' m Variants.none) (hA := fun c w => w.elim0)
    (hin := fun _ => .rfl) (hout := fun _ => .rfl)

/-- The arguments are unchanged and every counter is back at zero. -/
theorem frame (hb : ∀ c, Bounded m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c)⟩, h.2⟩) (run_main m ρ hb)

end Cert.KernelIdeal.Hand

end
-- ==== Proof.KernelIdeal.Spec.lean ====
module

public import proofs.«01_k».proof.Proof.Gen.KernelIdeal.Skeleton
public import Idealize.ShloMosaic.Lib.Pointwise
public import Idealize.ShloMosaic.Lib.BitcastFour
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic

variable {F : FTy → Type} [FloatOps F]

/-! ## One mask tile: eight tiles' bytes transposed and packed, a lane's word fetched, one bit of each byte kept -/

theorem chunk_slices (c : Fin 3) : S384x128.Slices ![128 * c.val, 0] S128x128 := by fin_cases c <;> decide

/-- The bytes of eight tiles, transposed and packed four to a word. -/
def packed (c : Fin 3) (v44 : Vec F S1x80x128 .i32) : IVec S32x128 32 :=
  bitcast S32x128 32 (transpose S128x128 [1, 0] (extractStridedSlice S128x128 ![128 * c.val, 0]
    (concatenate S384x128 0 [⟨S320x128, bitcast S320x128 8 (shapeCast S80x128 v44 shapeCasts_S1x80x128_S80x128) bitcasts_S80x128_w32_S320x128_w8⟩,
      ⟨S64x128, broadcast S64x128 0#8⟩] concatenates_S320x128_S64x128_S384x128_d0) (chunk_slices c))
    transposes_S128x128_p1_0_S128x128) bitcasts_S128x128_w8_S32x128_w32

/-- The lane's number. -/
def lane : IVec S32x128 32 := iota .tc S32x128 32 [1] iota_S32x128_d1_w32

/-- The lane's byte row: an eighth of the lane's number, past `kb`. -/
def laneRow (kb : BitVec 32) : IVec S32x128 32 :=
  have q : IVec S32x128 32 := divsi lane (broadcast S32x128 8#32)
  have sg : IVec S32x128 32 := subi (extui 32 (cmpi .sgt lane (broadcast S32x128 0#32)) natLt_1_32) (extui 32 (cmpi .slt lane (broadcast S32x128 0#32)) natLt_1_32)
  have d : IVec S32x128 32 := select (andi (cmpi .ne sg (broadcast S32x128 (Scalar.subi (Scalar.extui (Scalar.cmpi .sgt 8#32 0#32)) (Scalar.extui (Scalar.cmpi .slt 8#32 0#32)))))
    (cmpi .ne (remsi lane (broadcast S32x128 8#32)) (broadcast S32x128 0#32))) (subi q (broadcast S32x128 1#32)) q
  have r : IVec S32x128 32 := addi (broadcast S32x128 kb) d
  select (cmpi .slt r (broadcast S32x128 0#32)) (addi r (broadcast S32x128 128#32)) r

/-- The lane's bit: the lane's number modulo eight. -/
def laneBit : IVec S32x128 32 :=
  let m : BitVec 32 := Scalar.select (Scalar.cmpi .eq 8#32 0#32) 1#32 8#32
  have r : IVec S32x128 32 := remsi lane (broadcast S32x128 m)
  select (andi (xori (cmpi .slt r (broadcast S32x128 0#32)) (broadcastTo S32x128 (broadcast S32x128 (Scalar.cmpi .slt m 0#32)) broadcasts_S32x128_S32x128))
    (cmpi .ne r (broadcast S32x128 0#32))) (addi r (broadcast S32x128 m)) r

/-- One mask tile from the packed words. -/
def tileOf (v52 : IVec S32x128 32) (kb : BitVec 32) : FVec F S1x128x128 .fp8e4m3 :=
  have w : IVec S32x128 32 := dynamicGather 1 v52 (shapeCast S32x128 (shapeCast S32x128x1 (laneRow kb) shapeCasts_S32x128_S32x128x1) shapeCasts_S32x128x1_S32x128)
  have b : IVec S32x128 32 := andi (shrui w laneBit) (broadcast S32x128 16843009#32)
  have s : IVec S32x128 32 := subi (shli b (broadcast S32x128 6#32)) (shli b (broadcast S32x128 3#32))
  shapeCast S1x128x128 (bitcastToFloat .fp8e4m3 (bitcast S128x128 8 s bitcasts_S32x128_w32_S128x128_w8)) shapeCasts_S128x128_S1x128x128

/-- The mask tile of slot `n`. -/
def tile (v44 : Vec F S1x80x128 .i32) (n : Fin 20) : FVec F S1x128x128 .fp8e4m3 :=
  tileOf (packed ⟨n.val / 8, by have := n.isLt; omega⟩ v44) (BitVec.ofNat 32 (16 * (n.val % 8)))

/-- Row degrees of one row block from the tile masks `v44` and the row's two pointers. -/
def degOf (v44 : Vec F S1x80x128 .i32) (v w : BitVec 32) : FVec F S1x128 .f32 :=
  have row : IVec S80x128 32 := iota .tc S80x128 32 [0] iota_S80x128_d0_w32
  have cnt : IVec S80x128 32 := ctpop (shapeCast S80x128 v44 shapeCasts_S1x80x128_S80x128)
  shapeCast S1x128 (multiReduction .add [0] S128 (sitofp .f32 (select
    (andi (cmpi .sge row (broadcast S80x128 (Scalar.muli 4#32 v))) (cmpi .slt row (broadcast S80x128 (Scalar.muli 4#32 w))))
    cnt (broadcast S80x128 0#32))) 0x00000000#32 reduces_S80x128_S128 (.inl rfl) rfl) shapeCasts_S128_S1x128

/-- The reciprocals of five row blocks' degrees, one lane of eight per block; zero where the degree is zero. -/
def rdAll (d0 d1 d2 d3 d4 : FVec F S1x128 .f32) : FVec F S128x8 .f32 :=
  have z : FVec F S8x128 .f32 := broadcast S8x128 (Scalar.ofBits .f32 0x00000000#32)
  have o : FVec F S8x128 .f32 := broadcast S8x128 (Scalar.ofBits .f32 0x3F800000#32)
  have d : FVec F S8x128 .f32 := concatenate S8x128 0 [⟨S1x128, d0⟩, ⟨S1x128, d1⟩, ⟨S1x128, d2⟩, ⟨S1x128, d3⟩, ⟨S1x128, d4⟩,
    ⟨S3x128, broadcast S3x128 (Scalar.ofBits .f32 0x00000000#32 : F .f32)⟩] concatenates_S1x128_S1x128_S1x128_S1x128_S1x128_S3x128_S8x128_d0
  transpose S128x8 [1, 0] (select (cmpf .ogt d z) (divf o (select (cmpf .ogt d z) d o)) z) transposes_S8x128_p1_0_S128x8

theorem col_slices (r : Fin 5) : S128x8.Slices ![0, r.val] S128x1 := by fin_cases r <;> decide

/-- One row block's reciprocals, repeated along the lanes. -/
def rdOf (R : FVec F S128x8 .f32) (r : Fin 5) : FVec F S1x128x128 .f32 :=
  shapeCast S1x128x128 (broadcastTo S128x128 (shapeCast S128x1 (extractStridedSlice S128x1 ![0, r.val] R (col_slices r))
    shapeCasts_S128x1_S128x1) broadcasts_S128x1_S128x128) shapeCasts_S128x128_S1x128x128

/-- One block of the aggregate: four mask tiles against four tiles of features, scaled by column and by row. -/
def aggOf (a0 a1 a2 a3 : Vec F S1x128x128 .fp8e4m3) (rd : Vec F S1x128x128 .f32) (x0 x1 x2 x3 : Vec F S128x512 .fp8e4m3)
    (s : Vec F S1x512 .f32) : FVec F S128x512 .bf16 :=
  have A : FVec F S128x512 .fp8e4m3 := concatenate S128x512 1 [⟨S128x128, shapeCast S128x128 a0 shapeCasts_S1x128x128_S128x128⟩,
    ⟨S128x128, shapeCast S128x128 a1 shapeCasts_S1x128x128_S128x128⟩, ⟨S128x128, shapeCast S128x128 a2 shapeCasts_S1x128x128_S128x128⟩,
    ⟨S128x128, shapeCast S128x128 a3 shapeCasts_S1x128x128_S128x128⟩] concatenates_S128x128_S128x128_S128x128_S128x128_S128x512_d1
  have R : FVec F S128x512 .f32 := concatenate S128x512 1 [⟨S128x128, shapeCast S128x128 rd shapeCasts_S1x128x128_S128x128⟩,
    ⟨S128x128, shapeCast S128x128 rd shapeCasts_S1x128x128_S128x128⟩, ⟨S128x128, shapeCast S128x128 rd shapeCasts_S1x128x128_S128x128⟩,
    ⟨S128x128, shapeCast S128x128 rd shapeCasts_S1x128x128_S128x128⟩] concatenates_S128x128_S128x128_S128x128_S128x128_S128x512_d1
  have X : FVec F S512x512 .fp8e4m3 := concatenate S512x512 0 [⟨S128x512, x0⟩, ⟨S128x512, x1⟩, ⟨S128x512, x2⟩, ⟨S128x512, x3⟩]
    concatenates_S128x512_S128x512_S128x512_S128x512_S512x512_d0
  shapeCast S128x512 (truncf .bf16 (mulf (mulf (matmul dot_S128x512_S512x512_S128x512_1_0_0_1_n_n none A X (constant S128x512 .f32 0x00000000#32))
    (broadcastTo S128x512 s broadcasts_S1x512_S128x512)) R) bitsLt_bf16_f32) shapeCasts_S128x512_S128x512

theorem lane_at (a : Fin 32) (k : Fin 128) : lane (ix2 a k) = BitVec.ofNat 32 k.val := by
  pointwise [lane]

theorem laneRow_at (n : Fin 8) (a : Fin 32) (k : Fin 128) : laneRow (BitVec.ofNat 32 (16 * n.val)) (ix2 a k) = BitVec.ofNat 32 (16 * n.val + k.val / 8) := by
  pointwise [laneRow, lane_at]
  revert n k
  decide +kernel

theorem laneBit_at (a : Fin 32) (k : Fin 128) : laneBit (ix2 a k) = BitVec.ofNat 32 (k.val % 8) := by
  pointwise [laneBit, lane_at]
  revert k
  decide +kernel

/-- A word cut into bytes: byte row `p` holds byte `p % 4` of word row `p / 4`. -/
theorem bitcast_32_8_at {R r n : ℕ} (x : (⟨2, ![r, n]⟩ : Shape).Idx → BitVec 32) (h : (⟨2, ![r, n]⟩ : Shape).Bitcasts 32 ⟨2, ![R, n]⟩ 8)
    (p : Fin R) (l : Fin n) (q : ℕ) (hq : q < 8) (a : Fin r) (ha : a.val = p.val / 4) :
    (bitcast ⟨2, ![R, n]⟩ 8 x h (ix2 p l)).getLsbD q = (x (ix2 a l)).getLsbD (8 * (p.val % 4) + q) := by
  rw [bitcast_getLsbD x h _ q hq (by decide)]
  have e1 : ((⟨2, ![R, n]⟩ : Shape).row (ix2 p l) * 8 + q) % 32 = 8 * (p.val % 4) + q := by
    show (p.val * 8 + q) % 32 = _
    omega
  rw [e1]
  congr 2
  funext d
  match d with
  | ⟨0, _⟩ => exact Fin.ext ((h.srcIdx_row _ _ _ ⟨0, Nat.zero_lt_two⟩ rfl).trans (by show (p.val * 8 + q) / 32 = a.val; omega))
  | ⟨1, _⟩ => exact Fin.ext (h.srcIdx_other _ _ _ ⟨1, Nat.one_lt_two⟩ (by show ¬ 1 + 2 = 2; omega))

/-- Row `a`, lane `j` of the packed words, bit by bit. -/
theorem packed_at (c : Fin 3) (v44 : Vec F S1x80x128 .i32) (a : Fin 32) (j : Fin 128) (q : ℕ) (hq : q < 32) (r : Fin 80) (i : Fin 128) (p : ℕ)
    (hi : i.val = 4 * a.val + q / 8) (hr : 4 * r.val + p = 128 * c.val + j.val) (hp : p < 4) :
    (packed (F := F) c v44 (ix2 a j)).getLsbD q = BitVec.getLsbD (v44 (ix3 0 r i) : BitVec 32) (8 * p + q % 8) := by
  unfold packed
  refine (bitcast_8_32_getLsbD_ix2 _ _ a j q hq i hi).trans ?_
  have hlt : r.val < 80 := r.isLt
  have e : ∀ X : IVec S320x128 8, (transpose S128x128 [1, 0] (extractStridedSlice S128x128 ![128 * c.val, 0]
    (concatenate S384x128 0 [⟨S320x128, X⟩, ⟨S64x128, broadcast S64x128 0#8⟩] concatenates_S320x128_S64x128_S384x128_d0) (chunk_slices c))
    transposes_S128x128_p1_0_S128x128) (ix2 i j) = X (ix2 ⟨4 * r.val + p, by omega⟩ i) := by
    intro X
    have hk : 128 * c.val + j.val < 320 := by omega
    pointwise
    rw [dif_pos hk]
    congr 2
    exact Fin.ext hr.symm
  refine (congrArg (fun z : BitVec 8 => z.getLsbD (q % 8)) (e _)).trans ?_
  refine (bitcast_32_8_at _ _ _ i (q % 8) (Nat.mod_lt _ (by decide)) r (by show r.val = (4 * r.val + p) / 4; omega)).trans ?_
  have e2 : (4 * r.val + p) % 4 = p := by omega
  show BitVec.getLsbD (shapeCast S80x128 v44 shapeCasts_S1x80x128_S80x128 (ix2 r i)) (8 * ((4 * r.val + p) % 4) + q % 8) = _
  rw [e2]
  congr 1
  pointwise

/-- Four bits, one at the foot of each byte. -/
def feet (b0 b1 b2 b3 : Bool) : BitVec 32 :=
  (if b0 then 1#32 else 0#32) ||| (if b1 then 256#32 else 0#32) ||| (if b2 then 65536#32 else 0#32) ||| (if b3 then 16777216#32 else 0#32)

theorem feet_bit : ∀ (b0 b1 b2 b3 : Bool) (i : Fin 32), (feet b0 b1 b2 b3).getLsbD i.val
    = ((16843009#32).getLsbD i.val && (if i.val / 8 = 0 then b0 else if i.val / 8 = 1 then b1 else if i.val / 8 = 2 then b2 else b3)) := by
  decide +kernel

theorem feet_scaled : ∀ (b0 b1 b2 b3 : Bool) (t : Fin 4) (q : Fin 8),
    (IntOp.subi (IntOp.shli .vector (feet b0 b1 b2 b3) 6#32) (IntOp.shli .vector (feet b0 b1 b2 b3) 3#32)).getLsbD (8 * t.val + q.val)
      = (if (if t.val = 0 then b0 else if t.val = 1 then b1 else if t.val = 2 then b2 else b3) then 0x38#8 else 0#8).getLsbD q.val := by
  decide +kernel

theorem kept_eq_feet (x : BitVec 32) (s : ℕ) (hs : s < 8) :
    IntOp.andi (IntOp.shrui .vector x (BitVec.ofNat 32 s)) 16843009#32
      = feet (x.getLsbD s) (x.getLsbD (8 + s)) (x.getLsbD (16 + s)) (x.getLsbD (24 + s)) := by
  have hn : (BitVec.ofNat 32 s).toNat = s := by rw [BitVec.toNat_ofNat]; omega
  have e : IntOp.shrui .vector x (BitVec.ofNat 32 s) = x >>> s := by
    unfold IntOp.shrui
    rw [if_pos (by rw [hn]; omega)]
    show x >>> (BitVec.ofNat 32 s).toNat = _
    rw [hn]
  rw [e]
  apply BitVec.eq_of_getLsbD_eq
  intro i hi
  rw [feet_bit _ _ _ _ ⟨i, hi⟩]
  show ((x >>> s) &&& 16843009#32).getLsbD i = _
  rw [BitVec.getLsbD_and, BitVec.getLsbD_ushiftRight, Bool.and_comm]
  have foot : ∀ j : Fin 32, (16843009#32).getLsbD j.val = decide (j.val % 8 = 0) := by decide
  rw [foot ⟨i, hi⟩]
  by_cases h : i % 8 = 0
  · congr 1
    show x.getLsbD (s + i) = if i / 8 = 0 then _ else if i / 8 = 1 then _ else if i / 8 = 2 then _ else _
    split
    · congr 1; omega
    split
    · congr 1; omega
    split
    · congr 1; omega
    · congr 1; omega
  · rw [decide_eq_false h, Bool.false_and, Bool.false_and]

/-- One bit of each byte kept, times 56: the byte pattern of one or of zero. -/
theorem keep_bits (x : BitVec 32) (s : ℕ) (hs : s < 8) (t q : ℕ) (ht : t < 4) (hq : q < 8) :
    (IntOp.subi (IntOp.shli .vector (IntOp.andi (IntOp.shrui .vector x (BitVec.ofNat 32 s)) 16843009#32) 6#32)
      (IntOp.shli .vector (IntOp.andi (IntOp.shrui .vector x (BitVec.ofNat 32 s)) 16843009#32) 3#32)).getLsbD (8 * t + q)
      = (if x.getLsbD (8 * t + s) then 0x38#8 else 0#8).getLsbD q := by
  rw [kept_eq_feet x s hs, feet_scaled _ _ _ _ ⟨t, ht⟩ ⟨q, hq⟩]
  congr 1
  show (if (if t = 0 then _ else if t = 1 then _ else if t = 2 then _ else _) = true then _ else _) = _
  have e : (if t = 0 then x.getLsbD s else if t = 1 then x.getLsbD (8 + s) else if t = 2 then x.getLsbD (16 + s) else x.getLsbD (24 + s)) = x.getLsbD (8 * t + s) := by
    split
    · congr 1; omega
    split
    · congr 1; omega
    split
    · congr 1; omega
    · congr 1; omega
  rw [e]

theorem one_byte : Ideal.ofBits .fp8e4m3 0x38#8 = (1 : EReal) := by
  rw [show (1 : EReal) = ((1 : ℝ) : EReal) by norm_cast]
  simp [Ideal.ofBits, Ideal.e4m3fn, -EReal.coe_mul]; norm_num
/-- The byte `0x00` is the number zero in the eight-bit format. -/
theorem zero_byte : Ideal.ofBits .fp8e4m3 0#8 = (0 : EReal) := by
  simp [Ideal.ofBits, Ideal.e4m3fn]

/-- The mask tile of slot `n`: one where the mask's bit is set, zero elsewhere. -/
theorem tile_at (v44 : Vec Ideal S1x80x128 .i32) (n : Fin 20) (i k : Fin 128) :
    tile (F := Ideal) v44 n (ix3 0 i k)
      = if BitVec.getLsbD (v44 (ix3 0 ⟨4 * n.val + k.val / 32, by have := n.isLt; have := k.isLt; omega⟩ i) : BitVec 32) (k.val % 32) then (1 : EReal) else 0 := by
  have hn := n.isLt
  have hk := k.isLt
  have hi := i.isLt
  have word : dynamicGather 1 (packed (F := Ideal) ⟨n.val / 8, by omega⟩ v44) (laneRow (BitVec.ofNat 32 (16 * (n.val % 8)))) (ix2 ⟨i.val / 4, by omega⟩ k)
      = packed (F := Ideal) ⟨n.val / 8, by omega⟩ v44 (ix2 ⟨i.val / 4, by omega⟩ ⟨16 * (n.val % 8) + k.val / 8, by omega⟩) := by
    pointwise
    have e := laneRow_at ⟨n.val % 8, by omega⟩ ⟨i.val / 4, by omega⟩ k
    congr 2
    apply Fin.ext
    show (laneRow (BitVec.ofNat 32 (16 * (n.val % 8))) (ix2 ⟨i.val / 4, _⟩ k)).toNat % 128 = _
    rw [e, BitVec.toNat_ofNat]
    show (16 * (n.val % 8) + k.val / 8) % 2 ^ 32 % 128 = 16 * (n.val % 8) + k.val / 8
    omega
  have byte : ∀ X : IVec S32x128 32, X (ix2 ⟨i.val / 4, by omega⟩ k) = packed (F := Ideal) ⟨n.val / 8, by omega⟩ v44 (ix2 ⟨i.val / 4, by omega⟩ ⟨16 * (n.val % 8) + k.val / 8, by omega⟩) →
      bitcast S128x128 8 (subi (shli (andi (shrui X laneBit) (broadcast S32x128 16843009#32)) (broadcast S32x128 6#32))
        (shli (andi (shrui X laneBit) (broadcast S32x128 16843009#32)) (broadcast S32x128 3#32))) bitcasts_S32x128_w32_S128x128_w8 (ix2 i k)
      = if BitVec.getLsbD (v44 (ix3 0 ⟨4 * n.val + k.val / 32, by omega⟩ i) : BitVec 32) (k.val % 32) then 0x38#8 else 0#8 := by
    intro X hX
    apply BitVec.eq_of_getLsbD_eq
    intro q hq
    refine (bitcast_32_8_at _ _ i k q hq ⟨i.val / 4, by omega⟩ rfl).trans ?_
    show (IntOp.subi (IntOp.shli .vector (IntOp.andi (IntOp.shrui .vector (X (ix2 ⟨i.val / 4, _⟩ k)) (laneBit (ix2 ⟨i.val / 4, _⟩ k))) 16843009#32) 6#32)
      (IntOp.shli .vector (IntOp.andi (IntOp.shrui .vector (X (ix2 ⟨i.val / 4, _⟩ k)) (laneBit (ix2 ⟨i.val / 4, _⟩ k))) 16843009#32) 3#32)).getLsbD (8 * (i.val % 4) + q) = _
    rw [laneBit_at, keep_bits _ _ (Nat.mod_lt _ (by decide)) _ _ (Nat.mod_lt _ (by decide)) hq, hX,
      packed_at _ v44 _ _ _ (by omega) ⟨4 * n.val + k.val / 32, by omega⟩ i (k.val / 8 % 4)
        (by show i.val = 4 * (i.val / 4) + _; omega) (by show 4 * (4 * n.val + k.val / 32) + _ = 128 * (n.val / 8) + (16 * (n.val % 8) + k.val / 8); omega) (Nat.mod_lt _ (by decide))]
    have e : 8 * (k.val / 8 % 4) + (8 * (i.val % 4) + k.val % 8) % 8 = k.val % 32 := by omega
    rw [e]
  pointwise [tile, tileOf]
  rw [byte _ word]
  split
  · exact one_byte
  · exact zero_byte

end Cert.KernelIdeal.Hand

end
-- ==== Proof.KernelIdeal.Pieces.lean ====
module

public import proofs.«01_k».proof.Proof.KernelIdeal.Run
public import proofs.«01_k».proof.Proof.KernelIdeal.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD) (fh0 : BufAt (F := F) c hb0) (fh1 : BufAt (F := F) c hb1) (fh2 : BufAt (F := F) c hb2) (fh3 : BufAt (F := F) c hb3)
  (fh4 : BufAt (F := F) c hb4) (fh5 : BufAt (F := F) c hb5) (fh6 : BufAt (F := F) c hb6)
  (f0 : BufAt (F := F) c sc0) (f3 : BufAt (F := F) c sc3) (f4 : BufAt (F := F) c sc4)
  (f14 : BufAt (F := F) c sc14) (f15 : BufAt (F := F) c sc15) (f16 : BufAt (F := F) c sc16)
  (f1 : BufAt (F := F) c sc1) (f2 : BufAt (F := F) c sc2)

/-! ## What the body reads of its staged operands -/

/-- The masks of batch `b`. -/
def maskRead (b : Fin 3) : Vec F S1x80x128 .i32 :=
  View.readAt (Elt F) sc3.view (Rect.unit (s := S3x80x128) ![b.val, 0, 0] S1x80x128.size (by intro a; have := b.isLt; fin_cases a <;> simp <;> omega)).toLoadRect
    (View.write (Elt F) (Memref.whole cc0_scratch3).view f3 (ReadAs.same.apply (View.read (Elt F) (Memref.whole main_v1).view fh4)) Finset.univ)

/-- Row pointer `r` of batch `b`. -/
def ptr (b : Fin 3) (r : Fin 6) : BitVec 32 :=
  View.readAt (Elt F) sc1.view (Rect.unit (s := S3x6) ![b.val, r.val] S1x1.size (by intro a; have := b.isLt; have := r.isLt; fin_cases a <;> simp <;> omega)).toLoadRect
    (View.write (Elt F) (Memref.whole cc0_scratch1).view f1 (ReadAs.same.apply (View.read (Elt F) (Memref.whole main_arg2).view fh2)) Finset.univ)
    (Shape.Idx.first (show 0 < S1x1.numel by decide))

/-- The slots' order of writing: the all-zero slot 20 first. -/
def tileOff (i : Fin 21) : Fin 3 → ℕ := ![(i.val + 20) % 21, 0, 0]
theorem tileOff_inb (i : Fin 21) (a : Fin 3) : tileOff i a + S1x128x128.size a ≤ S21x128x128.size a := by
  have := Nat.mod_lt (i.val + 20) (show 0 < 21 by decide)
  fin_cases a <;> simp [tileOff] <;> omega
/-- The tile written `i`-th. -/
def tileVal (v44 : Vec F S1x80x128 .i32) : Fin 21 → FVec F S1x128x128 .fp8e4m3
  | ⟨0, _⟩ => k0_pay1
  | ⟨n + 1, h⟩ => tile v44 ⟨n, Nat.lt_of_succ_lt_succ h⟩
/-- A batch's tile stores, newest first. -/
def tileL (v44 : Vec F S1x80x128 .i32) : List (View.Piece (Elt F) S21x128x128 .fp8e4m3) :=
  View.tilePieces (s := S21x128x128) (e := .fp8e4m3) (Val := Elt F) S1x128x128.size tileOff tileOff_inb (tileVal v44) 21 (Nat.le_refl 21)

theorem S8_eq : kernelRun.sl.S8_21 c fh4 f3 = tileL (maskRead c fh4 f3 0) := rfl
theorem S9_eq : kernelRun.sl.S9_21 c fh4 f3 = tileL (maskRead c fh4 f3 1) := rfl
theorem S10_eq : kernelRun.sl.S10_21 c fh4 f3 = tileL (maskRead c fh4 f3 2) := rfl

/-! ## Degrees and their reciprocals -/

/-- The degrees of row block `r` of batch `b`. -/
def degAt (b : Fin 3) (r : Fin 5) : FVec F S1x128 .f32 := degOf (maskRead c fh4 f3 b) (ptr c fh2 f1 b r.castSucc) (ptr c fh2 f1 b r.succ)

def degOff (i : Fin 15) : Fin 2 → ℕ := ![i.val / 5, 128 * (i.val % 5)]
theorem degOff_inb (i : Fin 15) (a : Fin 2) : degOff i a + S1x128.size a ≤ S3x640.size a := by
  have := i.isLt
  fin_cases a <;> simp [degOff] <;> omega
/-- The stores of the degrees, newest first. -/
def degL : List (View.Piece (Elt F) S3x640 .f32) :=
  View.tilePieces (s := S3x640) (e := .f32) (Val := Elt F) S1x128.size degOff degOff_inb
    (fun i => shapeCast S1x128 (degAt c fh2 fh4 f3 f1 ⟨i.val / 5, by have := i.isLt; omega⟩ ⟨i.val % 5, Nat.mod_lt _ (by decide)⟩) shapeCasts_S1x128_S1x128) 15 (Nat.le_refl 15)

theorem S4_eq : kernelRun.sl.S4_15 c fh2 fh4 f3 f1 = degL c fh2 fh4 f3 f1 := rfl

/-- The reciprocals of batch `b`. -/
def rdAt (b : Fin 3) : FVec F S128x8 .f32 := rdAll (degAt c fh2 fh4 f3 f1 b 0) (degAt c fh2 fh4 f3 f1 b 1) (degAt c fh2 fh4 f3 f1 b 2)
  (degAt c fh2 fh4 f3 f1 b 3) (degAt c fh2 fh4 f3 f1 b 4)
def rdOff (i : Fin 5) : Fin 3 → ℕ := ![i.val, 0, 0]
theorem rdOff_inb (i : Fin 5) (a : Fin 3) : rdOff i a + S1x128x128.size a ≤ S5x128x128.size a := by
  have := i.isLt
  fin_cases a <;> simp [rdOff] <;> omega
/-- A batch's stores of its reciprocals, newest first. -/
def rdL (b : Fin 3) : List (View.Piece (Elt F) S5x128x128 .f32) :=
  View.tilePieces (s := S5x128x128) (e := .f32) (Val := Elt F) S1x128x128.size rdOff rdOff_inb (fun r => rdOf (rdAt c fh2 fh4 f3 f1 b) r) 5 (Nat.le_refl 5)

theorem S11_eq : kernelRun.sl.S11_5 c fh2 fh4 f3 f1 = rdL c fh2 fh4 f3 f1 0 := rfl
theorem S12_eq : kernelRun.sl.S12_5 c fh2 fh4 f3 f1 = rdL c fh2 fh4 f3 f1 1 := rfl
theorem S13_eq : kernelRun.sl.S13_5 c fh2 fh4 f3 f1 = rdL c fh2 fh4 f3 f1 2 := rfl

/-! ## The operands of one block of the aggregate -/

variable (hrp : ∀ i, (fh2 i : BitVec 32).toNat ≤ 20) (htc : ∀ i, (fh3 i : BitVec 32).toNat < 5)

theorem ptr_le (hrp : ∀ i, (fh2 i : BitVec 32).toNat ≤ 20) (b : Fin 3) (r : Fin 6) : (ptr c fh2 f1 b r).toNat ≤ 20 := by
  unfold ptr
  rw [View.readAt_apply, View.read_write_univ]
  exact hrp _

/-- The tile column beside the `j`-th tile of row block `r`. -/
def colAt (b : Fin 3) (r : Fin 5) (j : Fin 4) : BitVec 32 :=
  View.readAt (Elt F) sc2.view (Rect.unit (s := S3x20) ![b.val, (Scalar.indexCast (pickSel (BitVec.ofNat 32 j) (ptr c fh2 f1 b r.castSucc) (ptr c fh2 f1 b r.succ))).toNat]
      S1x1.size (pick_inb b.val b.isLt j _ _ (ptr_le c fh2 f1 hrp b _) (ptr_le c fh2 f1 hrp b _))).toLoadRect
    (View.write (Elt F) (Memref.whole cc0_scratch2).view f2 (ReadAs.same.apply (View.read (Elt F) (Memref.whole main_arg3).view fh3)) Finset.univ)
    (Shape.Idx.first (show 0 < S1x1.numel by decide))

theorem colAt_lt (htc : ∀ i, (fh3 i : BitVec 32).toNat < 5) (b : Fin 3) (r : Fin 5) (j : Fin 4) : (colAt c fh2 fh3 f1 f2 hrp b r j).toNat < 5 := by
  unfold colAt
  rw [View.readAt_apply, View.read_write_univ]
  exact htc _

theorem col_inb (v : BitVec 32) (hv : v.toNat < 5) (h : Fin 6) (a : Fin 2) :
    (![(Scalar.indexCast (Scalar.muli v 128#32)).toNat, 512 * h.val] : Fin 2 → ℕ) a + S128x512.size a ≤ S640x3072.size a := by
  have e := (colRow v hv).2
  have := h.isLt
  fin_cases a
  · change (Scalar.indexCast (Scalar.muli v 128#32)).toNat + 128 ≤ 640
    rw [e]; omega
  · change 512 * h.val + 512 ≤ 3072
    omega

/-- The `j`-th mask tile of row block `r`, read from the batch's tiles. -/
def aAt (M : Memref sig .tc .vmem S21x128x128 .fp8e4m3) (b : Fin 3) (r : Fin 5) (j : Fin 4) : Vec F S1x128x128 .fp8e4m3 :=
  View.readAt (Elt F) M.view (Rect.unit (s := S21x128x128) ![(Scalar.indexCast (slotSel (BitVec.ofNat 32 j) (ptr c fh2 f1 b r.castSucc) (ptr c fh2 f1 b r.succ))).toNat, 0, 0]
      S1x128x128.size (slot_inb j _ _ (ptr_le c fh2 f1 hrp b _) (ptr_le c fh2 f1 hrp b _))).toLoadRect
    (M.view.writes (Elt F) M.view.junk (tileL (maskRead c fh4 f3 b)))

/-- Batch `b`'s features, as copied in. -/
def xDma (b : Fin 3) : S640x3072.Idx → Elt F .fp8e4m3 :=
  ReadAs.same.apply (View.read (Elt F) (((Memref.whole main_arg0).slice (Rect.unit (s := S3x640x3072) ![b.val, 0, 0] S1x640x3072.size
    (by intro a; have := b.isLt; fin_cases a <;> simp <;> omega)) (fun _ => rfl)).squeeze S640x3072 squeezes_S1x640x3072_S640x3072).view fh0)

/-- The features the `j`-th tile of row block `r` meets, columns `512 h` on. -/
def xAt (M : Memref sig .tc .vmem S640x3072 .fp8e4m3) (b : Fin 3) (r : Fin 5) (j : Fin 4) (h : Fin 6) : Vec F S128x512 .fp8e4m3 :=
  View.readAt (Elt F) M.view (Rect.unit (s := S640x3072) ![(Scalar.indexCast (Scalar.muli (colAt c fh2 fh3 f1 f2 hrp b r j) 128#32)).toNat, 512 * h.val]
      S128x512.size (col_inb _ (colAt_lt c fh2 fh3 f1 f2 hrp htc b r j) h)).toLoadRect
    (M.view.writes (Elt F) M.view.junk [⟨Rect.unit (s := S640x3072) ![0, 0] S640x3072.size inb_S640x3072_S640x3072_0_0, xDma c fh0 b⟩])

/-- The column scales of batch `b`, columns `512 h` on. -/
def sAt (b : Fin 3) (h : Fin 6) : Vec F S1x512 .f32 :=
  View.readAt (Elt F) sc0.view (Rect.unit (s := S3x3072) ![b.val, 512 * h.val] S1x512.size
      (by intro a; have := b.isLt; have := h.isLt; fin_cases a <;> simp <;> omega)).toLoadRect
    (View.write (Elt F) (Memref.whole cc0_scratch0).view f0 (ReadAs.same.apply (View.read (Elt F) (Memref.whole main_arg1).view fh1)) Finset.univ)

/-- The block of the aggregate at row block `r`, columns `512 h` on. -/
def aggAt (MA : Memref sig .tc .vmem S21x128x128 .fp8e4m3) (MR : Memref sig .tc .vmem S5x128x128 .f32) (MX : Memref sig .tc .vmem S640x3072 .fp8e4m3)
    (b : Fin 3) (r : Fin 5) (h : Fin 6) : FVec F S128x512 .bf16 :=
  aggOf (aAt c fh2 fh4 f3 f1 hrp MA b r 0) (aAt c fh2 fh4 f3 f1 hrp MA b r 1) (aAt c fh2 fh4 f3 f1 hrp MA b r 2) (aAt c fh2 fh4 f3 f1 hrp MA b r 3)
    (MR.view.readCov (rdL c fh2 fh4 f3 f1 b) (Rect.unit (s := S5x128x128) ![r.val, 0, 0] S1x128x128.size (rdOff_inb r)).toLoadRect)
    (xAt c fh0 fh2 fh3 f1 f2 hrp htc MX b r 0 h) (xAt c fh0 fh2 fh3 f1 f2 hrp htc MX b r 1 h) (xAt c fh0 fh2 fh3 f1 f2 hrp htc MX b r 2 h)
    (xAt c fh0 fh2 fh3 f1 f2 hrp htc MX b r 3 h) (sAt c fh1 f0 b h)

def aggOff (i : Fin 30) : Fin 2 → ℕ := ![128 * (i.val / 6), 512 * (i.val % 6)]
theorem aggOff_inb (i : Fin 30) (a : Fin 2) : aggOff i a + S128x512.size a ≤ S640x3072.size a := by
  have := i.isLt
  fin_cases a <;> simp [aggOff] <;> omega
/-- The first `n` stores of a batch's aggregate, newest first. -/
def aggL (MA : Memref sig .tc .vmem S21x128x128 .fp8e4m3) (MR : Memref sig .tc .vmem S5x128x128 .f32) (MX : Memref sig .tc .vmem S640x3072 .fp8e4m3)
    (b : Fin 3) (n : ℕ) (hn : n ≤ 30) : List (View.Piece (Elt F) S640x3072 .bf16) :=
  View.tilePieces (s := S640x3072) (e := .bf16) (Val := Elt F) S128x512.size aggOff aggOff_inb
    (fun i => aggAt c fh0 fh1 fh2 fh3 fh4 f0 f3 f1 f2 hrp htc MA MR MX b ⟨i.val / 6, by have := i.isLt; omega⟩ ⟨i.val % 6, Nat.mod_lt _ (by decide)⟩) n hn

end Cert.KernelIdeal.Hand

end
-- ==== Proof.KernelIdeal.Out.lean ====
module

public import proofs.«01_k».proof.Proof.KernelIdeal.Pieces

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD) (fh0 : BufAt (F := F) c hb0) (fh1 : BufAt (F := F) c hb1) (fh2 : BufAt (F := F) c hb2) (fh3 : BufAt (F := F) c hb3)
  (fh4 : BufAt (F := F) c hb4) (fh5 : BufAt (F := F) c hb5) (fh6 : BufAt (F := F) c hb6)
  (f0 : BufAt (F := F) c sc0) (f3 : BufAt (F := F) c sc3) (f4 : BufAt (F := F) c sc4)
  (f14 : BufAt (F := F) c sc14) (f15 : BufAt (F := F) c sc15) (f16 : BufAt (F := F) c sc16)
  (f1 : BufAt (F := F) c sc1) (f2 : BufAt (F := F) c sc2)

variable (hrp : ∀ i, (fh2 i : BitVec 32).toNat ≤ 20) (htc : ∀ i, (fh3 i : BitVec 32).toNat < 5)

/-! ## The three batches' aggregates, store by store -/

theorem cons3 {α : Type} {a a' b b' d d' : α} {L L' : List α} (ha : a = a') (hb : b = b') (hd : d = d') (h : L = L') :
    a :: b :: d :: L = a' :: b' :: d' :: L' := by rw [ha, hb, hd, h]

/-- The first `n` stores of batch 0's aggregate. -/
abbrev agg0 (n : ℕ) (hn : n ≤ 30) : List (View.Piece (Elt F) S640x3072 .bf16) := aggL c fh0 fh1 fh2 fh3 fh4 f0 f3 f1 f2 hrp htc sc8 sc11 sc5 0 n hn
/-- The first `n` stores of batch 1's aggregate. -/
abbrev agg1 (n : ℕ) (hn : n ≤ 30) : List (View.Piece (Elt F) S640x3072 .bf16) := aggL c fh0 fh1 fh2 fh3 fh4 f0 f3 f1 f2 hrp htc sc9 sc12 sc6 1 n hn
/-- The first `n` stores of batch 2's aggregate. -/
abbrev agg2 (n : ℕ) (hn : n ≤ 30) : List (View.Piece (Elt F) S640x3072 .bf16) := aggL c fh0 fh1 fh2 fh3 fh4 f0 f3 f1 f2 hrp htc sc10 sc13 sc7 2 n hn

theorem S14_3_eq : kernelRun.sl.S14_3 c fh0 fh1 fh2 fh3 fh4 f0 f3 f1 f2 hrp htc = agg0 c fh0 fh1 fh2 fh3 fh4 f0 f3 f1 f2 hrp htc 3 (by decide) := rfl
theorem S14_6_eq : kernelRun.sl.S14_6 c fh0 fh1 fh2 fh3 fh4 f0 f3 f1 f2 hrp htc = agg0 c fh0 fh1 fh2 fh3 fh4 f0 f3 f1 f2 hrp htc 6 (by decide) := cons3 rfl rfl rfl (S14_3_eq c fh0 fh1 fh2 fh3 fh4 f0 f3 f1 f2 hrp htc)
theorem S14_9_eq : kernelRun.sl.S14_9 c fh0 fh1 fh2 fh3 fh4 f0 f3 f1 f2 hrp htc = agg0 c fh0 fh1 fh2 fh3 fh4 f0 f3 f1 f2 hrp htc 9 (by decide) := cons3 rfl rfl rfl (S14_6_eq c fh0 fh1 fh2 fh3 fh4 f0 f3 f1 f2 hrp htc)
theorem S14_12_eq : kernelRun.sl.S14_12 c fh0 fh1 fh2 fh3 fh4 f0 f3 f1 f2 hrp htc = agg0 c fh0 fh1 fh2 fh3 fh4 f0 f3 f1 f2 hrp htc 12 (by decide) := cons3 rfl rfl rfl (S14_9_eq c fh0 fh1 fh2 fh3 fh4 f0 f3 f1 f2 hrp htc)
theorem S14_15_eq : kernelRun.sl.S14_15 c fh0 fh1 fh2 fh3 fh4 f0 f3 f1 f2 hrp htc = agg0 c fh0 fh1 fh2 fh3 fh4 f0 f3 f1 f2 hrp htc 15 (by decide) := cons3 rfl rfl rfl (S14_12_eq c fh0 fh1 fh2 fh3 fh4 f0 f3 f1 f2 hrp htc)
theorem S14_18_eq : kernelRun.sl.S14_18 c fh0 fh1 fh2 fh3 fh4 f0 f3 f1 f2 hrp htc = agg0 c fh0 fh1 fh2 fh3 fh4 f0 f3 f1 f2 hrp htc 18 (by decide) := cons3 rfl rfl rfl (S14_15_eq c fh0 fh1 fh2 fh3 fh4 f0 f3 f1 f2 hrp htc)
theorem S14_21_eq : kernelRun.sl.S14_21 c fh0 fh1 fh2 fh3 fh4 f0 f3 f1 f2 hrp htc = agg0 c fh0 fh1 fh2 fh3 fh4 f0 f3 f1 f2 hrp htc 21 (by decide) := cons3 rfl rfl rfl (S14_18_eq c fh0 fh1 fh2 fh3 fh4 f0 f3 f1 f2 hrp htc)
theorem S14_24_eq : kernelRun.sl.S14_24 c fh0 fh1 fh2 fh3 fh4 f0 f3 f1 f2 hrp htc = agg0 c fh0 fh1 fh2 fh3 fh4 f0 f3 f1 f2 hrp htc 24 (by decide) := cons3 rfl rfl rfl (S14_21_eq c fh0 fh1 fh2 fh3 fh4 f0 f3 f1 f2 hrp htc)
theorem S14_27_eq : kernelRun.sl.S14_27 c fh0 fh1 fh2 fh3 fh4 f0 f3 f1 f2 hrp htc = agg0 c fh0 fh1 fh2 fh3 fh4 f0 f3 f1 f2 hrp htc 27 (by decide) := cons3 rfl rfl rfl (S14_24_eq c fh0 fh1 fh2 fh3 fh4 f0 f3 f1 f2 hrp htc)
theorem S14_30_eq : kernelRun.sl.S14_30 c fh0 fh1 fh2 fh3 fh4 f0 f3 f1 f2 hrp htc = agg0 c fh0 fh1 fh2 fh3 fh4 f0 f3 f1 f2 hrp htc 30 (by decide) := cons3 rfl rfl rfl (S14_27_eq c fh0 fh1 fh2 fh3 fh4 f0 f3 f1 f2 hrp htc)

theorem S15_3_eq : kernelRun.sl.S15_3 c fh0 fh1 fh2 fh3 fh4 f0 f3 f1 f2 hrp htc = agg1 c fh0 fh1 fh2 fh3 fh4 f0 f3 f1 f2 hrp htc 3 (by decide) := rfl
theorem S15_6_eq : kernelRun.sl.S15_6 c fh0 fh1 fh2 fh3 fh4 f0 f3 f1 f2 hrp htc = agg1 c fh0 fh1 fh2 fh3 fh4 f0 f3 f1 f2 hrp htc 6 (by decide) := cons3 rfl rfl rfl (S15_3_eq c fh0 fh1 fh2 fh3 fh4 f0 f3 f1 f2 hrp htc)
theorem S15_9_eq : kernelRun.sl.S15_9 c fh0 fh1 fh2 fh3 fh4 f0 f3 f1 f2 hrp htc = agg1 c fh0 fh1 fh2 fh3 fh4 f0 f3 f1 f2 hrp htc 9 (by decide) := cons3 rfl rfl rfl (S15_6_eq c fh0 fh1 fh2 fh3 fh4 f0 f3 f1 f2 hrp htc)
theorem S15_12_eq : kernelRun.sl.S15_12 c fh0 fh1 fh2 fh3 fh4 f0 f3 f1 f2 hrp htc = agg1 c fh0 fh1 fh2 fh3 fh4 f0 f3 f1 f2 hrp htc 12 (by decide) := cons3 rfl rfl rfl (S15_9_eq c fh0 fh1 fh2 fh3 fh4 f0 f3 f1 f2 hrp htc)
theorem S15_15_eq : kernelRun.sl.S15_15 c fh0 fh1 fh2 fh3 fh4 f0 f3 f1 f2 hrp htc = agg1 c fh0 fh1 fh2 fh3 fh4 f0 f3 f1 f2 hrp htc 15 (by decide) := cons3 rfl rfl rfl (S15_12_eq c fh0 fh1 fh2 fh3 fh4 f0 f3 f1 f2 hrp htc)
theorem S15_18_eq : kernelRun.sl.S15_18 c fh0 fh1 fh2 fh3 fh4 f0 f3 f1 f2 hrp htc = agg1 c fh0 fh1 fh2 fh3 fh4 f0 f3 f1 f2 hrp htc 18 (by decide) := cons3 rfl rfl rfl (S15_15_eq c fh0 fh1 fh2 fh3 fh4 f0 f3 f1 f2 hrp htc)
theorem S15_21_eq : kernelRun.sl.S15_21 c fh0 fh1 fh2 fh3 fh4 f0 f3 f1 f2 hrp htc = agg1 c fh0 fh1 fh2 fh3 fh4 f0 f3 f1 f2 hrp htc 21 (by decide) := cons3 rfl rfl rfl (S15_18_eq c fh0 fh1 fh2 fh3 fh4 f0 f3 f1 f2 hrp htc)
theorem S15_24_eq : kernelRun.sl.S15_24 c fh0 fh1 fh2 fh3 fh4 f0 f3 f1 f2 hrp htc = agg1 c fh0 fh1 fh2 fh3 fh4 f0 f3 f1 f2 hrp htc 24 (by decide) := cons3 rfl rfl rfl (S15_21_eq c fh0 fh1 fh2 fh3 fh4 f0 f3 f1 f2 hrp htc)
theorem S15_27_eq : kernelRun.sl.S15_27 c fh0 fh1 fh2 fh3 fh4 f0 f3 f1 f2 hrp htc = agg1 c fh0 fh1 fh2 fh3 fh4 f0 f3 f1 f2 hrp htc 27 (by decide) := cons3 rfl rfl rfl (S15_24_eq c fh0 fh1 fh2 fh3 fh4 f0 f3 f1 f2 hrp htc)
theorem S15_30_eq : kernelRun.sl.S15_30 c fh0 fh1 fh2 fh3 fh4 f0 f3 f1 f2 hrp htc = agg1 c fh0 fh1 fh2 fh3 fh4 f0 f3 f1 f2 hrp htc 30 (by decide) := cons3 rfl rfl rfl (S15_27_eq c fh0 fh1 fh2 fh3 fh4 f0 f3 f1 f2 hrp htc)

theorem S16_3_eq : kernelRun.sl.S16_3 c fh0 fh1 fh2 fh3 fh4 f0 f3 f1 f2 hrp htc = agg2 c fh0 fh1 fh2 fh3 fh4 f0 f3 f1 f2 hrp htc 3 (by decide) := rfl
theorem S16_6_eq : kernelRun.sl.S16_6 c fh0 fh1 fh2 fh3 fh4 f0 f3 f1 f2 hrp htc = agg2 c fh0 fh1 fh2 fh3 fh4 f0 f3 f1 f2 hrp htc 6 (by decide) := cons3 rfl rfl rfl (S16_3_eq c fh0 fh1 fh2 fh3 fh4 f0 f3 f1 f2 hrp htc)
theorem S16_9_eq : kernelRun.sl.S16_9 c fh0 fh1 fh2 fh3 fh4 f0 f3 f1 f2 hrp htc = agg2 c fh0 fh1 fh2 fh3 fh4 f0 f3 f1 f2 hrp htc 9 (by decide) := cons3 rfl rfl rfl (S16_6_eq c fh0 fh1 fh2 fh3 fh4 f0 f3 f1 f2 hrp htc)
theorem S16_12_eq : kernelRun.sl.S16_12 c fh0 fh1 fh2 fh3 fh4 f0 f3 f1 f2 hrp htc = agg2 c fh0 fh1 fh2 fh3 fh4 f0 f3 f1 f2 hrp htc 12 (by decide) := cons3 rfl rfl rfl (S16_9_eq c fh0 fh1 fh2 fh3 fh4 f0 f3 f1 f2 hrp htc)
theorem S16_15_eq : kernelRun.sl.S16_15 c fh0 fh1 fh2 fh3 fh4 f0 f3 f1 f2 hrp htc = agg2 c fh0 fh1 fh2 fh3 fh4 f0 f3 f1 f2 hrp htc 15 (by decide) := cons3 rfl rfl rfl (S16_12_eq c fh0 fh1 fh2 fh3 fh4 f0 f3 f1 f2 hrp htc)
theorem S16_18_eq : kernelRun.sl.S16_18 c fh0 fh1 fh2 fh3 fh4 f0 f3 f1 f2 hrp htc = agg2 c fh0 fh1 fh2 fh3 fh4 f0 f3 f1 f2 hrp htc 18 (by decide) := cons3 rfl rfl rfl (S16_15_eq c fh0 fh1 fh2 fh3 fh4 f0 f3 f1 f2 hrp htc)
theorem S16_21_eq : kernelRun.sl.S16_21 c fh0 fh1 fh2 fh3 fh4 f0 f3 f1 f2 hrp htc = agg2 c fh0 fh1 fh2 fh3 fh4 f0 f3 f1 f2 hrp htc 21 (by decide) := cons3 rfl rfl rfl (S16_18_eq c fh0 fh1 fh2 fh3 fh4 f0 f3 f1 f2 hrp htc)
theorem S16_24_eq : kernelRun.sl.S16_24 c fh0 fh1 fh2 fh3 fh4 f0 f3 f1 f2 hrp htc = agg2 c fh0 fh1 fh2 fh3 fh4 f0 f3 f1 f2 hrp htc 24 (by decide) := cons3 rfl rfl rfl (S16_21_eq c fh0 fh1 fh2 fh3 fh4 f0 f3 f1 f2 hrp htc)
theorem S16_27_eq : kernelRun.sl.S16_27 c fh0 fh1 fh2 fh3 fh4 f0 f3 f1 f2 hrp htc = agg2 c fh0 fh1 fh2 fh3 fh4 f0 f3 f1 f2 hrp htc 27 (by decide) := cons3 rfl rfl rfl (S16_24_eq c fh0 fh1 fh2 fh3 fh4 f0 f3 f1 f2 hrp htc)
theorem S16_30_eq : kernelRun.sl.S16_30 c fh0 fh1 fh2 fh3 fh4 f0 f3 f1 f2 hrp htc = agg2 c fh0 fh1 fh2 fh3 fh4 f0 f3 f1 f2 hrp htc 30 (by decide) := cons3 rfl rfl rfl (S16_27_eq c fh0 fh1 fh2 fh3 fh4 f0 f3 f1 f2 hrp htc)

/-! ## The copies out -/

/-- What one copy out carries: half a row block of a batch's aggregate after the stores `L`. -/
def chunk (M : Memref sig .tc .vmem S640x3072 .bf16) (f : M.view.ty.Contents (Elt F)) (r : Fin 5) (h : Fin 2) (L : List (View.Piece (Elt F) S640x3072 .bf16)) :
    S128x1536.Idx → Elt F .bf16 :=
  ReadAs.same.apply (View.read (Elt F) (M.slice (Rect.unit (s := S640x3072) ![128 * r.val, 1536 * h.val] S128x1536.size
    (by intro a; have := r.isLt; have := h.isLt; fin_cases a <;> simp <;> omega)) (fun _ => rfl)).view (M.view.writes (Elt F) f L))

/-- Where it lands. -/
abbrev dest (b : Fin 3) (r : Fin 5) (h : Fin 2) : Memref sig .tc .hbm S128x1536 .bf16 :=
  ((Memref.whole main_v2_0).slice (Rect.unit (s := S3x640x3072) ![b.val, 128 * r.val, 1536 * h.val] S1x128x1536.size
    (by intro a; have := b.isLt; have := r.isLt; have := h.isLt; fin_cases a <;> simp <;> omega)) (fun _ => rfl)).squeeze S128x1536 squeezes_S1x128x1536_S128x1536

/-- One copy out, landed over `f`. -/
def land (b : Fin 3) (r : Fin 5) (h : Fin 2) (f : BufAt (F := F) c hb5) (d : S128x1536.Idx → Elt F .bf16) : BufAt (F := F) c hb5 :=
  View.write (Elt F) (dest b r h).view f d Finset.univ

/-- The `i`-th copy's data. -/
def outData (i : Fin 30) : S128x1536.Idx → Elt F .bf16 :=
  have h := i.isLt
  match i.val / 10 with
  | 0 => chunk sc14 f14 ⟨i.val / 2 % 5, Nat.mod_lt _ (by decide)⟩ ⟨i.val % 2, Nat.mod_lt _ (by decide)⟩ (agg0 c fh0 fh1 fh2 fh3 fh4 f0 f3 f1 f2 hrp htc (3 * (i.val % 10) + 3) (by omega))
  | 1 => chunk sc15 f15 ⟨i.val / 2 % 5, Nat.mod_lt _ (by decide)⟩ ⟨i.val % 2, Nat.mod_lt _ (by decide)⟩ (agg1 c fh0 fh1 fh2 fh3 fh4 f0 f3 f1 f2 hrp htc (3 * (i.val % 10) + 3) (by omega))
  | _ => chunk sc16 f16 ⟨i.val / 2 % 5, Nat.mod_lt _ (by decide)⟩ ⟨i.val % 2, Nat.mod_lt _ (by decide)⟩ (agg2 c fh0 fh1 fh2 fh3 fh4 f0 f3 f1 f2 hrp htc (3 * (i.val % 10) + 3) (by omega))

/-- The first result after the first `n` copies. -/
def outW : (n : ℕ) → n ≤ 30 → BufAt (F := F) c hb5
  | 0, _ => fh5
  | n + 1, hn => land c ⟨n / 10, by omega⟩ ⟨n / 2 % 5, Nat.mod_lt _ (by decide)⟩ ⟨n % 2, Nat.mod_lt _ (by decide)⟩ (outW n (Nat.le_of_succ_le hn))
      (outData c fh0 fh1 fh2 fh3 fh4 f0 f3 f14 f15 f16 f1 f2 hrp htc ⟨n, hn⟩)

theorem land_eq {b : Fin 3} {r : Fin 5} {h : Fin 2} {f f' : BufAt (F := F) c hb5} {d d' : S128x1536.Idx → Elt F .bf16} (hd : d = d') (hf : f = f') :
    land c b r h f d = land c b r h f' d' := by rw [hd, hf]

/-- The first result at the end of the body. -/
theorem out_eq (f5 : BufAt (F := F) c sc5) (f6 : BufAt (F := F) c sc6) (f7 : BufAt (F := F) c sc7) (f8 : BufAt (F := F) c sc8) (f9 : BufAt (F := F) c sc9)
    (f10 : BufAt (F := F) c sc10) (f11 : BufAt (F := F) c sc11) (f12 : BufAt (F := F) c sc12) (f13 : BufAt (F := F) c sc13) :
    (kernelRun (F := F) c fh0 fh1 fh2 fh3 fh4 fh5 fh6 f0 f3 f4 f5 f6 f7 f8 f9 f10 f11 f12 f13 f14 f15 f16 f1 f2 hrp htc).1.1
      = outW c fh0 fh1 fh2 fh3 fh4 fh5 f0 f3 f14 f15 f16 f1 f2 hrp htc 30 (Nat.le_refl 30) :=
  land_eq c (b := 2) (r := 4) (h := 1) (congrArg (chunk sc16 f16 4 1) (S16_30_eq c fh0 fh1 fh2 fh3 fh4 f0 f3 f1 f2 hrp htc)) <|
  land_eq c (b := 2) (r := 4) (h := 0) (congrArg (chunk sc16 f16 4 0) (S16_27_eq c fh0 fh1 fh2 fh3 fh4 f0 f3 f1 f2 hrp htc)) <|
  land_eq c (b := 2) (r := 3) (h := 1) (congrArg (chunk sc16 f16 3 1) (S16_24_eq c fh0 fh1 fh2 fh3 fh4 f0 f3 f1 f2 hrp htc)) <|
  land_eq c (b := 2) (r := 3) (h := 0) (congrArg (chunk sc16 f16 3 0) (S16_21_eq c fh0 fh1 fh2 fh3 fh4 f0 f3 f1 f2 hrp htc)) <|
  land_eq c (b := 2) (r := 2) (h := 1) (congrArg (chunk sc16 f16 2 1) (S16_18_eq c fh0 fh1 fh2 fh3 fh4 f0 f3 f1 f2 hrp htc)) <|
  land_eq c (b := 2) (r := 2) (h := 0) (congrArg (chunk sc16 f16 2 0) (S16_15_eq c fh0 fh1 fh2 fh3 fh4 f0 f3 f1 f2 hrp htc)) <|
  land_eq c (b := 2) (r := 1) (h := 1) (congrArg (chunk sc16 f16 1 1) (S16_12_eq c fh0 fh1 fh2 fh3 fh4 f0 f3 f1 f2 hrp htc)) <|
  land_eq c (b := 2) (r := 1) (h := 0) (congrArg (chunk sc16 f16 1 0) (S16_9_eq c fh0 fh1 fh2 fh3 fh4 f0 f3 f1 f2 hrp htc)) <|
  land_eq c (b := 2) (r := 0) (h := 1) (congrArg (chunk sc16 f16 0 1) (S16_6_eq c fh0 fh1 fh2 fh3 fh4 f0 f3 f1 f2 hrp htc)) <|
  land_eq c (b := 2) (r := 0) (h := 0) (congrArg (chunk sc16 f16 0 0) (S16_3_eq c fh0 fh1 fh2 fh3 fh4 f0 f3 f1 f2 hrp htc)) <|
  land_eq c (b := 1) (r := 4) (h := 1) (congrArg (chunk sc15 f15 4 1) (S15_30_eq c fh0 fh1 fh2 fh3 fh4 f0 f3 f1 f2 hrp htc)) <|
  land_eq c (b := 1) (r := 4) (h := 0) (congrArg (chunk sc15 f15 4 0) (S15_27_eq c fh0 fh1 fh2 fh3 fh4 f0 f3 f1 f2 hrp htc)) <|
  land_eq c (b := 1) (r := 3) (h := 1) (congrArg (chunk sc15 f15 3 1) (S15_24_eq c fh0 fh1 fh2 fh3 fh4 f0 f3 f1 f2 hrp htc)) <|
  land_eq c (b := 1) (r := 3) (h := 0) (congrArg (chunk sc15 f15 3 0) (S15_21_eq c fh0 fh1 fh2 fh3 fh4 f0 f3 f1 f2 hrp htc)) <|
  land_eq c (b := 1) (r := 2) (h := 1) (congrArg (chunk sc15 f15 2 1) (S15_18_eq c fh0 fh1 fh2 fh3 fh4 f0 f3 f1 f2 hrp htc)) <|
  land_eq c (b := 1) (r := 2) (h := 0) (congrArg (chunk sc15 f15 2 0) (S15_15_eq c fh0 fh1 fh2 fh3 fh4 f0 f3 f1 f2 hrp htc)) <|
  land_eq c (b := 1) (r := 1) (h := 1) (congrArg (chunk sc15 f15 1 1) (S15_12_eq c fh0 fh1 fh2 fh3 fh4 f0 f3 f1 f2 hrp htc)) <|
  land_eq c (b := 1) (r := 1) (h := 0) (congrArg (chunk sc15 f15 1 0) (S15_9_eq c fh0 fh1 fh2 fh3 fh4 f0 f3 f1 f2 hrp htc)) <|
  land_eq c (b := 1) (r := 0) (h := 1) (congrArg (chunk sc15 f15 0 1) (S15_6_eq c fh0 fh1 fh2 fh3 fh4 f0 f3 f1 f2 hrp htc)) <|
  land_eq c (b := 1) (r := 0) (h := 0) (congrArg (chunk sc15 f15 0 0) (S15_3_eq c fh0 fh1 fh2 fh3 fh4 f0 f3 f1 f2 hrp htc)) <|
  land_eq c (b := 0) (r := 4) (h := 1) (congrArg (chunk sc14 f14 4 1) (S14_30_eq c fh0 fh1 fh2 fh3 fh4 f0 f3 f1 f2 hrp htc)) <|
  land_eq c (b := 0) (r := 4) (h := 0) (congrArg (chunk sc14 f14 4 0) (S14_27_eq c fh0 fh1 fh2 fh3 fh4 f0 f3 f1 f2 hrp htc)) <|
  land_eq c (b := 0) (r := 3) (h := 1) (congrArg (chunk sc14 f14 3 1) (S14_24_eq c fh0 fh1 fh2 fh3 fh4 f0 f3 f1 f2 hrp htc)) <|
  land_eq c (b := 0) (r := 3) (h := 0) (congrArg (chunk sc14 f14 3 0) (S14_21_eq c fh0 fh1 fh2 fh3 fh4 f0 f3 f1 f2 hrp htc)) <|
  land_eq c (b := 0) (r := 2) (h := 1) (congrArg (chunk sc14 f14 2 1) (S14_18_eq c fh0 fh1 fh2 fh3 fh4 f0 f3 f1 f2 hrp htc)) <|
  land_eq c (b := 0) (r := 2) (h := 0) (congrArg (chunk sc14 f14 2 0) (S14_15_eq c fh0 fh1 fh2 fh3 fh4 f0 f3 f1 f2 hrp htc)) <|
  land_eq c (b := 0) (r := 1) (h := 1) (congrArg (chunk sc14 f14 1 1) (S14_12_eq c fh0 fh1 fh2 fh3 fh4 f0 f3 f1 f2 hrp htc)) <|
  land_eq c (b := 0) (r := 1) (h := 0) (congrArg (chunk sc14 f14 1 0) (S14_9_eq c fh0 fh1 fh2 fh3 fh4 f0 f3 f1 f2 hrp htc)) <|
  land_eq c (b := 0) (r := 0) (h := 1) (congrArg (chunk sc14 f14 0 1) (S14_6_eq c fh0 fh1 fh2 fh3 fh4 f0 f3 f1 f2 hrp htc)) <|
  land_eq c (b := 0) (r := 0) (h := 0) (congrArg (chunk sc14 f14 0 0) (S14_3_eq c fh0 fh1 fh2 fh3 fh4 f0 f3 f1 f2 hrp htc)) <|
  rfl

/-- The second result at the end of the body. -/
theorem deg_eq (f5 : BufAt (F := F) c sc5) (f6 : BufAt (F := F) c sc6) (f7 : BufAt (F := F) c sc7) (f8 : BufAt (F := F) c sc8) (f9 : BufAt (F := F) c sc9)
    (f10 : BufAt (F := F) c sc10) (f11 : BufAt (F := F) c sc11) (f12 : BufAt (F := F) c sc12) (f13 : BufAt (F := F) c sc13) :
    (kernelRun (F := F) c fh0 fh1 fh2 fh3 fh4 fh5 fh6 f0 f3 f4 f5 f6 f7 f8 f9 f10 f11 f12 f13 f14 f15 f16 f1 f2 hrp htc).1.2
      = View.write (Elt F) (Memref.whole main_v2_1).view fh6 (ReadAs.same.apply (View.read (Elt F) (Memref.whole cc0_scratch4).view
          (sc4.view.writes (Elt F) f4 (degL c fh2 fh4 f3 f1)))) Finset.univ :=
  rfl

end Cert.KernelIdeal.Hand

end
-- ==== Proof.Math.lean ====
module

public import Mathlib.Data.EReal.Basic
public import Mathlib.Algebra.BigOperators.Fin
public import Mathlib.Algebra.BigOperators.Group.Finset.Basic
public import Idealize.ShloMosaic.PureOps.Ideal
public import Idealize.ShloMosaic.Lib.WordArith
public import Idealize.ShloMosaic.Lib.IdealHost

@[expose] public section

set_option maxRecDepth 16384

noncomputable section

namespace Cert.Mean

open Idealize.ShloMosaic

/-! ## What both programs compute

`x` are the features, `s` the column scales, `rp` the row pointers, `tc` the tile columns, `bit` the mask bits. -/

variable (x : Fin 3 → Fin 640 → Fin 3072 → EReal) (s : Fin 3 → Fin 3072 → EReal) (rp : Fin 3 → Fin 6 → ℕ) (tc : Fin 3 → Fin 20 → Fin 5)
  (bit : Fin 3 → Fin 20 → Fin 128 → Fin 128 → Bool)

/-- A mask bit as a number. -/
def one (b : Bool) : EReal := if b then 1 else 0

/-- The features' row that lane `k` of slot `n` stands for. -/
def rowOf (b : Fin 3) (n : Fin 20) (k : Fin 128) : Fin 640 := ⟨128 * (tc b n).val + k.val, by have := (tc b n).isLt; have := k.isLt; omega⟩

/-- How many bits row `i` of slot `n`'s tile has. -/
def tileDeg (b : Fin 3) (n : Fin 20) (i : Fin 128) : EReal := ∑ k : Fin 128, one (bit b n i k)
/-- The sum of the features that row `i` of slot `n`'s tile selects. -/
def tilePart (b : Fin 3) (n : Fin 20) (i : Fin 128) (d : Fin 3072) : EReal := ∑ k : Fin 128, one (bit b n i k) * x b (rowOf tc b n k) d
/-- Slot `n` belongs to row block `r`. -/
def InRow (b : Fin 3) (r : Fin 5) (n : Fin 20) : Prop := rp b r.castSucc ≤ n.val ∧ n.val < rp b r.succ
instance (b : Fin 3) (r : Fin 5) (n : Fin 20) : Decidable (InRow rp b r n) := inferInstanceAs (Decidable (_ ∧ _))
/-- The degree of row `i` of row block `r`. -/
def deg (b : Fin 3) (r : Fin 5) (i : Fin 128) : EReal := ∑ n : Fin 20, if InRow rp b r n then tileDeg bit b n i else 0
/-- The neighbours' features, summed. -/
def agg (b : Fin 3) (r : Fin 5) (i : Fin 128) (d : Fin 3072) : EReal := ∑ n : Fin 20, if InRow rp b r n then tilePart x tc bit b n i d else 0
/-- The reciprocal of a degree, zero where the degree is zero. -/
def recip (D : EReal) : EReal := if 0 < D then Ideal.div 1 (if 0 < D then D else 1) else 0
/-- The neighbours' mean. -/
def mean (b : Fin 3) (r : Fin 5) (i : Fin 128) (d : Fin 3072) : EReal :=
  agg x rp tc bit b r i d * s b d * recip (deg rp bit b r i)

/-- The mean as a quotient. -/
theorem mul_recip (a D : EReal) : a * recip D = if 0 < D then Ideal.div a (if 0 < D then D else 1) else 0 := by
  unfold recip
  split
  · next h => exact Ideal.mul_one_div h.ne'
  · exact mul_zero a

/-! ## Sums in blocks -/

theorem sum_blocks {M : Type} [AddCommMonoid M] {A B N : ℕ} (hN : A * B = N) (f : Fin N → M) :
    ∑ q, f q = ∑ a : Fin A, ∑ b : Fin B, f ⟨B * a.val + b.val, by
      have ha := a.isLt; have hb := b.isLt
      calc B * a.val + b.val < B * a.val + B := by omega
        _ = B * (a.val + 1) := by ring
        _ ≤ B * A := Nat.mul_le_mul_left _ ha
        _ = N := by rw [Nat.mul_comm]; exact hN⟩ := by
  subst hN
  rw [← Equiv.sum_comp finProdFinEquiv, Fintype.sum_prod_type]
  refine Finset.sum_congr rfl fun a _ => Finset.sum_congr rfl fun b _ => ?_
  exact congrArg f (Fin.ext (Nat.add_comm _ _))

/-- A run of at most four slots, summed from its start. -/
theorem sum_run {M : Type} [AddCommMonoid M] (T : Fin 20 → M) (v w : ℕ) (hvw : v ≤ w) (hw4 : w ≤ v + 4) (hw : w ≤ 20) :
    (∑ j : Fin 4, if h : v + j.val < w then T ⟨v + j.val, by omega⟩ else 0) = ∑ n : Fin 20, if v ≤ n.val ∧ n.val < w then T n else 0 := by
  classical
  rw [← Finset.sum_filter]
  have h1 : (∑ j : Fin 4, if h : v + j.val < w then T ⟨v + j.val, by omega⟩ else 0)
      = ∑ j ∈ (Finset.univ : Finset (Fin 4)).filter (fun j => v + j.val < w), T ⟨(v + j.val) % 20, Nat.mod_lt _ (by decide)⟩ := by
    rw [Finset.sum_filter]
    refine Finset.sum_congr rfl fun j _ => ?_
    split
    · congr 1; apply Fin.ext; show v + j.val = (v + j.val) % 20; omega
    · rfl
  rw [h1]
  refine Finset.sum_bij (fun j _ => ⟨(v + j.val) % 20, Nat.mod_lt _ (by decide)⟩) ?_ ?_ ?_ ?_
  · intro j hj
    simp only [Finset.mem_filter, Finset.mem_univ, true_and] at hj ⊢
    omega
  · intro j hj j' hj' e
    simp only [Finset.mem_filter, Finset.mem_univ, true_and] at hj hj'
    simp only [Fin.mk.injEq] at e
    apply Fin.ext; omega
  · intro n hn
    simp only [Finset.mem_filter, Finset.mem_univ, true_and] at hn
    refine ⟨⟨n.val - v, by omega⟩, ?_, ?_⟩
    · simp only [Finset.mem_filter, Finset.mem_univ, true_and]; omega
    · apply Fin.ext; show (v + (n.val - v)) % 20 = n.val; omega
  · intro j _; rfl

/-- A word's population count as a number. -/
theorem popcount_eq (w : BitVec 32) : (((IntOp.ctpop w).toInt : ℝ) : EReal) = ∑ t : Fin 32, one (w.getLsbD t.val) := by
  have h32 : ((IntOp.ctpop w).toInt : ℤ) = ((IntOp.ctpop w).toNat : ℤ) := by
    have := WordArith.toNat_ctpop_le w
    rw [BitVec.toInt_eq_toNat_cond]
    split <;> omega
  rw [h32, WordArith.toNat_ctpop]
  have e : ∀ n : ℕ, (((((List.range n).filter fun i => w.getLsbD i).length : ℤ) : ℝ) : EReal) = ∑ t ∈ Finset.range n, one (w.getLsbD t) := by
    intro n
    induction n with
    | zero => simp
    | succ n ih =>
      rw [List.range_succ, List.filter_append, List.length_append, Finset.sum_range_succ, ← ih]
      unfold one
      cases h : w.getLsbD n <;> simp [h]
  exact (e 32).trans (Fin.sum_univ_eq_sum_range (fun t => one (w.getLsbD t)) 32).symm

end Cert.Mean
end
-- ==== Proof.KernelIdeal.Cells.lean ====
module

public import proofs.«01_k».proof.Proof.KernelIdeal.Spec
public import proofs.«01_k».proof.Proof.Math

@[expose] public section

set_option maxRecDepth 16384

noncomputable section

namespace Cert.KernelIdeal.Hand

open Cert.KernelIdeal Cert.KernelIdeal.Gen
open Idealize.ShloMosaic Cert.Mean

/-! ## What the body's vector expressions hold, element by element -/

theorem row_ge : ∀ (x : Fin 80) (v : Fin 21), IntOp.cmpi CmpIPredicate.sge (BitVec.ofNat 32 x.val) (Scalar.muli 4#32 (BitVec.ofNat 32 v.val)) = if v.val ≤ x.val / 4 then 1#1 else 0#1 := by
  decide +kernel
theorem row_lt : ∀ (x : Fin 80) (v : Fin 21), IntOp.cmpi CmpIPredicate.slt (BitVec.ofNat 32 x.val) (Scalar.muli 4#32 (BitVec.ofNat 32 v.val)) = if x.val / 4 < v.val then 1#1 else 0#1 := by
  decide +kernel

theorem row_in (x : Fin 80) (v w : BitVec 32) (hv : v.toNat ≤ 20) (hw : w.toNat ≤ 20) (p q : BitVec 32) :
    Scalar.select (IntOp.andi (IntOp.cmpi CmpIPredicate.sge (BitVec.ofNat 32 x.val) (Scalar.muli 4#32 v))
      (IntOp.cmpi CmpIPredicate.slt (BitVec.ofNat 32 x.val) (Scalar.muli 4#32 w))) p q = if v.toNat ≤ x.val / 4 ∧ x.val / 4 < w.toNat then p else q := by
  have h1 := row_ge x ⟨v.toNat, by omega⟩
  have h2 := row_lt x ⟨w.toNat, by omega⟩
  simp only [BitVec.ofNat_toNat, BitVec.setWidth_eq] at h1 h2
  rw [h1, h2]
  by_cases a : v.toNat ≤ x.val / 4 <;> by_cases b : x.val / 4 < w.toNat <;> simp [a, b, Scalar.select, IntOp.andi]

/-- The degrees of one row block. -/
theorem degOf_at (v44 : Vec Ideal S1x80x128 .i32) (v w : BitVec 32) (hv : v.toNat ≤ 20) (hw : w.toNat ≤ 20) (i : Fin 128) :
    degOf (F := Ideal) v44 v w (ix2 0 i) = ∑ n : Fin 20, if v.toNat ≤ n.val ∧ n.val < w.toNat then
      ∑ k : Fin 128, one (BitVec.getLsbD (v44 (ix3 0 ⟨4 * n.val + k.val / 32, by have := n.isLt; have := k.isLt; omega⟩ i) : BitVec 32) (k.val % 32)) else 0 := by
  pointwise [degOf]
  rw [sum_blocks (A := 20) (B := 4) rfl]
  refine Finset.sum_congr rfl fun n _ => ?_
  have hn := n.isLt
  by_cases hc : v.toNat ≤ n.val ∧ n.val < w.toNat
  · rw [if_pos hc, sum_blocks (A := 4) (B := 32) rfl]
    refine Finset.sum_congr rfl fun t _ => ?_
    have ht := t.isLt
    rw [row_in ⟨4 * n.val + t.val, by omega⟩ v w hv hw, if_pos (by show v.toNat ≤ (4 * n.val + t.val) / 4 ∧ (4 * n.val + t.val) / 4 < w.toNat; omega)]
    refine (popcount_eq _).trans (Finset.sum_congr rfl fun u _ => ?_)
    have hu := u.isLt
    have e1 : (32 * t.val + u.val) / 32 = t.val := by omega
    have e2 : (32 * t.val + u.val) % 32 = u.val := by omega
    simp only [e1, e2]
  · rw [if_neg hc]
    refine Finset.sum_eq_zero fun t _ => ?_
    have ht := t.isLt
    rw [row_in ⟨4 * n.val + t.val, by omega⟩ v w hv hw, if_neg (by show ¬ (v.toNat ≤ (4 * n.val + t.val) / 4 ∧ (4 * n.val + t.val) / 4 < w.toNat); omega)]
    show (((0#32 : BitVec 32).toInt : ℝ) : EReal) = 0
    simp

/-- The reciprocals of one row block. -/
theorem rd_at (D : Fin 5 → FVec Ideal S1x128 .f32) (r : Fin 5) (i k : Fin 128) :
    rdOf (F := Ideal) (rdAll (D 0) (D 1) (D 2) (D 3) (D 4)) r (ix3 0 i k) = recip (D r (ix2 0 i)) := by
  pointwise [rdOf, rdAll]
  unfold recip
  fin_cases r <;> rfl

/-- One block of the aggregate. -/
theorem aggOf_at (A : Fin 4 → Vec Ideal S1x128x128 .fp8e4m3) (rd : Vec Ideal S1x128x128 .f32) (X : Fin 4 → Vec Ideal S128x512 .fp8e4m3)
    (s : Vec Ideal S1x512 .f32) (R : EReal) (i : Fin 128) (d : Fin 512) (hR : ∀ k, rd (ix3 0 i k) = R) :
    aggOf (F := Ideal) (A 0) (A 1) (A 2) (A 3) rd (X 0) (X 1) (X 2) (X 3) s (ix2 i d)
      = (∑ j : Fin 4, ∑ k : Fin 128, (A j (ix3 0 i k) : EReal) * X j (ix2 k d)) * s (ix2 0 d) * R := by
  pointwise [aggOf]
  simp only [hR, dite_eq_ite, ite_self]
  congr 2
  rw [sum_blocks (A := 4) (B := 128) rfl, Fin.sum_univ_four, Fin.sum_univ_four]
  refine congrArg₂ (· + ·) (congrArg₂ (· + ·) (congrArg₂ (· + ·) ?_ ?_) ?_) ?_ <;> refine Finset.sum_congr rfl fun k _ => ?_
  · have h0 : 128 * (0 : Fin 4).val + k.val < 128 := by show 128 * 0 + k.val < 128; omega
    have e : 128 * (0 : Fin 4).val + k.val = k.val := by show 128 * 0 + k.val = _; omega
    rw [dif_pos h0, dif_pos h0]
    simp only [e]
  · have h0 : ¬ 128 * (1 : Fin 4).val + k.val < 128 := by show ¬ 128 * 1 + k.val < 128; omega
    have h1 : 128 * (1 : Fin 4).val + k.val - 128 < 128 := by show 128 * 1 + k.val - 128 < 128; omega
    have e : 128 * (1 : Fin 4).val + k.val - 128 = k.val := by show 128 * 1 + k.val - 128 = _; omega
    rw [dif_neg h0, dif_neg h0, dif_pos h1, dif_pos h1]
    simp only [e]
  · have h0 : ¬ 128 * (2 : Fin 4).val + k.val < 128 := by show ¬ 128 * 2 + k.val < 128; omega
    have h1 : ¬ 128 * (2 : Fin 4).val + k.val - 128 < 128 := by show ¬ 128 * 2 + k.val - 128 < 128; omega
    have h2 : 128 * (2 : Fin 4).val + k.val - 128 - 128 < 128 := by show 128 * 2 + k.val - 128 - 128 < 128; omega
    have e : 128 * (2 : Fin 4).val + k.val - 128 - 128 = k.val := by show 128 * 2 + k.val - 128 - 128 = _; omega
    rw [dif_neg h0, dif_neg h0, dif_neg h1, dif_neg h1, dif_pos h2, dif_pos h2]
    simp only [e]
  · have h0 : ¬ 128 * (3 : Fin 4).val + k.val < 128 := by show ¬ 128 * 3 + k.val < 128; omega
    have h1 : ¬ 128 * (3 : Fin 4).val + k.val - 128 < 128 := by show ¬ 128 * 3 + k.val - 128 < 128; omega
    have h2 : ¬ 128 * (3 : Fin 4).val + k.val - 128 - 128 < 128 := by show ¬ 128 * 3 + k.val - 128 - 128 < 128; omega
    have e : 128 * (3 : Fin 4).val + k.val - 128 - 128 - 128 = k.val := by show 128 * 3 + k.val - 128 - 128 - 128 = _; omega
    rw [dif_neg h0, dif_neg h0, dif_neg h1, dif_neg h1, dif_neg h2, dif_neg h2]
    simp only [e]

end Cert.KernelIdeal.Hand
end
-- ==== Proof.KernelIdeal.Reads.lean ====
module

public import proofs.«01_k».proof.Proof.KernelIdeal.Pieces
public import proofs.«01_k».proof.Proof.KernelIdeal.Cells
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Cert.Mean

variable {F : FTy → Type} [FloatOps F]

variable (c : Dev nD) (fh0 : BufAt (F := F) c hb0) (fh1 : BufAt (F := F) c hb1) (fh2 : BufAt (F := F) c hb2) (fh3 : BufAt (F := F) c hb3)
  (fh4 : BufAt (F := F) c hb4) (fh5 : BufAt (F := F) c hb5) (fh6 : BufAt (F := F) c hb6)
  (f0 : BufAt (F := F) c sc0) (f3 : BufAt (F := F) c sc3) (f4 : BufAt (F := F) c sc4)
  (f14 : BufAt (F := F) c sc14) (f15 : BufAt (F := F) c sc15) (f16 : BufAt (F := F) c sc16)
  (f1 : BufAt (F := F) c sc1) (f2 : BufAt (F := F) c sc2)

/-! ## What the body reads, in terms of the buffers it copies from -/

theorem ptr_eq (b : Fin 3) (r : Fin 6) : ptr c fh2 f1 b r = fh2 (ix2 b r) := by
  unfold ptr
  rw [View.readAt_apply, View.read_write_univ]
  show fh2 _ = fh2 _
  congr 1
  funext a
  apply Fin.ext
  match a with
  | ⟨0, _⟩ => rfl
  | ⟨1, _⟩ => rfl

theorem maskRead_at (b : Fin 3) (w : Fin 80) (i : Fin 128) : maskRead c fh4 f3 b (ix3 0 w i) = fh4 (ix3 b w i) := by
  unfold maskRead
  rw [View.readAt_apply, View.read_write_univ]
  show fh4 _ = fh4 _
  congr 1
  funext a
  apply Fin.ext
  match a with
  | ⟨0, _⟩ => rfl
  | ⟨1, _⟩ => show 0 + 1 * w.val = w.val; omega
  | ⟨2, _⟩ => show 0 + 1 * i.val = i.val; omega

theorem sAt_at (b : Fin 3) (h : Fin 6) (d : Fin 512) : sAt c fh1 f0 b h (ix2 0 d) = fh1 (ix2 b ⟨512 * h.val + d.val, by omega⟩) := by
  unfold sAt
  rw [View.readAt_apply, View.read_write_univ]
  show fh1 _ = fh1 _
  congr 1
  funext a
  apply Fin.ext
  match a with
  | ⟨0, _⟩ => rfl
  | ⟨1, _⟩ => show 512 * h.val + 1 * d.val = _; rw [Nat.one_mul]; rfl

theorem xDma_at (b : Fin 3) (i : Fin 640) (d : Fin 3072) : xDma c fh0 b (ix2 i d) = fh0 (ix3 b i d) := by
  unfold xDma
  show fh0 ((Rect.unit (s := S3x640x3072) ![b.val, 0, 0] S1x640x3072.size _).emb (Shape.reshapeEquiv squeezes_S1x640x3072_S640x3072.numel_eq (ix2 i d))) = fh0 _
  rw [show Shape.reshapeEquiv squeezes_S1x640x3072_S640x3072.numel_eq (ix2 i d) = ix3 (0 : Fin 1) i d from ValueIdx.reshapeEquiv_ix2_1ab _ _ _]
  congr 1
  funext a
  apply Fin.ext
  match a with
  | ⟨0, _⟩ => rfl
  | ⟨1, _⟩ => show 0 + 1 * i.val = i.val; omega
  | ⟨2, _⟩ => show 0 + 1 * d.val = d.val; omega

variable (hrp : ∀ i, (fh2 i : BitVec 32).toNat ≤ 20) (htc : ∀ i, (fh3 i : BitVec 32).toNat < 5)

/-- The slot whose column the body reads for the `j`-th tile of row block `r`. -/
def pickAt (b : Fin 3) (r : Fin 5) (j : Fin 4) : ℕ :=
  if (fh2 (ix2 b r.castSucc) : BitVec 32).toNat + j.val < (fh2 (ix2 b r.succ) : BitVec 32).toNat then (fh2 (ix2 b r.castSucc) : BitVec 32).toNat + j.val
    else min (fh2 (ix2 b r.castSucc) : BitVec 32).toNat 19

include hrp in
theorem pickAt_lt (b : Fin 3) (r : Fin 5) (j : Fin 4) : pickAt c fh2 b r j < 20 := by
  unfold pickAt
  have := hrp (ix2 b r.succ)
  split <;> omega

theorem colAt_eq (b : Fin 3) (r : Fin 5) (j : Fin 4) : colAt c fh2 fh3 f1 f2 hrp b r j = fh3 (ix2 b ⟨pickAt c fh2 b r j, pickAt_lt c fh2 hrp b r j⟩) := by
  have e := pickSel_toNat j _ _ (ptr_le c fh2 f1 hrp b r.castSucc) (ptr_le c fh2 f1 hrp b r.succ)
  unfold colAt
  rw [View.readAt_apply, View.read_write_univ]
  show fh3 _ = fh3 _
  congr 1
  funext a
  apply Fin.ext
  match a with
  | ⟨0, _⟩ => rfl
  | ⟨1, _⟩ =>
    refine Eq.trans ?_ (e.trans ?_)
    · rfl
    · rw [ptr_eq, ptr_eq]; rfl

theorem xAt_at (M : Memref sig .tc .vmem S640x3072 .fp8e4m3) (b : Fin 3) (r : Fin 5) (j : Fin 4) (h : Fin 6) (k : Fin 128) (d : Fin 512) :
    xAt c fh0 fh2 fh3 f1 f2 hrp htc M b r j h (ix2 k d)
      = fh0 (ix3 b ⟨128 * (fh3 (ix2 b ⟨pickAt c fh2 b r j, pickAt_lt c fh2 hrp b r j⟩) : BitVec 32).toNat + k.val, by have := htc (ix2 b ⟨pickAt c fh2 b r j, pickAt_lt c fh2 hrp b r j⟩); omega⟩
          ⟨512 * h.val + d.val, by omega⟩) := by
  unfold xAt
  rw [View.readAt_apply]
  refine (View.read_writes_cons_unit_of_mem M.view _ _ (xDma c fh0 b) [] _ (ix2 ⟨128 * (fh3 (ix2 b ⟨pickAt c fh2 b r j, pickAt_lt c fh2 hrp b r j⟩) : BitVec 32).toNat + k.val, by have := htc (ix2 b ⟨pickAt c fh2 b r j, pickAt_lt c fh2 hrp b r j⟩); omega⟩
          ⟨512 * h.val + d.val, by omega⟩) rfl ?_).trans (xDma_at c fh0 b _ _)
  intro a
  match a with
  | ⟨0, _⟩ =>
    show (Scalar.indexCast (Scalar.muli (colAt c fh2 fh3 f1 f2 hrp b r j) 128#32)).toNat + 1 * k.val = 0 + (128 * _ + k.val)
    rw [(colRow _ (colAt_lt c fh2 fh3 f1 f2 hrp htc b r j)).2, colAt_eq, Nat.one_mul, Nat.zero_add]
  | ⟨1, _⟩ => show 512 * h.val + 1 * d.val = 0 + (512 * h.val + d.val); omega

theorem tileVal_succ (v44 : Vec F S1x80x128 .i32) (n : Fin 20) : tileVal v44 n.succ = tile v44 n := rfl

/-- Reading a slot of the tiles. -/
theorem tileRead (M : Memref sig .tc .vmem S21x128x128 .fp8e4m3) (f : M.view.ty.Contents (Elt F)) (v44 : Vec F S1x80x128 .i32) (y : S21x128x128.Idx) (i k : Fin 128) (q : Fin 21)
    (h0 : (y 0).val = (q.val + 20) % 21) (h1 : (y 1).val = i.val) (h2 : (y 2).val = k.val) :
    M.view.read (Elt F) (M.view.writes (Elt F) f (tileL v44)) y = tileVal v44 q (ix3 0 i k) := by
  refine View.read_tilePieces M.view f S1x128x128.size tileOff tileOff_inb (tileVal v44) 21 (Nat.le_refl 21) y q q.isLt (ix3 0 i k) ?_ 0 ?_
  · intro a
    match a with
    | ⟨0, _⟩ => exact h0.trans (Nat.add_zero _).symm
    | ⟨1, _⟩ => exact h1.trans (Nat.zero_add _).symm
    | ⟨2, _⟩ => exact h2.trans (Nat.zero_add _).symm
  · intro q' hq'
    have hne : q'.val ≠ q.val := fun e => hq' (Fin.ext e)
    have := q.isLt
    have := q'.isLt
    show (y 0).val < (q'.val + 20) % 21 ∨ (q'.val + 20) % 21 + 1 ≤ (y 0).val
    omega

end Cert.KernelIdeal.Hand
end
-- ==== Proof.KernelIdeal.Blocks.lean ====
module

public import proofs.«01_k».proof.Proof.KernelIdeal.Reads
public import proofs.«01_k».proof.Proof.KernelIdeal.Out

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Cert.Mean

/-! ## The arguments as plain functions -/

/-- The features. -/
def featF (x : S3x640x3072.Idx → EReal) : Fin 3 → Fin 640 → Fin 3072 → EReal := fun b i d => x (ix3 b i d)
/-- The column scales. -/
def scaleF (x : S3x3072.Idx → EReal) : Fin 3 → Fin 3072 → EReal := fun b d => x (ix2 b d)
/-- The row pointers. -/
def ptrF (x : S3x6.Idx → BitVec 32) : Fin 3 → Fin 6 → ℕ := fun b r => (x (ix2 b r)).toNat
/-- The tile columns. -/
def colF (x : S3x20.Idx → BitVec 32) (h : ∀ i, (x i).toNat < 5) : Fin 3 → Fin 20 → Fin 5 := fun b n => ⟨(x (ix2 b n)).toNat, h _⟩
/-- The mask bits, of the masks laid out a word row to a sublane. -/
def bitF (x : S3x80x128.Idx → BitVec 32) : Fin 3 → Fin 20 → Fin 128 → Fin 128 → Bool :=
  fun b n i k => (x (ix3 b ⟨4 * n.val + k.val / 32, by have := n.isLt; have := k.isLt; omega⟩ i)).getLsbD (k.val % 32)

variable (c : Dev nD) (fh0 : BufAt (F := Ideal) c hb0) (fh1 : BufAt (F := Ideal) c hb1) (fh2 : BufAt (F := Ideal) c hb2) (fh3 : BufAt (F := Ideal) c hb3)
  (fh4 : BufAt (F := Ideal) c hb4) (fh5 : BufAt (F := Ideal) c hb5) (fh6 : BufAt (F := Ideal) c hb6)
  (f0 : BufAt (F := Ideal) c sc0) (f3 : BufAt (F := Ideal) c sc3) (f4 : BufAt (F := Ideal) c sc4)
  (f14 : BufAt (F := Ideal) c sc14) (f15 : BufAt (F := Ideal) c sc15) (f16 : BufAt (F := Ideal) c sc16)
  (f1 : BufAt (F := Ideal) c sc1) (f2 : BufAt (F := Ideal) c sc2)
  (hrp : ∀ i, (fh2 i : BitVec 32).toNat ≤ 20) (htc : ∀ i, (fh3 i : BitVec 32).toNat < 5)

/-- The degrees of a row block, as stored. -/
theorem degAt_at (hrp : ∀ i, (fh2 i : BitVec 32).toNat ≤ 20) (b : Fin 3) (r : Fin 5) (i : Fin 128) :
    degAt c fh2 fh4 f3 f1 b r (ix2 0 i) = deg (ptrF fh2) (bitF fh4) b r i := by
  unfold degAt
  rw [degOf_at _ _ _ (ptr_le c fh2 f1 hrp b _) (ptr_le c fh2 f1 hrp b _), ptr_eq, ptr_eq]
  refine Finset.sum_congr rfl fun n _ => ?_
  refine if_congr Iff.rfl (Finset.sum_congr rfl fun k _ => ?_) rfl
  rw [maskRead_at]
  rfl

/-- A row block's reciprocals, as read back. -/
theorem rdRead (hrp : ∀ i, (fh2 i : BitVec 32).toNat ≤ 20) (MR : Memref sig .tc .vmem S5x128x128 .f32) (b : Fin 3) (r : Fin 5) (i k : Fin 128) :
    MR.view.readCov (rdL c fh2 fh4 f3 f1 b) (Rect.unit (s := S5x128x128) ![r.val, 0, 0] S1x128x128.size (rdOff_inb r)).toLoadRect (ix3 0 i k)
      = recip (deg (ptrF fh2) (bitF fh4) b r i) := by
  unfold View.readCov
  rw [View.readAt_apply]
  refine (View.read_tilePieces MR.view _ S1x128x128.size rdOff rdOff_inb _ 5 (Nat.le_refl 5) _ r r.isLt (ix3 0 i k) ?_ 0 ?_).trans ?_
  · intro a
    match a with
    | ⟨0, _⟩ => rfl
    | ⟨1, _⟩ => show 0 + 1 * i.val = 0 + i.val; omega
    | ⟨2, _⟩ => show 0 + 1 * k.val = 0 + k.val; omega
  · intro r' hr'
    have hne : r'.val ≠ r.val := fun e => hr' (Fin.ext e)
    show r.val + 1 * 0 < r'.val ∨ r'.val + 1 ≤ r.val + 1 * 0
    omega
  · exact (rd_at (fun r => degAt c fh2 fh4 f3 f1 b r) r i k).trans (congrArg recip (degAt_at c fh2 fh4 f3 f1 hrp b r i))

/-- A row block's `j`-th mask tile, as read back: zero past the row's end. -/
theorem aAt_at (M : Memref sig .tc .vmem S21x128x128 .fp8e4m3) (b : Fin 3) (r : Fin 5) (j : Fin 4) (i k : Fin 128) :
    aAt c fh2 fh4 f3 f1 hrp M b r j (ix3 0 i k)
      = if h : ptrF fh2 b r.castSucc + j.val < ptrF fh2 b r.succ then
          one (bitF fh4 b ⟨ptrF fh2 b r.castSucc + j.val, lt_of_lt_of_le h (hrp _)⟩ i k) else 0 := by
  have e := slotSel_toNat j _ _ (ptr_le c fh2 f1 hrp b r.castSucc) (ptr_le c fh2 f1 hrp b r.succ)
  rw [ptr_eq, ptr_eq] at e
  change _ = if ptrF fh2 b r.castSucc + j.val < ptrF fh2 b r.succ then ptrF fh2 b r.castSucc + j.val else 20 at e
  have e' : (Scalar.indexCast (slotSel (BitVec.ofNat 32 j) (ptr c fh2 f1 b r.castSucc) (ptr c fh2 f1 b r.succ))).toNat
      = if ptrF fh2 b r.castSucc + j.val < ptrF fh2 b r.succ then ptrF fh2 b r.castSucc + j.val else 20 := by
    rw [ptr_eq, ptr_eq]; exact e
  unfold aAt
  rw [View.readAt_apply]
  split
  · next h =>
    rw [if_pos h] at e'
    have hlt : ptrF fh2 b r.castSucc + j.val < 20 := lt_of_lt_of_le h (hrp _)
    refine (tileRead M _ _ _ i k (Fin.succ ⟨ptrF fh2 b r.castSucc + j.val, hlt⟩) ?_ ?_ ?_).trans ?_
    · show (Scalar.indexCast (slotSel (BitVec.ofNat 32 j) (ptr c fh2 f1 b r.castSucc) (ptr c fh2 f1 b r.succ))).toNat + 1 * 0 = (ptrF fh2 b r.castSucc + j.val + 1 + 20) % 21
      rw [e']; omega
    · show 0 + 1 * i.val = i.val; omega
    · show 0 + 1 * k.val = k.val; omega
    · rw [tileVal_succ, tile_at, maskRead_at]; rfl
  · next h =>
    rw [if_neg h] at e'
    refine (tileRead M _ _ _ i k 0 ?_ ?_ ?_).trans ?_
    · show (Scalar.indexCast (slotSel (BitVec.ofNat 32 j) (ptr c fh2 f1 b r.castSucc) (ptr c fh2 f1 b r.succ))).toNat + 1 * 0 = (0 + 20) % 21
      rw [e']
    · show 0 + 1 * i.val = i.val; omega
    · show 0 + 1 * k.val = k.val; omega
    · show k0_pay1 (F := Ideal) (ix3 0 i k) = (0 : EReal)
      pointwise [k0_pay1]
      try exact zero_byte

/-- One block of the aggregate is the neighbours' mean. -/
theorem aggAt_at (hmono : ∀ b r, ptrF fh2 b (Fin.castSucc r) ≤ ptrF fh2 b r.succ ∧ ptrF fh2 b r.succ ≤ ptrF fh2 b (Fin.castSucc r) + 4)
    (MA : Memref sig .tc .vmem S21x128x128 .fp8e4m3) (MR : Memref sig .tc .vmem S5x128x128 .f32) (MX : Memref sig .tc .vmem S640x3072 .fp8e4m3)
    (b : Fin 3) (r : Fin 5) (h : Fin 6) (i : Fin 128) (d : Fin 512) :
    aggAt c fh0 fh1 fh2 fh3 fh4 f0 f3 f1 f2 hrp htc MA MR MX b r h (ix2 i d)
      = mean (featF fh0) (scaleF fh1) (ptrF fh2) (colF fh3 htc) (bitF fh4) b r i ⟨512 * h.val + d.val, by omega⟩ := by
  unfold aggAt
  rw [aggOf_at (fun j => aAt c fh2 fh4 f3 f1 hrp MA b r j) _ (fun j => xAt c fh0 fh2 fh3 f1 f2 hrp htc MX b r j h) _ _ i d
    (fun k => rdRead c fh2 fh4 f3 f1 hrp MR b r i k), sAt_at]
  unfold mean
  refine congrArg₂ (· * ·) (congrArg₂ (· * ·) ?_ rfl) rfl
  refine Eq.trans ?_ (sum_run (fun n => tilePart (featF fh0) (colF fh3 htc) (bitF fh4) b n i ⟨512 * h.val + d.val, by omega⟩) (ptrF fh2 b r.castSucc) (ptrF fh2 b r.succ) (hmono b r).1 (hmono b r).2 (hrp _))
  refine Finset.sum_congr rfl fun j _ => ?_
  by_cases hc : ptrF fh2 b r.castSucc + j.val < ptrF fh2 b r.succ
  · rw [dif_pos hc]
    refine Finset.sum_congr rfl fun k _ => ?_
    have hp : pickAt c fh2 b r j = ptrF fh2 b r.castSucc + j.val := if_pos hc
    rw [aAt_at, dif_pos hc, xAt_at]
    refine congrArg₂ (· * ·) rfl ?_
    show fh0 _ = fh0 _
    simp only [hp]
    rfl
  · rw [dif_neg hc]
    refine Finset.sum_eq_zero fun k _ => ?_
    rw [aAt_at, dif_neg hc, zero_mul]

end Cert.KernelIdeal.Hand
end
-- ==== Proof.KernelIdeal.Results.lean ====
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Cert.Mean

/-- An index at position `x` of tile `i`, one of the first `j`, which some axis keeps apart from every other tile, reads
tile `i`'s payload at `x`. -/
theorem read_tiles {κ : Kind} {sp : Space} {s : Shape} {e : EltTy} {Val : EltTy → Type} {NT : ℕ} (v : View sig κ sp s e) (f : v.ty.Contents Val)
    (tsz : Fin s.rank → ℕ) (off : Fin NT → Fin s.rank → ℕ) (inb : ∀ i a, off i a + tsz a ≤ s.size a) (P : Fin NT → (⟨s.rank, tsz⟩ : Shape).Idx → Val e)
    (j : ℕ) (hj : j ≤ NT) (y : s.Idx) (i : Fin NT) (hi : i.val < j) (x : (⟨s.rank, tsz⟩ : Shape).Idx)
    (hx : ∀ a, (y a).val = off i a + (x a).val)
    (hdis : ∀ i' : Fin NT, i' ≠ i → ∃ ax, (y ax).val < off i' ax ∨ off i' ax + tsz ax ≤ (y ax).val) :
    v.read Val (v.writes Val f (View.tilePieces tsz off inb P j hj)) y = P i x := by
  induction j with
  | zero => exact absurd hi (Nat.not_lt_zero _)
  | succ j ih =>
    rw [View.tilePieces_succ]
    by_cases hn : (⟨j, hj⟩ : Fin NT) = i
    · subst hn
      exact View.read_writes_cons_unit_of_mem v f (inb ⟨j, hj⟩) (P ⟨j, hj⟩) _ y x rfl hx
    · obtain ⟨ax, hax⟩ := hdis ⟨j, hj⟩ hn
      rw [View.read_writes_cons_unit_of_not_mem v f (inb ⟨j, hj⟩) (P ⟨j, hj⟩) _ y rfl ax hax]
      exact ih (Nat.le_of_succ_le hj) (by
        have : i.val ≠ j := fun h => hn (Fin.ext h.symm)
        omega)

variable (c : Dev nD) (fh0 : BufAt (F := Ideal) c hb0) (fh1 : BufAt (F := Ideal) c hb1) (fh2 : BufAt (F := Ideal) c hb2) (fh3 : BufAt (F := Ideal) c hb3)
  (fh4 : BufAt (F := Ideal) c hb4) (fh5 : BufAt (F := Ideal) c hb5) (fh6 : BufAt (F := Ideal) c hb6)
  (f0 : BufAt (F := Ideal) c sc0) (f3 : BufAt (F := Ideal) c sc3) (f4 : BufAt (F := Ideal) c sc4)
  (f14 : BufAt (F := Ideal) c sc14) (f15 : BufAt (F := Ideal) c sc15) (f16 : BufAt (F := Ideal) c sc16)
  (f1 : BufAt (F := Ideal) c sc1) (f2 : BufAt (F := Ideal) c sc2)
  (hrp : ∀ i, (fh2 i : BitVec 32).toNat ≤ 20) (htc : ∀ i, (fh3 i : BitVec 32).toNat < 5)

/-- The second result: every row's degree. -/
theorem deg_at (hrp : ∀ i, (fh2 i : BitVec 32).toNat ≤ 20) (b : Fin 3) (r : Fin 5) (i : Fin 128) :
    (View.write (Elt Ideal) (Memref.whole main_v2_1).view fh6 (ReadAs.same.apply (View.read (Elt Ideal) (Memref.whole cc0_scratch4).view
          (sc4.view.writes (Elt Ideal) f4 (degL c fh2 fh4 f3 f1)))) Finset.univ) (ix2 b ⟨128 * r.val + i.val, by omega⟩)
      = deg (ptrF fh2) (bitF fh4) b r i := by
  have hb := b.isLt
  have hr := r.isLt
  have hi := i.isLt
  rw [show View.write (Elt Ideal) (Memref.whole main_v2_1).view fh6 (ReadAs.same.apply (View.read (Elt Ideal) (Memref.whole cc0_scratch4).view
          (sc4.view.writes (Elt Ideal) f4 (degL c fh2 fh4 f3 f1)))) Finset.univ = (View.read (Elt Ideal) sc4.view
          (sc4.view.writes (Elt Ideal) f4 (degL c fh2 fh4 f3 f1))) from View.write_whole_univ main_v2_1 fh6 _]
  refine (read_tiles sc4.view f4 S1x128.size degOff degOff_inb _ 15 (Nat.le_refl 15) _ ⟨5 * b.val + r.val, by omega⟩ (by show 5 * b.val + r.val < 15; omega) (ix2 0 i) ?_ ?_).trans ?_
  · intro a
    match a with
    | ⟨0, _⟩ => show b.val = (5 * b.val + r.val) / 5 + 0; omega
    | ⟨1, _⟩ => show 128 * r.val + i.val = 128 * ((5 * b.val + r.val) % 5) + i.val; omega
  · intro t ht
    have hne : t.val ≠ 5 * b.val + r.val := fun e => ht (Fin.ext e)
    by_cases h0 : t.val / 5 = b.val
    · refine ⟨1, ?_⟩
      show 128 * r.val + i.val < 128 * (t.val % 5) ∨ 128 * (t.val % 5) + 128 ≤ 128 * r.val + i.val
      omega
    · refine ⟨0, ?_⟩
      show b.val < t.val / 5 ∨ t.val / 5 + 1 ≤ b.val
      omega
  · have e0 : (⟨(5 * b.val + r.val) / 5, by omega⟩ : Fin 3) = b := Fin.ext (by show (5 * b.val + r.val) / 5 = b.val; omega)
    have e1 : (⟨(5 * b.val + r.val) % 5, by omega⟩ : Fin 5) = r := Fin.ext (by show (5 * b.val + r.val) % 5 = r.val; omega)
    refine Eq.trans ?_ (degAt_at c fh2 fh4 f3 f1 hrp b r i)
    show (shapeCast S1x128 (degAt c fh2 fh4 f3 f1 ⟨(5 * b.val + r.val) / 5, _⟩ ⟨(5 * b.val + r.val) % 5, _⟩) shapeCasts_S1x128_S1x128) (ix2 0 i) = _
    rw [e0, e1]
    pointwise

variable (hmono : ∀ b r, ptrF fh2 b (Fin.castSucc r) ≤ ptrF fh2 b r.succ ∧ ptrF fh2 b r.succ ≤ ptrF fh2 b (Fin.castSucc r) + 4)

include hmono in
/-- One copy out carries the mean of its rows and columns. -/
theorem chunk_at (M : Memref sig .tc .vmem S640x3072 .bf16) (f : M.view.ty.Contents (Elt Ideal))
    (MA : Memref sig .tc .vmem S21x128x128 .fp8e4m3) (MR : Memref sig .tc .vmem S5x128x128 .f32) (MX : Memref sig .tc .vmem S640x3072 .fp8e4m3)
    (b : Fin 3) (r : Fin 5) (h : Fin 2) (n : ℕ) (hn : n ≤ 30) (hrn : 6 * r.val + 3 * h.val + 3 ≤ n) (i : Fin 128) (d : Fin 1536) :
    chunk M f r h (aggL c fh0 fh1 fh2 fh3 fh4 f0 f3 f1 f2 hrp htc MA MR MX b n hn) (ix2 i d)
      = mean (featF fh0) (scaleF fh1) (ptrF fh2) (colF fh3 htc) (bitF fh4) b r i ⟨1536 * h.val + d.val, by omega⟩ := by
  have hr := r.isLt
  have hh := h.isLt
  have hi := i.isLt
  have hd := d.isLt
  unfold chunk
  show M.view.read (Elt Ideal) _ ((Rect.unit (s := S640x3072) ![128 * r.val, 1536 * h.val] S128x1536.size _).emb (ix2 i d)) = _
  refine (read_tiles M.view f S128x512.size aggOff aggOff_inb _ n hn _ ⟨6 * r.val + 3 * h.val + d.val / 512, by omega⟩
    (by show 6 * r.val + 3 * h.val + d.val / 512 < n; omega) (ix2 i ⟨d.val % 512, by omega⟩) ?_ ?_).trans ?_
  · intro a
    match a with
    | ⟨0, _⟩ => show 128 * r.val + 1 * i.val = 128 * ((6 * r.val + 3 * h.val + d.val / 512) / 6) + i.val; omega
    | ⟨1, _⟩ => show 1536 * h.val + 1 * d.val = 512 * ((6 * r.val + 3 * h.val + d.val / 512) % 6) + d.val % 512; omega
  · intro t ht
    have hne : t.val ≠ 6 * r.val + 3 * h.val + d.val / 512 := fun e => ht (Fin.ext e)
    by_cases h0 : t.val / 6 = r.val
    · refine ⟨1, ?_⟩
      show 1536 * h.val + 1 * d.val < 512 * (t.val % 6) ∨ 512 * (t.val % 6) + 512 ≤ 1536 * h.val + 1 * d.val
      omega
    · refine ⟨0, ?_⟩
      show 128 * r.val + 1 * i.val < 128 * (t.val / 6) ∨ 128 * (t.val / 6) + 128 ≤ 128 * r.val + 1 * i.val
      omega
  · refine (aggAt_at c fh0 fh1 fh2 fh3 fh4 f0 f3 f1 f2 hrp htc hmono MA MR MX b _ _ i _).trans ?_
    have e0 : ∀ p, (⟨(6 * r.val + 3 * h.val + d.val / 512) / 6, p⟩ : Fin 5) = r := fun p => Fin.ext (by show (6 * r.val + 3 * h.val + d.val / 512) / 6 = r.val; omega)
    refine congrArg₂ (fun r d => mean (featF fh0) (scaleF fh1) (ptrF fh2) (colF fh3 htc) (bitF fh4) b r i d) (e0 _) (Fin.ext ?_)
    show 512 * ((6 * r.val + 3 * h.val + d.val / 512) % 6) + d.val % 512 = 1536 * h.val + d.val
    omega

/-- Where a copy out puts its element. -/
theorem dest_emb (b : Fin 3) (r : Fin 5) (h : Fin 2) (i : Fin 128) (d : Fin 1536) :
    (dest b r h).view.emb (ix2 i d) = (ix3 b ⟨128 * r.val + i.val, by omega⟩ ⟨1536 * h.val + d.val, by omega⟩ : S3x640x3072.Idx) := by
  show (Rect.unit (s := S3x640x3072) ![b.val, 128 * r.val, 1536 * h.val] S1x128x1536.size _).emb (Shape.reshapeEquiv squeezes_S1x128x1536_S128x1536.numel_eq (ix2 i d)) = _
  rw [show Shape.reshapeEquiv squeezes_S1x128x1536_S128x1536.numel_eq (ix2 i d) = ix3 (0 : Fin 1) i d from ValueIdx.reshapeEquiv_ix2_1ab _ _ _]
  funext a
  apply Fin.ext
  match a with
  | ⟨0, _⟩ => rfl
  | ⟨1, _⟩ => show 128 * r.val + 1 * i.val = _; rw [Nat.one_mul]; rfl
  | ⟨2, _⟩ => show 1536 * h.val + 1 * d.val = _; rw [Nat.one_mul]; rfl

/-- A copy out at its own elements. -/
theorem land_hit (b : Fin 3) (r : Fin 5) (h : Fin 2) (f : BufAt (F := Ideal) c hb5) (D : S128x1536.Idx → Elt Ideal .bf16) (i : Fin 128) (d : Fin 1536) :
    land c b r h f D (ix3 b ⟨128 * r.val + i.val, by omega⟩ ⟨1536 * h.val + d.val, by omega⟩) = D (ix2 i d) := by
  unfold land
  rw [← dest_emb]
  exact View.write_emb_of_mem (v := (dest b r h).view) f D (Finset.mem_univ _)

/-- A copy out leaves the other copies' elements. -/
theorem land_miss (b b' : Fin 3) (r r' : Fin 5) (h h' : Fin 2) (hne : ¬ (b = b' ∧ r = r' ∧ h = h')) (f : BufAt (F := Ideal) c hb5) (D : S128x1536.Idx → Elt Ideal .bf16)
    (i : Fin 128) (d : Fin 1536) :
    land c b' r' h' f D (ix3 b ⟨128 * r.val + i.val, by omega⟩ ⟨1536 * h.val + d.val, by omega⟩) = f (ix3 b ⟨128 * r.val + i.val, by omega⟩ ⟨1536 * h.val + d.val, by omega⟩) := by
  unfold land
  refine View.write_of_not_mem (v := (dest b' r' h').view) f D _ fun hm => hne ?_
  obtain ⟨x, -, hx⟩ := Finset.mem_map.mp hm
  rw [ValueIdx.eq_ix2 x] at hx
  have hx' := (dest_emb b' r' h' (x 0) (x 1)).symm.trans hx
  have h0 : b'.val = b.val := congrArg (fun y : S3x640x3072.Idx => (y 0).val) hx'
  have h1 : 128 * r'.val + (x 0).val = 128 * r.val + i.val := congrArg (fun y : S3x640x3072.Idx => (y 1).val) hx'
  have h2 : 1536 * h'.val + (x 1).val = 1536 * h.val + d.val := congrArg (fun y : S3x640x3072.Idx => (y 2).val) hx'
  have l0 : (x 0).val < 128 := (x 0).isLt
  have l1 : (x 1).val < 1536 := (x 1).isLt
  refine ⟨Fin.ext h0.symm, Fin.ext ?_, Fin.ext ?_⟩ <;> omega

include hmono in
theorem outData_at (b : Fin 3) (r : Fin 5) (h : Fin 2) (i : Fin 128) (d : Fin 1536) :
    outData c fh0 fh1 fh2 fh3 fh4 f0 f3 f14 f15 f16 f1 f2 hrp htc ⟨10 * b.val + 2 * r.val + h.val, by omega⟩ (ix2 i d)
      = mean (featF fh0) (scaleF fh1) (ptrF fh2) (colF fh3 htc) (bitF fh4) b r i ⟨1536 * h.val + d.val, by omega⟩ := by
  have hb := b.isLt
  have hr := r.isLt
  have hh := h.isLt
  have e1 : ∀ p, (⟨(10 * b.val + 2 * r.val + h.val) / 2 % 5, p⟩ : Fin 5) = r := fun p => Fin.ext (by show (10 * b.val + 2 * r.val + h.val) / 2 % 5 = r.val; omega)
  have e2 : ∀ p, (⟨(10 * b.val + 2 * r.val + h.val) % 2, p⟩ : Fin 2) = h := fun p => Fin.ext (by show (10 * b.val + 2 * r.val + h.val) % 2 = h.val; omega)
  have hle : 6 * r.val + 3 * h.val + 3 ≤ 3 * ((10 * b.val + 2 * r.val + h.val) % 10) + 3 := by omega
  unfold outData
  simp only [e1, e2]
  generalize hq : (10 * b.val + 2 * r.val + h.val) / 10 = q
  match q, hq with
  | 0, h3 =>
    obtain rfl : b = 0 := Fin.ext (by show b.val = 0; omega)
    exact chunk_at c fh0 fh1 fh2 fh3 fh4 f0 f3 f1 f2 hrp htc hmono sc14 f14 sc8 sc11 sc5 0 r h _ _ hle i d
  | 1, h3 =>
    obtain rfl : b = 1 := Fin.ext (by show b.val = 1; omega)
    exact chunk_at c fh0 fh1 fh2 fh3 fh4 f0 f3 f1 f2 hrp htc hmono sc15 f15 sc9 sc12 sc6 1 r h _ _ hle i d
  | 2, h3 =>
    obtain rfl : b = 2 := Fin.ext (by show b.val = 2; omega)
    exact chunk_at c fh0 fh1 fh2 fh3 fh4 f0 f3 f1 f2 hrp htc hmono sc16 f16 sc10 sc13 sc7 2 r h _ _ hle i d
  | q + 3, h3 => exact absurd h3 (by omega)

include hmono in
/-- The first result: every row's mean. -/
theorem outW_at (b : Fin 3) (r : Fin 5) (h : Fin 2) (i : Fin 128) (d : Fin 1536) : ∀ (n : ℕ) (hn : n ≤ 30), 10 * b.val + 2 * r.val + h.val < n →
    outW c fh0 fh1 fh2 fh3 fh4 fh5 f0 f3 f14 f15 f16 f1 f2 hrp htc n hn (ix3 b ⟨128 * r.val + i.val, by omega⟩ ⟨1536 * h.val + d.val, by omega⟩)
      = mean (featF fh0) (scaleF fh1) (ptrF fh2) (colF fh3 htc) (bitF fh4) b r i ⟨1536 * h.val + d.val, by omega⟩
  | 0, _, h0 => absurd h0 (Nat.not_lt_zero _)
  | n + 1, hn, h0 => by
    have hb := b.isLt
    have hr := r.isLt
    have hh := h.isLt
    show land c _ _ _ _ _ _ = _
    by_cases e : n = 10 * b.val + 2 * r.val + h.val
    · have e0 : b = ⟨n / 10, by omega⟩ := Fin.ext (by show b.val = n / 10; omega)
      have e1 : r = ⟨n / 2 % 5, by omega⟩ := Fin.ext (by show r.val = n / 2 % 5; omega)
      have e2 : h = ⟨n % 2, by omega⟩ := Fin.ext (by show h.val = n % 2; omega)
      refine Eq.trans ?_ (outData_at c fh0 fh1 fh2 fh3 fh4 f0 f3 f14 f15 f16 f1 f2 hrp htc hmono b r h i d)
      rw [← e0, ← e1, ← e2, land_hit]
      subst e
      rfl
    · rw [land_miss c b _ r _ h _ (fun ⟨e0, e1, e2⟩ => e (by
        have e0 := congrArg Fin.val e0
        have e1 := congrArg Fin.val e1
        have e2 := congrArg Fin.val e2
        change b.val = n / 10 at e0
        change r.val = n / 2 % 5 at e1
        change h.val = n % 2 at e2
        omega))]
      exact outW_at b r h i d n _ (by omega)

end Cert.KernelIdeal.Hand
end
-- ==== Proof.Args.lean ====
module

public import proofs.«01_k».proof.Proof.Math
public import Idealize.ShloMosaic.Lib.PointwiseCore

/-! The two results as functions of the five arguments: what both programs are shown to end with. -/

@[expose] public section

noncomputable section

namespace Cert.Mean

open Idealize.ShloMosaic

variable (a0 : (⟨3, ![3, 640, 3072]⟩ : Shape).Idx → EReal) (a1 : (⟨2, ![3, 3072]⟩ : Shape).Idx → EReal) (a2 : (⟨2, ![3, 6]⟩ : Shape).Idx → BitVec 32)
  (a3 : (⟨2, ![3, 20]⟩ : Shape).Idx → BitVec 32) (h3 : ∀ i, (a3 i).toNat < 5) (a4 : (⟨4, ![3, 20, 128, 4]⟩ : Shape).Idx → BitVec 32)

/-- The features. -/
def featA : Fin 3 → Fin 640 → Fin 3072 → EReal := fun b i d => a0 (ix3 b i d)
/-- The column scales. -/
def scaleA : Fin 3 → Fin 3072 → EReal := fun b d => a1 (ix2 b d)
/-- The row pointers. -/
def ptrA : Fin 3 → Fin 6 → ℕ := fun b r => (a2 (ix2 b r)).toNat
/-- The tile columns. -/
def colA : Fin 3 → Fin 20 → Fin 5 := fun b n => ⟨(a3 (ix2 b n)).toNat, h3 _⟩
/-- The mask bits. -/
def bitA : Fin 3 → Fin 20 → Fin 128 → Fin 128 → Bool :=
  fun b n i k => (a4 (ix4 b n i ⟨k.val / 32, by have := k.isLt; omega⟩)).getLsbD (k.val % 32)

/-- The degrees. -/
def degOut : (⟨2, ![3, 640]⟩ : Shape).Idx → EReal := fun j =>
  deg (ptrA a2) (bitA a4) (j 0) ⟨(j 1).val / 128, by have h : (j 1).val < 640 := (j 1).isLt; omega⟩ ⟨(j 1).val % 128, Nat.mod_lt _ (by decide)⟩
/-- The neighbours' means. -/
def meanOut : (⟨3, ![3, 640, 3072]⟩ : Shape).Idx → EReal := fun j =>
  mean (featA a0) (scaleA a1) (ptrA a2) (colA a3 h3) (bitA a4) (j 0) ⟨(j 1).val / 128, by have h : (j 1).val < 640 := (j 1).isLt; omega⟩
    ⟨(j 1).val % 128, Nat.mod_lt _ (by decide)⟩ (j 2)

/-- An array is the degrees when it is so at every row of every row block. -/
theorem eq_degOut (f : (⟨2, ![3, 640]⟩ : Shape).Idx → EReal)
    (h : ∀ (b : Fin 3) (r : Fin 5) (i : Fin 128), f (ix2 b ⟨128 * r.val + i.val, by omega⟩) = deg (ptrA a2) (bitA a4) b r i) : f = degOut a2 a4 := by
  funext j
  have hj : (j 1).val < 640 := (j 1).isLt
  refine Eq.trans (congrArg f ?_) (h (j 0) ⟨(j 1).val / 128, by omega⟩ ⟨(j 1).val % 128, Nat.mod_lt _ (by decide)⟩)
  funext a
  apply Fin.ext
  match a with
  | ⟨0, _⟩ => rfl
  | ⟨1, _⟩ => exact (Nat.div_add_mod (j 1).val 128).symm

/-- An array is the means when it is so at every row of every row block. -/
theorem eq_meanOut (f : (⟨3, ![3, 640, 3072]⟩ : Shape).Idx → EReal)
    (h : ∀ (b : Fin 3) (r : Fin 5) (i : Fin 128) (d : Fin 3072), f (ix3 b ⟨128 * r.val + i.val, by omega⟩ d)
      = mean (featA a0) (scaleA a1) (ptrA a2) (colA a3 h3) (bitA a4) b r i d) : f = meanOut a0 a1 a2 a3 h3 a4 := by
  funext j
  have hj : (j 1).val < 640 := (j 1).isLt
  refine Eq.trans (congrArg f ?_) (h (j 0) ⟨(j 1).val / 128, by omega⟩ ⟨(j 1).val % 128, Nat.mod_lt _ (by decide)⟩ (j 2))
  funext a
  apply Fin.ext
  match a with
  | ⟨0, _⟩ => rfl
  | ⟨1, _⟩ => exact (Nat.div_add_mod (j 1).val 128).symm
  | ⟨2, _⟩ => rfl

end Cert.Mean
end
-- ==== Proof.KernelIdeal.Values.lean ====
module

public import proofs.«01_k».proof.Proof.KernelIdeal.Frame
public import proofs.«01_k».proof.Proof.KernelIdeal.Out
public import proofs.«01_k».proof.Proof.KernelIdeal.Results
public import proofs.«01_k».proof.Proof.Args
public import Idealize.ShloMosaic.Lib.Pipeline.ValueKit
public import Idealize.ShloMosaic.Lib.Pipeline.FrameValue

/-! The kernel's launch with what it leaves in its two results. -/

@[expose] public section

set_option maxRecDepth 16384

noncomputable section

namespace Cert.KernelIdeal.Hand

open Cert.KernelIdeal Cert.KernelIdeal.Gen Cert.Mean
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-! ## The mask words the body copies from -/

/-- The mask words: the argument's last two axes swapped, then the tile and word axes joined. -/
theorem V_main_v1 (c : Dev nD) : V m c main_v1
    = shapeCast S3x80x128 (transpose S3x20x4x128 [0, 1, 3, 2] (m ((c : Thread nD τ).loc main_arg4)) transposes_S3x20x128x4_S3x20x4x128_0_1_3_2) shapeCasts_S3x20x4x128_S3x80x128 := by
  show StableHlo.after hostOps0 (fun b => m (c, b)) (Proc.devRef .tc main_v1) = _
  simp only [hostOps0, StableHlo.TRef.unary, StableHlo.TRef.toBuf, StableHlo.TRef.ofBuf, cast_eq, List.flatten_cons, List.flatten_nil, List.append_nil, List.cons_append, List.nil_append]
  after_results_simp <;> rfl

/-- The bits read off them are the argument's. -/
theorem bit_args (c : Dev nD) : bitF (V m c main_v1) = bitA (m ((c : Thread nD τ).loc main_arg4)) := by
  rw [V_main_v1]
  funext b n i k
  unfold bitF bitA
  generalize m ((c : Thread nD τ).loc main_arg4) = x
  refine congrArg (fun w : BitVec 32 => w.getLsbD (k.val % 32)) ?_
  pointwise
  refine congrArg (fun q : Fin 4 => x (ix4 b n i q)) (Fin.ext ?_)
  have hk := k.isLt
  show (4 * n.val + k.val / 32) % 4 = k.val / 32
  omega

/-! ## What the two results end with -/

/-- The words of the arguments the kernel goes by: pointers within the slots and rising by at most four, columns within the row blocks. -/
structure Good (c : Dev nD) : Prop where
  ptr : ∀ i, (m ((c.tc : Thread nD τ).loc main_arg2) i : BitVec 32).toNat ≤ 20
  col : ∀ i, (m ((c.tc : Thread nD τ).loc main_arg3) i : BitVec 32).toNat < 5
  mono : ∀ b (r : Fin 5), ptrA (m ((c.tc : Thread nD τ).loc main_arg2)) b r.castSucc ≤ ptrA (m ((c.tc : Thread nD τ).loc main_arg2)) b r.succ
    ∧ ptrA (m ((c.tc : Thread nD τ).loc main_arg2)) b r.succ ≤ ptrA (m ((c.tc : Thread nD τ).loc main_arg2)) b r.castSucc + 4

theorem Good.bounded {m : (ℓ : Loc nD τ sig) → Buf (Elt Ideal) ℓ} {c : Dev nD} (h : Good m c) : Bounded m c :=
  ⟨fun i => by rw [V_main_arg2]; exact h.ptr i, fun i => by rw [V_main_arg3]; exact h.col i⟩

/-- The first result. -/
def meanV (c : Dev nD) (h : Good m c) : BufAt (F := Ideal) c hb5 :=
  meanOut (m ((c.tc : Thread nD τ).loc main_arg0)) (m ((c.tc : Thread nD τ).loc main_arg1)) (m ((c.tc : Thread nD τ).loc main_arg2))
    (m ((c.tc : Thread nD τ).loc main_arg3)) h.col (m ((c.tc : Thread nD τ).loc main_arg4))

/-- The second result. -/
def degV (c : Dev nD) : BufAt (F := Ideal) c hb6 :=
  degOut (m ((c.tc : Thread nD τ).loc main_arg2)) (m ((c.tc : Thread nD τ).loc main_arg4))

theorem outW_mean (c : Dev nD) (fh0 : BufAt (F := Ideal) c hb0) (fh1 : BufAt (F := Ideal) c hb1) (fh2 : BufAt (F := Ideal) c hb2) (fh3 : BufAt (F := Ideal) c hb3)
    (fh4 : BufAt (F := Ideal) c hb4) (fh5 : BufAt (F := Ideal) c hb5)
    (f0 : BufAt (F := Ideal) c sc0) (f3 : BufAt (F := Ideal) c sc3)
    (f14 : BufAt (F := Ideal) c sc14) (f15 : BufAt (F := Ideal) c sc15) (f16 : BufAt (F := Ideal) c sc16)
    (f1 : BufAt (F := Ideal) c sc1) (f2 : BufAt (F := Ideal) c sc2)
    (hrp : ∀ i, (fh2 i : BitVec 32).toNat ≤ 20) (htc : ∀ i, (fh3 i : BitVec 32).toNat < 5)
    (h : Good m c) (e0 : fh0 = m ((c.tc : Thread nD τ).loc main_arg0)) (e1 : fh1 = m ((c.tc : Thread nD τ).loc main_arg1))
    (e2 : fh2 = m ((c.tc : Thread nD τ).loc main_arg2)) (e3 : fh3 = m ((c.tc : Thread nD τ).loc main_arg3))
    (e4 : bitF fh4 = bitA (m ((c.tc : Thread nD τ).loc main_arg4))) :
    outW c fh0 fh1 fh2 fh3 fh4 fh5 f0 f3 f14 f15 f16 f1 f2 hrp htc 30 (Nat.le_refl 30) = meanV m c h := by
  subst e0 e1 e2 e3
  refine eq_meanOut _ _ _ _ h.col _ _ fun b r i d => ?_
  have hb := b.isLt
  have hr := r.isLt
  have hd := d.isLt
  have e : d = ⟨1536 * (d.val / 1536) + d.val % 1536, by omega⟩ := Fin.ext (Nat.div_add_mod d.val 1536).symm
  rw [← e4, e]
  exact outW_at c _ _ _ _ fh4 fh5 f0 f3 f14 f15 f16 f1 f2 hrp htc h.mono b r ⟨d.val / 1536, by omega⟩ i ⟨d.val % 1536, Nat.mod_lt _ (by decide)⟩ 30 (Nat.le_refl 30)
    (by show 10 * b.val + 2 * r.val + d.val / 1536 < 30; omega)

theorem degW_deg (c : Dev nD) (fh2 : BufAt (F := Ideal) c hb2) (fh4 : BufAt (F := Ideal) c hb4) (fh6 : BufAt (F := Ideal) c hb6)
    (f3 : BufAt (F := Ideal) c sc3) (f4 : BufAt (F := Ideal) c sc4) (f1 : BufAt (F := Ideal) c sc1)
    (h : Good m c) (e2 : fh2 = m ((c.tc : Thread nD τ).loc main_arg2))
    (e4 : bitF fh4 = bitA (m ((c.tc : Thread nD τ).loc main_arg4))) :
    View.write (Elt Ideal) (Memref.whole main_v2_1).view fh6 (ReadAs.same.apply (View.read (Elt Ideal) (Memref.whole cc0_scratch4).view
          (sc4.view.writes (Elt Ideal) f4 (degL c fh2 fh4 f3 f1)))) Finset.univ = degV m c := by
  subst e2
  refine eq_degOut _ _ _ fun b r i => ?_
  rw [← e4]
  exact deg_at c _ fh4 fh6 f3 f4 f1 h.ptr b r i

/-! ## The launch -/

/-- The contents the launch ends with: the two results, and everything else as the body finds it. -/
def G (h : ∀ c, Good m c) (c : Dev nD) : (b : Ref sig .tc) → Buf (Elt Ideal) ((c.tc : Thread nD τ).loc b) :=
  Function.update (Function.update (V m c) main_v2_0 (meanV m c (h c))) main_v2_1 (degV m c)

theorem G_0 (h : ∀ c, Good m c) (c : Dev nD) : G m h c main_v2_0 = meanV m c (h c) := by
  unfold G
  rw [Function.update_of_ne (by decide), Function.update_self]

theorem G_1 (h : ∀ c, Good m c) (c : Dev nD) : G m h c main_v2_1 = degV m c := by
  unfold G
  rw [Function.update_self]

theorem routed0_eq (c : Dev nD) (W : (b : Ref sig .tc) → Buf (Elt Ideal) ((c.tc : Thread nD τ).loc b)) :
    (Pipeline.routed R0 c W : sProp 𝕄) = iprop(pt (F := Ideal) c hb5 (W main_v2_0) ∗ pt (F := Ideal) c hb6 (W main_v2_1)) := by
  unfold Pipeline.routed; rw [BI.bigSep_eq_bigSepL_of_eq [main_v2_0, main_v2_1] (by decide) (by decide)]; rfl

/-- The body's invariant with the two results at the contents `W`. -/
theorem PhiDRG0_eq (W : (c : Dev nD) → (b : Ref sig .tc) → Buf (Elt Ideal) ((c.tc : Thread nD τ).loc b)) (c : Dev nD) :
    (Pipeline.ΦDRG osem0 cfg0.spec H0 R0 (V m) W c : sProp 𝕄)
      = iprop(iprop((∃ f, pt (F := Ideal) c sc0 f) ∗ (∃ f, pt (F := Ideal) c sc3 f) ∗ (∃ f, pt (F := Ideal) c sc4 f) ∗ (∃ f, pt (F := Ideal) c sc5 f) ∗ (∃ f, pt (F := Ideal) c sc6 f) ∗ (∃ f, pt (F := Ideal) c sc7 f) ∗ (∃ f, pt (F := Ideal) c sc8 f) ∗ (∃ f, pt (F := Ideal) c sc9 f) ∗ (∃ f, pt (F := Ideal) c sc10 f) ∗ (∃ f, pt (F := Ideal) c sc11 f) ∗ (∃ f, pt (F := Ideal) c sc12 f) ∗ (∃ f, pt (F := Ideal) c sc13 f) ∗ (∃ f, pt (F := Ideal) c sc14 f) ∗ (∃ f, pt (F := Ideal) c sc15 f) ∗ (∃ f, pt (F := Ideal) c sc16 f) ∗ (∃ f, pt (F := Ideal) c sc1 f) ∗ (∃ f, pt (F := Ideal) c sc2 f))
          ∗ (∃ r, prngReg c r) ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(pt (F := Ideal) c hb0 (V m c main_arg0) ∗ pt (F := Ideal) c hb1 (V m c main_arg1) ∗ pt (F := Ideal) c hb2 (V m c main_arg2) ∗ pt (F := Ideal) c hb3 (V m c main_arg3) ∗ pt (F := Ideal) c hb4 (V m c main_v1))
          ∗ iprop(pt (F := Ideal) c hb5 (W c main_v2_0) ∗ pt (F := Ideal) c hb6 (W c main_v2_1))) := by
  rw [Pipeline.ΦDRG_eq, scopedRest0_eq, ownSems00_eq, hbmPts0_eq, routed0_eq]

theorem pt_congr {c : Dev nD} {sp : Space} {s : Shape} {e : EltTy} {M : Memref sig .tc sp s e} {f g : BufAt (F := Ideal) c M} (h : f = g) :
    (pt (F := Ideal) c M f : sProp 𝕄) ⊢ pt (F := Ideal) c M g := by
  rw [h]

/-- The proof data: before the body the results are as launched, after it they are the means and the degrees. -/
def datsG (h : ∀ c, Good m c) (_ : Fin 1) (c : Dev nD) : Dat τ (Elt Ideal) Unit ℕ (Pipeline.UD sig nD τ) ℕ cfg0 c where
  A w := w.elim0
  after w := w.elim0
  Φ t := Pipeline.ΦDRG osem0 cfg0.spec H0 R0 (V m) (if t.val = 0 then V m else G m h) c
  q w := w.elim0
  owed _ := 0

/-- What the body leaves in the first result. -/
theorem run_mean (c : Dev nD) (h : Good m c) (hb : Bounded m c) (g5 : BufAt (F := Ideal) c hb5) (g6 : BufAt (F := Ideal) c hb6)
    (f0 : BufAt (F := Ideal) c sc0) (f3 : BufAt (F := Ideal) c sc3) (f4 : BufAt (F := Ideal) c sc4) (f5 : BufAt (F := Ideal) c sc5) (f6 : BufAt (F := Ideal) c sc6) (f7 : BufAt (F := Ideal) c sc7) (f8 : BufAt (F := Ideal) c sc8) (f9 : BufAt (F := Ideal) c sc9) (f10 : BufAt (F := Ideal) c sc10) (f11 : BufAt (F := Ideal) c sc11) (f12 : BufAt (F := Ideal) c sc12) (f13 : BufAt (F := Ideal) c sc13) (f14 : BufAt (F := Ideal) c sc14) (f15 : BufAt (F := Ideal) c sc15) (f16 : BufAt (F := Ideal) c sc16) (f1 : BufAt (F := Ideal) c sc1) (f2 : BufAt (F := Ideal) c sc2) :
    (kernelRun c (V m c main_arg0) (V m c main_arg1) (V m c main_arg2) (V m c main_arg3) (V m c main_v1) g5 g6 f0 f3 f4 f5 f6 f7 f8 f9 f10 f11 f12 f13 f14 f15 f16 f1 f2 hb.1 hb.2).1.1 = meanV m c h :=
  (out_eq c _ _ _ _ _ g5 g6 f0 f3 f4 f14 f15 f16 f1 f2 hb.1 hb.2 f5 f6 f7 f8 f9 f10 f11 f12 f13).trans
    (outW_mean m c _ _ _ _ _ g5 f0 f3 f14 f15 f16 f1 f2 hb.1 hb.2 h (V_main_arg0 m c) (V_main_arg1 m c) (V_main_arg2 m c) (V_main_arg3 m c) (bit_args m c))

/-- What the body leaves in the second. -/
theorem run_deg (c : Dev nD) (h : Good m c) (hb : Bounded m c) (g5 : BufAt (F := Ideal) c hb5) (g6 : BufAt (F := Ideal) c hb6)
    (f0 : BufAt (F := Ideal) c sc0) (f3 : BufAt (F := Ideal) c sc3) (f4 : BufAt (F := Ideal) c sc4) (f5 : BufAt (F := Ideal) c sc5) (f6 : BufAt (F := Ideal) c sc6) (f7 : BufAt (F := Ideal) c sc7) (f8 : BufAt (F := Ideal) c sc8) (f9 : BufAt (F := Ideal) c sc9) (f10 : BufAt (F := Ideal) c sc10) (f11 : BufAt (F := Ideal) c sc11) (f12 : BufAt (F := Ideal) c sc12) (f13 : BufAt (F := Ideal) c sc13) (f14 : BufAt (F := Ideal) c sc14) (f15 : BufAt (F := Ideal) c sc15) (f16 : BufAt (F := Ideal) c sc16) (f1 : BufAt (F := Ideal) c sc1) (f2 : BufAt (F := Ideal) c sc2) :
    (kernelRun c (V m c main_arg0) (V m c main_arg1) (V m c main_arg2) (V m c main_arg3) (V m c main_v1) g5 g6 f0 f3 f4 f5 f6 f7 f8 f9 f10 f11 f12 f13 f14 f15 f16 f1 f2 hb.1 hb.2).1.2 = degV m c :=
  (deg_eq c _ _ _ _ _ g5 g6 f0 f3 f4 f14 f15 f16 f1 f2 hb.1 hb.2 f5 f6 f7 f8 f9 f10 f11 f12 f13).trans
    (degW_deg m c _ _ g6 f3 f4 f1 h (V_main_arg2 m c) (bit_args m c))

theorem first_point (t : Fin cfg0.N) : t.val = 0 := Nat.lt_one_iff.mp t.isLt

/-- The body's own triple, from the results as launched to the means and the degrees. -/
theorem sound_body_G (h : ∀ c, Good m c) (c : Dev nD) (t : Fin cfg0.N) :
    iprop((datsG m h 0 c).Φ t.castSucc ∗ (datsG m h 0 c).owesAt () t.castSucc)
      ⊢ wp Idealize.ShloMosaic.frame (wpE (defs₀ (F := Ideal)) Variants.none c none) Set.univ (bodyAt0 t)
        (fun _ => iprop((datsG m h 0 c).Φ t.succ ∗ (datsG m h 0 c).owesAt () t.succ)) := by
  unfold bodyAt0
  have p0 : (datsG m h 0 c).Φ t.castSucc = Pipeline.ΦDRG osem0 cfg0.spec H0 R0 (V m) (V m) c := by
    show Pipeline.ΦDRG osem0 cfg0.spec H0 R0 (V m) (if t.val = 0 then V m else G m h) c = _
    rw [if_pos (first_point t)]
  have p1 : (datsG m h 0 c).Φ t.succ = Pipeline.ΦDRG osem0 cfg0.spec H0 R0 (V m) (G m h) c := by
    show Pipeline.ΦDRG osem0 cfg0.spec H0 R0 (V m) (if t.val + 1 = 0 then V m else G m h) c = _
    rw [if_neg (Nat.succ_ne_zero _)]
  have hb := (h c).bounded
  rw [p0, p1, PhiDRG0_eq, PhiDRG0_eq, G_0, G_1]
  unfold Dat.owesAt Pipeline.owesWithin
  rw [show (datsG m h 0 c).owed t.castSucc = 0 from rfl, show (datsG m h 0 c).owed t.succ = 0 from rfl]
  iintro ⟨⟨⟨⟨%f0, S0⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩, ⟨%f16, S16⟩, ⟨%f1, S1⟩, ⟨%f2, S2⟩⟩, Hg, ⟨Q0, Q1, Q2, Q3, Q4, Q5, Q6, Q7, Q8⟩, ⟨H0, H1, H2, H3, H4⟩, ⟨H5, H6⟩⟩, ⟨%W, -, HW⟩⟩
  iapply ((kernelRun c (V m c main_arg0) (V m c main_arg1) (V m c main_arg2) (V m c main_arg3) (V m c main_v1) (V m c main_v2_0) (V m c main_v2_1) f0 f3 f4 f5 f6 f7 f8 f9 f10 f11 f12 f13 f14 f15 f16 f1 f2 hb.1 hb.2).2 W _)
  isplitl [S0 S3 S4 S5 S6 S7 S8 S9 S10 S11 S12 S13 S14 S15 S16 S1 S2]
  · isplitl [S0]; · iexact S0
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S1]; · iexact S1
    iexact S2
  isplitl [Q0 Q1 Q2 Q3 Q4 Q5 Q6 Q7 Q8]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    iexact Q8
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HW]; · iexact HW
  iintro ⟨HS, HQ, ⟨H0, H1, H2, H3, H4, H5, H6⟩, ⟨%W', HW'⟩⟩
  isplitl [HS Hg HQ H0 H1 H2 H3 H4 H5 H6]
  · isplitl [HS]; · iexact HS
    isplitl [Hg]; · iexact Hg
    isplitl [HQ]; · iexact HQ
    isplitl [H0 H1 H2 H3 H4]
    · isplitl [H0]; · iexact H0
      isplitl [H1]; · iexact H1
      isplitl [H2]; · iexact H2
      isplitl [H3]; · iexact H3
      iexact H4
    isplitl [H5]
    · iapply (pt_congr (run_mean m c (h c) hb _ _ f0 f3 f4 f5 f6 f7 f8 f9 f10 f11 f12 f13 f14 f15 f16 f1 f2)); iexact H5
    iapply (pt_congr (run_deg m c (h c) hb _ _ f0 f3 f4 f5 f6 f7 f8 f9 f10 f11 f12 f13 f14 f15 f16 f1 f2)); iexact H6
  iexists W'; isplitr; · ipureintro; exact fun _ _ => Or.inl trivial
  iexact HW'

theorem body_obligation_G (h : ∀ c, Good m c) (c : Dev nD) : BodyObligation (datsG m h 0 c) (defs₀ (F := Ideal)) Variants.none () Set.univ := fun t => by
  rw [no_blocks, no_blocks, defs₀_row]
  refine triple_restated (sound_body_G m h c t) rfl ?_ fun _ => ?_
  · iintro ⟨A, B, -⟩; isplitl [A]; · iexact A
    iexact B
  · iintro ⟨A, B⟩; isplitl [A]; · iexact A
    isplitl [B]; · iexact B
    iempintro

set_option backward.isDefEq.respectTransparency.types false in
theorem run_main_G (h : ∀ c, Good m c) : θ_run defs (onTc (τ := τ) (main (F := Ideal))) (s₀ m ρ)
    (fun r => Pipeline.FramePostRG cfgs (datsG m h) 0 R0 (V m) (G m h) r ∧ r.2.sem = fun _ => 0) :=
  Pipeline.θ_run_frame_dmaRG (Q' := _) cfgs (datsG m h) (0 : Fin 1) launch0 osem0 defs₀ Variants.none ownSemFacts0 H0 R0 H0_sub R0_sub m ρ main
    (hbody := fun c => (body_obligation_G m h c).loose) (hshare := fun c w => w.elim0)
    (howed := fun _ _ => rfl) (V := V m) (hmain := hmain' m Variants.none) (hA := fun c w => w.elim0) (G := G m h)
    (hin := fun _ => .rfl) (hout := fun _ => .rfl)

/-- The kernel's run: the two results at the means and the degrees, the arguments unchanged. -/
theorem run_values (h : ∀ c, Good m c) : θ_run defs (onTc (τ := τ) (main (F := Ideal))) ⟨m, fun _ => 0, ρ⟩ (fun r => ∀ c : Dev nD,
      r.2.mem ((c.tc : Thread nD τ).loc main_v2_0) = meanV m c (h c)
      ∧ r.2.mem ((c.tc : Thread nD τ).loc main_v2_1) = degV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ q c => ⟨(q.1.written c (by decide)).trans (G_0 m h c), (q.1.written c (by decide)).trans (G_1 m h c),
    ((q.1.toR c).2 main_arg0 (Finset.mem_sdiff.mpr ⟨Pipeline.mem_restRefs_of main_arg0 (by decide) (by decide), by decide⟩)).trans (V_main_arg0 m c),
    ((q.1.toR c).2 main_arg1 (Finset.mem_sdiff.mpr ⟨Pipeline.mem_restRefs_of main_arg1 (by decide) (by decide), by decide⟩)).trans (V_main_arg1 m c),
    ((q.1.toR c).2 main_arg2 (Finset.mem_sdiff.mpr ⟨Pipeline.mem_restRefs_of main_arg2 (by decide) (by decide), by decide⟩)).trans (V_main_arg2 m c),
    ((q.1.toR c).2 main_arg3 (Finset.mem_sdiff.mpr ⟨Pipeline.mem_restRefs_of main_arg3 (by decide) (by decide), by decide⟩)).trans (V_main_arg3 m c),
    ((q.1.toR c).2 main_arg4 (Finset.mem_sdiff.mpr ⟨Pipeline.mem_restRefs_of main_arg4 (by decide) (by decide), by decide⟩)).trans (V_main_arg4 m c)⟩) (run_main_G m ρ h)

end Cert.KernelIdeal.Hand

end
-- ==== Proof.ReferenceIdeal.Stages.lean ====
module

public import proofs.«01_k».proof.Proof.Gen.ReferenceIdeal.Read
public import proofs.«01_k».proof.Proof.Math
public import Idealize.ShloMosaic.Lib.PointwiseCore
public import Idealize.ShloMosaic.Lib.WordCmp
public import Idealize.ShloMosaic.Lib.Routing.OpsPair

/-! The reference's later operations read at an index: the tiles gathered and multiplied, the segment sums, the quotient. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic Cert.Mean

/-! ## Segment sums -/

/-- A sum over the positions that satisfy `L`, when those are the images of the numbers that satisfy `P`. -/
theorem sum_hits {J N M : Type} [Fintype J] [Fintype N] [AddCommMonoid M] (L : J → Prop) [DecidablePred L] (P : N → Prop) [DecidablePred P]
    (e : N → J) (he : Function.Injective e) (h : ∀ j, L j ↔ ∃ n, P n ∧ j = e n) (f : J → M) :
    ∑ j ∈ Finset.univ.filter L, f j = ∑ n, if P n then f (e n) else 0 := by
  classical
  rw [← Finset.sum_filter]
  symm
  refine Finset.sum_bij (fun n _ => e n) ?_ (fun _ _ _ _ q => he q) ?_ (fun _ _ => rfl)
  · intro n hn
    exact Finset.mem_filter.2 ⟨Finset.mem_univ _, (h _).2 ⟨n, (Finset.mem_filter.1 hn).2, rfl⟩⟩
  · intro j hj
    obtain ⟨n, hn, rfl⟩ := (h j).1 (Finset.mem_filter.1 hj).2
    exact ⟨n, Finset.mem_filter.2 ⟨Finset.mem_univ _, hn⟩, rfl⟩

theorem start2_0 (idx : IVec S60x1 32) (n : Fin 60) (i : Fin 128) :
    scatter_S15x128_S60x1_S60x128_1_0_0_1.start (ix2 n i) idx 0 = (idx (ix2 n 0)).toInt := by
  unfold ScatterDims.start
  rw [dif_pos (by decide)]
  refine congrArg (fun q => (idx q).toInt) ?_
  funext a
  apply Fin.ext
  match a with
  | ⟨0, _⟩ => rfl
  | ⟨1, _⟩ => rfl

theorem start2_1 (idx : IVec S60x1 32) (n : Fin 60) (i : Fin 128) :
    scatter_S15x128_S60x1_S60x128_1_0_0_1.start (ix2 n i) idx 1 = 0 := by
  unfold ScatterDims.start
  rw [dif_neg (by decide)]

theorem window2_0 (n : Fin 60) (i : Fin 128) : scatter_S15x128_S60x1_S60x128_1_0_0_1.window (ix2 n i) 0 = 0 := by
  unfold ScatterDims.window
  rw [dif_neg (by decide)]

theorem window2_1 (n : Fin 60) (i : Fin 128) : scatter_S15x128_S60x1_S60x128_1_0_0_1.window (ix2 n i) 1 = i.val := by
  unfold ScatterDims.window
  rw [dif_pos (by decide)]
  rfl

theorem start3_0 (idx : IVec S60x1 32) (n : Fin 60) (i : Fin 128) (d : Fin 3072) :
    scatter_S15x128x3072_S60x1_S60x128x3072_12_0_0_1.start (ix3 n i d) idx 0 = (idx (ix2 n 0)).toInt := by
  unfold ScatterDims.start
  rw [dif_pos (by decide)]
  refine congrArg (fun q => (idx q).toInt) ?_
  funext a
  apply Fin.ext
  match a with
  | ⟨0, _⟩ => rfl
  | ⟨1, _⟩ => rfl

theorem start3_1 (idx : IVec S60x1 32) (n : Fin 60) (i : Fin 128) (d : Fin 3072) :
    scatter_S15x128x3072_S60x1_S60x128x3072_12_0_0_1.start (ix3 n i d) idx 1 = 0 := by
  unfold ScatterDims.start
  rw [dif_neg (by decide)]

theorem start3_2 (idx : IVec S60x1 32) (n : Fin 60) (i : Fin 128) (d : Fin 3072) :
    scatter_S15x128x3072_S60x1_S60x128x3072_12_0_0_1.start (ix3 n i d) idx 2 = 0 := by
  unfold ScatterDims.start
  rw [dif_neg (by decide)]

theorem window3_0 (n : Fin 60) (i : Fin 128) (d : Fin 3072) :
    scatter_S15x128x3072_S60x1_S60x128x3072_12_0_0_1.window (ix3 n i d) 0 = 0 := by
  unfold ScatterDims.window
  rw [dif_neg (by decide)]

theorem window3_1 (n : Fin 60) (i : Fin 128) (d : Fin 3072) :
    scatter_S15x128x3072_S60x1_S60x128x3072_12_0_0_1.window (ix3 n i d) 1 = i.val := by
  unfold ScatterDims.window
  rw [dif_pos (by decide)]
  rfl

theorem window3_2 (n : Fin 60) (i : Fin 128) (d : Fin 3072) :
    scatter_S15x128x3072_S60x1_S60x128x3072_12_0_0_1.window (ix3 n i d) 2 = d.val := by
  unfold ScatterDims.window
  rw [dif_pos (by decide)]
  rfl

/-- The segment sum of rows: row `i` of segment `q` is the sum of the rows `i` of the updates whose segment number is `q`. -/
theorem scatter2_at (x : FVec Ideal S15x128 .f32) (idx : IVec S60x1 32) (upd : FVec Ideal S60x128 .f32) (q : Fin 15) (i : Fin 128) :
    Host.scatterAdd scatter_S15x128_S60x1_S60x128_1_0_0_1 x idx upd (ix2 q i)
      = x (ix2 q i) + ∑ n : Fin 60, if (idx (ix2 n 0)).toInt = (q.val : ℤ) then upd (ix2 n i) else 0 := by
  unfold Host.scatterAdd
  rw [Ideal.hostScatterAdd_def]
  show x (ix2 q i) + ∑ j ∈ _, _ = _
  refine congrArg (x (ix2 q i) + ·) ?_
  refine sum_hits _ (fun n => (idx (ix2 n 0)).toInt = (q.val : ℤ)) (fun n => (ix2 n i : S60x128.Idx)) (fun n n' h => ?_) (fun j => ?_) upd
  · exact congrFun h 0
  · obtain ⟨n, i', rfl⟩ : ∃ (n : Fin 60) (i' : Fin 128), j = ix2 n i' := ⟨j 0, j 1, eq_ix2 j⟩
    rw [Routing.resultIdx?_eq_some]
    constructor
    · intro h
      have h0 := h 0
      have h1 := h 1
      rw [start2_0, window2_0] at h0
      rw [start2_1, window2_1] at h1
      refine ⟨n, ?_, ?_⟩
      · simpa using h0
      · refine congrArg (ix2 n) (Fin.ext ?_)
        have h1' : (0 : ℤ) + (i'.val : ℤ) = (i.val : ℤ) := h1
        omega
    · rintro ⟨m, hm, e⟩
      have e0 : n = m := congrFun e 0
      have e1 : i' = i := congrFun e 1
      subst e0 e1
      intro a
      match a with
      | ⟨0, _⟩ =>
        show scatter_S15x128_S60x1_S60x128_1_0_0_1.start (ix2 n i') idx 0 + (scatter_S15x128_S60x1_S60x128_1_0_0_1.window (ix2 n i') 0 : ℤ) = (q.val : ℤ)
        rw [start2_0, window2_0, hm]
        exact Int.add_zero _
      | ⟨1, _⟩ =>
        show scatter_S15x128_S60x1_S60x128_1_0_0_1.start (ix2 n i') idx 1 + (scatter_S15x128_S60x1_S60x128_1_0_0_1.window (ix2 n i') 1 : ℤ) = (i'.val : ℤ)
        rw [start2_1, window2_1]
        exact Int.zero_add _

/-- The segment sum of blocks. -/
theorem scatter3_at (x : FVec Ideal S15x128x3072 .f32) (idx : IVec S60x1 32) (upd : FVec Ideal S60x128x3072 .f32) (q : Fin 15) (i : Fin 128)
    (d : Fin 3072) :
    Host.scatterAdd scatter_S15x128x3072_S60x1_S60x128x3072_12_0_0_1 x idx upd (ix3 q i d)
      = x (ix3 q i d) + ∑ n : Fin 60, if (idx (ix2 n 0)).toInt = (q.val : ℤ) then upd (ix3 n i d) else 0 := by
  unfold Host.scatterAdd
  rw [Ideal.hostScatterAdd_def]
  show x (ix3 q i d) + ∑ j ∈ _, _ = _
  refine congrArg (x (ix3 q i d) + ·) ?_
  refine sum_hits _ (fun n => (idx (ix2 n 0)).toInt = (q.val : ℤ)) (fun n => (ix3 n i d : S60x128x3072.Idx)) (fun n n' h => ?_) (fun j => ?_) upd
  · exact congrFun h 0
  · obtain ⟨n, i', d', rfl⟩ : ∃ (n : Fin 60) (i' : Fin 128) (d' : Fin 3072), j = ix3 n i' d' := ⟨j 0, j 1, j 2, eq_ix3 j⟩
    rw [Routing.resultIdx?_eq_some]
    constructor
    · intro h
      have h0 := h 0
      have h1 := h 1
      have h2 := h 2
      rw [start3_0, window3_0] at h0
      rw [start3_1, window3_1] at h1
      rw [start3_2, window3_2] at h2
      have h1' : (0 : ℤ) + (i'.val : ℤ) = (i.val : ℤ) := h1
      have h2' : (0 : ℤ) + (d'.val : ℤ) = (d.val : ℤ) := h2
      have e1 : i' = i := Fin.ext (by omega)
      have e2 : d' = d := Fin.ext (by omega)
      subst e1 e2
      exact ⟨n, by simpa using h0, rfl⟩
    · rintro ⟨m, hm, e⟩
      have e0 : n = m := congrFun e 0
      have e1 : i' = i := congrFun e 1
      have e2 : d' = d := congrFun e 2
      subst e0 e1 e2
      intro a
      match a with
      | ⟨0, _⟩ =>
        show scatter_S15x128x3072_S60x1_S60x128x3072_12_0_0_1.start (ix3 n i' d') idx 0
          + (scatter_S15x128x3072_S60x1_S60x128x3072_12_0_0_1.window (ix3 n i' d') 0 : ℤ) = (q.val : ℤ)
        rw [start3_0, window3_0, hm]
        exact Int.add_zero _
      | ⟨1, _⟩ =>
        show scatter_S15x128x3072_S60x1_S60x128x3072_12_0_0_1.start (ix3 n i' d') idx 1
          + (scatter_S15x128x3072_S60x1_S60x128x3072_12_0_0_1.window (ix3 n i' d') 1 : ℤ) = (i'.val : ℤ)
        rw [start3_1, window3_1]
        exact Int.zero_add _
      | ⟨2, _⟩ =>
        show scatter_S15x128x3072_S60x1_S60x128x3072_12_0_0_1.start (ix3 n i' d') idx 2
          + (scatter_S15x128x3072_S60x1_S60x128x3072_12_0_0_1.window (ix3 n i' d') 2 : ℤ) = (d'.val : ℤ)
        rw [start3_2, window3_2]
        exact Int.zero_add _

/-! ## The segment numbers -/

variable (x1 : (⟨S3x3072, .f32⟩ : BufTy).Contents (Elt Ideal)) (x3 : (⟨S3x20, .i32⟩ : BufTy).Contents (Elt Ideal))
  (r0 : (⟨S3x640x3072, .f32⟩ : BufTy).Contents (Elt Ideal)) (e0 : (⟨S3, .i32⟩ : BufTy).Contents (Elt Ideal))
  (e1 : (⟨S3x20x128x128, .f32⟩ : BufTy).Contents (Elt Ideal)) (e2 : (⟨S3x20, .i32⟩ : BufTy).Contents (Elt Ideal))

/-- Slot `n` of batch `b` has the segment number of the batch's row block the slot is in. -/
theorem seg_at (h0 : ∀ b : Fin 3, e0 (ix1 b) = BitVec.ofNat 32 b.val) (h2 : ∀ (b : Fin 3) (n : Fin 20), (e2 (ix2 b n) : BitVec 32).toNat ≤ 4)
    (b : Fin 3) (n : Fin 20) :
    (val_main_v55 (F := Ideal) e0 e2 (ix1 ⟨20 * b.val + n.val, by omega⟩)).toInt = ((5 * b.val + (e2 (ix2 b n) : BitVec 32).toNat : ℕ) : ℤ) := by
  have hb := b.isLt
  have hn := n.isLt
  have hk := h2 b n
  have hi : idx_main_v55 (ix1 ⟨20 * b.val + n.val, by omega⟩ : S60.Idx) = ix2 b n := by
    funext a
    apply Fin.ext
    match a with
    | ⟨0, _⟩ => show (20 * b.val + n.val) / 20 = b.val; omega
    | ⟨1, _⟩ => show (20 * b.val + n.val) % 20 = n.val; omega
  have hj : idx_main_v50 (idx_main_v53 (ix2 b n : S3x20.Idx)) = (ix1 b : S3.Idx) := by
    funext a
    apply Fin.ext
    match a with
    | ⟨0, _⟩ => rfl
  rw [val_main_v55_apply, hi, val_main_v54_apply, val_main_v53_apply, val_main_v52_apply, val_main_v50_apply, val_main_v51_apply, hj, h0]
  show (BitVec.ofNat 32 b.val * 5#32 + (e2 (ix2 b n) : BitVec 32)).toInt = _
  have hm : (BitVec.ofNat 32 b.val * 5#32 + (e2 (ix2 b n) : BitVec 32)).toNat = 5 * b.val + (e2 (ix2 b n) : BitVec 32).toNat := by
    rw [BitVec.toNat_add, BitVec.toNat_mul, BitVec.toNat_ofNat]
    have e : b.val % 2 ^ 32 * (5#32).toNat % 2 ^ 32 = 5 * b.val := by
      rw [show (5#32).toNat = 5 from rfl, Nat.mod_eq_of_lt (show b.val < 2 ^ 32 by omega)]
      omega
    rw [e]
    omega
  rw [BitVec.toInt_eq_toNat_of_lt (by rw [hm]; omega), hm]

/-- A segment's sum over all batches' slots is the sum over its own batch's slots in its row block. -/
theorem seg_sum (h0 : ∀ b : Fin 3, e0 (ix1 b) = BitVec.ofNat 32 b.val) (h2 : ∀ (b : Fin 3) (n : Fin 20), (e2 (ix2 b n) : BitVec 32).toNat ≤ 4)
    (f : Fin 60 → EReal) (b : Fin 3) (r : Fin 5) :
    (∑ n : Fin 60, if (val_main_v55 (F := Ideal) e0 e2 (ix1 n)).toInt = ((5 * b.val + r.val : ℕ) : ℤ) then f n else 0)
      = ∑ n : Fin 20, if (e2 (ix2 b n) : BitVec 32).toNat = r.val then f ⟨20 * b.val + n.val, by omega⟩ else 0 := by
  rw [sum_blocks (A := 3) (B := 20) rfl]
  rw [Finset.sum_eq_single b]
  · refine Finset.sum_congr rfl fun n _ => ?_
    rw [seg_at e0 e2 h0 h2]
    refine if_congr ?_ rfl rfl
    omega
  · intro b' _ hb'
    refine Finset.sum_eq_zero fun n _ => ?_
    rw [seg_at e0 e2 h0 h2]
    refine if_neg fun q => hb' (Fin.ext ?_)
    have := h2 b' n
    have := r.isLt
    omega
  · intro h
    exact absurd (Finset.mem_univ b) h

/-! ## The degrees -/

theorem v69_at (h0 : ∀ b : Fin 3, e0 (ix1 b) = BitVec.ofNat 32 b.val) (h2 : ∀ (b : Fin 3) (n : Fin 20), (e2 (ix2 b n) : BitVec 32).toNat ≤ 4)
    (b : Fin 3) (r : Fin 5) (i : Fin 128) :
    val_main_v69 (F := Ideal) e0 e1 e2 (ix2 b ⟨128 * r.val + i.val, by omega⟩)
      = ∑ n : Fin 20, if (e2 (ix2 b n) : BitVec 32).toNat = r.val then ∑ k : Fin 128, e1 (ix4 b n i k) else 0 := by
  have hb := b.isLt
  have hr := r.isLt
  have hi := i.isLt
  have hx : idx_main_v69 (ix2 b ⟨128 * r.val + i.val, by omega⟩ : S3x640.Idx) = ix2 (⟨5 * b.val + r.val, by omega⟩ : Fin 15) i := by
    funext a
    apply Fin.ext
    match a with
    | ⟨0, _⟩ => show (b.val * 640 + (128 * r.val + i.val)) / 128 = 5 * b.val + r.val; omega
    | ⟨1, _⟩ => show (b.val * 640 + (128 * r.val + i.val)) % 128 = i.val; omega
  rw [val_main_v69_apply, hx]
  unfold val_main_v68
  rw [scatter2_at, val_main_v66_apply]
  have hz : val_main_cst_9 (F := Ideal) (idx_main_v66 (ix2 (⟨5 * b.val + r.val, by omega⟩ : Fin 15) i)) = 0 := Ideal.ofBits_zero_f32
  rw [hz, zero_add]
  have hseg : ∀ n : Fin 60, val_main_v67 (F := Ideal) e0 e2 (ix2 n 0) = val_main_v55 (F := Ideal) e0 e2 (ix1 n) := fun n => by
    rw [val_main_v67_apply]
    refine congrArg _ ?_
    funext a
    apply Fin.ext
    match a with
    | ⟨0, _⟩ => rfl
  simp only [hseg]
  rw [seg_sum e0 e2 h0 h2 (fun n => val_main_v65 (F := Ideal) e1 (ix2 n i))]
  refine Finset.sum_congr rfl fun n _ => ?_
  refine if_congr Iff.rfl ?_ rfl
  have hn := n.isLt
  have hy : idx_main_v65 (ix2 (⟨20 * b.val + n.val, by omega⟩ : Fin 60) i : S60x128.Idx) = ix3 b n i := by
    funext a
    apply Fin.ext
    match a with
    | ⟨0, _⟩ => show ((20 * b.val + n.val) * 128 + i.val) / 2560 = b.val; omega
    | ⟨1, _⟩ => show ((20 * b.val + n.val) * 128 + i.val) / 128 % 20 = n.val; omega
    | ⟨2, _⟩ => show ((20 * b.val + n.val) * 128 + i.val) % 128 = i.val; omega
  show val_main_v65 (F := Ideal) e1 (ix2 (⟨20 * b.val + n.val, by omega⟩ : Fin 60) i) = _
  rw [val_main_v65_apply, hy, val_main_v64_apply]
  have hz' : val_main_cst_8 (F := Ideal) (Shape.Idx.first h_S_) = 0 := Ideal.ofBits_zero_f32
  rw [hz', zero_add]
  refine Finset.sum_congr rfl fun k _ => congrArg e1 ?_
  funext a
  apply Fin.ext
  match a with
  | ⟨0, _⟩ => rfl
  | ⟨1, _⟩ => rfl
  | ⟨2, _⟩ => rfl
  | ⟨3, _⟩ => rfl

/-! ## The tiles -/

/-- The start words of slot `n`: its batch, and its tile column. -/
theorem v47_at (h0 : ∀ b : Fin 3, e0 (ix1 b) = BitVec.ofNat 32 b.val) (h3 : ∀ (b : Fin 3) (n : Fin 20), (x3 (ix2 b n) : BitVec 32).toNat < 5)
    (b : Fin 3) (n : Fin 20) :
    val_main_v47 (F := Ideal) x3 e0 (ix3 b n 0) = BitVec.ofNat 32 b.val ∧ val_main_v47 (F := Ideal) x3 e0 (ix3 b n 1) = x3 (ix2 b n) := by
  have hb := b.isLt
  constructor
  · unfold val_main_v47
    rw [concatenate_pair_apply_left (t := S3x20x2) 2 (val_main_v45 (F := Ideal) e0) (val_main_v46 (F := Ideal) x3) _ (ix3 b n 0) rfl (ix3 b n 0) (fun a => by
      match a with
      | ⟨0, _⟩ => rfl
      | ⟨1, _⟩ => rfl
      | ⟨2, _⟩ => rfl)]
    rw [val_main_v45_apply, val_main_v44_apply, val_main_v38_apply]
    have hj : idx_main_v33 (idx_main_v44 (idx_main_v45 (ix3 b n 0 : S3x20x1.Idx))) = (ix1 b : S3.Idx) := by
      funext a
      apply Fin.ext
      match a with
      | ⟨0, _⟩ => rfl
    have hs : val_main_v33 (F := Ideal) e0 (idx_main_v44 (idx_main_v45 (ix3 b n 0 : S3x20x1.Idx))) = BitVec.ofNat 32 b.val := by
      rw [val_main_v33_apply, hj, h0]
    rw [val_main_v35_apply, val_main_v34_apply, hs]
    exact Routing.wrap_of_lt _ _ (by
      rw [BitVec.toNat_ofNat, Nat.mod_eq_of_lt (show b.val < 2 ^ 32 by omega)]
      show b.val < 2 ^ 31
      omega)
  · unfold val_main_v47
    rw [concatenate_pair_apply_right (t := S3x20x2) 2 (val_main_v45 (F := Ideal) e0) (val_main_v46 (F := Ideal) x3) _ (ix3 b n 1) rfl rfl (ix3 b n 0) (fun a ha => by
      match a with
      | ⟨0, _⟩ => rfl
      | ⟨1, _⟩ => rfl
      | ⟨2, _⟩ => exact absurd rfl ha) rfl]
    have hj : idx_main_v46 (ix3 b n 0 : S3x20x1.Idx) = (ix2 b n : S3x20.Idx) := by
      funext a
      apply Fin.ext
      match a with
      | ⟨0, _⟩ => rfl
      | ⟨1, _⟩ => rfl
    rw [val_main_v46_apply, hj, val_main_v43_apply, val_main_v40_apply, val_main_v39_apply]
    exact Routing.wrap_of_lt _ _ (lt_of_lt_of_le (h3 b n) (by decide))

/-- Slot `n`'s tile of features: its batch's rows from 128 times its column. -/
theorem v48_at (h0 : ∀ b : Fin 3, e0 (ix1 b) = BitVec.ofNat 32 b.val) (h3 : ∀ (b : Fin 3) (n : Fin 20), (x3 (ix2 b n) : BitVec 32).toNat < 5)
    (b : Fin 3) (n : Fin 20) (k : Fin 128) (d : Fin 3072) :
    val_main_v48 (F := Ideal) x3 r0 e0 (ix4 b n k d)
      = r0 (ix3 b ⟨128 * (x3 (ix2 b n) : BitVec 32).toNat + k.val, by have := h3 b n; omega⟩ d) := by
  obtain ⟨ha, hc⟩ := v47_at x3 e0 h0 h3 b n
  have hb := b.isLt
  have hk := k.isLt
  have hd := d.isLt
  have ht := h3 b n
  unfold val_main_v48 Host.gather
  generalize val_main_v47 (F := Ideal) x3 e0 = idx at ha hc
  generalize hD : gather_S3x5x128x3072_S3x20x2_S3x20x128x3072_23_01_n_n_01_2_111283072 = D
  have s0 : D.start (ix4 b n k d) idx 0 = b.val := by
    subst hD
    unfold GatherDims.start
    rw [dif_pos (by decide)]
    have e : gather_S3x5x128x3072_S3x20x2_S3x20x128x3072_23_01_n_n_01_2_111283072.siIdx (ix4 b n k d) ⟨0, by decide⟩ = ix3 b n 0 := by
      funext a
      apply Fin.ext
      match a with
      | ⟨0, _⟩ => rfl
      | ⟨1, _⟩ => rfl
      | ⟨2, _⟩ => rfl
    show min (idx (gather_S3x5x128x3072_S3x20x2_S3x20x128x3072_23_01_n_n_01_2_111283072.siIdx (ix4 b n k d) ⟨0, by decide⟩)).toInt.toNat (3 - 1) = b.val
    rw [e, ha, BitVec.toInt_eq_toNat_of_lt (by rw [BitVec.toNat_ofNat]; omega), BitVec.toNat_ofNat]
    omega
  have s1 : D.start (ix4 b n k d) idx 1 = (x3 (ix2 b n) : BitVec 32).toNat := by
    subst hD
    unfold GatherDims.start
    rw [dif_pos (by decide)]
    have e : gather_S3x5x128x3072_S3x20x2_S3x20x128x3072_23_01_n_n_01_2_111283072.siIdx (ix4 b n k d) ⟨1, by decide⟩ = ix3 b n 1 := by
      funext a
      apply Fin.ext
      match a with
      | ⟨0, _⟩ => rfl
      | ⟨1, _⟩ => rfl
      | ⟨2, _⟩ => rfl
    show min (idx (gather_S3x5x128x3072_S3x20x2_S3x20x128x3072_23_01_n_n_01_2_111283072.siIdx (ix4 b n k d) ⟨1, by decide⟩)).toInt.toNat (5 - 1) = _
    rw [e, hc, BitVec.toInt_eq_toNat_of_lt (by omega)]
    omega
  have hi : idx_main_v32 (D.operandIdx (ix4 b n k d) idx) = ix3 b ⟨128 * (x3 (ix2 b n) : BitVec 32).toNat + k.val, by omega⟩ d := by
    have p0 : (D.operandIdx (ix4 b n k d) idx 0).val = b.val := by
      show D.start (ix4 b n k d) idx 0 + D.batchCoord (ix4 b n k d) 0 + D.offCoord (ix4 b n k d) 0 = _
      rw [s0]
      subst hD
      rfl
    have p1 : (D.operandIdx (ix4 b n k d) idx 1).val = (x3 (ix2 b n) : BitVec 32).toNat := by
      show D.start (ix4 b n k d) idx 1 + D.batchCoord (ix4 b n k d) 1 + D.offCoord (ix4 b n k d) 1 = _
      rw [s1]
      subst hD
      rfl
    have p2 : (D.operandIdx (ix4 b n k d) idx 2).val = k.val := by
      subst hD
      exact Nat.zero_add _
    have p3 : (D.operandIdx (ix4 b n k d) idx 3).val = d.val := by
      subst hD
      exact Nat.zero_add _
    generalize D.operandIdx (ix4 b n k d) idx = q at p0 p1 p2 p3
    funext a
    apply Fin.ext
    match a with
    | ⟨0, _⟩ => show ((((q 0).val * 5 + (q 1).val) * 128 + (q 2).val) * 3072 + (q 3).val) / 1966080 = b.val; rw [p0, p1, p2, p3]; omega
    | ⟨1, _⟩ => show ((((q 0).val * 5 + (q 1).val) * 128 + (q 2).val) * 3072 + (q 3).val) / 3072 % 640 = 128 * (x3 (ix2 b n) : BitVec 32).toNat + k.val; rw [p0, p1, p2, p3]; omega
    | ⟨2, _⟩ => show ((((q 0).val * 5 + (q 1).val) * 128 + (q 2).val) * 3072 + (q 3).val) % 3072 = d.val; rw [p0, p1, p2, p3]; omega
  rw [val_main_v32_apply, hi]

/-- The tiles' products, summed by row block. -/
theorem v60_at (h0 : ∀ b : Fin 3, e0 (ix1 b) = BitVec.ofNat 32 b.val) (h2 : ∀ (b : Fin 3) (n : Fin 20), (e2 (ix2 b n) : BitVec 32).toNat ≤ 4)
    (h3 : ∀ (b : Fin 3) (n : Fin 20), (x3 (ix2 b n) : BitVec 32).toNat < 5) (b : Fin 3) (r : Fin 5) (i : Fin 128) (d : Fin 3072) :
    val_main_v60 (F := Ideal) x3 r0 e0 e1 e2 (ix3 b ⟨128 * r.val + i.val, by omega⟩ d)
      = ∑ n : Fin 20, if (e2 (ix2 b n) : BitVec 32).toNat = r.val
          then ∑ k : Fin 128, e1 (ix4 b n i k) * r0 (ix3 b ⟨128 * (x3 (ix2 b n) : BitVec 32).toNat + k.val, by have := h3 b n; omega⟩ d) else 0 := by
  have hb := b.isLt
  have hr := r.isLt
  have hi := i.isLt
  have hd := d.isLt
  have hx : idx_main_v60 (ix3 b ⟨128 * r.val + i.val, by omega⟩ d : S3x640x3072.Idx) = ix3 (⟨5 * b.val + r.val, by omega⟩ : Fin 15) i d := by
    funext a
    apply Fin.ext
    match a with
    | ⟨0, _⟩ => show ((b.val * 640 + (128 * r.val + i.val)) * 3072 + d.val) / 393216 = 5 * b.val + r.val; omega
    | ⟨1, _⟩ => show ((b.val * 640 + (128 * r.val + i.val)) * 3072 + d.val) / 3072 % 128 = i.val; omega
    | ⟨2, _⟩ => show ((b.val * 640 + (128 * r.val + i.val)) * 3072 + d.val) % 3072 = d.val; omega
  rw [val_main_v60_apply, hx]
  unfold val_main_v59
  rw [scatter3_at, val_main_v57_apply]
  have hz : val_main_cst (F := Ideal) (idx_main_v57 (ix3 (⟨5 * b.val + r.val, by omega⟩ : Fin 15) i d)) = 0 := Ideal.ofBits_zero_f32
  rw [hz, zero_add]
  have hseg : ∀ n : Fin 60, val_main_v58 (F := Ideal) e0 e2 (ix2 n 0) = val_main_v55 (F := Ideal) e0 e2 (ix1 n) := fun n => by
    rw [val_main_v58_apply]
    refine congrArg _ ?_
    funext a
    apply Fin.ext
    match a with
    | ⟨0, _⟩ => rfl
  simp only [hseg]
  rw [seg_sum e0 e2 h0 h2 (fun n => val_main_v56 (F := Ideal) x3 r0 e0 e1 (ix3 n i d))]
  refine Finset.sum_congr rfl fun n _ => ?_
  refine if_congr Iff.rfl ?_ rfl
  have hn := n.isLt
  have hy : idx_main_v56 (ix3 (⟨20 * b.val + n.val, by omega⟩ : Fin 60) i d : S60x128x3072.Idx) = ix4 b n i d := by
    funext a
    apply Fin.ext
    match a with
    | ⟨0, _⟩ => show (((20 * b.val + n.val) * 128 + i.val) * 3072 + d.val) / 7864320 = b.val; omega
    | ⟨1, _⟩ => show (((20 * b.val + n.val) * 128 + i.val) * 3072 + d.val) / 393216 % 20 = n.val; omega
    | ⟨2, _⟩ => show (((20 * b.val + n.val) * 128 + i.val) * 3072 + d.val) / 3072 % 128 = i.val; omega
    | ⟨3, _⟩ => show (((20 * b.val + n.val) * 128 + i.val) * 3072 + d.val) % 3072 = d.val; omega
  rw [val_main_v56_apply, hy, val_main_v49_apply]
  refine Finset.sum_congr rfl fun k _ => ?_
  have hl : lidx_main_v49 (ix4 b n i d : S3x20x128x3072.Idx) k = (ix4 b n i k : S3x20x128x128.Idx) := by
    funext a
    apply Fin.ext
    match a with
    | ⟨0, _⟩ => rfl
    | ⟨1, _⟩ => rfl
    | ⟨2, _⟩ => rfl
    | ⟨3, _⟩ => rfl
  have hr' : ridx_main_v49 (ix4 b n i d : S3x20x128x3072.Idx) k = (ix4 b n k d : S3x20x128x3072.Idx) := by
    funext a
    apply Fin.ext
    match a with
    | ⟨0, _⟩ => rfl
    | ⟨1, _⟩ => rfl
    | ⟨2, _⟩ => rfl
    | ⟨3, _⟩ => rfl
  rw [hl, hr', v48_at x3 r0 e0 h0 h3]

/-- The first result, of the sums and the degrees. -/
theorem v78_at (b : Fin 3) (q : Fin 640) (d : Fin 3072) :
    val_main_v78 (F := Ideal) x1 x3 r0 e0 e1 e2 (ix3 b q d)
      = if 0 < val_main_v69 (F := Ideal) e0 e1 e2 (ix2 b q)
        then Ideal.div (val_main_v60 (F := Ideal) x3 r0 e0 e1 e2 (ix3 b q d) * x1 (ix2 b d))
          (if 0 < val_main_v69 (F := Ideal) e0 e1 e2 (ix2 b q) then val_main_v69 (F := Ideal) e0 e1 e2 (ix2 b q) else 1)
        else 0 := by
  have hq : ∀ j : S3x640.Idx, (j 0).val = b.val → (j 1).val = q.val → j = ix2 b q := fun j p0 p1 => by
    funext a
    apply Fin.ext
    match a with
    | ⟨0, _⟩ => exact p0
    | ⟨1, _⟩ => exact p1
  have hx : idx_main_v61 (idx_main_v62 (ix3 b q d : S3x640x3072.Idx)) = (ix2 b d : S3x3072.Idx) := by
    funext a
    apply Fin.ext
    match a with
    | ⟨0, _⟩ => rfl
    | ⟨1, _⟩ => rfl
  rw [val_main_v78_apply, val_main_v77_apply, val_main_call2_v1_apply, val_main_v72_apply, val_main_v76_apply, val_main_v75_apply, val_main_v74_apply,
    val_main_v63_apply, val_main_v62_apply, val_main_v61_apply, hx, val_main_call2_v2_apply]
  have h1 : idx_main_v72 (idx_main_call2_v1 (ix3 b q d : S3x640x3072.Idx)) = ix2 b q := hq _ rfl rfl
  have h2 : idx_main_v74 (idx_main_v75 (ix3 b q d : S3x640x3072.Idx)) = ix2 b q := hq _ rfl rfl
  rw [h1, h2, val_main_v73_apply, val_main_v71_apply, val_main_v70_apply, val_main_call1_v1_apply]
  generalize val_main_v69 (F := Ideal) e0 e1 e2 (ix2 b q) = D
  generalize val_main_v60 (F := Ideal) x3 r0 e0 e1 e2 (ix3 b q d) = A
  have hz : ∀ j, val_main_cst_10 (F := Ideal) j = 0 := fun _ => Ideal.ofBits_zero_f32
  have hz' : ∀ j, val_main_call2_v0 (F := Ideal) j = 0 := fun _ => Ideal.ofBits_zero_f32
  have ho : ∀ j, val_main_call1_v0 (F := Ideal) j = 1 := fun _ => Ideal.ofBits_one_f32
  rw [hz, hz', ho]
  have hc : FloatOps.cmpf (F := Ideal) (φ := .f32) .ogt D 0 = if 0 < D then 1#1 else 0#1 := by
    show Ideal.cmp .ogt D 0 = _
    unfold Ideal.cmp
    by_cases h : 0 < D <;> simp [h]
  rw [hc]
  by_cases h : 0 < D
  · rw [if_pos h, if_pos h, if_pos h]; rfl
  · rw [if_neg h, if_neg h]; rfl

end Cert.ReferenceIdeal.Hand
end
-- ==== Proof.ReferenceIdeal.Inputs.lean ====
module

public import proofs.«01_k».proof.Proof.ReferenceIdeal.Stages
public import proofs.«01_k».proof.Proof.Args
public import Idealize.ShloMosaic.Lib.Pipeline.ValueKit
public import Idealize.ShloMosaic.Lib.WordCmp

/-! The reference's results as functions of the arguments: the row block of a slot counted off the row pointers, the mask words spread into bits, the
features widened, and the sums of the later operations over them. -/

@[expose] public section

set_option maxRecDepth 16384

noncomputable section

namespace Cert.ReferenceIdeal.Hand

open Cert.ReferenceIdeal Cert.ReferenceIdeal.Gen Cert.ReferenceIdeal.Read Cert.ReferenceIdeal.Value
open Idealize.ShloMosaic Idealize.ShloMosaic.TcCoe Idealize.ShloMosaic.Tactic Cert.Mean

variable (m : (ℓ : Loc nD τ sig) → Buf (Elt Ideal) ℓ) (c : Dev nD)

/-! ## Words -/

/-- A truth value as a word. -/
def w1 (q : Bool) : BitVec 32 := if q then 1#32 else 0#32

theorem count_clip : ∀ q0 q1 q2 q3 q4 : Bool,
    (IntOp.minsi 4#32 (IntOp.maxsi 0#32 (w1 q0 + (w1 q1 + (w1 q2 + (w1 q3 + (w1 q4 + 0#32))))))).toNat
      = min 4 (q0.toNat + q1.toNat + q2.toNat + q3.toNat + q4.toNat) := by decide

/-- A pointer compared with a slot number. -/
theorem le_word (p : BitVec 32) (n : Fin 20) (hp : p.toNat ≤ 20) :
    BitVec.setWidth 32 (IntOp.cmpi .sle p (BitVec.ofNat 32 n.val)) = w1 (decide (p.toNat ≤ n.val)) := by
  have hn : (BitVec.ofNat 32 n.val).toNat = n.val := by
    have := n.isLt
    rw [BitVec.toNat_ofNat]; omega
  rw [WordCmp.cmpi_sle_of_lt (lt_of_le_of_lt hp (by decide)) (by rw [hn]; exact lt_trans n.isLt (by decide)), hn]
  cases decide (p.toNat ≤ n.val) <;> rfl

theorem lt_word (p : BitVec 32) (n : Fin 20) (hp : p.toNat ≤ 20) :
    BitVec.setWidth 32 (IntOp.cmpi .slt (BitVec.ofNat 32 n.val) p) = w1 (decide (n.val < p.toNat)) := by
  have hn : (BitVec.ofNat 32 n.val).toNat = n.val := by
    have := n.isLt
    rw [BitVec.toNat_ofNat]; omega
  rw [WordCmp.cmpi_slt_of_lt (by rw [hn]; exact lt_trans n.isLt (by decide)) (lt_of_le_of_lt hp (by decide)), hn]
  cases decide (n.val < p.toNat) <;> rfl

/-- One bit of a word. -/
theorem bit_word (x : BitVec 32) (k : Fin 128) :
    IntOp.andi (IntOp.shrui .host x (BitVec.ofNat 32 (k.val % 32))) 1#32 = w1 (x.getLsbD (k.val % 32)) := by
  have hk : k.val % 32 < 32 := Nat.mod_lt _ (by decide)
  have hs : (BitVec.ofNat 32 (k.val % 32)).toNat = k.val % 32 := by
    rw [BitVec.toNat_ofNat]; omega
  unfold IntOp.shrui
  rw [if_pos (by rw [hs]; exact hk)]
  show (x >>> BitVec.ofNat 32 (k.val % 32)) &&& 1#32 = _
  rw [BitVec.ushiftRight_eq', hs]
  generalize k.val % 32 = s at hk ⊢
  apply BitVec.eq_of_getLsbD_eq
  intro j hj
  rw [BitVec.getLsbD_and, BitVec.getLsbD_ushiftRight, BitVec.getLsbD_one]
  unfold w1
  by_cases hj0 : j = 0
  · subst hj0
    cases x.getLsbD s <;> simp
  · cases x.getLsbD s <;> simp [hj0, Ne.symm hj0, BitVec.getLsbD_one]

theorem sitofp_w1 (p q : Bool) : FloatOps.sitofp (F := Ideal) .f32 (IntOp.muli (w1 p) (w1 q)) = one (p && q) := by
  show (((IntOp.muli (w1 p) (w1 q)).toInt : ℝ) : EReal) = _
  cases p <;> cases q <;> simp [w1, one, IntOp.muli]

/-! ## The values computed before the features are widened -/

/-- The row block the reference counts for a slot. -/
theorem slot_at (hp : ∀ i, (m ((c.tc : Thread nD τ).loc main_arg2) i : BitVec 32).toNat ≤ 20) (b : Fin 3) (n : Fin 20) :
    (exitV m c (Proc.devRef .tc main_v24) (ix2 b n) : BitVec 32).toNat
      = min 4 ((decide (ptrA (m ((c.tc : Thread nD τ).loc main_arg2)) b 1 ≤ n.val)).toNat
        + (decide (ptrA (m ((c.tc : Thread nD τ).loc main_arg2)) b 2 ≤ n.val)).toNat
        + (decide (ptrA (m ((c.tc : Thread nD τ).loc main_arg2)) b 3 ≤ n.val)).toNat
        + (decide (ptrA (m ((c.tc : Thread nD τ).loc main_arg2)) b 4 ≤ n.val)).toNat
        + (decide (ptrA (m ((c.tc : Thread nD τ).loc main_arg2)) b 5 ≤ n.val)).toNat) := by
  rw [exit_main_v24]
  generalize m ((c.tc : Thread nD τ).loc main_arg2) = p at hp ⊢
  pointwise
  have e : ∀ x : Fin 5, BitVec.setWidth 32 (IntOp.cmpi CmpIPredicate.sle (p (ix2 b ⟨1 + x.val, by omega⟩)) (BitVec.ofNat 32 n.val))
      = w1 (decide ((p (ix2 b ⟨1 + x.val, by omega⟩) : BitVec 32).toNat ≤ n.val)) := fun x => le_word _ n (hp _)
  simp only [e]
  exact count_clip _ _ _ _ _

/-- A slot's mask bit, zero in the slots past the last pointer. -/
theorem bits_at (hp : ∀ i, (m ((c.tc : Thread nD τ).loc main_arg2) i : BitVec 32).toNat ≤ 20) (b : Fin 3) (n : Fin 20) (i k : Fin 128) :
    exitV m c (Proc.devRef .tc main_v30) (ix4 b n i k)
      = one (bitA (m ((c.tc : Thread nD τ).loc main_arg4)) b n i k && decide (n.val < ptrA (m ((c.tc : Thread nD τ).loc main_arg2)) b 5)) := by
  rw [exit_main_v30]
  generalize m ((c.tc : Thread nD τ).loc main_arg2) = p at hp ⊢
  generalize m ((c.tc : Thread nD τ).loc main_arg4) = x
  pointwise
  rw [bit_word, lt_word _ n (hp _)]
  exact sitofp_w1 _ _

theorem iota_at (b : Fin 3) : exitV m c (Proc.devRef .tc main_v0) (ix1 b) = BitVec.ofNat 32 b.val := by
  rw [exit_main_v0]
  pointwise

/-- The region's one payload at whole blocks: the block, widened. -/
theorem out_eq (x : Vec Ideal S3x640x3072 .fp8e4m3) : out0_1 x = x := by
  have h0 : ∀ a : Fin S3x640x3072.rank, (![0, 0, 0] : Fin 3 → ℕ) a = 0 := fun a => by match a with | ⟨0, _⟩ => rfl | ⟨1, _⟩ => rfl | ⟨2, _⟩ => rfl
  unfold out0_1
  rw [View.canon_cons_unit_lit _ _ _ h0]
  show View.ld x r0_0 = x
  rw [View.ld_unit_lit _ _ h0]

theorem after_eq (t : Fin cfg0.N) : (dats m 0 c).after 1 t = out0_1 (iblk m c 0 t) := by
  dsimp only [dats]

theorem blk_eq (t : Fin cfg0.N) (y : S3x640x3072.Idx) : iblk m c 0 t y = V m c main_arg0 (((cfg0.win 0).blk t).view.emb y) := rfl

/-- The widened features are the features. -/
theorem wide : reg_main_v31 m c = m ((c.tc : Thread nD τ).loc main_arg0) := by
  unfold reg_main_v31
  refine (Gen.dats m 0 c).arrAt_eq_of_covers 1 _ (by decide +kernel) fun t hf y => ?_
  blk_simp
  rw [after_eq, out_eq]
  refine (blk_eq m c t y).trans ?_
  rw [V_main_arg0]
  refine congrArg (m ((c.tc : Thread nD τ).loc main_arg0)) ?_
  funext a
  apply Fin.ext
  match a with
  | ⟨0, _⟩ => rfl
  | ⟨1, _⟩ => rfl
  | ⟨2, _⟩ => rfl

theorem wide_at (j : S3x640x3072.Idx) : exitV m c (Proc.devRef .tc main_v31) j = m ((c.tc : Thread nD τ).loc main_arg0) j := by
  rw [exit_main_v31, wide]

/-! ## A slot's row block -/

/-- The row block counted is the one whose pointers enclose the slot. -/
theorem row_iff (P : Fin 6 → ℕ) (n r : ℕ) (h0 : P 0 = 0) (hm : ∀ r : Fin 5, P r.castSucc ≤ P r.succ) (hn : n < P 5) (hr : r < 5) :
    min 4 ((decide (P 1 ≤ n)).toNat + (decide (P 2 ≤ n)).toNat + (decide (P 3 ≤ n)).toNat + (decide (P 4 ≤ n)).toNat + (decide (P 5 ≤ n)).toNat) = r
      ↔ P (⟨r, by omega⟩ : Fin 6) ≤ n ∧ n < P (⟨r + 1, by omega⟩ : Fin 6) := by
  have m0 : P 0 ≤ P 1 := hm 0
  have m1 : P 1 ≤ P 2 := hm 1
  have m2 : P 2 ≤ P 3 := hm 2
  have m3 : P 3 ≤ P 4 := hm 3
  have m4 : P 4 ≤ P 5 := hm 4
  have e : ∀ q : ℕ, (decide (q ≤ n)).toNat = if q ≤ n then 1 else 0 := fun q => by by_cases h : q ≤ n <;> simp [h]
  simp only [e]
  match r, hr with
  | 0, _ => show _ ↔ P 0 ≤ n ∧ n < P 1; split_ifs <;> omega
  | 1, _ => show _ ↔ P 1 ≤ n ∧ n < P 2; split_ifs <;> omega
  | 2, _ => show _ ↔ P 2 ≤ n ∧ n < P 3; split_ifs <;> omega
  | 3, _ => show _ ↔ P 3 ≤ n ∧ n < P 4; split_ifs <;> omega
  | 4, _ => show _ ↔ P 4 ≤ n ∧ n < P 5; split_ifs <;> omega

theorem ptr_mono (P : Fin 6 → ℕ) (hm : ∀ r : Fin 5, P r.castSucc ≤ P r.succ) (r : Fin 5) : P r.succ ≤ P 5 := by
  have m1 : P 1 ≤ P 2 := hm 1
  have m2 : P 2 ≤ P 3 := hm 2
  have m3 : P 3 ≤ P 4 := hm 3
  have m4 : P 4 ≤ P 5 := hm 4
  match r with
  | ⟨0, _⟩ => show P 1 ≤ P 5; omega
  | ⟨1, _⟩ => show P 2 ≤ P 5; omega
  | ⟨2, _⟩ => show P 3 ≤ P 5; omega
  | ⟨3, _⟩ => show P 4 ≤ P 5; omega
  | ⟨4, _⟩ => exact le_refl _

/-- A sum over the slots counted into a row block is the sum over the slots its pointers enclose, when the slots past the last pointer have nothing. -/
theorem sum_rows (P : Fin 3 → Fin 6 → ℕ) (h0 : ∀ b, P b 0 = 0) (hm : ∀ b (r : Fin 5), P b r.castSucc ≤ P b r.succ) (b : Fin 3) (r : Fin 5)
    (s : Fin 20 → ℕ) (hs : ∀ n, s n = min 4 ((decide (P b 1 ≤ n.val)).toNat + (decide (P b 2 ≤ n.val)).toNat + (decide (P b 3 ≤ n.val)).toNat
      + (decide (P b 4 ≤ n.val)).toNat + (decide (P b 5 ≤ n.val)).toNat))
    (f g : Fin 20 → EReal) (hf : ∀ n, n.val < P b 5 → f n = g n) (hz : ∀ n, ¬ n.val < P b 5 → f n = 0) :
    (∑ n : Fin 20, if s n = r.val then f n else 0) = ∑ n : Fin 20, if InRow P b r n then g n else 0 := by
  refine Finset.sum_congr rfl fun n _ => ?_
  by_cases hn : n.val < P b 5
  · rw [hf n hn]
    refine if_congr ?_ rfl rfl
    rw [hs n]
    exact row_iff (P b) n.val r.val (h0 b) (hm b) hn r.isLt
  · rw [hz n hn, ite_self, if_neg]
    exact fun q => hn (lt_of_lt_of_le q.2 (ptr_mono (P b) (hm b) r))

/-! ## The results -/

/-- The arguments satisfy the precondition's bounds. -/
structure Good : Prop where
  ptr : ∀ i, (m ((c.tc : Thread nD τ).loc main_arg2) i : BitVec 32).toNat ≤ 20
  col : ∀ i, (m ((c.tc : Thread nD τ).loc main_arg3) i : BitVec 32).toNat < 5
  zero : ∀ b, ptrA (m ((c.tc : Thread nD τ).loc main_arg2)) b 0 = 0
  mono : ∀ b (r : Fin 5), ptrA (m ((c.tc : Thread nD τ).loc main_arg2)) b r.castSucc ≤ ptrA (m ((c.tc : Thread nD τ).loc main_arg2)) b r.succ

theorem slot_le (h : Good m c) (b : Fin 3) (n : Fin 20) : (exitV m c (Proc.devRef .tc main_v24) (ix2 b n) : BitVec 32).toNat ≤ 4 := by
  rw [slot_at m c h.ptr]
  exact Nat.min_le_left _ _

theorem one_false : one false = 0 := rfl

theorem deg_eq (h : Good m c) (b : Fin 3) (r : Fin 5) (i : Fin 128) :
    res_main_v69 (exitV m c) (ix2 b ⟨128 * r.val + i.val, by omega⟩)
      = deg (ptrA (m ((c.tc : Thread nD τ).loc main_arg2))) (bitA (m ((c.tc : Thread nD τ).loc main_arg4))) b r i := by
  rw [val_main_v69_eq, v69_at _ _ _ (iota_at m c) (slot_le m c h)]
  unfold deg
  refine sum_rows _ h.zero h.mono b r _ (fun n => slot_at m c h.ptr b n) _ _ (fun n hn => ?_) (fun n hn => ?_)
  · unfold tileDeg
    refine Finset.sum_congr rfl fun k _ => ?_
    rw [bits_at m c h.ptr, decide_eq_true hn, Bool.and_true]
  · refine Finset.sum_eq_zero fun k _ => ?_
    rw [bits_at m c h.ptr, decide_eq_false hn, Bool.and_false]
    rfl

theorem agg_eq (h : Good m c) (b : Fin 3) (r : Fin 5) (i : Fin 128) (d : Fin 3072) :
    val_main_v60 (F := Ideal) (exitV m c (Proc.devRef .tc main_arg3)) (exitV m c (Proc.devRef .tc main_v31)) (exitV m c (Proc.devRef .tc main_v0))
        (exitV m c (Proc.devRef .tc main_v30)) (exitV m c (Proc.devRef .tc main_v24)) (ix3 b ⟨128 * r.val + i.val, by omega⟩ d)
      = agg (featA (m ((c.tc : Thread nD τ).loc main_arg0))) (ptrA (m ((c.tc : Thread nD τ).loc main_arg2)))
          (colA (m ((c.tc : Thread nD τ).loc main_arg3)) h.col) (bitA (m ((c.tc : Thread nD τ).loc main_arg4))) b r i d := by
  rw [exit_main_arg3, v60_at _ _ _ _ _ (iota_at m c) (slot_le m c h) (fun b n => h.col _)]
  unfold agg
  refine sum_rows _ h.zero h.mono b r _ (fun n => slot_at m c h.ptr b n) _ _ (fun n hn => ?_) (fun n hn => ?_)
  · unfold tilePart
    refine Finset.sum_congr rfl fun k _ => ?_
    rw [bits_at m c h.ptr, decide_eq_true hn, Bool.and_true, wide_at]
    rfl
  · refine Finset.sum_eq_zero fun k _ => ?_
    rw [bits_at m c h.ptr, decide_eq_false hn, Bool.and_false, one_false, zero_mul]

theorem deg_out (h : Good m c) : res_main_v69 (exitV m c)
    = degOut (m ((c.tc : Thread nD τ).loc main_arg2)) (m ((c.tc : Thread nD τ).loc main_arg4)) :=
  eq_degOut _ _ _ (deg_eq m c h)

theorem mean_out (h : Good m c) :
    val_main_v78 (F := Ideal) (exitV m c (Proc.devRef .tc main_arg1)) (exitV m c (Proc.devRef .tc main_arg3)) (exitV m c (Proc.devRef .tc main_v31))
        (exitV m c (Proc.devRef .tc main_v0)) (exitV m c (Proc.devRef .tc main_v30)) (exitV m c (Proc.devRef .tc main_v24))
      = meanOut (m ((c.tc : Thread nD τ).loc main_arg0)) (m ((c.tc : Thread nD τ).loc main_arg1)) (m ((c.tc : Thread nD τ).loc main_arg2))
          (m ((c.tc : Thread nD τ).loc main_arg3)) h.col (m ((c.tc : Thread nD τ).loc main_arg4)) :=
  eq_meanOut _ _ _ _ _ _ _ fun b r i d => by
    rw [v78_at, agg_eq m c h, ← val_main_v69_eq, deg_eq m c h, exit_main_arg1]
    unfold mean
    rw [mul_recip]
    rfl

end Cert.ReferenceIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Value
public import proofs.«01_k».proof.Proof.Gen.Pre_tiles_in_range
public import proofs.«01_k».proof.Proof.Words
public import proofs.«01_k».proof.Proof.Kernel.Frame
public import proofs.«01_k».proof.Proof.KernelIdeal.Frame
public import proofs.«01_k».proof.Proof.KernelIdeal.Values
public import proofs.«01_k».proof.Proof.ReferenceIdeal.Inputs
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

noncomputable section

namespace Cert.Proof

open Idealize.ShloMosaic Idealize.SL.Sem

/-- The precondition bounds the words the kernel (at its own words) indexes by. -/
theorem bounded_kernel (m : (ℓ : Loc Cert.Kernel.nD Cert.Kernel.τ Cert.Kernel.sig) → Buf (Elt Bits) ℓ)
    (h : Pre_Kernel (hPre_tiles_in_range := Cert.Pre_tiles_in_range.Gen.facts) m) (c : Dev Cert.Kernel.nD) :
    Cert.Kernel.Hand.Bounded m c := by
  have b := Cert.Pre_tiles_in_range.Hand.bounds _ _ _ _ _ (h c)
  exact ⟨fun i => by rw [Cert.Kernel.Gen.V_main_arg2]; exact b.1 i, fun i => by rw [Cert.Kernel.Gen.V_main_arg3]; exact b.2.1 i⟩

/-- The precondition bounds the words the kernel over the extended reals indexes by. -/
theorem bounded_ideal (m : (ℓ : Loc Cert.KernelIdeal.nD Cert.KernelIdeal.τ Cert.KernelIdeal.sig) → Buf (Elt Ideal) ℓ)
    (h : Pre_KernelIdeal (hPre_tiles_in_range := Cert.Pre_tiles_in_range.Gen.facts) m) (c : Dev Cert.KernelIdeal.nD) :
    Cert.KernelIdeal.Hand.Bounded m c := by
  have b := Cert.Pre_tiles_in_range.Hand.bounds _ _ _ _ _ (h c)
  exact ⟨fun i => by rw [Cert.KernelIdeal.Gen.V_main_arg2]; exact b.1 i, fun i => by rw [Cert.KernelIdeal.Gen.V_main_arg3]; exact b.2.1 i⟩

/-- The precondition bounds the words the kernel goes by. -/
theorem good_ideal (m : (ℓ : Loc Cert.KernelIdeal.nD Cert.KernelIdeal.τ Cert.KernelIdeal.sig) → Buf (Elt Ideal) ℓ)
    (h : Pre_KernelIdeal (hPre_tiles_in_range := Cert.Pre_tiles_in_range.Gen.facts) m) (c : Dev Cert.KernelIdeal.nD) :
    Cert.KernelIdeal.Hand.Good m c := by
  have b := Cert.Pre_tiles_in_range.Hand.bounds _ _ _ _ _ (h c)
  exact ⟨b.1, b.2.1, b.2.2.2⟩

/-- The means of equal arguments are equal. -/
theorem meanOut_congr {a0 a0' : (⟨3, ![3, 640, 3072]⟩ : Shape).Idx → EReal} {a1 a1' : (⟨2, ![3, 3072]⟩ : Shape).Idx → EReal}
    {a2 a2' : (⟨2, ![3, 6]⟩ : Shape).Idx → BitVec 32} {a3 a3' : (⟨2, ![3, 20]⟩ : Shape).Idx → BitVec 32}
    {a4 a4' : (⟨4, ![3, 20, 128, 4]⟩ : Shape).Idx → BitVec 32} (h3 : ∀ i, (a3 i).toNat < 5) (h3' : ∀ i, (a3' i).toNat < 5)
    (e0 : a0' = a0) (e1 : a1' = a1) (e2 : a2' = a2) (e3 : a3' = a3) (e4 : a4' = a4) :
    Cert.Mean.meanOut a0' a1' a2' a3' h3' a4' = Cert.Mean.meanOut a0 a1 a2 a3 h3 a4 := by
  subst e0 e1 e2 e3 e4
  rfl

/-- The reference's run from arguments the kernel's precondition holds of: its results are the same means and degrees. -/
theorem reference_values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (h : Pre_KernelIdeal (hPre_tiles_in_range := Cert.Pre_tiles_in_range.Gen.facts) m)
    (e0 : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : ∀ c : Dev Cert.KernelIdeal.nD, m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : ∀ c : Dev Cert.KernelIdeal.nD, m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : ∀ c : Dev Cert.KernelIdeal.nD, m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : ∀ c : Dev Cert.KernelIdeal.nD, m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v78) = Cert.KernelIdeal.Hand.meanV m c (good_ideal m h c)
      ∧ r.2.mem ((c.tc : Thread Cert.ReferenceIdeal.nD Cert.ReferenceIdeal.τ).loc Cert.ReferenceIdeal.main_v69) = Cert.KernelIdeal.Hand.degV m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono (fun r q c => by
    have b := Cert.Pre_tiles_in_range.Hand.bounds _ _ _ _ _ (h c)
    have hg : Cert.ReferenceIdeal.Hand.Good m' c :=
      ⟨fun i => by rw [e2 c]; exact b.1 i, fun i => by rw [e3 c]; exact b.2.1 i, fun i => by rw [e2 c]; exact b.2.2.1 i,
        fun i j => by rw [e2 c]; exact (b.2.2.2 i j).1⟩
    refine ⟨(q c).1.trans ((Cert.ReferenceIdeal.Read.val_main_v78_eq _).trans ((Cert.ReferenceIdeal.Hand.mean_out m' c hg).trans
        (meanOut_congr (good_ideal m h c).col hg.col (e0 c) (e1 c) (e2 c) (e3 c) (e4 c)))),
      (q c).2.1.trans ((Cert.ReferenceIdeal.Hand.deg_out m' c hg).trans ?_), (q c).2.2⟩
    rw [e2 c, e4 c]
    rfl) (Cert.ReferenceIdeal.Value.run m' g')

theorem claim : Cert.Claim := ⟨Cert.Kernel.Gen.facts, Cert.KernelIdeal.Gen.facts, Cert.ReferenceIdeal.Gen.facts, Cert.Pre_tiles_in_range.Gen.facts,
  fun m g h => Cert.Kernel.Hand.frame m g (bounded_kernel m h),
  fun m g h => Cert.KernelIdeal.Hand.frame m g (bounded_ideal m h),
  fun m g _ => Cert.ReferenceIdeal.Gen.frame m g,
  fun m g _ => Cert.ReferenceIdeal.Gen.frame m g,
  trivial,
  fun m g m' g' h e => ⟨fun c => Cert.KernelIdeal.Hand.meanV m c (good_ideal m h c), fun c => Cert.KernelIdeal.Hand.degV m c,
    Cert.KernelIdeal.Hand.run_values m g (good_ideal m h),
    reference_values m m' g' h (fun c => (e c).1) (fun c => (e c).2.1) (fun c => (e c).2.2.1) (fun c => (e c).2.2.2.1) (fun c => (e c).2.2.2.2)⟩⟩

end Cert.Proof

end
